-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_MixFeedForward (m : (ℓ : Loc Cert.MixFeedForward.nD Cert.MixFeedForward.τ Cert.MixFeedForward.sig) → Buf (Elt Bits) ℓ) : Prop :=
  True

def Pre_MixFeedForwardIdeal (m : (ℓ : Loc Cert.MixFeedForwardIdeal.nD Cert.MixFeedForwardIdeal.τ Cert.MixFeedForwardIdeal.sig) → Buf (Elt Ideal) ℓ) : Prop :=
  True

def Pre_MixFeedForwardReferenceIdeal (m : (ℓ : Loc Cert.MixFeedForwardReferenceIdeal.nD Cert.MixFeedForwardReferenceIdeal.τ Cert.MixFeedForwardReferenceIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4)
      ∧ r.2.mem ((c.tc : Thread Cert.FeedForward.nD Cert.FeedForward.τ).loc Cert.FeedForward.main_arg5) = m ((c.tc : Thread Cert.FeedForward.nD Cert.FeedForward.τ).loc Cert.FeedForward.main_arg5))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4)
      ∧ r.2.mem ((c.tc : Thread Cert.FeedForwardReferenceIdeal.nD Cert.FeedForwardReferenceIdeal.τ).loc Cert.FeedForwardReferenceIdeal.main_arg5) = m ((c.tc : Thread Cert.FeedForwardReferenceIdeal.nD Cert.FeedForwardReferenceIdeal.τ).loc Cert.FeedForwardReferenceIdeal.main_arg5))
      ∧ r.2.sem = fun _ => 0)

def quiescent_MixFeedForward [hMixFeedForward : Cert.MixFeedForward.Facts] : Prop :=
  ∀ (m : (ℓ : Loc Cert.MixFeedForward.nD Cert.MixFeedForward.τ Cert.MixFeedForward.sig) → Buf (Elt Bits) ℓ) (g : Dev Cert.MixFeedForward.nD → PrngReg), Pre_MixFeedForward m →
    θ_run (Cert.MixFeedForward.defs (F := Bits)) (onTc (τ := Cert.MixFeedForward.τ) (Cert.MixFeedForward.main (F := Bits))) ⟨m, fun _ => 0, g⟩ (fun r => (∀ c : Dev Cert.MixFeedForward.nD,
      r.2.mem ((c.tc : Thread Cert.MixFeedForward.nD Cert.MixFeedForward.τ).loc Cert.MixFeedForward.main_arg0) = m ((c.tc : Thread Cert.MixFeedForward.nD Cert.MixFeedForward.τ).loc Cert.MixFeedForward.main_arg0)
      ∧ r.2.mem ((c.tc : Thread Cert.MixFeedForward.nD Cert.MixFeedForward.τ).loc Cert.MixFeedForward.main_arg1) = m ((c.tc : Thread Cert.MixFeedForward.nD Cert.MixFeedForward.τ).loc Cert.MixFeedForward.main_arg1)
      ∧ r.2.mem ((c.tc : Thread Cert.MixFeedForward.nD Cert.MixFeedForward.τ).loc Cert.MixFeedForward.main_arg2) = m ((c.tc : Thread Cert.MixFeedForward.nD Cert.MixFeedForward.τ).loc Cert.MixFeedForward.main_arg2)
      ∧ r.2.mem ((c.tc : Thread Cert.MixFeedForward.nD Cert.MixFeedForward.τ).loc Cert.MixFeedForward.main_arg3) = m ((c.tc : Thread Cert.MixFeedForward.nD Cert.MixFeedForward.τ).loc Cert.MixFeedForward.main_arg3)
      ∧ r.2.mem ((c.tc : Thread Cert.MixFeedForward.nD Cert.MixFeedForward.τ).loc Cert.MixFeedForward.main_arg4) = m ((c.tc : Thread Cert.MixFeedForward.nD Cert.MixFeedForward.τ).loc Cert.MixFeedForward.main_arg4)
      ∧ r.2.mem ((c.tc : Thread Cert.MixFeedForward.nD Cert.MixFeedForward.τ).loc Cert.MixFeedForward.main_arg5) = m ((c.tc : Thread Cert.MixFeedForward.nD Cert.MixFeedForward.τ).loc Cert.MixFeedForward.main_arg5)
      ∧ r.2.mem ((c.tc : Thread Cert.MixFeedForward.nD Cert.MixFeedForward.τ).loc Cert.MixFeedForward.main_arg6) = m ((c.tc : Thread Cert.MixFeedForward.nD Cert.MixFeedForward.τ).loc Cert.MixFeedForward.main_arg6)
      ∧ r.2.mem ((c.tc : Thread Cert.MixFeedForward.nD Cert.MixFeedForward.τ).loc Cert.MixFeedForward.main_arg7) = m ((c.tc : Thread Cert.MixFeedForward.nD Cert.MixFeedForward.τ).loc Cert.MixFeedForward.main_arg7)
      ∧ r.2.mem ((c.tc : Thread Cert.MixFeedForward.nD Cert.MixFeedForward.τ).loc Cert.MixFeedForward.main_arg8) = m ((c.tc : Thread Cert.MixFeedForward.nD Cert.MixFeedForward.τ).loc Cert.MixFeedForward.main_arg8)
      ∧ r.2.mem ((c.tc : Thread Cert.MixFeedForward.nD Cert.MixFeedForward.τ).loc Cert.MixFeedForward.main_arg9) = m ((c.tc : Thread Cert.MixFeedForward.nD Cert.MixFeedForward.τ).loc Cert.MixFeedForward.main_arg9)
      ∧ r.2.mem ((c.tc : Thread Cert.MixFeedForward.nD Cert.MixFeedForward.τ).loc Cert.MixFeedForward.main_arg10) = m ((c.tc : Thread Cert.MixFeedForward.nD Cert.MixFeedForward.τ).loc Cert.MixFeedForward.main_arg10)
      ∧ r.2.mem ((c.tc : Thread Cert.MixFeedForward.nD Cert.MixFeedForward.τ).loc Cert.MixFeedForward.main_arg11) = m ((c.tc : Thread Cert.MixFeedForward.nD Cert.MixFeedForward.τ).loc Cert.MixFeedForward.main_arg11))
      ∧ r.2.sem = fun _ => 0)

def quiescent_MixFeedForwardIdeal [hMixFeedForwardIdeal : Cert.MixFeedForwardIdeal.Facts] : Prop :=
  ∀ (m : (ℓ : Loc Cert.MixFeedForwardIdeal.nD Cert.MixFeedForwardIdeal.τ Cert.MixFeedForwardIdeal.sig) → Buf (Elt Ideal) ℓ) (g : Dev Cert.MixFeedForwardIdeal.nD → PrngReg), Pre_MixFeedForwardIdeal m →
    θ_run (Cert.MixFeedForwardIdeal.defs (F := Ideal)) (onTc (τ := Cert.MixFeedForwardIdeal.τ) (Cert.MixFeedForwardIdeal.main (F := Ideal))) ⟨m, fun _ => 0, g⟩ (fun r => (∀ c : Dev Cert.MixFeedForwardIdeal.nD,
      r.2.mem ((c.tc : Thread Cert.MixFeedForwardIdeal.nD Cert.MixFeedForwardIdeal.τ).loc Cert.MixFeedForwardIdeal.main_arg0) = m ((c.tc : Thread Cert.MixFeedForwardIdeal.nD Cert.MixFeedForwardIdeal.τ).loc Cert.MixFeedForwardIdeal.main_arg0)
      ∧ r.2.mem ((c.tc : Thread Cert.MixFeedForwardIdeal.nD Cert.MixFeedForwardIdeal.τ).loc Cert.MixFeedForwardIdeal.main_arg1) = m ((c.tc : Thread Cert.MixFeedForwardIdeal.nD Cert.MixFeedForwardIdeal.τ).loc Cert.MixFeedForwardIdeal.main_arg1)
      ∧ r.2.mem ((c.tc : Thread Cert.MixFeedForwardIdeal.nD Cert.MixFeedForwardIdeal.τ).loc Cert.MixFeedForwardIdeal.main_arg2) = m ((c.tc : Thread Cert.MixFeedForwardIdeal.nD Cert.MixFeedForwardIdeal.τ).loc Cert.MixFeedForwardIdeal.main_arg2)
      ∧ r.2.mem ((c.tc : Thread Cert.MixFeedForwardIdeal.nD Cert.MixFeedForwardIdeal.τ).loc Cert.MixFeedForwardIdeal.main_arg3) = m ((c.tc : Thread Cert.MixFeedForwardIdeal.nD Cert.MixFeedForwardIdeal.τ).loc Cert.MixFeedForwardIdeal.main_arg3)
      ∧ r.2.mem ((c.tc : Thread Cert.MixFeedForwardIdeal.nD Cert.MixFeedForwardIdeal.τ).loc Cert.MixFeedForwardIdeal.main_arg4) = m ((c.tc : Thread Cert.MixFeedForwardIdeal.nD Cert.MixFeedForwardIdeal.τ).loc Cert.MixFeedForwardIdeal.main_arg4)
      ∧ r.2.mem ((c.tc : Thread Cert.MixFeedForwardIdeal.nD Cert.MixFeedForwardIdeal.τ).loc Cert.MixFeedForwardIdeal.main_arg5) = m ((c.tc : Thread Cert.MixFeedForwardIdeal.nD Cert.MixFeedForwardIdeal.τ).loc Cert.MixFeedForwardIdeal.main_arg5)
      ∧ r.2.mem ((c.tc : Thread Cert.MixFeedForwardIdeal.nD Cert.MixFeedForwardIdeal.τ).loc Cert.MixFeedForwardIdeal.main_arg6) = m ((c.tc : Thread Cert.MixFeedForwardIdeal.nD Cert.MixFeedForwardIdeal.τ).loc Cert.MixFeedForwardIdeal.main_arg6)
      ∧ r.2.mem ((c.tc : Thread Cert.MixFeedForwardIdeal.nD Cert.MixFeedForwardIdeal.τ).loc Cert.MixFeedForwardIdeal.main_arg7) = m ((c.tc : Thread Cert.MixFeedForwardIdeal.nD Cert.MixFeedForwardIdeal.τ).loc Cert.MixFeedForwardIdeal.main_arg7)
      ∧ r.2.mem ((c.tc : Thread Cert.MixFeedForwardIdeal.nD Cert.MixFeedForwardIdeal.τ).loc Cert.MixFeedForwardIdeal.main_arg8) = m ((c.tc : Thread Cert.MixFeedForwardIdeal.nD Cert.MixFeedForwardIdeal.τ).loc Cert.MixFeedForwardIdeal.main_arg8)
      ∧ r.2.mem ((c.tc : Thread Cert.MixFeedForwardIdeal.nD Cert.MixFeedForwardIdeal.τ).loc Cert.MixFeedForwardIdeal.main_arg9) = m ((c.tc : Thread Cert.MixFeedForwardIdeal.nD Cert.MixFeedForwardIdeal.τ).loc Cert.MixFeedForwardIdeal.main_arg9)
      ∧ r.2.mem ((c.tc : Thread Cert.MixFeedForwardIdeal.nD Cert.MixFeedForwardIdeal.τ).loc Cert.MixFeedForwardIdeal.main_arg10) = m ((c.tc : Thread Cert.MixFeedForwardIdeal.nD Cert.MixFeedForwardIdeal.τ).loc Cert.MixFeedForwardIdeal.main_arg10)
      ∧ r.2.mem ((c.tc : Thread Cert.MixFeedForwardIdeal.nD Cert.MixFeedForwardIdeal.τ).loc Cert.MixFeedForwardIdeal.main_arg11) = m ((c.tc : Thread Cert.MixFeedForwardIdeal.nD Cert.MixFeedForwardIdeal.τ).loc Cert.MixFeedForwardIdeal.main_arg11))
      ∧ r.2.sem = fun _ => 0)

def quiescent_MixFeedForwardReferenceIdeal [hMixFeedForwardReferenceIdeal : Cert.MixFeedForwardReferenceIdeal.Facts] : Prop :=
  ∀ (m : (ℓ : Loc Cert.MixFeedForwardReferenceIdeal.nD Cert.MixFeedForwardReferenceIdeal.τ Cert.MixFeedForwardReferenceIdeal.sig) → Buf (Elt Ideal) ℓ) (g : Dev Cert.MixFeedForwardReferenceIdeal.nD → PrngReg), Pre_MixFeedForwardReferenceIdeal m →
    θ_run (Cert.MixFeedForwardReferenceIdeal.defs (F := Ideal)) (onTc (τ := Cert.MixFeedForwardReferenceIdeal.τ) (Cert.MixFeedForwardReferenceIdeal.main (F := Ideal))) ⟨m, fun _ => 0, g⟩ (fun r => (∀ c : Dev Cert.MixFeedForwardReferenceIdeal.nD,
      r.2.mem ((c.tc : Thread Cert.MixFeedForwardReferenceIdeal.nD Cert.MixFeedForwardReferenceIdeal.τ).loc Cert.MixFeedForwardReferenceIdeal.main_arg0) = m ((c.tc : Thread Cert.MixFeedForwardReferenceIdeal.nD Cert.MixFeedForwardReferenceIdeal.τ).loc Cert.MixFeedForwardReferenceIdeal.main_arg0)
      ∧ r.2.mem ((c.tc : Thread Cert.MixFeedForwardReferenceIdeal.nD Cert.MixFeedForwardReferenceIdeal.τ).loc Cert.MixFeedForwardReferenceIdeal.main_arg1) = m ((c.tc : Thread Cert.MixFeedForwardReferenceIdeal.nD Cert.MixFeedForwardReferenceIdeal.τ).loc Cert.MixFeedForwardReferenceIdeal.main_arg1)
      ∧ r.2.mem ((c.tc : Thread Cert.MixFeedForwardReferenceIdeal.nD Cert.MixFeedForwardReferenceIdeal.τ).loc Cert.MixFeedForwardReferenceIdeal.main_arg2) = m ((c.tc : Thread Cert.MixFeedForwardReferenceIdeal.nD Cert.MixFeedForwardReferenceIdeal.τ).loc Cert.MixFeedForwardReferenceIdeal.main_arg2)
      ∧ r.2.mem ((c.tc : Thread Cert.MixFeedForwardReferenceIdeal.nD Cert.MixFeedForwardReferenceIdeal.τ).loc Cert.MixFeedForwardReferenceIdeal.main_arg3) = m ((c.tc : Thread Cert.MixFeedForwardReferenceIdeal.nD Cert.MixFeedForwardReferenceIdeal.τ).loc Cert.MixFeedForwardReferenceIdeal.main_arg3)
      ∧ r.2.mem ((c.tc : Thread Cert.MixFeedForwardReferenceIdeal.nD Cert.MixFeedForwardReferenceIdeal.τ).loc Cert.MixFeedForwardReferenceIdeal.main_arg4) = m ((c.tc : Thread Cert.MixFeedForwardReferenceIdeal.nD Cert.MixFeedForwardReferenceIdeal.τ).loc Cert.MixFeedForwardReferenceIdeal.main_arg4)
      ∧ r.2.mem ((c.tc : Thread Cert.MixFeedForwardReferenceIdeal.nD Cert.MixFeedForwardReferenceIdeal.τ).loc Cert.MixFeedForwardReferenceIdeal.main_arg5) = m ((c.tc : Thread Cert.MixFeedForwardReferenceIdeal.nD Cert.MixFeedForwardReferenceIdeal.τ).loc Cert.MixFeedForwardReferenceIdeal.main_arg5)
      ∧ r.2.mem ((c.tc : Thread Cert.MixFeedForwardReferenceIdeal.nD Cert.MixFeedForwardReferenceIdeal.τ).loc Cert.MixFeedForwardReferenceIdeal.main_arg6) = m ((c.tc : Thread Cert.MixFeedForwardReferenceIdeal.nD Cert.MixFeedForwardReferenceIdeal.τ).loc Cert.MixFeedForwardReferenceIdeal.main_arg6)
      ∧ r.2.mem ((c.tc : Thread Cert.MixFeedForwardReferenceIdeal.nD Cert.MixFeedForwardReferenceIdeal.τ).loc Cert.MixFeedForwardReferenceIdeal.main_arg7) = m ((c.tc : Thread Cert.MixFeedForwardReferenceIdeal.nD Cert.MixFeedForwardReferenceIdeal.τ).loc Cert.MixFeedForwardReferenceIdeal.main_arg7)
      ∧ r.2.mem ((c.tc : Thread Cert.MixFeedForwardReferenceIdeal.nD Cert.MixFeedForwardReferenceIdeal.τ).loc Cert.MixFeedForwardReferenceIdeal.main_arg8) = m ((c.tc : Thread Cert.MixFeedForwardReferenceIdeal.nD Cert.MixFeedForwardReferenceIdeal.τ).loc Cert.MixFeedForwardReferenceIdeal.main_arg8)
      ∧ r.2.mem ((c.tc : Thread Cert.MixFeedForwardReferenceIdeal.nD Cert.MixFeedForwardReferenceIdeal.τ).loc Cert.MixFeedForwardReferenceIdeal.main_arg9) = m ((c.tc : Thread Cert.MixFeedForwardReferenceIdeal.nD Cert.MixFeedForwardReferenceIdeal.τ).loc Cert.MixFeedForwardReferenceIdeal.main_arg9)
      ∧ r.2.mem ((c.tc : Thread Cert.MixFeedForwardReferenceIdeal.nD Cert.MixFeedForwardReferenceIdeal.τ).loc Cert.MixFeedForwardReferenceIdeal.main_arg10) = m ((c.tc : Thread Cert.MixFeedForwardReferenceIdeal.nD Cert.MixFeedForwardReferenceIdeal.τ).loc Cert.MixFeedForwardReferenceIdeal.main_arg10)
      ∧ r.2.mem ((c.tc : Thread Cert.MixFeedForwardReferenceIdeal.nD Cert.MixFeedForwardReferenceIdeal.τ).loc Cert.MixFeedForwardReferenceIdeal.main_arg11) = m ((c.tc : Thread Cert.MixFeedForwardReferenceIdeal.nD Cert.MixFeedForwardReferenceIdeal.τ).loc Cert.MixFeedForwardReferenceIdeal.main_arg11))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4)
      ∧ r.2.mem ((c.tc : Thread Cert.Gating.nD Cert.Gating.τ).loc Cert.Gating.main_arg5) = m ((c.tc : Thread Cert.Gating.nD Cert.Gating.τ).loc Cert.Gating.main_arg5)
      ∧ r.2.mem ((c.tc : Thread Cert.Gating.nD Cert.Gating.τ).loc Cert.Gating.main_arg6) = m ((c.tc : Thread Cert.Gating.nD Cert.Gating.τ).loc Cert.Gating.main_arg6))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
      ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
      ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4)
      ∧ r.2.mem ((c.tc : Thread Cert.GatingReferenceIdeal.nD Cert.GatingReferenceIdeal.τ).loc Cert.GatingReferenceIdeal.main_arg5) = m ((c.tc : Thread Cert.GatingReferenceIdeal.nD Cert.GatingReferenceIdeal.τ).loc Cert.GatingReferenceIdeal.main_arg5)
      ∧ r.2.mem ((c.tc : Thread Cert.GatingReferenceIdeal.nD Cert.GatingReferenceIdeal.τ).loc Cert.GatingReferenceIdeal.main_arg6) = m ((c.tc : Thread Cert.GatingReferenceIdeal.nD Cert.GatingReferenceIdeal.τ).loc Cert.GatingReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FeedForward_FeedForwardIdeal : Prop :=
  True

def algebraic_FeedForwardIdeal_FeedForwardReferenceIdeal [hFeedForwardIdeal : Cert.FeedForwardIdeal.Facts] [hFeedForwardReferenceIdeal : Cert.FeedForwardReferenceIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)
      ∧ m' ((c.tc : Thread Cert.FeedForwardReferenceIdeal.nD Cert.FeedForwardReferenceIdeal.τ).loc Cert.FeedForwardReferenceIdeal.main_arg5) = m ((c.tc : Thread Cert.FeedForwardIdeal.nD Cert.FeedForwardIdeal.τ).loc Cert.FeedForwardIdeal.main_arg5)) →
    ∃ (v0 : (c : Dev Cert.FeedForwardIdeal.nD) → Buf (Elt Ideal) ((c.tc : Thread Cert.FeedForwardIdeal.nD Cert.FeedForwardIdeal.τ).loc Cert.FeedForwardIdeal.main_v6)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v6) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
          ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v44) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4)
          ∧ r.2.mem ((c.tc : Thread Cert.FeedForwardReferenceIdeal.nD Cert.FeedForwardReferenceIdeal.τ).loc Cert.FeedForwardReferenceIdeal.main_arg5) = m' ((c.tc : Thread Cert.FeedForwardReferenceIdeal.nD Cert.FeedForwardReferenceIdeal.τ).loc Cert.FeedForwardReferenceIdeal.main_arg5))

def preserves_MixFeedForward_MixFeedForwardIdeal : Prop :=
  True

def algebraic_MixFeedForwardIdeal_MixFeedForwardReferenceIdeal [hMixFeedForwardIdeal : Cert.MixFeedForwardIdeal.Facts] [hMixFeedForwardReferenceIdeal : Cert.MixFeedForwardReferenceIdeal.Facts] : Prop :=
  ∀ (m : (ℓ : Loc Cert.MixFeedForwardIdeal.nD Cert.MixFeedForwardIdeal.τ Cert.MixFeedForwardIdeal.sig) → Buf (Elt Ideal) ℓ) (g : Dev Cert.MixFeedForwardIdeal.nD → PrngReg)
    (m' : (ℓ : Loc Cert.MixFeedForwardReferenceIdeal.nD Cert.MixFeedForwardReferenceIdeal.τ Cert.MixFeedForwardReferenceIdeal.sig) → Buf (Elt Ideal) ℓ) (g' : Dev Cert.MixFeedForwardReferenceIdeal.nD → PrngReg), Pre_MixFeedForwardIdeal m →
    (∀ c : Dev Cert.MixFeedForwardIdeal.nD,
      m' ((c.tc : Thread Cert.MixFeedForwardReferenceIdeal.nD Cert.MixFeedForwardReferenceIdeal.τ).loc Cert.MixFeedForwardReferenceIdeal.main_arg0) = m ((c.tc : Thread Cert.MixFeedForwardIdeal.nD Cert.MixFeedForwardIdeal.τ).loc Cert.MixFeedForwardIdeal.main_arg0)
      ∧ m' ((c.tc : Thread Cert.MixFeedForwardReferenceIdeal.nD Cert.MixFeedForwardReferenceIdeal.τ).loc Cert.MixFeedForwardReferenceIdeal.main_arg1) = m ((c.tc : Thread Cert.MixFeedForwardIdeal.nD Cert.MixFeedForwardIdeal.τ).loc Cert.MixFeedForwardIdeal.main_arg1)
      ∧ m' ((c.tc : Thread Cert.MixFeedForwardReferenceIdeal.nD Cert.MixFeedForwardReferenceIdeal.τ).loc Cert.MixFeedForwardReferenceIdeal.main_arg2) = m ((c.tc : Thread Cert.MixFeedForwardIdeal.nD Cert.MixFeedForwardIdeal.τ).loc Cert.MixFeedForwardIdeal.main_arg2)
      ∧ m' ((c.tc : Thread Cert.MixFeedForwardReferenceIdeal.nD Cert.MixFeedForwardReferenceIdeal.τ).loc Cert.MixFeedForwardReferenceIdeal.main_arg3) = m ((c.tc : Thread Cert.MixFeedForwardIdeal.nD Cert.MixFeedForwardIdeal.τ).loc Cert.MixFeedForwardIdeal.main_arg3)
      ∧ m' ((c.tc : Thread Cert.MixFeedForwardReferenceIdeal.nD Cert.MixFeedForwardReferenceIdeal.τ).loc Cert.MixFeedForwardReferenceIdeal.main_arg4) = m ((c.tc : Thread Cert.MixFeedForwardIdeal.nD Cert.MixFeedForwardIdeal.τ).loc Cert.MixFeedForwardIdeal.main_arg4)
      ∧ m' ((c.tc : Thread Cert.MixFeedForwardReferenceIdeal.nD Cert.MixFeedForwardReferenceIdeal.τ).loc Cert.MixFeedForwardReferenceIdeal.main_arg5) = m ((c.tc : Thread Cert.MixFeedForwardIdeal.nD Cert.MixFeedForwardIdeal.τ).loc Cert.MixFeedForwardIdeal.main_arg5)
      ∧ m' ((c.tc : Thread Cert.MixFeedForwardReferenceIdeal.nD Cert.MixFeedForwardReferenceIdeal.τ).loc Cert.MixFeedForwardReferenceIdeal.main_arg6) = m ((c.tc : Thread Cert.MixFeedForwardIdeal.nD Cert.MixFeedForwardIdeal.τ).loc Cert.MixFeedForwardIdeal.main_arg6)
      ∧ m' ((c.tc : Thread Cert.MixFeedForwardReferenceIdeal.nD Cert.MixFeedForwardReferenceIdeal.τ).loc Cert.MixFeedForwardReferenceIdeal.main_arg7) = m ((c.tc : Thread Cert.MixFeedForwardIdeal.nD Cert.MixFeedForwardIdeal.τ).loc Cert.MixFeedForwardIdeal.main_arg7)
      ∧ m' ((c.tc : Thread Cert.MixFeedForwardReferenceIdeal.nD Cert.MixFeedForwardReferenceIdeal.τ).loc Cert.MixFeedForwardReferenceIdeal.main_arg8) = m ((c.tc : Thread Cert.MixFeedForwardIdeal.nD Cert.MixFeedForwardIdeal.τ).loc Cert.MixFeedForwardIdeal.main_arg8)
      ∧ m' ((c.tc : Thread Cert.MixFeedForwardReferenceIdeal.nD Cert.MixFeedForwardReferenceIdeal.τ).loc Cert.MixFeedForwardReferenceIdeal.main_arg9) = m ((c.tc : Thread Cert.MixFeedForwardIdeal.nD Cert.MixFeedForwardIdeal.τ).loc Cert.MixFeedForwardIdeal.main_arg9)
      ∧ m' ((c.tc : Thread Cert.MixFeedForwardReferenceIdeal.nD Cert.MixFeedForwardReferenceIdeal.τ).loc Cert.MixFeedForwardReferenceIdeal.main_arg10) = m ((c.tc : Thread Cert.MixFeedForwardIdeal.nD Cert.MixFeedForwardIdeal.τ).loc Cert.MixFeedForwardIdeal.main_arg10)
      ∧ m' ((c.tc : Thread Cert.MixFeedForwardReferenceIdeal.nD Cert.MixFeedForwardReferenceIdeal.τ).loc Cert.MixFeedForwardReferenceIdeal.main_arg11) = m ((c.tc : Thread Cert.MixFeedForwardIdeal.nD Cert.MixFeedForwardIdeal.τ).loc Cert.MixFeedForwardIdeal.main_arg11)) →
    ∃ (v0 : (c : Dev Cert.MixFeedForwardIdeal.nD) → Buf (Elt Ideal) ((c.tc : Thread Cert.MixFeedForwardIdeal.nD Cert.MixFeedForwardIdeal.τ).loc Cert.MixFeedForwardIdeal.main_v13)),
      θ_run (Cert.MixFeedForwardIdeal.defs (F := Ideal)) (onTc (τ := Cert.MixFeedForwardIdeal.τ) (Cert.MixFeedForwardIdeal.main (F := Ideal))) ⟨m, fun _ => 0, g⟩ (fun r => ∀ c : Dev Cert.MixFeedForwardIdeal.nD,
          r.2.mem ((c.tc : Thread Cert.MixFeedForwardIdeal.nD Cert.MixFeedForwardIdeal.τ).loc Cert.MixFeedForwardIdeal.main_v13) = v0 c
          ∧ r.2.mem ((c.tc : Thread Cert.MixFeedForwardIdeal.nD Cert.MixFeedForwardIdeal.τ).loc Cert.MixFeedForwardIdeal.main_arg0) = m ((c.tc : Thread Cert.MixFeedForwardIdeal.nD Cert.MixFeedForwardIdeal.τ).loc Cert.MixFeedForwardIdeal.main_arg0)
          ∧ r.2.mem ((c.tc : Thread Cert.MixFeedForwardIdeal.nD Cert.MixFeedForwardIdeal.τ).loc Cert.MixFeedForwardIdeal.main_arg1) = m ((c.tc : Thread Cert.MixFeedForwardIdeal.nD Cert.MixFeedForwardIdeal.τ).loc Cert.MixFeedForwardIdeal.main_arg1)
          ∧ r.2.mem ((c.tc : Thread Cert.MixFeedForwardIdeal.nD Cert.MixFeedForwardIdeal.τ).loc Cert.MixFeedForwardIdeal.main_arg2) = m ((c.tc : Thread Cert.MixFeedForwardIdeal.nD Cert.MixFeedForwardIdeal.τ).loc Cert.MixFeedForwardIdeal.main_arg2)
          ∧ r.2.mem ((c.tc : Thread Cert.MixFeedForwardIdeal.nD Cert.MixFeedForwardIdeal.τ).loc Cert.MixFeedForwardIdeal.main_arg3) = m ((c.tc : Thread Cert.MixFeedForwardIdeal.nD Cert.MixFeedForwardIdeal.τ).loc Cert.MixFeedForwardIdeal.main_arg3)
          ∧ r.2.mem ((c.tc : Thread Cert.MixFeedForwardIdeal.nD Cert.MixFeedForwardIdeal.τ).loc Cert.MixFeedForwardIdeal.main_arg4) = m ((c.tc : Thread Cert.MixFeedForwardIdeal.nD Cert.MixFeedForwardIdeal.τ).loc Cert.MixFeedForwardIdeal.main_arg4)
          ∧ r.2.mem ((c.tc : Thread Cert.MixFeedForwardIdeal.nD Cert.MixFeedForwardIdeal.τ).loc Cert.MixFeedForwardIdeal.main_arg5) = m ((c.tc : Thread Cert.MixFeedForwardIdeal.nD Cert.MixFeedForwardIdeal.τ).loc Cert.MixFeedForwardIdeal.main_arg5)
          ∧ r.2.mem ((c.tc : Thread Cert.MixFeedForwardIdeal.nD Cert.MixFeedForwardIdeal.τ).loc Cert.MixFeedForwardIdeal.main_arg6) = m ((c.tc : Thread Cert.MixFeedForwardIdeal.nD Cert.MixFeedForwardIdeal.τ).loc Cert.MixFeedForwardIdeal.main_arg6)
          ∧ r.2.mem ((c.tc : Thread Cert.MixFeedForwardIdeal.nD Cert.MixFeedForwardIdeal.τ).loc Cert.MixFeedForwardIdeal.main_arg7) = m ((c.tc : Thread Cert.MixFeedForwardIdeal.nD Cert.MixFeedForwardIdeal.τ).loc Cert.MixFeedForwardIdeal.main_arg7)
          ∧ r.2.mem ((c.tc : Thread Cert.MixFeedForwardIdeal.nD Cert.MixFeedForwardIdeal.τ).loc Cert.MixFeedForwardIdeal.main_arg8) = m ((c.tc : Thread Cert.MixFeedForwardIdeal.nD Cert.MixFeedForwardIdeal.τ).loc Cert.MixFeedForwardIdeal.main_arg8)
          ∧ r.2.mem ((c.tc : Thread Cert.MixFeedForwardIdeal.nD Cert.MixFeedForwardIdeal.τ).loc Cert.MixFeedForwardIdeal.main_arg9) = m ((c.tc : Thread Cert.MixFeedForwardIdeal.nD Cert.MixFeedForwardIdeal.τ).loc Cert.MixFeedForwardIdeal.main_arg9)
          ∧ r.2.mem ((c.tc : Thread Cert.MixFeedForwardIdeal.nD Cert.MixFeedForwardIdeal.τ).loc Cert.MixFeedForwardIdeal.main_arg10) = m ((c.tc : Thread Cert.MixFeedForwardIdeal.nD Cert.MixFeedForwardIdeal.τ).loc Cert.MixFeedForwardIdeal.main_arg10)
          ∧ r.2.mem ((c.tc : Thread Cert.MixFeedForwardIdeal.nD Cert.MixFeedForwardIdeal.τ).loc Cert.MixFeedForwardIdeal.main_arg11) = m ((c.tc : Thread Cert.MixFeedForwardIdeal.nD Cert.MixFeedForwardIdeal.τ).loc Cert.MixFeedForwardIdeal.main_arg11))
      ∧ θ_run (Cert.MixFeedForwardReferenceIdeal.defs (F := Ideal)) (onTc (τ := Cert.MixFeedForwardReferenceIdeal.τ) (Cert.MixFeedForwardReferenceIdeal.main (F := Ideal))) ⟨m', fun _ => 0, g'⟩ (fun r => ∀ c : Dev Cert.MixFeedForwardReferenceIdeal.nD,
          r.2.mem ((c.tc : Thread Cert.MixFeedForwardReferenceIdeal.nD Cert.MixFeedForwardReferenceIdeal.τ).loc Cert.MixFeedForwardReferenceIdeal.main_v78) = v0 c
          ∧ r.2.mem ((c.tc : Thread Cert.MixFeedForwardReferenceIdeal.nD Cert.MixFeedForwardReferenceIdeal.τ).loc Cert.MixFeedForwardReferenceIdeal.main_arg0) = m' ((c.tc : Thread Cert.MixFeedForwardReferenceIdeal.nD Cert.MixFeedForwardReferenceIdeal.τ).loc Cert.MixFeedForwardReferenceIdeal.main_arg0)
          ∧ r.2.mem ((c.tc : Thread Cert.MixFeedForwardReferenceIdeal.nD Cert.MixFeedForwardReferenceIdeal.τ).loc Cert.MixFeedForwardReferenceIdeal.main_arg1) = m' ((c.tc : Thread Cert.MixFeedForwardReferenceIdeal.nD Cert.MixFeedForwardReferenceIdeal.τ).loc Cert.MixFeedForwardReferenceIdeal.main_arg1)
          ∧ r.2.mem ((c.tc : Thread Cert.MixFeedForwardReferenceIdeal.nD Cert.MixFeedForwardReferenceIdeal.τ).loc Cert.MixFeedForwardReferenceIdeal.main_arg2) = m' ((c.tc : Thread Cert.MixFeedForwardReferenceIdeal.nD Cert.MixFeedForwardReferenceIdeal.τ).loc Cert.MixFeedForwardReferenceIdeal.main_arg2)
          ∧ r.2.mem ((c.tc : Thread Cert.MixFeedForwardReferenceIdeal.nD Cert.MixFeedForwardReferenceIdeal.τ).loc Cert.MixFeedForwardReferenceIdeal.main_arg3) = m' ((c.tc : Thread Cert.MixFeedForwardReferenceIdeal.nD Cert.MixFeedForwardReferenceIdeal.τ).loc Cert.MixFeedForwardReferenceIdeal.main_arg3)
          ∧ r.2.mem ((c.tc : Thread Cert.MixFeedForwardReferenceIdeal.nD Cert.MixFeedForwardReferenceIdeal.τ).loc Cert.MixFeedForwardReferenceIdeal.main_arg4) = m' ((c.tc : Thread Cert.MixFeedForwardReferenceIdeal.nD Cert.MixFeedForwardReferenceIdeal.τ).loc Cert.MixFeedForwardReferenceIdeal.main_arg4)
          ∧ r.2.mem ((c.tc : Thread Cert.MixFeedForwardReferenceIdeal.nD Cert.MixFeedForwardReferenceIdeal.τ).loc Cert.MixFeedForwardReferenceIdeal.main_arg5) = m' ((c.tc : Thread Cert.MixFeedForwardReferenceIdeal.nD Cert.MixFeedForwardReferenceIdeal.τ).loc Cert.MixFeedForwardReferenceIdeal.main_arg5)
          ∧ r.2.mem ((c.tc : Thread Cert.MixFeedForwardReferenceIdeal.nD Cert.MixFeedForwardReferenceIdeal.τ).loc Cert.MixFeedForwardReferenceIdeal.main_arg6) = m' ((c.tc : Thread Cert.MixFeedForwardReferenceIdeal.nD Cert.MixFeedForwardReferenceIdeal.τ).loc Cert.MixFeedForwardReferenceIdeal.main_arg6)
          ∧ r.2.mem ((c.tc : Thread Cert.MixFeedForwardReferenceIdeal.nD Cert.MixFeedForwardReferenceIdeal.τ).loc Cert.MixFeedForwardReferenceIdeal.main_arg7) = m' ((c.tc : Thread Cert.MixFeedForwardReferenceIdeal.nD Cert.MixFeedForwardReferenceIdeal.τ).loc Cert.MixFeedForwardReferenceIdeal.main_arg7)
          ∧ r.2.mem ((c.tc : Thread Cert.MixFeedForwardReferenceIdeal.nD Cert.MixFeedForwardReferenceIdeal.τ).loc Cert.MixFeedForwardReferenceIdeal.main_arg8) = m' ((c.tc : Thread Cert.MixFeedForwardReferenceIdeal.nD Cert.MixFeedForwardReferenceIdeal.τ).loc Cert.MixFeedForwardReferenceIdeal.main_arg8)
          ∧ r.2.mem ((c.tc : Thread Cert.MixFeedForwardReferenceIdeal.nD Cert.MixFeedForwardReferenceIdeal.τ).loc Cert.MixFeedForwardReferenceIdeal.main_arg9) = m' ((c.tc : Thread Cert.MixFeedForwardReferenceIdeal.nD Cert.MixFeedForwardReferenceIdeal.τ).loc Cert.MixFeedForwardReferenceIdeal.main_arg9)
          ∧ r.2.mem ((c.tc : Thread Cert.MixFeedForwardReferenceIdeal.nD Cert.MixFeedForwardReferenceIdeal.τ).loc Cert.MixFeedForwardReferenceIdeal.main_arg10) = m' ((c.tc : Thread Cert.MixFeedForwardReferenceIdeal.nD Cert.MixFeedForwardReferenceIdeal.τ).loc Cert.MixFeedForwardReferenceIdeal.main_arg10)
          ∧ r.2.mem ((c.tc : Thread Cert.MixFeedForwardReferenceIdeal.nD Cert.MixFeedForwardReferenceIdeal.τ).loc Cert.MixFeedForwardReferenceIdeal.main_arg11) = m' ((c.tc : Thread Cert.MixFeedForwardReferenceIdeal.nD Cert.MixFeedForwardReferenceIdeal.τ).loc Cert.MixFeedForwardReferenceIdeal.main_arg11))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)
      ∧ m' ((c.tc : Thread Cert.GatingReferenceIdeal.nD Cert.GatingReferenceIdeal.τ).loc Cert.GatingReferenceIdeal.main_arg5) = m ((c.tc : Thread Cert.GatingIdeal.nD Cert.GatingIdeal.τ).loc Cert.GatingIdeal.main_arg5)
      ∧ m' ((c.tc : Thread Cert.GatingReferenceIdeal.nD Cert.GatingReferenceIdeal.τ).loc Cert.GatingReferenceIdeal.main_arg6) = m ((c.tc : Thread Cert.GatingIdeal.nD Cert.GatingIdeal.τ).loc Cert.GatingIdeal.main_arg6)) →
    ∃ (v0 : (c : Dev Cert.GatingIdeal.nD) → Buf (Elt Ideal) ((c.tc : Thread Cert.GatingIdeal.nD Cert.GatingIdeal.τ).loc Cert.GatingIdeal.main_v122_6)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v122_6) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
          ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
          ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v61) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4)
          ∧ r.2.mem ((c.tc : Thread Cert.GatingReferenceIdeal.nD Cert.GatingReferenceIdeal.τ).loc Cert.GatingReferenceIdeal.main_arg5) = m' ((c.tc : Thread Cert.GatingReferenceIdeal.nD Cert.GatingReferenceIdeal.τ).loc Cert.GatingReferenceIdeal.main_arg5)
          ∧ r.2.mem ((c.tc : Thread Cert.GatingReferenceIdeal.nD Cert.GatingReferenceIdeal.τ).loc Cert.GatingReferenceIdeal.main_arg6) = m' ((c.tc : Thread Cert.GatingReferenceIdeal.nD Cert.GatingReferenceIdeal.τ).loc Cert.GatingReferenceIdeal.main_arg6))

def Claim : Prop :=
  ∃ (hKernel : Cert.Kernel.Facts) (hKernelIdeal : Cert.KernelIdeal.Facts) (hReferenceIdeal : Cert.ReferenceIdeal.Facts) (hFeedForward : Cert.FeedForward.Facts) (hFeedForwardIdeal : Cert.FeedForwardIdeal.Facts) (hFeedForwardReferenceIdeal : Cert.FeedForwardReferenceIdeal.Facts) (hMixFeedForward : Cert.MixFeedForward.Facts) (hMixFeedForwardIdeal : Cert.MixFeedForwardIdeal.Facts) (hMixFeedForwardReferenceIdeal : Cert.MixFeedForwardReferenceIdeal.Facts) (hGating : Cert.Gating.Facts) (hGatingIdeal : Cert.GatingIdeal.Facts) (hGatingReferenceIdeal : Cert.GatingReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FeedForward (hFeedForward := hFeedForward)
    ∧ quiescent_FeedForwardIdeal (hFeedForwardIdeal := hFeedForwardIdeal)
    ∧ quiescent_FeedForwardReferenceIdeal (hFeedForwardReferenceIdeal := hFeedForwardReferenceIdeal)
    ∧ quiescent_MixFeedForward (hMixFeedForward := hMixFeedForward)
    ∧ quiescent_MixFeedForwardIdeal (hMixFeedForwardIdeal := hMixFeedForwardIdeal)
    ∧ quiescent_MixFeedForwardReferenceIdeal (hMixFeedForwardReferenceIdeal := hMixFeedForwardReferenceIdeal)
    ∧ quiescent_Gating (hGating := hGating)
    ∧ quiescent_GatingIdeal (hGatingIdeal := hGatingIdeal)
    ∧ quiescent_GatingReferenceIdeal (hGatingReferenceIdeal := hGatingReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FeedForward_FeedForwardIdeal
    ∧ algebraic_FeedForwardIdeal_FeedForwardReferenceIdeal (hFeedForwardIdeal := hFeedForwardIdeal) (hFeedForwardReferenceIdeal := hFeedForwardReferenceIdeal)
    ∧ preserves_MixFeedForward_MixFeedForwardIdeal
    ∧ algebraic_MixFeedForwardIdeal_MixFeedForwardReferenceIdeal (hMixFeedForwardIdeal := hMixFeedForwardIdeal) (hMixFeedForwardReferenceIdeal := hMixFeedForwardReferenceIdeal)
    ∧ preserves_Gating_GatingIdeal
    ∧ algebraic_GatingIdeal_GatingReferenceIdeal (hGatingIdeal := hGatingIdeal) (hGatingReferenceIdeal := hGatingReferenceIdeal)
-- ==== Pre_finite.lean ====
abbrev S8x4096x6x64 : Shape := ⟨4, ![8, 4096, 6, 64]⟩
abbrev S8x4096x6 : Shape := ⟨3, ![8, 4096, 6]⟩
abbrev S_ : Shape := ⟨0, ![]⟩

class Facts : Prop where
  bcast_S_S8x4096x6x64 : S_.BroadcastsInDim S8x4096x6x64 (![] : Fin 0 → Fin S8x4096x6x64.rank)
  reducesTo_S8x4096x6x64_S_d0_1_2_3 : S8x4096x6x64.ReducesTo [0, 1, 2, 3] S_
  h_S_ : 0 < S_.numel
  bcast_S_S8x4096x6 : S_.BroadcastsInDim S8x4096x6 (![] : Fin 0 → Fin S8x4096x6.rank)
  reducesTo_S8x4096x6_S_d0_1_2 : S8x4096x6.ReducesTo [0, 1, 2] S_

variable [Facts]

def fn {F : FTy → Type} [FloatOps F] (main_arg0 : FVec F S8x4096x6x64 .f32) (main_arg1 : FVec F S8x4096x6x64 .f32) (main_arg2 : FVec F S8x4096x6x64 .f32) (main_arg3 : FVec F S8x4096x6 .f32) : IVec S_ 1 :=
  let main_v0 : FVec F S8x4096x6x64 .f32 := Host.absf main_arg0
  let main_cst : FVec F S_ .f32 := constant S_ .f32 0x7F800000#32
  let main_v1 : FVec F S8x4096x6x64 .f32 := broadcastInDim S8x4096x6x64 ![] bcast_S_S8x4096x6x64 main_cst
  let main_v2 : IVec S8x4096x6x64 1 := cmpf .olt main_v0 main_v1
  let main_c : IVec S_ 1 := constantI S_ 1 1#1
  let main_v3 : IVec S_ 1 := (fun x v => Host.reduce IntOp.andi x v reducesTo_S8x4096x6x64_S_d0_1_2_3 h_S_) main_v2 main_c
  let main_v4 : FVec F S8x4096x6x64 .f32 := Host.absf main_arg1
  let main_cst_0 : FVec F S_ .f32 := constant S_ .f32 0x7F800000#32
  let main_v5 : FVec F S8x4096x6x64 .f32 := broadcastInDim S8x4096x6x64 ![] bcast_S_S8x4096x6x64 main_cst_0
  let main_v6 : IVec S8x4096x6x64 1 := cmpf .olt main_v4 main_v5
  let main_c_1 : IVec S_ 1 := constantI S_ 1 1#1
  let main_v7 : IVec S_ 1 := (fun x v => Host.reduce IntOp.andi x v reducesTo_S8x4096x6x64_S_d0_1_2_3 h_S_) main_v6 main_c_1
  let main_v8 : IVec S_ 1 := andi main_v3 main_v7
  let main_v9 : FVec F S8x4096x6 .f32 := Host.absf main_arg3
  let main_cst_2 : FVec F S_ .f32 := constant S_ .f32 0x7F800000#32
  let main_v10 : FVec F S8x4096x6 .f32 := broadcastInDim S8x4096x6 ![] bcast_S_S8x4096x6 main_cst_2
  let main_v11 : IVec S8x4096x6 1 := cmpf .olt main_v9 main_v10
  let main_c_3 : IVec S_ 1 := constantI S_ 1 1#1
  let main_v12 : IVec S_ 1 := (fun x v => Host.reduce IntOp.andi x v reducesTo_S8x4096x6_S_d0_1_2 h_S_) main_v11 main_c_3
  let main_v13 : IVec S_ 1 := andi main_v8 main_v12
  main_v13
-- ==== Kernel.lean ====
abbrev S8x4096x6x64 : Shape := ⟨4, ![8, 4096, 6, 64]⟩
abbrev S8x4096x6 : Shape := ⟨3, ![8, 4096, 6]⟩
abbrev S_ : Shape := ⟨0, ![]⟩
abbrev S8x4096x6x1 : Shape := ⟨4, ![8, 4096, 6, 1]⟩
abbrev S8x4096x6x3 : Shape := ⟨4, ![8, 4096, 6, 3]⟩
abbrev S8x4096x6x58 : Shape := ⟨4, ![8, 4096, 6, 58]⟩
abbrev S8x4096x6x128 : Shape := ⟨4, ![8, 4096, 6, 128]⟩
abbrev S8x6x4096x128 : Shape := ⟨4, ![8, 6, 4096, 128]⟩
abbrev S8x16x256x6x64 : Shape := ⟨5, ![8, 16, 256, 6, 64]⟩
abbrev S8x16x6x64x256 : Shape := ⟨5, ![8, 16, 6, 64, 256]⟩
abbrev S8x16x6x16x256 : Shape := ⟨5, ![8, 16, 6, 16, 256]⟩
abbrev S8x16x6x80x256 : Shape := ⟨5, ![8, 16, 6, 80, 256]⟩
abbrev S8x16x480x256 : Shape := ⟨4, ![8, 16, 480, 256]⟩
abbrev S8x384x4096 : Shape := ⟨3, ![8, 384, 4096]⟩
abbrev S1x6x512x128 : Shape := ⟨4, ![1, 6, 512, 128]⟩
abbrev S1x6x4096x128 : Shape := ⟨4, ![1, 6, 4096, 128]⟩
abbrev S1x16x480x256 : Shape := ⟨4, ![1, 16, 480, 256]⟩
abbrev S1x384x512 : Shape := ⟨3, ![1, 384, 512]⟩
abbrev S6x256x512 : Shape := ⟨3, ![6, 256, 512]⟩
abbrev S6x1x512 : Shape := ⟨3, ![6, 1, 512]⟩
abbrev S6x80x512 : Shape := ⟨3, ![6, 80, 512]⟩
abbrev S6x128x512 : Shape := ⟨3, ![6, 128, 512]⟩
abbrev S1x1x512x128 : Shape := ⟨4, ![1, 1, 512, 128]⟩
abbrev S512x128 : Shape := ⟨2, ![512, 128]⟩
abbrev S128x512 : Shape := ⟨2, ![128, 512]⟩
abbrev S1x128x512 : Shape := ⟨3, ![1, 128, 512]⟩
abbrev S1x1x4096x128 : Shape := ⟨4, ![1, 1, 4096, 128]⟩
abbrev S4096x128 : Shape := ⟨2, ![4096, 128]⟩
abbrev S256x128 : Shape := ⟨2, ![256, 128]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩
abbrev S1x1x512 : Shape := ⟨3, ![1, 1, 512]⟩
abbrev S80x512 : Shape := ⟨2, ![80, 512]⟩
abbrev S1x80x512 : Shape := ⟨3, ![1, 80, 512]⟩
abbrev S1x16x80x256 : Shape := ⟨4, ![1, 16, 80, 256]⟩
abbrev S16x80x256 : Shape := ⟨3, ![16, 80, 256]⟩
abbrev S1x80x256 : Shape := ⟨3, ![1, 80, 256]⟩
abbrev S80x256 : Shape := ⟨2, ![80, 256]⟩
abbrev S256x256 : Shape := ⟨2, ![256, 256]⟩
abbrev S1x128x256 : Shape := ⟨3, ![1, 128, 256]⟩
abbrev S128x256 : Shape := ⟨2, ![128, 256]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S1x64x512 : Shape := ⟨3, ![1, 64, 512]⟩
abbrev S64x512 : Shape := ⟨2, ![64, 512]⟩
abbrev S8x6x64x4096 : Shape := ⟨4, ![8, 6, 64, 4096]⟩

abbrev nBuf : Space → Nat
  | .hbm => 49
  | .vmem => 15
  | .smem => 0
  | _ => 0

abbrev bufTy : (tb : Table) → Fin (tcTables nBuf tb) → BufTy
  | .hbm, ⟨0, _⟩ => ⟨S8x4096x6x64, .f32⟩
  | .hbm, ⟨1, _⟩ => ⟨S8x4096x6x64, .f32⟩
  | .hbm, ⟨2, _⟩ => ⟨S8x4096x6x64, .f32⟩
  | .hbm, ⟨3, _⟩ => ⟨S8x4096x6, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x6, .f32⟩
  | .hbm, ⟨10, _⟩ => ⟨S8x4096x6, .f32⟩
  | .hbm, ⟨11, _⟩ => ⟨S8x4096x6, .bf16⟩
  | .hbm, ⟨12, _⟩ => ⟨S8x4096x6, .f32⟩
  | .hbm, ⟨13, _⟩ => ⟨S8x4096x6, .f32⟩
  | .hbm, ⟨14, _⟩ => ⟨S8x4096x6, .bf16⟩
  | .hbm, ⟨15, _⟩ => ⟨S8x4096x6, .f32⟩
  | .hbm, ⟨16, _⟩ => ⟨S8x4096x6, .f32⟩
  | .hbm, ⟨17, _⟩ => ⟨S8x4096x6, .bf16⟩
  | .hbm, ⟨18, _⟩ => ⟨S8x4096x6x1, .bf16⟩
  | .hbm, ⟨19, _⟩ => ⟨S8x4096x6x1, .bf16⟩
  | .hbm, ⟨20, _⟩ => ⟨S8x4096x6x1, .bf16⟩
  | .hbm, ⟨21, _⟩ => ⟨S8x4096x6x3, .bf16⟩
  | .hbm, ⟨22, _⟩ => ⟨S8x4096x6x3, .f32⟩
  | .hbm, ⟨23, _⟩ => ⟨S_, .f32⟩
  | .hbm, ⟨24, _⟩ => ⟨S8x4096x6x3, .f32⟩
  | .hbm, ⟨25, _⟩ => ⟨S_, .f32⟩
  | .hbm, ⟨26, _⟩ => ⟨S8x4096x6x58, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x4096x6x64, .f32⟩
  | .hbm, ⟨31, _⟩ => ⟨S8x4096x6x64, .f32⟩
  | .hbm, ⟨32, _⟩ => ⟨S8x4096x6x128, .f32⟩
  | .hbm, ⟨33, _⟩ => ⟨S8x4096x6x3, .f32⟩
  | .hbm, ⟨34, _⟩ => ⟨S8x4096x6x128, .f32⟩
  | .hbm, ⟨35, _⟩ => ⟨S8x6x4096x128, .f32⟩
  | .hbm, ⟨36, _⟩ => ⟨S8x6x4096x128, .bf16⟩
  | .hbm, ⟨37, _⟩ => ⟨S8x6x4096x128, .f32⟩
  | .hbm, ⟨38, _⟩ => ⟨S8x6x4096x128, .bf16⟩
  | .hbm, ⟨39, _⟩ => ⟨S8x16x256x6x64, .f32⟩
  | .hbm, ⟨40, _⟩ => ⟨S8x16x6x64x256, .f32⟩
  | .hbm, ⟨41, _⟩ => ⟨S8x16x6x64x256, .bf16⟩
  | .hbm, ⟨42, _⟩ => ⟨S_, .bf16⟩
  | .hbm, ⟨43, _⟩ => ⟨S8x16x6x16x256, .bf16⟩
  | .hbm, ⟨44, _⟩ => ⟨S8x16x6x80x256, .bf16⟩
  | .hbm, ⟨45, _⟩ => ⟨S8x16x480x256, .bf16⟩
  | .hbm, ⟨46, _⟩ => ⟨S8x384x4096, .bf16⟩
  | .hbm, ⟨47, _⟩ => ⟨S8x6x64x4096, .bf16⟩
  | .hbm, ⟨48, _⟩ => ⟨S8x4096x6x64, .bf16⟩
  | .local _ .vmem, ⟨0, _⟩ => ⟨S1x6x512x128, .bf16⟩
  | .local _ .vmem, ⟨1, _⟩ => ⟨S1x6x512x128, .bf16⟩
  | .local _ .vmem, ⟨2, _⟩ => ⟨S1x6x4096x128, .bf16⟩
  | .local _ .vmem, ⟨3, _⟩ => ⟨S1x6x4096x128, .bf16⟩
  | .local _ .vmem, ⟨4, _⟩ => ⟨S1x16x480x256, .bf16⟩
  | .local _ .vmem, ⟨5, _⟩ => ⟨S1x16x480x256, .bf16⟩
  | .local _ .vmem, ⟨6, _⟩ => ⟨S1x384x512, .bf16⟩
  | .local _ .vmem, ⟨7, _⟩ => ⟨S1x384x512, .bf16⟩
  | .local _ .vmem, ⟨8, _⟩ => ⟨S6x256x512, .f32⟩
  | .local _ .vmem, ⟨9, _⟩ => ⟨S6x256x512, .f32⟩
  | .local _ .vmem, ⟨10, _⟩ => ⟨S6x1x512, .f32⟩
  | .local _ .vmem, ⟨11, _⟩ => ⟨S6x1x512, .f32⟩
  | .local _ .vmem, ⟨12, _⟩ => ⟨S6x1x512, .f32⟩
  | .local _ .vmem, ⟨13, _⟩ => ⟨S6x80x512, .f32⟩
  | .local _ .vmem, ⟨14, _⟩ => ⟨S6x128x512, .bf16⟩
  | _, _ => ⟨S8x4096x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_mult1 : BitVec 32 :=
  let c0_i32 : BitVec 32 := 0#32
  c0_i32
def k0_mult2 : BitVec 32 :=
  let c0_i32_35 : BitVec 32 := 0#32
  c0_i32_35
def k0_mult3 : BitVec 32 :=
  let c0_i32_65 : BitVec 32 := 0#32
  c0_i32_65
def k0_mult4 : BitVec 32 :=
  let c0_i32_95 : BitVec 32 := 0#32
  c0_i32_95
def k0_mult5 : BitVec 32 :=
  let c0_i32_125 : BitVec 32 := 0#32
  c0_i32_125
def k0_mult6 : BitVec 32 :=
  let c0_i32_155 : BitVec 32 := 0#32
  c0_i32_155
@[reducible] def k0_t1_loop (i : grid0.Coords) : Scf.Loop 32 :=
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_194 : BitVec 32 := 1#32
  ⟨c0_i32_192, v207, c1_i32_194⟩
def k0_mult7 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_605 : BitVec 32 := 1#32
  let v748 : BitVec 32 := Scalar.addi v747 c1_i32_605
  let c256_i32_606 : BitVec 32 := 256#32
  let v749 : BitVec 32 := Scalar.muli v748 c256_i32_606
  v749
def k0_off1 (i : grid0.Coords) (k0_t1 : Fin (k0_t1_loop i).trips) : Fin 2 → Nat :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_605 : BitVec 32 := 1#32
  let v748 : BitVec 32 := Scalar.addi v747 c1_i32_605
  let c256_i32_606 : BitVec 32 := 256#32
  let v749 : BitVec 32 := Scalar.muli v748 c256_i32_606
  let v750 : BitVec 32 := v749
  let v753 : Index := Scalar.indexCast v750
  let c0_610 : Index := 0#32
  ![v753.toNat, 0]
def k0_off2 (i : grid0.Coords) (k0_t1 : Fin (k0_t1_loop i).trips) : Fin 3 → Nat :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let v789 : Index := Scalar.indexCast v747
  let c0_641 : Index := 0#32
  let c0_642 : Index := 0#32
  ![v789.toNat, 0, 0]
def k0_mult8 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_647 : BitVec 32 := 1#32
  let v797 : BitVec 32 := Scalar.addi v747 c1_i32_647
  let c256_i32_648 : BitVec 32 := 256#32
  let v798 : BitVec 32 := Scalar.muli v797 c256_i32_648
  v798
def k0_mult9 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_689 : BitVec 32 := 1#32
  let v846 : BitVec 32 := Scalar.addi v747 c1_i32_689
  let c256_i32_690 : BitVec 32 := 256#32
  let v847 : BitVec 32 := Scalar.muli v846 c256_i32_690
  v847
def k0_mult10 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_731 : BitVec 32 := 1#32
  let v895 : BitVec 32 := Scalar.addi v747 c1_i32_731
  let c256_i32_732 : BitVec 32 := 256#32
  let v896 : BitVec 32 := Scalar.muli v895 c256_i32_732
  v896
def k0_mult11 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_773 : BitVec 32 := 1#32
  let v944 : BitVec 32 := Scalar.addi v747 c1_i32_773
  let c256_i32_774 : BitVec 32 := 256#32
  let v945 : BitVec 32 := Scalar.muli v944 c256_i32_774
  v945
def k0_mult12 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_815 : BitVec 32 := 1#32
  let v993 : BitVec 32 := Scalar.addi v747 c1_i32_815
  let c256_i32_816 : BitVec 32 := 256#32
  let v994 : BitVec 32 := Scalar.muli v993 c256_i32_816
  v994
def k0_mult13 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_857 : BitVec 32 := 1#32
  let v1042 : BitVec 32 := Scalar.addi v747 c1_i32_857
  let c1_i32_858 : BitVec 32 := 1#32
  let v1043 : BitVec 32 := Scalar.addi v1042 c1_i32_858
  let c256_i32_859 : BitVec 32 := 256#32
  let v1044 : BitVec 32 := Scalar.muli v1043 c256_i32_859
  v1044
def k0_off3 (i : grid0.Coords) (k0_t1 : Fin (k0_t1_loop i).trips) (c1_i32_857 : BitVec 32) : Fin 2 → Nat :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let v1042 : BitVec 32 := Scalar.addi v747 c1_i32_857
  let c1_i32_858 : BitVec 32 := 1#32
  let v1043 : BitVec 32 := Scalar.addi v1042 c1_i32_858
  let c256_i32_859 : BitVec 32 := 256#32
  let v1044 : BitVec 32 := Scalar.muli v1043 c256_i32_859
  let v1045 : BitVec 32 := v1044
  let v1048 : Index := Scalar.indexCast v1045
  let c0_863 : Index := 0#32
  ![v1048.toNat, 0]
def k0_off4 (i : grid0.Coords) (k0_t1 : Fin (k0_t1_loop i).trips) (c1_i32_857 : BitVec 32) : Fin 3 → Nat :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let v1042 : BitVec 32 := Scalar.addi v747 c1_i32_857
  let v1084 : Index := Scalar.indexCast v1042
  let c0_894 : Index := 0#32
  let c0_895 : Index := 0#32
  ![v1084.toNat, 0, 0]
def k0_mult14 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_900 : BitVec 32 := 1#32
  let v1092 : BitVec 32 := Scalar.addi v747 c1_i32_900
  let c1_i32_901 : BitVec 32 := 1#32
  let v1093 : BitVec 32 := Scalar.addi v1092 c1_i32_901
  let c256_i32_902 : BitVec 32 := 256#32
  let v1094 : BitVec 32 := Scalar.muli v1093 c256_i32_902
  v1094
def k0_mult15 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_943 : BitVec 32 := 1#32
  let v1142 : BitVec 32 := Scalar.addi v747 c1_i32_943
  let c1_i32_944 : BitVec 32 := 1#32
  let v1143 : BitVec 32 := Scalar.addi v1142 c1_i32_944
  let c256_i32_945 : BitVec 32 := 256#32
  let v1144 : BitVec 32 := Scalar.muli v1143 c256_i32_945
  v1144
def k0_mult16 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_986 : BitVec 32 := 1#32
  let v1192 : BitVec 32 := Scalar.addi v747 c1_i32_986
  let c1_i32_987 : BitVec 32 := 1#32
  let v1193 : BitVec 32 := Scalar.addi v1192 c1_i32_987
  let c256_i32_988 : BitVec 32 := 256#32
  let v1194 : BitVec 32 := Scalar.muli v1193 c256_i32_988
  v1194
def k0_mult17 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_1029 : BitVec 32 := 1#32
  let v1242 : BitVec 32 := Scalar.addi v747 c1_i32_1029
  let c1_i32_1030 : BitVec 32 := 1#32
  let v1243 : BitVec 32 := Scalar.addi v1242 c1_i32_1030
  let c256_i32_1031 : BitVec 32 := 256#32
  let v1244 : BitVec 32 := Scalar.muli v1243 c256_i32_1031
  v1244
def k0_mult18 (i : grid0.Coords) (k0_t1 : Fin (k0_t1_loop i).trips) : BitVec 32 :=
  let c4_i32_604 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_1072 : BitVec 32 := 1#32
  let v1292 : BitVec 32 := Scalar.addi v747 c1_i32_1072
  let c1_i32_1073 : BitVec 32 := 1#32
  let v1293 : BitVec 32 := Scalar.addi v1292 c1_i32_1073
  let c256_i32_1074 : BitVec 32 := 256#32
  let v1294 : BitVec 32 := Scalar.muli v1293 c256_i32_1074
  v1294
def k0_mult19 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1117 : BitVec 32 := 1#32
  let v1344 : BitVec 32 := Scalar.addi v1343 c1_i32_1117
  let c256_i32_1118 : BitVec 32 := 256#32
  let v1345 : BitVec 32 := Scalar.muli v1344 c256_i32_1118
  v1345
def k0_mult20 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1159 : BitVec 32 := 1#32
  let v1393 : BitVec 32 := Scalar.addi v1343 c1_i32_1159
  let c256_i32_1160 : BitVec 32 := 256#32
  let v1394 : BitVec 32 := Scalar.muli v1393 c256_i32_1160
  v1394
def k0_mult21 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1201 : BitVec 32 := 1#32
  let v1442 : BitVec 32 := Scalar.addi v1343 c1_i32_1201
  let c256_i32_1202 : BitVec 32 := 256#32
  let v1443 : BitVec 32 := Scalar.muli v1442 c256_i32_1202
  v1443
def k0_mult22 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1243 : BitVec 32 := 1#32
  let v1491 : BitVec 32 := Scalar.addi v1343 c1_i32_1243
  let c256_i32_1244 : BitVec 32 := 256#32
  let v1492 : BitVec 32 := Scalar.muli v1491 c256_i32_1244
  v1492
def k0_mult23 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1285 : BitVec 32 := 1#32
  let v1540 : BitVec 32 := Scalar.addi v1343 c1_i32_1285
  let c256_i32_1286 : BitVec 32 := 256#32
  let v1541 : BitVec 32 := Scalar.muli v1540 c256_i32_1286
  v1541
def k0_mult24 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1327 : BitVec 32 := 1#32
  let v1589 : BitVec 32 := Scalar.addi v1343 c1_i32_1327
  let c256_i32_1328 : BitVec 32 := 256#32
  let v1590 : BitVec 32 := Scalar.muli v1589 c256_i32_1328
  v1590
def k0_mult25 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1369 : BitVec 32 := 1#32
  let v1638 : BitVec 32 := Scalar.addi v1343 c1_i32_1369
  let c1_i32_1370 : BitVec 32 := 1#32
  let v1639 : BitVec 32 := Scalar.addi v1638 c1_i32_1370
  let c256_i32_1371 : BitVec 32 := 256#32
  let v1640 : BitVec 32 := Scalar.muli v1639 c256_i32_1371
  v1640
def k0_off5 (i : grid0.Coords) (k0_t1 : Fin (k0_t1_loop i).trips) : Fin 2 → Nat :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1369 : BitVec 32 := 1#32
  let v1638 : BitVec 32 := Scalar.addi v1343 c1_i32_1369
  let c1_i32_1370 : BitVec 32 := 1#32
  let v1639 : BitVec 32 := Scalar.addi v1638 c1_i32_1370
  let c256_i32_1371 : BitVec 32 := 256#32
  let v1640 : BitVec 32 := Scalar.muli v1639 c256_i32_1371
  let v1641 : BitVec 32 := v1640
  let v1644 : Index := Scalar.indexCast v1641
  let c0_1375 : Index := 0#32
  ![v1644.toNat, 0]
def k0_off6 (i : grid0.Coords) (k0_t1 : Fin (k0_t1_loop i).trips) : Fin 3 → Nat :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1369 : BitVec 32 := 1#32
  let v1638 : BitVec 32 := Scalar.addi v1343 c1_i32_1369
  let v1680 : Index := Scalar.indexCast v1638
  let c0_1406 : Index := 0#32
  let c0_1407 : Index := 0#32
  ![v1680.toNat, 0, 0]
def k0_mult26 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1412 : BitVec 32 := 1#32
  let v1688 : BitVec 32 := Scalar.addi v1343 c1_i32_1412
  let c1_i32_1413 : BitVec 32 := 1#32
  let v1689 : BitVec 32 := Scalar.addi v1688 c1_i32_1413
  let c256_i32_1414 : BitVec 32 := 256#32
  let v1690 : BitVec 32 := Scalar.muli v1689 c256_i32_1414
  v1690
def k0_mult27 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1455 : BitVec 32 := 1#32
  let v1738 : BitVec 32 := Scalar.addi v1343 c1_i32_1455
  let c1_i32_1456 : BitVec 32 := 1#32
  let v1739 : BitVec 32 := Scalar.addi v1738 c1_i32_1456
  let c256_i32_1457 : BitVec 32 := 256#32
  let v1740 : BitVec 32 := Scalar.muli v1739 c256_i32_1457
  v1740
def k0_mult28 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1498 : BitVec 32 := 1#32
  let v1788 : BitVec 32 := Scalar.addi v1343 c1_i32_1498
  let c1_i32_1499 : BitVec 32 := 1#32
  let v1789 : BitVec 32 := Scalar.addi v1788 c1_i32_1499
  let c256_i32_1500 : BitVec 32 := 256#32
  let v1790 : BitVec 32 := Scalar.muli v1789 c256_i32_1500
  v1790
def k0_mult29 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1541 : BitVec 32 := 1#32
  let v1838 : BitVec 32 := Scalar.addi v1343 c1_i32_1541
  let c1_i32_1542 : BitVec 32 := 1#32
  let v1839 : BitVec 32 := Scalar.addi v1838 c1_i32_1542
  let c256_i32_1543 : BitVec 32 := 256#32
  let v1840 : BitVec 32 := Scalar.muli v1839 c256_i32_1543
  v1840
def k0_mult30 (i : grid0.Coords) (k0_t1 : Fin (k0_t1_loop i).trips) : BitVec 32 :=
  let c4_i32_1115 : BitVec 32 := 4#32
  let c0_i32_185 : BitVec 32 := 0#32
  let c0_i32_192 : BitVec 32 := 0#32
  let c1_i32_194 : BitVec 32 := 1#32
  let arg14 : BitVec 32 := Scf.iv c0_i32_192 c1_i32_194 k0_t1
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1584 : BitVec 32 := 1#32
  let v1888 : BitVec 32 := Scalar.addi v1343 c1_i32_1584
  let c1_i32_1585 : BitVec 32 := 1#32
  let v1889 : BitVec 32 := Scalar.addi v1888 c1_i32_1585
  let c256_i32_1586 : BitVec 32 := 256#32
  let v1890 : BitVec 32 := Scalar.muli v1889 c256_i32_1586
  v1890
@[reducible] def k0_t2_loop (i : grid0.Coords) : Scf.Loop 32 :=
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let v204 : BitVec 32 := Scalar.addi c0_i32_192 v203
  let c1_i32_195 : BitVec 32 := 1#32
  ⟨v207, v204, c1_i32_195⟩
def k0_mult31 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_605 : BitVec 32 := 1#32
  let v748 : BitVec 32 := Scalar.addi v747 c1_i32_605
  let c256_i32_606 : BitVec 32 := 256#32
  let v749 : BitVec 32 := Scalar.muli v748 c256_i32_606
  v749
def k0_off7 (i : grid0.Coords) (k0_t2 : Fin (k0_t2_loop i).trips) : Fin 2 → Nat :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_605 : BitVec 32 := 1#32
  let v748 : BitVec 32 := Scalar.addi v747 c1_i32_605
  let c256_i32_606 : BitVec 32 := 256#32
  let v749 : BitVec 32 := Scalar.muli v748 c256_i32_606
  let v750 : BitVec 32 := v749
  let v753 : Index := Scalar.indexCast v750
  let c0_610 : Index := 0#32
  ![v753.toNat, 0]
def k0_off8 (i : grid0.Coords) (k0_t2 : Fin (k0_t2_loop i).trips) : Fin 3 → Nat :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let v789 : Index := Scalar.indexCast v747
  let c0_641 : Index := 0#32
  let c0_642 : Index := 0#32
  ![v789.toNat, 0, 0]
def k0_mult32 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_647 : BitVec 32 := 1#32
  let v797 : BitVec 32 := Scalar.addi v747 c1_i32_647
  let c256_i32_648 : BitVec 32 := 256#32
  let v798 : BitVec 32 := Scalar.muli v797 c256_i32_648
  v798
def k0_mult33 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_689 : BitVec 32 := 1#32
  let v846 : BitVec 32 := Scalar.addi v747 c1_i32_689
  let c256_i32_690 : BitVec 32 := 256#32
  let v847 : BitVec 32 := Scalar.muli v846 c256_i32_690
  v847
def k0_mult34 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_731 : BitVec 32 := 1#32
  let v895 : BitVec 32 := Scalar.addi v747 c1_i32_731
  let c256_i32_732 : BitVec 32 := 256#32
  let v896 : BitVec 32 := Scalar.muli v895 c256_i32_732
  v896
def k0_mult35 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_773 : BitVec 32 := 1#32
  let v944 : BitVec 32 := Scalar.addi v747 c1_i32_773
  let c256_i32_774 : BitVec 32 := 256#32
  let v945 : BitVec 32 := Scalar.muli v944 c256_i32_774
  v945
def k0_mult36 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_815 : BitVec 32 := 1#32
  let v993 : BitVec 32 := Scalar.addi v747 c1_i32_815
  let c256_i32_816 : BitVec 32 := 256#32
  let v994 : BitVec 32 := Scalar.muli v993 c256_i32_816
  v994
def k0_mult37 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_857 : BitVec 32 := 1#32
  let v1042 : BitVec 32 := Scalar.addi v747 c1_i32_857
  let c1_i32_858 : BitVec 32 := 1#32
  let v1043 : BitVec 32 := Scalar.addi v1042 c1_i32_858
  let c256_i32_859 : BitVec 32 := 256#32
  let v1044 : BitVec 32 := Scalar.muli v1043 c256_i32_859
  v1044
def k0_off9 (i : grid0.Coords) (k0_t2 : Fin (k0_t2_loop i).trips) (c1_i32_857 : BitVec 32) : Fin 2 → Nat :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let v1042 : BitVec 32 := Scalar.addi v747 c1_i32_857
  let c1_i32_858 : BitVec 32 := 1#32
  let v1043 : BitVec 32 := Scalar.addi v1042 c1_i32_858
  let c256_i32_859 : BitVec 32 := 256#32
  let v1044 : BitVec 32 := Scalar.muli v1043 c256_i32_859
  let v1045 : BitVec 32 := v1044
  let v1048 : Index := Scalar.indexCast v1045
  let c0_863 : Index := 0#32
  ![v1048.toNat, 0]
def k0_off10 (i : grid0.Coords) (k0_t2 : Fin (k0_t2_loop i).trips) (c1_i32_857 : BitVec 32) : Fin 3 → Nat :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let v1042 : BitVec 32 := Scalar.addi v747 c1_i32_857
  let v1084 : Index := Scalar.indexCast v1042
  let c0_894 : Index := 0#32
  let c0_895 : Index := 0#32
  ![v1084.toNat, 0, 0]
def k0_mult38 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_900 : BitVec 32 := 1#32
  let v1092 : BitVec 32 := Scalar.addi v747 c1_i32_900
  let c1_i32_901 : BitVec 32 := 1#32
  let v1093 : BitVec 32 := Scalar.addi v1092 c1_i32_901
  let c256_i32_902 : BitVec 32 := 256#32
  let v1094 : BitVec 32 := Scalar.muli v1093 c256_i32_902
  v1094
def k0_mult39 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_943 : BitVec 32 := 1#32
  let v1142 : BitVec 32 := Scalar.addi v747 c1_i32_943
  let c1_i32_944 : BitVec 32 := 1#32
  let v1143 : BitVec 32 := Scalar.addi v1142 c1_i32_944
  let c256_i32_945 : BitVec 32 := 256#32
  let v1144 : BitVec 32 := Scalar.muli v1143 c256_i32_945
  v1144
def k0_mult40 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_986 : BitVec 32 := 1#32
  let v1192 : BitVec 32 := Scalar.addi v747 c1_i32_986
  let c1_i32_987 : BitVec 32 := 1#32
  let v1193 : BitVec 32 := Scalar.addi v1192 c1_i32_987
  let c256_i32_988 : BitVec 32 := 256#32
  let v1194 : BitVec 32 := Scalar.muli v1193 c256_i32_988
  v1194
def k0_mult41 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_1029 : BitVec 32 := 1#32
  let v1242 : BitVec 32 := Scalar.addi v747 c1_i32_1029
  let c1_i32_1030 : BitVec 32 := 1#32
  let v1243 : BitVec 32 := Scalar.addi v1242 c1_i32_1030
  let c256_i32_1031 : BitVec 32 := 256#32
  let v1244 : BitVec 32 := Scalar.muli v1243 c256_i32_1031
  v1244
def k0_mult42 (i : grid0.Coords) (k0_t2 : Fin (k0_t2_loop i).trips) : BitVec 32 :=
  let c4_i32_604 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v747 : BitVec 32 := Scalar.muli c4_i32_604 v746
  let c1_i32_1072 : BitVec 32 := 1#32
  let v1292 : BitVec 32 := Scalar.addi v747 c1_i32_1072
  let c1_i32_1073 : BitVec 32 := 1#32
  let v1293 : BitVec 32 := Scalar.addi v1292 c1_i32_1073
  let c256_i32_1074 : BitVec 32 := 256#32
  let v1294 : BitVec 32 := Scalar.muli v1293 c256_i32_1074
  v1294
def k0_mult43 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1117 : BitVec 32 := 1#32
  let v1344 : BitVec 32 := Scalar.addi v1343 c1_i32_1117
  let c256_i32_1118 : BitVec 32 := 256#32
  let v1345 : BitVec 32 := Scalar.muli v1344 c256_i32_1118
  v1345
def k0_mult44 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1159 : BitVec 32 := 1#32
  let v1393 : BitVec 32 := Scalar.addi v1343 c1_i32_1159
  let c256_i32_1160 : BitVec 32 := 256#32
  let v1394 : BitVec 32 := Scalar.muli v1393 c256_i32_1160
  v1394
def k0_mult45 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1201 : BitVec 32 := 1#32
  let v1442 : BitVec 32 := Scalar.addi v1343 c1_i32_1201
  let c256_i32_1202 : BitVec 32 := 256#32
  let v1443 : BitVec 32 := Scalar.muli v1442 c256_i32_1202
  v1443
def k0_mult46 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1243 : BitVec 32 := 1#32
  let v1491 : BitVec 32 := Scalar.addi v1343 c1_i32_1243
  let c256_i32_1244 : BitVec 32 := 256#32
  let v1492 : BitVec 32 := Scalar.muli v1491 c256_i32_1244
  v1492
def k0_mult47 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1285 : BitVec 32 := 1#32
  let v1540 : BitVec 32 := Scalar.addi v1343 c1_i32_1285
  let c256_i32_1286 : BitVec 32 := 256#32
  let v1541 : BitVec 32 := Scalar.muli v1540 c256_i32_1286
  v1541
def k0_mult48 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1327 : BitVec 32 := 1#32
  let v1589 : BitVec 32 := Scalar.addi v1343 c1_i32_1327
  let c256_i32_1328 : BitVec 32 := 256#32
  let v1590 : BitVec 32 := Scalar.muli v1589 c256_i32_1328
  v1590
def k0_mult49 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1369 : BitVec 32 := 1#32
  let v1638 : BitVec 32 := Scalar.addi v1343 c1_i32_1369
  let c1_i32_1370 : BitVec 32 := 1#32
  let v1639 : BitVec 32 := Scalar.addi v1638 c1_i32_1370
  let c256_i32_1371 : BitVec 32 := 256#32
  let v1640 : BitVec 32 := Scalar.muli v1639 c256_i32_1371
  v1640
def k0_off11 (i : grid0.Coords) (k0_t2 : Fin (k0_t2_loop i).trips) : Fin 2 → Nat :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1369 : BitVec 32 := 1#32
  let v1638 : BitVec 32 := Scalar.addi v1343 c1_i32_1369
  let c1_i32_1370 : BitVec 32 := 1#32
  let v1639 : BitVec 32 := Scalar.addi v1638 c1_i32_1370
  let c256_i32_1371 : BitVec 32 := 256#32
  let v1640 : BitVec 32 := Scalar.muli v1639 c256_i32_1371
  let v1641 : BitVec 32 := v1640
  let v1644 : Index := Scalar.indexCast v1641
  let c0_1375 : Index := 0#32
  ![v1644.toNat, 0]
def k0_off12 (i : grid0.Coords) (k0_t2 : Fin (k0_t2_loop i).trips) : Fin 3 → Nat :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1369 : BitVec 32 := 1#32
  let v1638 : BitVec 32 := Scalar.addi v1343 c1_i32_1369
  let v1680 : Index := Scalar.indexCast v1638
  let c0_1406 : Index := 0#32
  let c0_1407 : Index := 0#32
  ![v1680.toNat, 0, 0]
def k0_mult50 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1412 : BitVec 32 := 1#32
  let v1688 : BitVec 32 := Scalar.addi v1343 c1_i32_1412
  let c1_i32_1413 : BitVec 32 := 1#32
  let v1689 : BitVec 32 := Scalar.addi v1688 c1_i32_1413
  let c256_i32_1414 : BitVec 32 := 256#32
  let v1690 : BitVec 32 := Scalar.muli v1689 c256_i32_1414
  v1690
def k0_mult51 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1455 : BitVec 32 := 1#32
  let v1738 : BitVec 32 := Scalar.addi v1343 c1_i32_1455
  let c1_i32_1456 : BitVec 32 := 1#32
  let v1739 : BitVec 32 := Scalar.addi v1738 c1_i32_1456
  let c256_i32_1457 : BitVec 32 := 256#32
  let v1740 : BitVec 32 := Scalar.muli v1739 c256_i32_1457
  v1740
def k0_mult52 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1498 : BitVec 32 := 1#32
  let v1788 : BitVec 32 := Scalar.addi v1343 c1_i32_1498
  let c1_i32_1499 : BitVec 32 := 1#32
  let v1789 : BitVec 32 := Scalar.addi v1788 c1_i32_1499
  let c256_i32_1500 : BitVec 32 := 256#32
  let v1790 : BitVec 32 := Scalar.muli v1789 c256_i32_1500
  v1790
def k0_mult53 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1541 : BitVec 32 := 1#32
  let v1838 : BitVec 32 := Scalar.addi v1343 c1_i32_1541
  let c1_i32_1542 : BitVec 32 := 1#32
  let v1839 : BitVec 32 := Scalar.addi v1838 c1_i32_1542
  let c256_i32_1543 : BitVec 32 := 256#32
  let v1840 : BitVec 32 := Scalar.muli v1839 c256_i32_1543
  v1840
def k0_mult54 (i : grid0.Coords) (k0_t2 : Fin (k0_t2_loop i).trips) : BitVec 32 :=
  let c4_i32_1115 : BitVec 32 := 4#32
  let c0_i32_185 : BitVec 32 := 0#32
  let c0_i32_192 : BitVec 32 := 0#32
  let arg2 : BitVec 32 := BitVec.ofNat 32 (i 2).val
  let c1_i32_179 : BitVec 32 := 1#32
  let v198 : BitVec 32 := Scalar.shrui arg2 c1_i32_179
  let c0_i32_180 : BitVec 32 := 0#32
  let v199 : BitVec 32 := Scalar.subi v198 c0_i32_180
  let c1_i32_181 : BitVec 32 := 1#32
  let c1_i32_182 : BitVec 32 := 1#32
  let v200 : BitVec 32 := Scalar.subi c1_i32_181 c1_i32_182
  let v201 : BitVec 32 := Scalar.addi v199 v200
  let c1_i32_183 : BitVec 32 := 1#32
  let v202 : BitVec 32 := Scalar.divsi v201 c1_i32_183
  let v203 : BitVec 32 := Scalar.subi v202 c0_i32_192
  let c1_i32_193 : BitVec 32 := 1#32
  let v205 : BitVec 32 := Scalar.divsi v203 c1_i32_193
  let v206 : BitVec 32 := Scalar.muli v205 c1_i32_193
  let v207 : BitVec 32 := Scalar.addi c0_i32_192 v206
  let c1_i32_195 : BitVec 32 := 1#32
  let arg14 : BitVec 32 := Scf.iv v207 c1_i32_195 k0_t2
  let c1_i32_184 : BitVec 32 := 1#32
  let v745 : BitVec 32 := Scalar.muli arg14 c1_i32_184
  let v746 : BitVec 32 := Scalar.addi c0_i32_185 v745
  let v1342 : BitVec 32 := Scalar.muli c4_i32_1115 v746
  let c2_i32_1116 : BitVec 32 := 2#32
  let v1343 : BitVec 32 := Scalar.addi v1342 c2_i32_1116
  let c1_i32_1584 : BitVec 32 := 1#32
  let v1888 : BitVec 32 := Scalar.addi v1343 c1_i32_1584
  let c1_i32_1585 : BitVec 32 := 1#32
  let v1889 : BitVec 32 := Scalar.addi v1888 c1_i32_1585
  let c256_i32_1586 : BitVec 32 := 256#32
  let v1890 : BitVec 32 := Scalar.muli v1889 c256_i32_1586
  v1890
def k0_cond1 (i : grid0.Coords) : BitVec 1 :=
  let arg2 : BitVec 32 := BitVec.ofNat 32 (i 2).val
  let c1_i32_196 : BitVec 32 := 1#32
  let v208 : BitVec 32 := Scalar.andi arg2 c1_i32_196
  let c1_i32_197 : BitVec 32 := 1#32
  let v209 : BitVec 1 := Scalar.cmpi .eq v208 c1_i32_197
  let v210 : BitVec 32 := Scalar.extui v209
  let c0_i32_204 : BitVec 32 := 0#32
  let v211 : BitVec 1 := Scalar.cmpi .ne v210 c0_i32_204
  v211

def k0_mult55 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_606 : BitVec 32 := 1#32
  let v747 : BitVec 32 := Scalar.addi v746 c1_i32_606
  let c256_i32_607 : BitVec 32 := 256#32
  let v748 : BitVec 32 := Scalar.muli v747 c256_i32_607
  v748
def k0_off13 (i : grid0.Coords) : Fin 2 → Nat :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_606 : BitVec 32 := 1#32
  let v747 : BitVec 32 := Scalar.addi v746 c1_i32_606
  let c256_i32_607 : BitVec 32 := 256#32
  let v748 : BitVec 32 := Scalar.muli v747 c256_i32_607
  let v749 : BitVec 32 := v748
  let v752 : Index := Scalar.indexCast v749
  let c0_611 : Index := 0#32
  ![v752.toNat, 0]
def k0_off14 (i : grid0.Coords) : Fin 3 → Nat :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let v788 : Index := Scalar.indexCast v746
  let c0_642 : Index := 0#32
  let c0_643 : Index := 0#32
  ![v788.toNat, 0, 0]
def k0_mult56 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_648 : BitVec 32 := 1#32
  let v796 : BitVec 32 := Scalar.addi v746 c1_i32_648
  let c256_i32_649 : BitVec 32 := 256#32
  let v797 : BitVec 32 := Scalar.muli v796 c256_i32_649
  v797
def k0_mult57 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_690 : BitVec 32 := 1#32
  let v845 : BitVec 32 := Scalar.addi v746 c1_i32_690
  let c256_i32_691 : BitVec 32 := 256#32
  let v846 : BitVec 32 := Scalar.muli v845 c256_i32_691
  v846
def k0_mult58 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_732 : BitVec 32 := 1#32
  let v894 : BitVec 32 := Scalar.addi v746 c1_i32_732
  let c256_i32_733 : BitVec 32 := 256#32
  let v895 : BitVec 32 := Scalar.muli v894 c256_i32_733
  v895
def k0_mult59 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_774 : BitVec 32 := 1#32
  let v943 : BitVec 32 := Scalar.addi v746 c1_i32_774
  let c256_i32_775 : BitVec 32 := 256#32
  let v944 : BitVec 32 := Scalar.muli v943 c256_i32_775
  v944
def k0_mult60 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_816 : BitVec 32 := 1#32
  let v992 : BitVec 32 := Scalar.addi v746 c1_i32_816
  let c256_i32_817 : BitVec 32 := 256#32
  let v993 : BitVec 32 := Scalar.muli v992 c256_i32_817
  v993
def k0_mult61 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_858 : BitVec 32 := 1#32
  let v1041 : BitVec 32 := Scalar.addi v746 c1_i32_858
  let c1_i32_859 : BitVec 32 := 1#32
  let v1042 : BitVec 32 := Scalar.addi v1041 c1_i32_859
  let c256_i32_860 : BitVec 32 := 256#32
  let v1043 : BitVec 32 := Scalar.muli v1042 c256_i32_860
  v1043
def k0_off15 (i : grid0.Coords) : Fin 2 → Nat :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_858 : BitVec 32 := 1#32
  let v1041 : BitVec 32 := Scalar.addi v746 c1_i32_858
  let c1_i32_859 : BitVec 32 := 1#32
  let v1042 : BitVec 32 := Scalar.addi v1041 c1_i32_859
  let c256_i32_860 : BitVec 32 := 256#32
  let v1043 : BitVec 32 := Scalar.muli v1042 c256_i32_860
  let v1044 : BitVec 32 := v1043
  let v1047 : Index := Scalar.indexCast v1044
  let c0_864 : Index := 0#32
  ![v1047.toNat, 0]
def k0_off16 (i : grid0.Coords) : Fin 3 → Nat :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_858 : BitVec 32 := 1#32
  let v1041 : BitVec 32 := Scalar.addi v746 c1_i32_858
  let v1083 : Index := Scalar.indexCast v1041
  let c0_895 : Index := 0#32
  let c0_896 : Index := 0#32
  ![v1083.toNat, 0, 0]
def k0_mult62 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_901 : BitVec 32 := 1#32
  let v1091 : BitVec 32 := Scalar.addi v746 c1_i32_901
  let c1_i32_902 : BitVec 32 := 1#32
  let v1092 : BitVec 32 := Scalar.addi v1091 c1_i32_902
  let c256_i32_903 : BitVec 32 := 256#32
  let v1093 : BitVec 32 := Scalar.muli v1092 c256_i32_903
  v1093
def k0_mult63 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_944 : BitVec 32 := 1#32
  let v1141 : BitVec 32 := Scalar.addi v746 c1_i32_944
  let c1_i32_945 : BitVec 32 := 1#32
  let v1142 : BitVec 32 := Scalar.addi v1141 c1_i32_945
  let c256_i32_946 : BitVec 32 := 256#32
  let v1143 : BitVec 32 := Scalar.muli v1142 c256_i32_946
  v1143
def k0_mult64 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_987 : BitVec 32 := 1#32
  let v1191 : BitVec 32 := Scalar.addi v746 c1_i32_987
  let c1_i32_988 : BitVec 32 := 1#32
  let v1192 : BitVec 32 := Scalar.addi v1191 c1_i32_988
  let c256_i32_989 : BitVec 32 := 256#32
  let v1193 : BitVec 32 := Scalar.muli v1192 c256_i32_989
  v1193
def k0_mult65 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_1030 : BitVec 32 := 1#32
  let v1241 : BitVec 32 := Scalar.addi v746 c1_i32_1030
  let c1_i32_1031 : BitVec 32 := 1#32
  let v1242 : BitVec 32 := Scalar.addi v1241 c1_i32_1031
  let c256_i32_1032 : BitVec 32 := 256#32
  let v1243 : BitVec 32 := Scalar.muli v1242 c256_i32_1032
  v1243
def k0_mult66 (i : grid0.Coords) : BitVec 32 :=
  let c2_i32_604 : BitVec 32 := 2#32
  let arg2 : BitVec 32 := BitVec.ofNat 32 (i 2).val
  let v745 : BitVec 32 := Scalar.muli c2_i32_604 arg2
  let c2_i32_605 : BitVec 32 := 2#32
  let v746 : BitVec 32 := Scalar.subi v745 c2_i32_605
  let c1_i32_1073 : BitVec 32 := 1#32
  let v1291 : BitVec 32 := Scalar.addi v746 c1_i32_1073
  let c1_i32_1074 : BitVec 32 := 1#32
  let v1292 : BitVec 32 := Scalar.addi v1291 c1_i32_1074
  let c256_i32_1075 : BitVec 32 := 256#32
  let v1293 : BitVec 32 := Scalar.muli v1292 c256_i32_1075
  v1293
def k0_mult67 (i : grid0.Coords) : BitVec 32 :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let c256_i32 : BitVec 32 := 256#32
  let v217 : BitVec 32 := Scalar.muli v216 c256_i32
  v217
def k0_off17 (i : grid0.Coords) : Fin 2 → Nat :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let c256_i32 : BitVec 32 := 256#32
  let v217 : BitVec 32 := Scalar.muli v216 c256_i32
  let v218 : BitVec 32 := v217
  let v221 : Index := Scalar.indexCast v218
  let c0_211 : Index := 0#32
  ![v221.toNat, 0]
def k0_off18 (i : grid0.Coords) : Fin 3 → Nat :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let c1_i32_232 : BitVec 32 := 1#32
  let v255 : BitVec 32 := Scalar.subi v216 c1_i32_232
  let v258 : Index := Scalar.indexCast v255
  let c0_237 : Index := 0#32
  let c0_238 : Index := 0#32
  ![v258.toNat, 0, 0]
def k0_mult68 (i : grid0.Coords) : BitVec 32 :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let c256_i32_243 : BitVec 32 := 256#32
  let v266 : BitVec 32 := Scalar.muli v216 c256_i32_243
  v266
def k0_mult69 (i : grid0.Coords) : BitVec 32 :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let c256_i32_280 : BitVec 32 := 256#32
  let v315 : BitVec 32 := Scalar.muli v216 c256_i32_280
  v315
def k0_mult70 (i : grid0.Coords) : BitVec 32 :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let c256_i32_317 : BitVec 32 := 256#32
  let v364 : BitVec 32 := Scalar.muli v216 c256_i32_317
  v364
def k0_mult71 (i : grid0.Coords) : BitVec 32 :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let c256_i32_354 : BitVec 32 := 256#32
  let v413 : BitVec 32 := Scalar.muli v216 c256_i32_354
  v413
def k0_mult72 (i : grid0.Coords) : BitVec 32 :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let c256_i32_391 : BitVec 32 := 256#32
  let v462 : BitVec 32 := Scalar.muli v216 c256_i32_391
  v462
def k0_off19 (i : grid0.Coords) : Fin 3 → Nat :=
  let c2_i32_205 : BitVec 32 := 2#32
  let arg2 : BitVec 32 := BitVec.ofNat 32 (i 2).val
  let v215 : BitVec 32 := Scalar.muli c2_i32_205 arg2
  let c1_i32_206 : BitVec 32 := 1#32
  let v216 : BitVec 32 := Scalar.addi v215 c1_i32_206
  let v532 : Index := Scalar.indexCast v216
  let c0_443 : Index := 0#32
  let c0_444 : Index := 0#32
  ![v532.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x6x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x6x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x480x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x6x64 : Shape := ⟨4, ![8, 4096, 6, 64]⟩
abbrev S8x4096x6 : Shape := ⟨3, ![8, 4096, 6]⟩
abbrev S8x6x4096x4096 : Shape := ⟨4, ![8, 6, 4096, 4096]⟩
abbrev S_ : Shape := ⟨0, ![]⟩
abbrev S8x6x4096 : Shape := ⟨3, ![8, 6, 4096]⟩
abbrev S8x6x4096x1 : Shape := ⟨4, ![8, 6, 4096, 1]⟩
abbrev S8x6x1x4096 : Shape := ⟨4, ![8, 6, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x6x64x4096 : Shape := ⟨4, ![8, 6, 64, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x6x64, .f32⟩
  | .hbm, ⟨1, _⟩ => ⟨S8x4096x6x64, .f32⟩
  | .hbm, ⟨2, _⟩ => ⟨S8x4096x6x64, .f32⟩
  | .hbm, ⟨3, _⟩ => ⟨S8x4096x6, .f32⟩
  | .hbm, ⟨4, _⟩ => ⟨S8x6x4096x4096, .f32⟩
  | .hbm, ⟨5, _⟩ => ⟨S_, .f32⟩
  | .hbm, ⟨6, _⟩ => ⟨S8x6x4096x4096, .f32⟩
  | .hbm, ⟨7, _⟩ => ⟨S8x6x4096x4096, .f32⟩
  | .hbm, ⟨8, _⟩ => ⟨S8x6x4096, .f32⟩
  | .hbm, ⟨9, _⟩ => ⟨S8x6x4096x1, .f32⟩
  | .hbm, ⟨10, _⟩ => ⟨S8x6x4096x4096, .f32⟩
  | .hbm, ⟨11, _⟩ => ⟨S8x6x4096x4096, .f32⟩
  | .hbm, ⟨12, _⟩ => ⟨S8x6x1x4096, .f32⟩
  | .hbm, ⟨13, _⟩ => ⟨S8x6x4096x4096, .f32⟩
  | .hbm, ⟨14, _⟩ => ⟨S8x6x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x6x4096x4096, .i1⟩
  | .hbm, ⟨24, _⟩ => ⟨S8x6x4096x4096, .f32⟩
  | .hbm, ⟨25, _⟩ => ⟨S8x6x4096x4096, .f32⟩
  | .hbm, ⟨26, _⟩ => ⟨S_, .f32⟩
  | .hbm, ⟨27, _⟩ => ⟨S8x6x4096, .f32⟩
  | .hbm, ⟨28, _⟩ => ⟨S_, .f32⟩
  | .hbm, ⟨29, _⟩ => ⟨S8x6x4096, .f32⟩
  | .hbm, ⟨30, _⟩ => ⟨S8x6x4096, .f32⟩
  | .hbm, ⟨31, _⟩ => ⟨S8x6x4096x1, .f32⟩
  | .hbm, ⟨32, _⟩ => ⟨S8x6x4096x4096, .f32⟩
  | .hbm, ⟨33, _⟩ => ⟨S8x6x4096x4096, .f32⟩
  | .hbm, ⟨34, _⟩ => ⟨S8x6x4096x4096, .f32⟩
  | .hbm, ⟨35, _⟩ => ⟨S_, .f32⟩
  | .hbm, ⟨36, _⟩ => ⟨S8x6x4096, .f32⟩
  | .hbm, ⟨37, _⟩ => ⟨S8x6x4096x1, .f32⟩
  | .hbm, ⟨38, _⟩ => ⟨S8x6x4096x4096, .f32⟩
  | .hbm, ⟨39, _⟩ => ⟨S8x6x4096x4096, .f32⟩
  | .hbm, ⟨40, _⟩ => ⟨S8x6x64x4096, .f32⟩
  | .hbm, ⟨41, _⟩ => ⟨S8x4096x6x64, .f32⟩
  | .hbm, ⟨42, _⟩ => ⟨S8x4096x6x64, .bf16⟩
  | _, _ => ⟨S8x4096x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== FeedForward.lean ====
abbrev S8x4096x1024 : Shape := ⟨3, ![8, 4096, 1024]⟩
abbrev S2x1024x2816 : Shape := ⟨3, ![2, 1024, 2816]⟩
abbrev S2x2816x1024 : Shape := ⟨3, ![2, 2816, 1024]⟩
abbrev S2x1024 : Shape := ⟨2, ![2, 1024]⟩
abbrev S32768x1024 : Shape := ⟨2, ![32768, 1024]⟩
abbrev S2x1x1024 : Shape := ⟨3, ![2, 1, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1x1x1024 : Shape := ⟨3, ![1, 1, 1024]⟩
abbrev S512x1024 : Shape := ⟨2, ![512, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩
abbrev S1x1024 : Shape := ⟨2, ![1, 1024]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S2x1024, .f32⟩
  | .hbm, ⟨5, _⟩ => ⟨S2x1024, .f32⟩
  | .hbm, ⟨6, _⟩ => ⟨S32768x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S2x1x1024, .f32⟩
  | .hbm, ⟨11, _⟩ => ⟨S2x1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FeedForwardReferenceIdeal.lean ====
abbrev S8x4096x1024 : Shape := ⟨3, ![8, 4096, 1024]⟩
abbrev S2x1024x2816 : Shape := ⟨3, ![2, 1024, 2816]⟩
abbrev S2x2816x1024 : Shape := ⟨3, ![2, 2816, 1024]⟩
abbrev S2x1024 : Shape := ⟨2, ![2, 1024]⟩
abbrev S_ : Shape := ⟨0, ![]⟩
abbrev S1x1024x2816 : Shape := ⟨3, ![1, 1024, 2816]⟩
abbrev S1024x2816 : Shape := ⟨2, ![1024, 2816]⟩
abbrev S8x4096x2816 : Shape := ⟨3, ![8, 4096, 2816]⟩
abbrev S1x2816x1024 : Shape := ⟨3, ![1, 2816, 1024]⟩
abbrev S2816x1024 : Shape := ⟨2, ![2816, 1024]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S8x4096x1024, .f32⟩
  | .hbm, ⟨8, _⟩ => ⟨S8x4096x1024, .f32⟩
  | .hbm, ⟨9, _⟩ => ⟨S1x1024x2816, .f32⟩
  | .hbm, ⟨10, _⟩ => ⟨S1024x2816, .f32⟩
  | .hbm, ⟨11, _⟩ => ⟨S8x4096x2816, .f32⟩
  | .hbm, ⟨12, _⟩ => ⟨S8x4096x2816, .f32⟩
  | .hbm, ⟨13, _⟩ => ⟨S8x4096x2816, .f32⟩
  | .hbm, ⟨14, _⟩ => ⟨S_, .f32⟩
  | .hbm, ⟨15, _⟩ => ⟨S8x4096x2816, .f32⟩
  | .hbm, ⟨16, _⟩ => ⟨S8x4096x2816, .f32⟩
  | .hbm, ⟨17, _⟩ => ⟨S_, .f32⟩
  | .hbm, ⟨18, _⟩ => ⟨S8x4096x2816, .f32⟩
  | .hbm, ⟨19, _⟩ => ⟨S8x4096x2816, .f32⟩
  | .hbm, ⟨20, _⟩ => ⟨S8x4096x2816, .f32⟩
  | .hbm, ⟨21, _⟩ => ⟨S1x1024x2816, .f32⟩
  | .hbm, ⟨22, _⟩ => ⟨S1024x2816, .f32⟩
  | .hbm, ⟨23, _⟩ => ⟨S8x4096x2816, .f32⟩
  | .hbm, ⟨24, _⟩ => ⟨S8x4096x2816, .f32⟩
  | .hbm, ⟨25, _⟩ => ⟨S1x2816x1024, .f32⟩
  | .hbm, ⟨26, _⟩ => ⟨S2816x1024, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1024, .f32⟩
  | .hbm, ⟨56, _⟩ => ⟨S1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S1x1024, .f32⟩
  | .hbm, ⟨61, _⟩ => ⟨S1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== MixFeedForward.lean ====
abbrev S8x4096x384 : Shape := ⟨3, ![8, 4096, 384]⟩
abbrev S8x4096x256 : Shape := ⟨3, ![8, 4096, 256]⟩
abbrev S8x4096x1024 : Shape := ⟨3, ![8, 4096, 1024]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S8x384x4096 : Shape := ⟨3, ![8, 384, 4096]⟩
abbrev S8x256x4096 : Shape := ⟨3, ![8, 256, 4096]⟩
abbrev S2x1x1024 : Shape := ⟨3, ![2, 1, 1024]⟩
abbrev S1x384x1024 : Shape := ⟨3, ![1, 384, 1024]⟩
abbrev S1x256x1024 : Shape := ⟨3, ![1, 256, 1024]⟩
abbrev S1x1024x384 : Shape := ⟨3, ![1, 1024, 384]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x384x512 : Shape := ⟨3, ![1, 384, 512]⟩
abbrev S384x512 : Shape := ⟨2, ![384, 512]⟩
abbrev S512x384 : Shape := ⟨2, ![512, 384]⟩
abbrev S1x256x512 : Shape := ⟨3, ![1, 256, 512]⟩
abbrev S256x512 : Shape := ⟨2, ![256, 512]⟩
abbrev S512x256 : Shape := ⟨2, ![512, 256]⟩
abbrev S1x512x384 : Shape := ⟨3, ![1, 512, 384]⟩
abbrev S512x1024 : Shape := ⟨2, ![512, 1024]⟩
abbrev S1x512x1024 : Shape := ⟨3, ![1, 512, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 26
  | .vmem => 18
  | .smem => 0
  | _ => 0

abbrev bufTy : (tb : Table) → Fin (tcTables nBuf tb) → BufTy
  | .hbm, ⟨0, _⟩ => ⟨S8x4096x384, .f32⟩
  | .hbm, ⟨1, _⟩ => ⟨S8x4096x256, .f32⟩
  | .hbm, ⟨2, _⟩ => ⟨S8x4096x384, .f32⟩
  | .hbm, ⟨3, _⟩ => ⟨S8x4096x1024, .f32⟩
  | .hbm, ⟨4, _⟩ => ⟨S2x1024x1024, .f32⟩
  | .hbm, ⟨5, _⟩ => ⟨S2x1024, .f32⟩
  | .hbm, ⟨6, _⟩ => ⟨S2x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S2x1024, .f32⟩
  | .hbm, ⟨11, _⟩ => ⟨S2x1024, .f32⟩
  | .hbm, ⟨12, _⟩ => ⟨S8x384x4096, .f32⟩
  | .hbm, ⟨13, _⟩ => ⟨S8x384x4096, .bf16⟩
  | .hbm, ⟨14, _⟩ => ⟨S8x256x4096, .f32⟩
  | .hbm, ⟨15, _⟩ => ⟨S8x256x4096, .bf16⟩
  | .hbm, ⟨16, _⟩ => ⟨S8x4096x384, .bf16⟩
  | .hbm, ⟨17, _⟩ => ⟨S2x1024x1024, .bf16⟩
  | .hbm, ⟨18, _⟩ => ⟨S2x1x1024, .f32⟩
  | .hbm, ⟨19, _⟩ => ⟨S2x1x1024, .f32⟩
  | .hbm, ⟨20, _⟩ => ⟨S2x1024x2816, .bf16⟩
  | .hbm, ⟨21, _⟩ => ⟨S2x1024x2816, .bf16⟩
  | .hbm, ⟨22, _⟩ => ⟨S2x2816x1024, .bf16⟩
  | .hbm, ⟨23, _⟩ => ⟨S2x1x1024, .f32⟩
  | .hbm, ⟨24, _⟩ => ⟨S2x1x1024, .f32⟩
  | .hbm, ⟨25, _⟩ => ⟨S8x4096x1024, .f32⟩
  | .local _ .vmem, ⟨0, _⟩ => ⟨S1x384x1024, .bf16⟩
  | .local _ .vmem, ⟨1, _⟩ => ⟨S1x384x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x1024x384, .bf16⟩
  | .local _ .vmem, ⟨5, _⟩ => ⟨S1x1024x384, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024x1024, .f32⟩
  | .local _ .vmem, ⟨17, _⟩ => ⟨S1x1024x1024, .f32⟩
  | _, _ => ⟨S8x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixFeedForwardReferenceIdeal.lean ====
abbrev S8x4096x384 : Shape := ⟨3, ![8, 4096, 384]⟩
abbrev S8x4096x256 : Shape := ⟨3, ![8, 4096, 256]⟩
abbrev S8x4096x1024 : Shape := ⟨3, ![8, 4096, 1024]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x384, .f32⟩
  | .hbm, ⟨1, _⟩ => ⟨S8x4096x256, .f32⟩
  | .hbm, ⟨2, _⟩ => ⟨S8x4096x384, .f32⟩
  | .hbm, ⟨3, _⟩ => ⟨S8x4096x1024, .f32⟩
  | .hbm, ⟨4, _⟩ => ⟨S2x1024x1024, .f32⟩
  | .hbm, ⟨5, _⟩ => ⟨S2x1024, .f32⟩
  | .hbm, ⟨6, _⟩ => ⟨S2x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S2x1024, .f32⟩
  | .hbm, ⟨11, _⟩ => ⟨S2x1024, .f32⟩
  | .hbm, ⟨12, _⟩ => ⟨S8x4096x1024, .f32⟩
  | .hbm, ⟨13, _⟩ => ⟨S1x1024x1024, .f32⟩
  | .hbm, ⟨14, _⟩ => ⟨S1024x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S1x1x1024, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S1x1024x2816, .f32⟩
  | .hbm, ⟨57, _⟩ => ⟨S1024x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S1x1024x2816, .f32⟩
  | .hbm, ⟨69, _⟩ => ⟨S1024x2816, .f32⟩
  | .hbm, ⟨70, _⟩ => ⟨S8x4096x2816, .f32⟩
  | .hbm, ⟨71, _⟩ => ⟨S8x4096x2816, .f32⟩
  | .hbm, ⟨72, _⟩ => ⟨S1x2816x1024, .f32⟩
  | .hbm, ⟨73, _⟩ => ⟨S2816x1024, .f32⟩
  | .hbm, ⟨74, _⟩ => ⟨S8x4096x1024, .f32⟩
  | .hbm, ⟨75, _⟩ => ⟨S_, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S1x1024, .f32⟩
  | .hbm, ⟨80, _⟩ => ⟨S1024, .f32⟩
  | .hbm, ⟨81, _⟩ => ⟨S1x1024, .f32⟩
  | .hbm, ⟨82, _⟩ => ⟨S1024, .f32⟩
  | .hbm, ⟨83, _⟩ => ⟨S_, .f32⟩
  | .hbm, ⟨84, _⟩ => ⟨S8x4096, .f32⟩
  | .hbm, ⟨85, _⟩ => ⟨S8x4096x1, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S_, .f32⟩
  | .hbm, ⟨93, _⟩ => ⟨S8x4096, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x1024, .f32⟩
  | .hbm, ⟨99, _⟩ => ⟨S8x4096x1024, .f32⟩
  | .hbm, ⟨100, _⟩ => ⟨S_, .f32⟩
  | .hbm, ⟨101, _⟩ => ⟨S8x4096x1, .f32⟩
  | .hbm, ⟨102, _⟩ => ⟨S8x4096x1, .f32⟩
  | .hbm, ⟨103, _⟩ => ⟨S8x4096x1, .f32⟩
  | .hbm, ⟨104, _⟩ => ⟨S8x4096x1024, .f32⟩
  | .hbm, ⟨105, _⟩ => ⟨S8x4096x1024, .f32⟩
  | .hbm, ⟨106, _⟩ => ⟨S1x1x1024, .f32⟩
  | .hbm, ⟨107, _⟩ => ⟨S8x4096x1024, .f32⟩
  | .hbm, ⟨108, _⟩ => ⟨S8x4096x1024, .f32⟩
  | .hbm, ⟨109, _⟩ => ⟨S1x1x1024, .f32⟩
  | .hbm, ⟨110, _⟩ => ⟨S8x4096x1024, .f32⟩
  | .hbm, ⟨111, _⟩ => ⟨S8x4096x1024, .f32⟩
  | _, _ => ⟨S8x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_11 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== Gating.lean ====
abbrev S8x4096x1024 : Shape := ⟨3, ![8, 4096, 1024]⟩
abbrev S2x1024x2694 : Shape := ⟨3, ![2, 1024, 2694]⟩
abbrev S2x6 : Shape := ⟨2, ![2, 6]⟩
abbrev S2x384 : Shape := ⟨2, ![2, 384]⟩
abbrev S2x6x128x128 : Shape := ⟨4, ![2, 6, 128, 128]⟩
abbrev S2x6x128 : Shape := ⟨3, ![2, 6, 128]⟩
abbrev S1x1536 : Shape := ⟨2, ![1, 1536]⟩
abbrev S3x128x256 : Shape := ⟨3, ![3, 128, 256]⟩
abbrev S_ : Shape := ⟨0, ![]⟩
abbrev S384x256 : Shape := ⟨2, ![384, 256]⟩
abbrev S4096 : Shape := ⟨1, ![4096]⟩
abbrev S4096x1x1 : Shape := ⟨3, ![4096, 1, 1]⟩
abbrev S1x4x1 : Shape := ⟨3, ![1, 4, 1]⟩
abbrev S4096x4x2x3 : Shape := ⟨4, ![4096, 4, 2, 3]⟩
abbrev S4096x4x1 : Shape := ⟨3, ![4096, 4, 1]⟩
abbrev S4096x4x1x1 : Shape := ⟨4, ![4096, 4, 1, 1]⟩
abbrev S4096x4x1x3 : Shape := ⟨4, ![4096, 4, 1, 3]⟩
abbrev S4096x4x2x32 : Shape := ⟨4, ![4096, 4, 2, 32]⟩
abbrev S4096x4x2x26 : Shape := ⟨4, ![4096, 4, 2, 26]⟩
abbrev S4096x4x2x64 : Shape := ⟨4, ![4096, 4, 2, 64]⟩
abbrev S4096x512 : Shape := ⟨2, ![4096, 512]⟩
abbrev S4096x1024 : Shape := ⟨2, ![4096, 1024]⟩
abbrev S512x512 : Shape := ⟨2, ![512, 512]⟩
abbrev S2x1024x384 : Shape := ⟨3, ![2, 1024, 384]⟩
abbrev S2x1024x6x64 : Shape := ⟨4, ![2, 1024, 6, 64]⟩
abbrev S2x1024x6x128 : Shape := ⟨4, ![2, 1024, 6, 128]⟩
abbrev S2x1024x768 : Shape := ⟨3, ![2, 1024, 768]⟩
abbrev S2x1024x1536 : Shape := ⟨3, ![2, 1024, 1536]⟩
abbrev S2x384x1024 : Shape := ⟨3, ![2, 384, 1024]⟩
abbrev S2x1024x6 : Shape := ⟨3, ![2, 1024, 6]⟩
abbrev S2x1024x128 : Shape := ⟨3, ![2, 1024, 128]⟩
abbrev S2x128 : Shape := ⟨2, ![2, 128]⟩
abbrev S2x1x128 : Shape := ⟨3, ![2, 1, 128]⟩
abbrev S2x1024x256 : Shape := ⟨3, ![2, 1024, 256]⟩
abbrev S2x1024x4x2x32 : Shape := ⟨5, ![2, 1024, 4, 2, 32]⟩
abbrev S2x1024x4x2x64 : Shape := ⟨5, ![2, 1024, 4, 2, 64]⟩
abbrev S2x1024x512 : Shape := ⟨3, ![2, 1024, 512]⟩
abbrev S2x1024x1024 : Shape := ⟨3, ![2, 1024, 1024]⟩
abbrev S2x256x1024 : Shape := ⟨3, ![2, 256, 1024]⟩
abbrev S2x128x6 : Shape := ⟨3, ![2, 128, 6]⟩
abbrev S2x128x6x64 : Shape := ⟨4, ![2, 128, 6, 64]⟩
abbrev S2x128x384 : Shape := ⟨3, ![2, 128, 384]⟩
abbrev S2x1x384 : Shape := ⟨3, ![2, 1, 384]⟩
abbrev S8x6x4096x128 : Shape := ⟨4, ![8, 6, 4096, 128]⟩
abbrev S8x16x480x256 : Shape := ⟨4, ![8, 16, 480, 256]⟩
abbrev S8x4x4096x128 : Shape := ⟨4, ![8, 4, 4096, 128]⟩
abbrev S8x16x320x256 : Shape := ⟨4, ![8, 16, 320, 256]⟩
abbrev S8x4096x384 : Shape := ⟨3, ![8, 4096, 384]⟩
abbrev S1x512x1024 : Shape := ⟨3, ![1, 512, 1024]⟩
abbrev S1x1024x1536 : Shape := ⟨3, ![1, 1024, 1536]⟩
abbrev S1x384x1024 : Shape := ⟨3, ![1, 384, 1024]⟩
abbrev S1x1024x128 : Shape := ⟨3, ![1, 1024, 128]⟩
abbrev S1x1x128 : Shape := ⟨3, ![1, 1, 128]⟩
abbrev S1x1024x1024 : Shape := ⟨3, ![1, 1024, 1024]⟩
abbrev S1x256x1024 : Shape := ⟨3, ![1, 256, 1024]⟩
abbrev S512x1024 : Shape := ⟨2, ![512, 1024]⟩
abbrev S1x1024x384 : Shape := ⟨3, ![1, 1024, 384]⟩
abbrev S1x1x384 : Shape := ⟨3, ![1, 1, 384]⟩
abbrev S1x6x128x128 : Shape := ⟨4, ![1, 6, 128, 128]⟩
abbrev S1x128x384 : Shape := ⟨3, ![1, 128, 384]⟩
abbrev S1x6x512x128 : Shape := ⟨4, ![1, 6, 512, 128]⟩
abbrev S1x2x480x256 : Shape := ⟨4, ![1, 2, 480, 256]⟩
abbrev S1x4x512x128 : Shape := ⟨4, ![1, 4, 512, 128]⟩
abbrev S1x2x320x256 : Shape := ⟨4, ![1, 2, 320, 256]⟩
abbrev S1x512x384 : Shape := ⟨3, ![1, 512, 384]⟩
abbrev S1x128 : Shape := ⟨2, ![1, 128]⟩
abbrev S1024x128 : Shape := ⟨2, ![1024, 128]⟩
abbrev S512x128 : Shape := ⟨2, ![512, 128]⟩
abbrev S1024x1536 : Shape := ⟨2, ![1024, 1536]⟩
abbrev S512x1536 : Shape := ⟨2, ![512, 1536]⟩
abbrev S512x384 : Shape := ⟨2, ![512, 384]⟩
abbrev S512x256 : Shape := ⟨2, ![512, 256]⟩
abbrev S1024x384 : Shape := ⟨2, ![1024, 384]⟩
abbrev S1x1x512x128 : Shape := ⟨4, ![1, 1, 512, 128]⟩
abbrev S16x256 : Shape := ⟨2, ![16, 256]⟩
abbrev S384x1024 : Shape := ⟨2, ![384, 1024]⟩
abbrev S384x512 : Shape := ⟨2, ![384, 512]⟩
abbrev S64x256 : Shape := ⟨2, ![64, 256]⟩
abbrev S1x1x64x256 : Shape := ⟨4, ![1, 1, 64, 256]⟩
abbrev S1x1x16x256 : Shape := ⟨4, ![1, 1, 16, 256]⟩
abbrev S1x384 : Shape := ⟨2, ![1, 384]⟩
abbrev S512 : Shape := ⟨1, ![512]⟩
abbrev S512x1 : Shape := ⟨2, ![512, 1]⟩
abbrev S1024x1024 : Shape := ⟨2, ![1024, 1024]⟩
abbrev S128x128 : Shape := ⟨2, ![128, 128]⟩
abbrev S1x1x128x128 : Shape := ⟨4, ![1, 1, 128, 128]⟩
abbrev S128x384 : Shape := ⟨2, ![128, 384]⟩
abbrev S1x128x128 : Shape := ⟨3, ![1, 128, 128]⟩
abbrev S256x1024 : Shape := ⟨2, ![256, 1024]⟩
abbrev S256x512 : Shape := ⟨2, ![256, 512]⟩

abbrev nBuf : Space → Nat
  | .hbm => 179
  | .vmem => 34
  | .smem => 0
  | _ => 0

abbrev hbmTy0_0 (i : Nat) : BufTy := match i % 128 with
  | 0 => ⟨S8x4096x1024, .f32⟩
  | 1 => ⟨S2x1024x2694, .f32⟩
  | 2 => ⟨S2x6, .f32⟩
  | 3 => ⟨S2x384, .f32⟩
  | 4 => ⟨S2x384, .f32⟩
  | 5 => ⟨S2x6x128x128, .f32⟩
  | 6 => ⟨S2x6x128, .f32⟩
  | 7 => ⟨S1x1536, .f32⟩
  | 8 => ⟨S3x128x256, .i32⟩
  | 9 => ⟨S3x128x256, .i32⟩
  | 10 => ⟨S3x128x256, .i32⟩
  | 11 => ⟨S_, .i32⟩
  | 12 => ⟨S3x128x256, .i32⟩
  | 13 => ⟨S3x128x256, .i32⟩
  | 14 => ⟨S_, .i32⟩
  | 15 => ⟨S3x128x256, .i32⟩
  | 16 => ⟨S3x128x256, .i32⟩
  | 17 => ⟨S3x128x256, .i32⟩
  | 18 => ⟨S_, .i32⟩
  | 19 => ⟨S3x128x256, .i32⟩
  | 20 => ⟨S3x128x256, .i32⟩
  | 21 => ⟨S3x128x256, .i1⟩
  | 22 => ⟨S_, .i32⟩
  | 23 => ⟨S3x128x256, .i32⟩
  | 24 => ⟨S3x128x256, .i32⟩
  | 25 => ⟨S3x128x256, .i1⟩
  | 26 => ⟨S_, .f32⟩
  | 27 => ⟨S_, .f32⟩
  | 28 => ⟨S3x128x256, .f32⟩
  | 29 => ⟨S3x128x256, .f32⟩
  | 30 => ⟨S3x128x256, .f32⟩
  | 31 => ⟨S_, .f32⟩
  | 32 => ⟨S3x128x256, .f32⟩
  | 33 => ⟨S3x128x256, .f32⟩
  | 34 => ⟨S_, .i32⟩
  | 35 => ⟨S3x128x256, .i32⟩
  | 36 => ⟨S3x128x256, .i1⟩
  | 37 => ⟨S_, .f32⟩
  | 38 => ⟨S3x128x256, .f32⟩
  | 39 => ⟨S3x128x256, .f32⟩
  | 40 => ⟨S384x256, .f32⟩
  | 41 => ⟨S384x256, .bf16⟩
  | 42 => ⟨S4096, .i32⟩
  | 43 => ⟨S4096, .f32⟩
  | 44 => ⟨S4096x1x1, .f32⟩
  | 45 => ⟨S1x4x1, .i32⟩
  | 46 => ⟨S_, .i32⟩
  | 47 => ⟨S1x4x1, .i32⟩
  | 48 => ⟨S1x4x1, .i32⟩
  | 49 => ⟨S1x4x1, .f32⟩
  | 50 => ⟨S_, .f32⟩
  | 51 => ⟨S1x4x1, .f32⟩
  | 52 => ⟨S1x4x1, .f32⟩
  | 53 => ⟨S_, .f32⟩
  | 54 => ⟨S1x4x1, .f32⟩
  | 55 => ⟨S1x4x1, .f32⟩
  | 56 => ⟨S1x4x1, .f32⟩
  | 57 => ⟨S_, .f32⟩
  | 58 => ⟨S4096x4x2x3, .f32⟩
  | 59 => ⟨S1x4x1, .f32⟩
  | 60 => ⟨S4096x4x1, .f32⟩
  | 61 => ⟨S4096x4x1, .f32⟩
  | 62 => ⟨S4096x4x1, .f32⟩
  | 63 => ⟨S_, .f32⟩
  | 64 => ⟨S4096x4x1, .f32⟩
  | 65 => ⟨S4096x4x1, .f32⟩
  | 66 => ⟨S4096x4x1, .bf16⟩
  | 67 => ⟨S4096x4x1, .f32⟩
  | 68 => ⟨S4096x4x1, .f32⟩
  | 69 => ⟨S4096x4x1, .bf16⟩
  | 70 => ⟨S4096x4x1, .f32⟩
  | 71 => ⟨S4096x4x1, .f32⟩
  | 72 => ⟨S4096x4x1, .bf16⟩
  | 73 => ⟨S4096x4x1x1, .bf16⟩
  | 74 => ⟨S4096x4x1x1, .bf16⟩
  | 75 => ⟨S4096x4x1x1, .bf16⟩
  | 76 => ⟨S4096x4x1x3, .bf16⟩
  | 77 => ⟨S4096x4x1x3, .f32⟩
  | 78 => ⟨S4096x4x2x3, .f32⟩
  | 79 => ⟨S4096x4x1, .f32⟩
  | 80 => ⟨S4096x4x1, .f32⟩
  | 81 => ⟨S4096x4x1, .f32⟩
  | 82 => ⟨S_, .f32⟩
  | 83 => ⟨S4096x4x1, .f32⟩
  | 84 => ⟨S4096x4x1, .f32⟩
  | 85 => ⟨S4096x4x1, .bf16⟩
  | 86 => ⟨S4096x4x1, .f32⟩
  | 87 => ⟨S4096x4x1, .f32⟩
  | 88 => ⟨S4096x4x1, .bf16⟩
  | 89 => ⟨S4096x4x1, .f32⟩
  | 90 => ⟨S4096x4x1, .f32⟩
  | 91 => ⟨S4096x4x1, .bf16⟩
  | 92 => ⟨S4096x4x1x1, .bf16⟩
  | 93 => ⟨S4096x4x1x1, .bf16⟩
  | 94 => ⟨S4096x4x1x1, .bf16⟩
  | 95 => ⟨S4096x4x1x3, .bf16⟩
  | 96 => ⟨S4096x4x1x3, .f32⟩
  | 97 => ⟨S4096x4x2x3, .f32⟩
  | 98 => ⟨S_, .f32⟩
  | 99 => ⟨S4096x4x2x32, .f32⟩
  | 100 => ⟨S_, .f32⟩
  | 101 => ⟨S4096x4x2x26, .f32⟩
  | 102 => ⟨S4096x4x2x64, .f32⟩
  | 103 => ⟨S4096x512, .f32⟩
  | 104 => ⟨S4096x4x2x64, .f32⟩
  | 105 => ⟨S4096x512, .f32⟩
  | 106 => ⟨S4096x1024, .f32⟩
  | 107 => ⟨S4096x1024, .bf16⟩
  | 108 => ⟨S_, .f32⟩
  | 109 => ⟨S512x512, .f32⟩
  | 110 => ⟨S512x512, .i32⟩
  | 111 => ⟨S_, .i32⟩
  | 112 => ⟨S512x512, .i32⟩
  | 113 => ⟨S512x512, .i32⟩
  | 114 => ⟨S512x512, .i32⟩
  | 115 => ⟨S512x512, .i1⟩
  | 116 => ⟨S_, .f32⟩
  | 117 => ⟨S512x512, .f32⟩
  | 118 => ⟨S512x512, .f32⟩
  | 119 => ⟨S512x512, .bf16⟩
  | 120 => ⟨S2x1024x384, .f32⟩
  | 121 => ⟨S2x1024x6x64, .f32⟩
  | 122 => ⟨S_, .i32⟩
  | 123 => ⟨S_, .f32⟩
  | 124 => ⟨S2x1024x6x128, .f32⟩
  | 125 => ⟨S2x1024x768, .f32⟩
  | 126 => ⟨S2x1024x384, .f32⟩
  | 127 => ⟨S2x1024x6x64, .f32⟩
  | _ => ⟨S8x4096x1024, .f32⟩

abbrev hbmTy0_1 (i : Nat) : BufTy := match i % 128 with
  | 0 => ⟨S_, .i32⟩
  | 1 => ⟨S_, .f32⟩
  | 2 => ⟨S2x1024x6x128, .f32⟩
  | 3 => ⟨S2x1024x768, .f32⟩
  | 4 => ⟨S2x1024x1536, .f32⟩
  | 5 => ⟨S2x1024x1536, .bf16⟩
  | 6 => ⟨S2x1024x384, .f32⟩
  | 7 => ⟨S2x384x1024, .f32⟩
  | 8 => ⟨S2x384x1024, .bf16⟩
  | 9 => ⟨S2x1024x6, .f32⟩
  | 10 => ⟨S_, .i32⟩
  | 11 => ⟨S_, .f32⟩
  | 12 => ⟨S2x1024x128, .f32⟩
  | 13 => ⟨S2x1024x128, .bf16⟩
  | 14 => ⟨S_, .i32⟩
  | 15 => ⟨S_, .f32⟩
  | 16 => ⟨S2x128, .f32⟩
  | 17 => ⟨S2x1x128, .f32⟩
  | 18 => ⟨S2x1024x256, .f32⟩
  | 19 => ⟨S2x1024x4x2x32, .f32⟩
  | 20 => ⟨S_, .i32⟩
  | 21 => ⟨S_, .f32⟩
  | 22 => ⟨S2x1024x4x2x64, .f32⟩
  | 23 => ⟨S2x1024x512, .f32⟩
  | 24 => ⟨S2x1024x256, .f32⟩
  | 25 => ⟨S2x1024x4x2x32, .f32⟩
  | 26 => ⟨S_, .i32⟩
  | 27 => ⟨S_, .f32⟩
  | 28 => ⟨S2x1024x4x2x64, .f32⟩
  | 29 => ⟨S2x1024x512, .f32⟩
  | 30 => ⟨S2x1024x1024, .f32⟩
  | 31 => ⟨S2x1024x1024, .bf16⟩
  | 32 => ⟨S2x1024x256, .f32⟩
  | 33 => ⟨S2x256x1024, .f32⟩
  | 34 => ⟨S2x256x1024, .bf16⟩
  | 35 => ⟨S2x1024x384, .f32⟩
  | 36 => ⟨S2x1024x384, .bf16⟩
  | 37 => ⟨S2x1024x384, .f32⟩
  | 38 => ⟨S2x1024x384, .bf16⟩
  | 39 => ⟨S2x128x6, .f32⟩
  | 40 => ⟨S2x128x6x64, .f32⟩
  | 41 => ⟨S2x128x384, .f32⟩
  | 42 => ⟨S2x1x384, .f32⟩
  | 43 => ⟨S2x1x384, .f32⟩
  | 44 => ⟨S8x6x4096x128, .bf16⟩
  | 45 => ⟨S8x6x4096x128, .bf16⟩
  | 46 => ⟨S8x16x480x256, .bf16⟩
  | 47 => ⟨S8x4x4096x128, .bf16⟩
  | 48 => ⟨S8x4x4096x128, .bf16⟩
  | 49 => ⟨S8x16x320x256, .bf16⟩
  | 50 => ⟨S8x4096x384, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024x1536, .bf16⟩
  | .local _ .vmem, ⟨3, _⟩ => ⟨S1x384x1024, .bf16⟩
  | .local _ .vmem, ⟨4, _⟩ => ⟨S1x1024x128, .bf16⟩
  | .local _ .vmem, ⟨5, _⟩ => ⟨S1x1x128, .f32⟩
  | .local _ .vmem, ⟨6, _⟩ => ⟨S1x1024x1024, .bf16⟩
  | .local _ .vmem, ⟨7, _⟩ => ⟨S1x256x1024, .bf16⟩
  | .local _ .vmem, ⟨8, _⟩ => ⟨S512x512, .bf16⟩
  | .local _ .vmem, ⟨9, _⟩ => ⟨S384x256, .bf16⟩
  | .local _ .vmem, ⟨10, _⟩ => ⟨S1x1536, .f32⟩
  | .local _ .vmem, ⟨11, _⟩ => ⟨S512x1024, .bf16⟩
  | .local _ .vmem, ⟨12, _⟩ => ⟨S512x1024, .bf16⟩
  | .local _ .vmem, ⟨13, _⟩ => ⟨S1x1024x384, .bf16⟩
  | .local _ .vmem, ⟨14, _⟩ => ⟨S1x1024x384, .bf16⟩
  | .local _ .vmem, ⟨15, _⟩ => ⟨S1x1x384, .f32⟩
  | .local _ .vmem, ⟨16, _⟩ => ⟨S1x1x384, .f32⟩
  | .local _ .vmem, ⟨17, _⟩ => ⟨S1x6x128x128, .f32⟩
  | .local _ .vmem, ⟨18, _⟩ => ⟨S1x128x384, .f32⟩
  | .local _ .vmem, ⟨19, _⟩ => ⟨S1x6x512x128, .bf16⟩
  | .local _ .vmem, ⟨20, _⟩ => ⟨S1x6x512x128, .bf16⟩
  | .local _ .vmem, ⟨21, _⟩ => ⟨S1x6x512x128, .bf16⟩
  | .local _ .vmem, ⟨22, _⟩ => ⟨S1x6x512x128, .bf16⟩
  | .local _ .vmem, ⟨23, _⟩ => ⟨S1x2x480x256, .bf16⟩
  | .local _ .vmem, ⟨24, _⟩ => ⟨S1x2x480x256, .bf16⟩
  | .local _ .vmem, ⟨25, _⟩ => ⟨S1x4x512x128, .bf16⟩
  | .local _ .vmem, ⟨26, _⟩ => ⟨S1x4x512x128, .bf16⟩
  | .local _ .vmem, ⟨27, _⟩ => ⟨S1x4x512x128, .bf16⟩
  | .local _ .vmem, ⟨28, _⟩ => ⟨S1x4x512x128, .bf16⟩
  | .local _ .vmem, ⟨29, _⟩ => ⟨S1x2x320x256, .bf16⟩
  | .local _ .vmem, ⟨30, _⟩ => ⟨S1x2x320x256, .bf16⟩
  | .local _ .vmem, ⟨31, _⟩ => ⟨S1x512x384, .bf16⟩
  | .local _ .vmem, ⟨32, _⟩ => ⟨S1x512x384, .bf16⟩
  | .local _ .vmem, ⟨33, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_5 : Ref sig .tc := ⟨.hbm, 31, rfl⟩
abbrev main_call1_v0 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call2_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_cst : Ref sig .tc := ⟨.hbm, 116, rfl⟩
abbrev main_call3_v5 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_17 : Ref sig .tc := ⟨.hbm, 122, rfl⟩
abbrev main_call4_v0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_18 : Ref sig .tc := ⟨.hbm, 128, rfl⟩
abbrev main_call5_v0 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_19 : Ref sig .tc := ⟨.hbm, 138, rfl⟩
abbrev main_call6_v0 : Ref sig .tc := ⟨.hbm, 139, rfl⟩
abbrev main_v96 : Ref sig .tc := ⟨.hbm, 140, rfl⟩
abbrev main_v97 : Ref sig .tc := ⟨.hbm, 141, rfl⟩
abbrev main_c_20 : Ref sig .tc := ⟨.hbm, 142, rfl⟩
abbrev main_call7_v0 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_c_21 : Ref sig .tc := ⟨.hbm, 148, rfl⟩
abbrev main_call8_v0 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c_22 : Ref sig .tc := ⟨.hbm, 154, rfl⟩
abbrev main_call9_v0 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122_0 : Ref sig .tc := ⟨.hbm, 172, rfl⟩
abbrev main_v122_1 : Ref sig .tc := ⟨.hbm, 173, rfl⟩
abbrev main_v122_2 : Ref sig .tc := ⟨.hbm, 174, rfl⟩
abbrev main_v122_3 : Ref sig .tc := ⟨.hbm, 175, rfl⟩
abbrev main_v122_4 : Ref sig .tc := ⟨.hbm, 176, rfl⟩
abbrev main_v122_5 : Ref sig .tc := ⟨.hbm, 177, rfl⟩
abbrev main_v122_6 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x6x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x6x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x6x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x480x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x320x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x384 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== GatingReferenceIdeal.lean ====
abbrev S8x4096x1024 : Shape := ⟨3, ![8, 4096, 1024]⟩
abbrev S2x1024x2694 : Shape := ⟨3, ![2, 1024, 2694]⟩
abbrev S2x6 : Shape := ⟨2, ![2, 6]⟩
abbrev S2x384 : Shape := ⟨2, ![2, 384]⟩
abbrev S2x6x128x128 : Shape := ⟨4, ![2, 6, 128, 128]⟩
abbrev S2x6x128 : Shape := ⟨3, ![2, 6, 128]⟩
abbrev S1x1024x2694 : Shape := ⟨3, ![1, 1024, 2694]⟩
abbrev S1024x2694 : Shape := ⟨2, ![1024, 2694]⟩
abbrev S1024x768 : Shape := ⟨2, ![1024, 768]⟩
abbrev S8x4096x768 : Shape := ⟨3, ![8, 4096, 768]⟩
abbrev S_ : Shape := ⟨0, ![]⟩
abbrev S8x4096x384 : Shape := ⟨3, ![8, 4096, 384]⟩
abbrev S8x4096 : Shape := ⟨2, ![8, 4096]⟩
abbrev S8x4096x1 : Shape := ⟨3, ![8, 4096, 1]⟩
abbrev S1x384 : Shape := ⟨2, ![1, 384]⟩
abbrev S384 : Shape := ⟨1, ![384]⟩
abbrev S1x1x384 : Shape := ⟨3, ![1, 1, 384]⟩
abbrev S8x32x128x6x64 : Shape := ⟨5, ![8, 32, 128, 6, 64]⟩
abbrev S1x6x128x128 : Shape := ⟨4, ![1, 6, 128, 128]⟩
abbrev S6x128x128 : Shape := ⟨3, ![6, 128, 128]⟩
abbrev S128x128 : Shape := ⟨2, ![128, 128]⟩
abbrev S6x8x32x64x128 : Shape := ⟨5, ![6, 8, 32, 64, 128]⟩
abbrev S1x6x128 : Shape := ⟨3, ![1, 6, 128]⟩
abbrev S6x128 : Shape := ⟨2, ![6, 128]⟩
abbrev S128x6 : Shape := ⟨2, ![128, 6]⟩
abbrev S1x1x128x6x1 : Shape := ⟨5, ![1, 1, 128, 6, 1]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024x2694, .f32⟩
  | .hbm, ⟨2, _⟩ => ⟨S2x6, .f32⟩
  | .hbm, ⟨3, _⟩ => ⟨S2x384, .f32⟩
  | .hbm, ⟨4, _⟩ => ⟨S2x384, .f32⟩
  | .hbm, ⟨5, _⟩ => ⟨S2x6x128x128, .f32⟩
  | .hbm, ⟨6, _⟩ => ⟨S2x6x128, .f32⟩
  | .hbm, ⟨7, _⟩ => ⟨S1x1024x2694, .f32⟩
  | .hbm, ⟨8, _⟩ => ⟨S1024x2694, .f32⟩
  | .hbm, ⟨9, _⟩ => ⟨S1024x768, .f32⟩
  | .hbm, ⟨10, _⟩ => ⟨S8x4096x768, .f32⟩
  | .hbm, ⟨11, _⟩ => ⟨S8x4096x768, .f32⟩
  | .hbm, ⟨12, _⟩ => ⟨S8x4096x768, .f32⟩
  | .hbm, ⟨13, _⟩ => ⟨S_, .f32⟩
  | .hbm, ⟨14, _⟩ => ⟨S8x4096x768, .f32⟩
  | .hbm, ⟨15, _⟩ => ⟨S8x4096x768, .f32⟩
  | .hbm, ⟨16, _⟩ => ⟨S8x4096x768, .f32⟩
  | .hbm, ⟨17, _⟩ => ⟨S_, .f32⟩
  | .hbm, ⟨18, _⟩ => ⟨S8x4096x768, .f32⟩
  | .hbm, ⟨19, _⟩ => ⟨S8x4096x768, .f32⟩
  | .hbm, ⟨20, _⟩ => ⟨S8x4096x768, .f32⟩
  | .hbm, ⟨21, _⟩ => ⟨S_, .f32⟩
  | .hbm, ⟨22, _⟩ => ⟨S8x4096x768, .f32⟩
  | .hbm, ⟨23, _⟩ => ⟨S8x4096x768, .f32⟩
  | .hbm, ⟨24, _⟩ => ⟨S_, .f32⟩
  | .hbm, ⟨25, _⟩ => ⟨S8x4096x768, .f32⟩
  | .hbm, ⟨26, _⟩ => ⟨S8x4096x768, .f32⟩
  | .hbm, ⟨27, _⟩ => ⟨S8x4096x768, .f32⟩
  | .hbm, ⟨28, _⟩ => ⟨S8x4096x384, .f32⟩
  | .hbm, ⟨29, _⟩ => ⟨S8x4096x384, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x384, .f32⟩
  | .hbm, ⟨37, _⟩ => ⟨S8x4096x384, .f32⟩
  | .hbm, ⟨38, _⟩ => ⟨S8x4096x384, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x384, .f32⟩
  | .hbm, ⟨46, _⟩ => ⟨S8x4096x384, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x384, .f32⟩
  | .hbm, ⟨52, _⟩ => ⟨S8x4096x384, .f32⟩
  | .hbm, ⟨53, _⟩ => ⟨S1x384, .f32⟩
  | .hbm, ⟨54, _⟩ => ⟨S384, .f32⟩
  | .hbm, ⟨55, _⟩ => ⟨S1x1x384, .f32⟩
  | .hbm, ⟨56, _⟩ => ⟨S8x4096x384, .f32⟩
  | .hbm, ⟨57, _⟩ => ⟨S8x4096x384, .f32⟩
  | .hbm, ⟨58, _⟩ => ⟨S1x384, .f32⟩
  | .hbm, ⟨59, _⟩ => ⟨S384, .f32⟩
  | .hbm, ⟨60, _⟩ => ⟨S1x1x384, .f32⟩
  | .hbm, ⟨61, _⟩ => ⟨S8x4096x384, .f32⟩
  | .hbm, ⟨62, _⟩ => ⟨S8x4096x384, .f32⟩
  | .hbm, ⟨63, _⟩ => ⟨S8x32x128x6x64, .f32⟩
  | .hbm, ⟨64, _⟩ => ⟨S1x6x128x128, .f32⟩
  | .hbm, ⟨65, _⟩ => ⟨S6x128x128, .f32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S6x128x128, .i1⟩
  | .hbm, ⟨73, _⟩ => ⟨S_, .f32⟩
  | .hbm, ⟨74, _⟩ => ⟨S6x128x128, .f32⟩
  | .hbm, ⟨75, _⟩ => ⟨S6x128x128, .f32⟩
  | .hbm, ⟨76, _⟩ => ⟨S6x8x32x64x128, .f32⟩
  | .hbm, ⟨77, _⟩ => ⟨S8x32x128x6x64, .f32⟩
  | .hbm, ⟨78, _⟩ => ⟨S1x6x128, .f32⟩
  | .hbm, ⟨79, _⟩ => ⟨S6x128, .f32⟩
  | .hbm, ⟨80, _⟩ => ⟨S128x6, .f32⟩
  | .hbm, ⟨81, _⟩ => ⟨S1x1x128x6x1, .f32⟩
  | .hbm, ⟨82, _⟩ => ⟨S8x32x128x6x64, .f32⟩
  | .hbm, ⟨83, _⟩ => ⟨S8x32x128x6x64, .f32⟩
  | .hbm, ⟨84, _⟩ => ⟨S8x4096x384, .f32⟩
  | .hbm, ⟨85, _⟩ => ⟨S8x4096x384, .f32⟩
  | .hbm, ⟨86, _⟩ => ⟨S8x4096x384, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_cst : Ref sig .tc := ⟨.hbm, 73, rfl⟩
abbrev main_call0_v6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Proof.Mem.lean ====
module

public import proofs.«01_k».proof.Proof.Gen.KernelIdeal.Frame
public import proofs.«01_k».proof.Proof.Gen.KernelIdeal.Loops
public import Idealize.ShloMosaic.Lib.Tactic
public import Idealize.ShloMosaic.Lib.Writes

@[expose] public section

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! ## Arrays under a rectangle -/

section Arrays
variable {Val : EltTy → Type} {e : EltTy} {s : Shape}

/-- The array `X` with the elements under the rectangle `r` replaced by `w`. -/
def put (X : s.Idx → Val e) (r : Rect s) (w : r.shape.Idx → Val e) : s.Idx → Val e := fun y =>
  open Classical in if h : ∃ x, r.emb x = y then w h.choose else X y

/-- Under the rectangle, `put` holds the new elements. -/
theorem put_emb (X : s.Idx → Val e) (r : Rect s) (w : r.shape.Idx → Val e) (x : r.shape.Idx) : put X r w (r.emb x) = w x := by
  have h : ∃ x', r.emb x' = r.emb x := ⟨x, rfl⟩
  unfold put
  rw [dif_pos h]
  exact congrArg w (r.emb.injective h.choose_spec)

/-- Outside the rectangle, `put` changes nothing. -/
theorem put_off (X : s.Idx → Val e) (r : Rect s) (w : r.shape.Idx → Val e) (y : s.Idx) (h : ∀ x, r.emb x ≠ y) : put X r w y = X y := by
  unfold put
  rw [dif_neg]
  rintro ⟨x, hx⟩
  exact h x hx

/-- What was put is read back. -/
theorem ld_put (X : s.Idx → Val e) (r : Rect s) (w : r.shape.Idx → Val e) : View.ld (put X r w) r = w :=
  funext fun x => put_emb X r w x

/-- A rectangle that does not meet the one written reads what it read. -/
theorem ld_put_of_ne (X : s.Idx → Val e) (r r' : Rect s) (w : r.shape.Idx → Val e) (h : ∀ x x', r.emb x ≠ r'.emb x') :
    View.ld (put X r w) r' = View.ld X r' :=
  funext fun x' => put_off X r w _ fun x => h x x'

/-- The array a memref's rectangle, squeezed to `S`, shows. -/
def part {S : Shape} (X : s.Idx → Val e) (R : Rect s) (h : S.numel = R.shape.numel) : S.Idx → Val e := fun j =>
  X (R.emb (Shape.reshapeEquiv h j))

end Arrays

/-! ## One memory operation on an owned memref -/

variable {F : FTy → Type} [FloatOps F] [Named F]

local notation "𝕄" => MT nD τ sig Unit (Elt F) ℕ (UR sig nD τ) ℕ

variable (c : Dev nD) {α : Type} {s : Shape} {e : EltTy}

/-- The weakest precondition of a piece of the body on core `c`. -/
abbrev Wp (p : Prog (TpuEff nD τ sig (Elt F) Λ₀ .tc) α) (Q : α → sProp 𝕄) : sProp 𝕄 :=
  wp frame (wpE (defs₀ (F := F)) Variants.none (c : Thread nD τ) none) Set.univ p Q

/-- A load through a rectangle of an owned memref reads the array there. -/
theorem wp_ld {m : Memref sig .tc .vmem s e} {r : Rect s} {hl : m.view.LoadsAt r.toLoadRect}
    {k : (r.shape.Idx → Elt F e) → Prog (TpuEff nD τ sig (Elt F) Λ₀ .tc) α} {q : PosShare TreeShare} {X : s.Idx → Elt F e} {Q : α → sProp 𝕄} :
    (owns (c : Thread nD τ) m q X : sProp 𝕄)
      ⊢ iprop((owns (c : Thread nD τ) m q X -∗ Wp c (k (View.ld X r)) Q) -∗ Wp c (.op (.load m r.toLoadRect hl) k) Q) := by
  unfold owns
  iintro ⟨%f, %hf, H⟩ Hk
  iapply (wp_load (defs := defs₀ (F := F)) Variants.none (c : Thread nD τ) none Set.univ (m := m) (r := r.toLoadRect) (hl := hl)
    (S := m.view.set) (q := q) (f := f) (View.setOn_subset_set m.view _)) $$ [H]
  · iexact H
  iintro H
  rw [← hf]
  iapply Hk
  iexists f
  isplitr
  · ipureintro; rfl
  iexact H

/-- A load through a rectangle of a squeezed part of an owned memref reads the part there. -/
theorem wp_ld_part {m : Memref sig .tc .vmem s e} {R : Rect s} {hR : ∀ a, R.stride a = 1} {S : Shape} {hS : R.shape.Squeezes S} {r : Rect S}
    {hl : ((m.slice R hR).squeeze S hS).view.LoadsAt r.toLoadRect}
    {k : (r.shape.Idx → Elt F e) → Prog (TpuEff nD τ sig (Elt F) Λ₀ .tc) α} {q : PosShare TreeShare} {X : s.Idx → Elt F e} {Q : α → sProp 𝕄} :
    (owns (c : Thread nD τ) m q X : sProp 𝕄)
      ⊢ iprop((owns (c : Thread nD τ) m q X -∗ Wp c (k (View.ld (part X R hS.numel_eq) r)) Q)
        -∗ Wp c (.op (.load ((m.slice R hR).squeeze S hS) r.toLoadRect hl) k) Q) := by
  unfold owns
  iintro ⟨%f, %hf, H⟩ Hk
  iapply (wp_load (defs := defs₀ (F := F)) Variants.none (c : Thread nD τ) none Set.univ (m := (m.slice R hR).squeeze S hS)
    (r := r.toLoadRect) (hl := hl) (S := m.view.set) (q := q) (f := f) (by
      refine (View.setOn_subset_set _ _).trans ?_
      exact ((m.slice R hR).view.set_reshape hS.numel_eq).le.trans (View.set_slice_subset m.view R))) $$ [H]
  · iexact H
  iintro H
  rw [show ((m.slice R hR).squeeze S hS).view.readAt (Elt F) r.toLoadRect f = View.ld (part X R hS.numel_eq) r from by
    subst hf; rfl]
  iapply Hk
  iexists f
  isplitr
  · ipureintro; exact hf
  iexact H

/-- A store through a rectangle of an owned memref replaces the array there. -/
theorem wp_st {m : Memref sig .tc .vmem s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {X : s.Idx → Elt F e} {Q : α → sProp 𝕄} :
    (owns (c : Thread nD τ) m fullShare X : sProp 𝕄)
      ⊢ iprop((owns (c : Thread nD τ) m fullShare (put X r w) -∗ Wp c (k ⟨⟩) Q)
        -∗ Wp c (.op (.store m r w Finset.univ hx hm) k) Q) := by
  unfold owns
  iintro ⟨%f, %hf, H⟩ Hk
  iapply (wp_store (defs := defs₀ (F := F)) Variants.none (c : Thread nD τ) none Set.univ (m := m) (r := r) (w := w) (hx := hx) (hm := hm)
    (S := m.view.set) (f := f) ((View.setOn_subset_set _ _).trans (View.set_slice_subset m.view r))) $$ [H]
  · iexact H
  iintro H
  iapply Hk
  iexists _
  isplitr
  swap
  · iexact H
  ipureintro
  subst hf
  funext y
  by_cases h : ∃ x, r.emb x = y
  · obtain ⟨x, rfl⟩ := h
    rw [put_emb]
    exact View.read_writes_cons_emb m.view f r w [] x
  · rw [put_off _ _ _ _ (fun x hx => h ⟨x, hx⟩)]
    refine View.read_writes_cons_miss m.view f ⟨r, w⟩ [] y ?_
    intro hy
    exact h (r.exists_idx_of_mem hy)

end Cert.KernelIdeal.Fox
-- ==== Proof.Step.lean ====
module

public import proofs.«01_k».proof.Proof.Mem

@[expose] public section

set_option maxRecDepth 65536

noncomputable section

namespace Cert.KernelIdeal.Fox

open Idealize.ShloMosaic Idealize.ShloMosaic.TcCoe Idealize.ShloMosaic.Tactic
open Idealize.SL.Sem
open Cert.KernelIdeal Cert.KernelIdeal.Gen

variable {F : FTy → Type} [FloatOps F] [Named F]

/-- The memrefs of one grid step. -/
structure Ms where
  a3 : Memref sig .tc .vmem S1x6x512x128 .bf16
  a4 : Memref sig .tc .vmem S1x6x4096x128 .bf16
  a5 : Memref sig .tc .vmem S1x16x480x256 .bf16
  a6 : Memref sig .tc .vmem S1x384x512 .bf16
  a7 : Memref sig .tc .vmem S6x256x512 .f32
  a8 : Memref sig .tc .vmem S6x256x512 .f32
  a9 : Memref sig .tc .vmem S6x1x512 .f32
  a10 : Memref sig .tc .vmem S6x1x512 .f32
  a11 : Memref sig .tc .vmem S6x1x512 .f32
  a12 : Memref sig .tc .vmem S6x80x512 .f32
  a13 : Memref sig .tc .vmem S6x128x512 .bf16

/-! ## The rectangles of one head -/

/-- A head's slab of a stack of six arrays. -/
theorem slab_inb {a b h : ℕ} (hh : h < 6) : ∀ x, (![h, 0, 0] : Fin 3 → ℕ) x + (⟨3, ![1, a, b]⟩ : Shape).size x ≤ (⟨3, ![6, a, b]⟩ : Shape).size x := by
  intro x
  fin_cases x <;> simp <;> omega

abbrev Rs {h : ℕ} (hh : h < 6) : Rect S6x256x512 := Rect.unit (s := S6x256x512) ![h, 0, 0] S1x256x512.size (slab_inb hh)
abbrev Rb {h : ℕ} (hh : h < 6) : Rect S6x1x512 := Rect.unit (s := S6x1x512) ![h, 0, 0] S1x1x512.size (slab_inb hh)
abbrev Ra {h : ℕ} (hh : h < 6) : Rect S6x80x512 := Rect.unit (s := S6x80x512) ![h, 0, 0] S1x80x512.size (slab_inb hh)
abbrev Rq {h : ℕ} (hh : h < 6) : Rect S6x128x512 := Rect.unit (s := S6x128x512) ![h, 0, 0] S1x128x512.size (slab_inb hh)

theorem k_inb {h : ℕ} (hh : h < 6) : ∀ x, (![0, h, 0, 0] : Fin 4 → ℕ) x + S1x1x4096x128.size x ≤ S1x6x4096x128.size x := by
  intro x
  fin_cases x <;> simp <;> omega

theorem v_inb {h : ℕ} (hh : h < 6) : ∀ x, (![0, 0, 80 * h, 0] : Fin 4 → ℕ) x + S1x16x80x256.size x ≤ S1x16x480x256.size x := by
  intro x
  fin_cases x <;> simp <;> omega

/-- The keys of one head. -/
abbrev kView (m : Memref sig .tc .vmem S1x6x4096x128 .bf16) {h : ℕ} (hh : h < 6) : Memref sig .tc .vmem S4096x128 .bf16 :=
  (m.slice (Rect.unit (s := S1x6x4096x128) ![0, h, 0, 0] S1x1x4096x128.size (k_inb hh)) (fun _ => rfl)).squeeze S4096x128 squeezes_S1x1x4096x128_S4096x128

/-- The values of one head. -/
abbrev vView (m : Memref sig .tc .vmem S1x16x480x256 .bf16) {h : ℕ} (hh : h < 6) : Memref sig .tc .vmem S16x80x256 .bf16 :=
  (m.slice (Rect.unit (s := S1x16x480x256) ![0, 0, 80 * h, 0] S1x16x80x256.size (v_inb hh)) (fun _ => rfl)).squeeze S16x80x256 squeezes_S1x16x80x256_S16x80x256

/-- One step of the pipelined loop for one head, then `k`: the scores of the next key tile into slot `sO`, and the tile of slot `sI`
    folded into the running maximum and the accumulator. -/
def stepK (M : Ms) (sI sO : Memref sig .tc .vmem S6x256x512 .f32) (bI bO : Memref sig .tc .vmem S6x1x512 .f32) {h : ℕ} (hh : h < 6)
    (oK : Fin 2 → ℕ) (hK : ∀ a, oK a + S256x128.size a ≤ S4096x128.size a)
    (oV : Fin 3 → ℕ) (hV : ∀ a, oV a + S1x80x256.size a ≤ S16x80x256.size a)
    {α : Type} (k : Prog (TpuEff nD τ sig (Elt F) Λ₀ .tc) α) : Prog (TpuEff nD τ sig (Elt F) Λ₀ .tc) α :=
  .op (.load (kView M.a4 hh) (Rect.unit (s := S4096x128) oK S256x128.size hK).toLoadRect (View.loadsAt_vmem h_S256x128)) fun kb =>
  .op (.load M.a13 (Rq hh).toLoadRect (View.loadsAt_vmem h_S1x128x512)) fun qt =>
  .op (.load sO (Rs hh).toLoadRect (View.loadsAt_vmem h_S1x256x512)) fun _ =>
  .op (.store sO (Rs hh) (k0_pay4 kb qt) Finset.univ (View.stores_vmem_bits_univ h_S1x256x512 rfl) (.inl rfl)) fun _ =>
  .op (.load bO (Rb hh).toLoadRect (View.loadsAt_vmem h_S1x1x512)) fun _ =>
  .op (.store bO (Rb hh) (k0_pay5 kb qt) Finset.univ (View.stores_vmem_bits_univ h_S1x1x512 rfl) (.inl rfl)) fun _ =>
  .op (.load M.a11 (Rb hh).toLoadRect (View.loadsAt_vmem h_S1x1x512)) fun m =>
  .op (.load bI (Rb hh).toLoadRect (View.loadsAt_vmem h_S1x1x512)) fun b =>
  .op (.load sI (Rs hh).toLoadRect (View.loadsAt_vmem h_S1x256x512)) fun s =>
  .op (.load M.a11 (Rb hh).toLoadRect (View.loadsAt_vmem h_S1x1x512)) fun _ =>
  .op (.store M.a11 (Rb hh) (k0_pay10 (k0_pay7 m b)) Finset.univ (View.stores_vmem_bits_univ h_S1x1x512 rfl) (.inl rfl)) fun _ =>
  .op (.load M.a12 (Ra hh).toLoadRect (View.loadsAt_vmem h_S1x80x512)) fun acc =>
  .op (.load (vView M.a5 hh) (Rect.unit (s := S16x80x256) oV S1x80x256.size hV).toLoadRect (View.loadsAt_vmem h_S1x80x256)) fun v =>
  .op (.load M.a12 (Ra hh).toLoadRect (View.loadsAt_vmem h_S1x80x512)) fun _ =>
  .op (.store M.a12 (Ra hh) (k0_pay11 (k0_pay6 m) (k0_pay7 m b) (k0_pay8 s) (k0_pay9 m b) acc v) Finset.univ (View.stores_vmem_bits_univ h_S1x80x512 rfl) (.inl rfl)) fun _ =>
  k

/-- A step for each of the six heads, then `k`. -/
def steps6 (M : Ms) (sI sO : Memref sig .tc .vmem S6x256x512 .f32) (bI bO : Memref sig .tc .vmem S6x1x512 .f32)
    (oK : Fin 2 → ℕ) (hK : ∀ a, oK a + S256x128.size a ≤ S4096x128.size a)
    (oV : Fin 3 → ℕ) (hV : ∀ a, oV a + S1x80x256.size a ≤ S16x80x256.size a)
    {α : Type} (k : Prog (TpuEff nD τ sig (Elt F) Λ₀ .tc) α) : Prog (TpuEff nD τ sig (Elt F) Λ₀ .tc) α :=
  stepK M sI sO bI bO (h := 0) (by omega) oK hK oV hV <| stepK M sI sO bI bO (h := 1) (by omega) oK hK oV hV <|
  stepK M sI sO bI bO (h := 2) (by omega) oK hK oV hV <| stepK M sI sO bI bO (h := 3) (by omega) oK hK oV hV <|
  stepK M sI sO bI bO (h := 4) (by omega) oK hK oV hV <| stepK M sI sO bI bO (h := 5) (by omega) oK hK oV hV k

theorem q_inb {h : ℕ} (hh : h < 6) : ∀ x, (![0, h, 0, 0] : Fin 4 → ℕ) x + S1x1x512x128.size x ≤ S1x6x512x128.size x := by
  intro x
  fin_cases x <;> simp <;> omega

/-- The right half of a head's columns. -/
theorem right_inb {a h : ℕ} (hh : h < 6) : ∀ x, (![h, 0, 256] : Fin 3 → ℕ) x + (⟨3, ![1, a, 256]⟩ : Shape).size x ≤ (⟨3, ![6, a, 512]⟩ : Shape).size x := by
  intro x
  fin_cases x <;> simp <;> omega

theorem num_inb {h : ℕ} (hh : h < 6) : ∀ x, (![h, 0, 0] : Fin 3 → ℕ) x + S1x64x512.size x ≤ S6x80x512.size x := by
  intro x
  fin_cases x <;> simp <;> omega

theorem den_inb {h : ℕ} (hh : h < 6) : ∀ x, (![h, 64, 0] : Fin 3 → ℕ) x + S1x1x512.size x ≤ S6x80x512.size x := by
  intro x
  fin_cases x <;> simp <;> omega

theorem out_inb {h : ℕ} (hh : h < 6) : ∀ x, (![0, 64 * h, 0] : Fin 3 → ℕ) x + S1x64x512.size x ≤ S1x384x512.size x := by
  intro x
  fin_cases x <;> simp <;> omega

abbrev RsR {h : ℕ} (hh : h < 6) : Rect S6x256x512 := Rect.unit (s := S6x256x512) ![h, 0, 256] S1x256x256.size (right_inb hh)
abbrev RbR {h : ℕ} (hh : h < 6) : Rect S6x1x512 := Rect.unit (s := S6x1x512) ![h, 0, 256] S1x1x256.size (right_inb hh)
abbrev RaR {h : ℕ} (hh : h < 6) : Rect S6x80x512 := Rect.unit (s := S6x80x512) ![h, 0, 256] S1x80x256.size (right_inb hh)
abbrev RqR {h : ℕ} (hh : h < 6) : Rect S6x128x512 := Rect.unit (s := S6x128x512) ![h, 0, 256] S1x128x256.size (right_inb hh)
abbrev Rin {h : ℕ} (hh : h < 6) : Rect S1x6x512x128 := Rect.unit (s := S1x6x512x128) ![0, h, 0, 0] S1x1x512x128.size (q_inb hh)
abbrev Rnum {h : ℕ} (hh : h < 6) : Rect S6x80x512 := Rect.unit (s := S6x80x512) ![h, 0, 0] S1x64x512.size (num_inb hh)
abbrev Rden {h : ℕ} (hh : h < 6) : Rect S6x80x512 := Rect.unit (s := S6x80x512) ![h, 64, 0] S1x1x512.size (den_inb hh)
abbrev Rout {h : ℕ} (hh : h < 6) : Rect S1x384x512 := Rect.unit (s := S1x384x512) ![0, 64 * h, 0] S1x64x512.size (out_inb hh)

/-- The start for one head, then `k`: the queries turned, the scores of the first key tile, and an empty fold. -/
def initK (M : Ms) {h : ℕ} (hh : h < 6) (hx : (M.a13.access (Rq hh)).Stores Finset.univ)
    {α : Type} (k : Prog (TpuEff nD τ sig (Elt F) Λ₀ .tc) α) : Prog (TpuEff nD τ sig (Elt F) Λ₀ .tc) α :=
  .op (.load M.a3 (Rin hh).toLoadRect (View.loadsAt_vmem h_S1x1x512x128)) fun q =>
  .op (.load M.a13 (Rq hh).toLoadRect (View.loadsAt_vmem h_S1x128x512)) fun _ =>
  .op (.store M.a13 (Rq hh) (k0_pay509 q) Finset.univ hx (.inl rfl)) fun _ =>
  .op (.load (kView M.a4 hh) (Rect.unit (s := S4096x128) ![0, 0] S256x128.size inb_S4096x128_S256x128_0_0).toLoadRect (View.loadsAt_vmem h_S256x128)) fun kb =>
  .op (.load M.a13 (Rq hh).toLoadRect (View.loadsAt_vmem h_S1x128x512)) fun qt =>
  .op (.load M.a7 (Rs hh).toLoadRect (View.loadsAt_vmem h_S1x256x512)) fun _ =>
  .op (.store M.a7 (Rs hh) (k0_pay511 kb qt) Finset.univ (View.stores_vmem_bits_univ h_S1x256x512 rfl) (.inl rfl)) fun _ =>
  .op (.load M.a9 (Rb hh).toLoadRect (View.loadsAt_vmem h_S1x1x512)) fun _ =>
  .op (.store M.a9 (Rb hh) (k0_pay512 kb qt) Finset.univ (View.stores_vmem_bits_univ h_S1x1x512 rfl) (.inl rfl)) fun _ =>
  .op (.load M.a11 (Rb hh).toLoadRect (View.loadsAt_vmem h_S1x1x512)) fun _ =>
  .op (.store M.a11 (Rb hh) (k0_pay514 (k0_pay513 (F := F))) Finset.univ (View.stores_vmem_bits_univ h_S1x1x512 rfl) (.inl rfl)) fun _ =>
  .op (.load M.a12 (Ra hh).toLoadRect (View.loadsAt_vmem h_S1x80x512)) fun _ =>
  .op (.store M.a12 (Ra hh) (k0_pay515 (F := F)) Finset.univ (View.stores_vmem_bits_univ h_S1x80x512 rfl) (.inl rfl)) fun _ =>
  k

/-- The first diagonal tile for one head, then `k`: the right half's scores of the last tile into the second slot, and the first slot's tile,
    masked on its left half, folded in. -/
def diag1K (M : Ms) (i : grid0.Coords) (cm : IVec S256x256 1) {h : ℕ} (hh : h < 6)
    {α : Type} (k : Prog (TpuEff nD τ sig (Elt F) Λ₀ .tc) α) : Prog (TpuEff nD τ sig (Elt F) Λ₀ .tc) α :=
  .op (.load (kView M.a4 hh) (Rect.unit (s := S4096x128) (k0_off17 i) S256x128.size (k0_off17_inb i)).toLoadRect (View.loadsAt_vmem h_S256x128)) fun kb =>
  .op (.load M.a13 (RqR hh).toLoadRect (View.loadsAt_vmem h_S1x128x256)) fun qt =>
  .op (.load M.a8 (RsR hh).toLoadRect (View.loadsAt_vmem h_S1x256x256)) fun _ =>
  .op (.store M.a8 (RsR hh) (k0_pay553 kb qt) Finset.univ (View.stores_vmem_bits_univ h_S1x256x256 rfl) (.inl rfl)) fun _ =>
  .op (.load M.a7 (Rs hh).toLoadRect (View.loadsAt_vmem h_S1x256x512)) fun s =>
  .op (.load M.a11 (Rb hh).toLoadRect (View.loadsAt_vmem h_S1x1x512)) fun m =>
  .op (.load M.a11 (Rb hh).toLoadRect (View.loadsAt_vmem h_S1x1x512)) fun _ =>
  .op (.store M.a11 (Rb hh) (k0_pay558 cm s m) Finset.univ (View.stores_vmem_bits_univ h_S1x1x512 rfl) (.inl rfl)) fun _ =>
  .op (.load M.a12 (Ra hh).toLoadRect (View.loadsAt_vmem h_S1x80x512)) fun acc =>
  .op (.load (vView M.a5 hh) (Rect.unit (s := S16x80x256) (k0_off18 i) S1x80x256.size (k0_off18_inb i)).toLoadRect (View.loadsAt_vmem h_S1x80x256)) fun v =>
  .op (.load M.a12 (Ra hh).toLoadRect (View.loadsAt_vmem h_S1x80x512)) fun _ =>
  .op (.store M.a12 (Ra hh) (k0_pay560 (k0_pay557 cm s m) (k0_pay559 cm s m acc) v) Finset.univ (View.stores_vmem_bits_univ h_S1x80x512 rfl) (.inl rfl)) fun _ =>
  k

/-- The second diagonal tile for one head, then `k`: the second slot's right half, masked, folded into the right half of the accumulator. -/
def diag2K (M : Ms) (i : grid0.Coords) (cm : IVec S256x256 1) {h : ℕ} (hh : h < 6)
    {α : Type} (k : Prog (TpuEff nD τ sig (Elt F) Λ₀ .tc) α) : Prog (TpuEff nD τ sig (Elt F) Λ₀ .tc) α :=
  .op (.load M.a8 (RsR hh).toLoadRect (View.loadsAt_vmem h_S1x256x256)) fun s =>
  .op (.load M.a11 (RbR hh).toLoadRect (View.loadsAt_vmem h_S1x1x256)) fun m =>
  .op (.load M.a12 (RaR hh).toLoadRect (View.loadsAt_vmem h_S1x80x256)) fun acc =>
  .op (.load (vView M.a5 hh) (Rect.unit (s := S16x80x256) (k0_off19 i) S1x80x256.size (k0_off19_inb i)).toLoadRect (View.loadsAt_vmem h_S1x80x256)) fun v =>
  .op (.load M.a12 (RaR hh).toLoadRect (View.loadsAt_vmem h_S1x80x256)) fun _ =>
  .op (.store M.a12 (RaR hh) (k0_pay628 cm s m acc v) Finset.univ (View.stores_vmem_bits_univ h_S1x80x256 rfl) (.inl rfl)) fun _ =>
  k

/-- The end for one head, then `k`: the weighted sum over the sum of the weights. -/
def normK (M : Ms) {h : ℕ} (hh : h < 6) (hx : (M.a6.access (Rout hh)).Stores Finset.univ)
    {α : Type} (k : Prog (TpuEff nD τ sig (Elt F) Λ₀ .tc) α) : Prog (TpuEff nD τ sig (Elt F) Λ₀ .tc) α :=
  .op (.load M.a12 (Rnum hh).toLoadRect (View.loadsAt_vmem h_S1x64x512)) fun a =>
  .op (.load M.a12 (Rden hh).toLoadRect (View.loadsAt_vmem h_S1x1x512)) fun l =>
  .op (.load M.a6 (Rout hh).toLoadRect (View.loadsAt_vmem h_S1x64x512)) fun _ =>
  .op (.store M.a6 (Rout hh) (k0_pay629 a l) Finset.univ hx (.inl rfl)) fun _ =>
  k

/-- One trip of the loop is four steps, from one slot to the other and back. -/
theorem body1_eq (i : grid0.Coords) (arg3 : Memref sig .tc .vmem S1x6x512x128 .bf16) (harg3 : arg3.IsWhole) (arg4 : Memref sig .tc .vmem S1x6x4096x128 .bf16) (harg4 : arg4.IsWhole) (arg5 : Memref sig .tc .vmem S1x16x480x256 .bf16) (harg5 : arg5.IsWhole) (arg6 : Memref sig .tc .vmem S1x384x512 .bf16) (harg6 : arg6.IsWhole) (arg7 : Memref sig .tc .vmem S6x256x512 .f32) (harg7 : arg7.IsWhole) (arg8 : Memref sig .tc .vmem S6x256x512 .f32) (harg8 : arg8.IsWhole) (arg9 : Memref sig .tc .vmem S6x1x512 .f32) (harg9 : arg9.IsWhole) (arg10 : Memref sig .tc .vmem S6x1x512 .f32) (harg10 : arg10.IsWhole) (arg11 : Memref sig .tc .vmem S6x1x512 .f32) (harg11 : arg11.IsWhole) (arg12 : Memref sig .tc .vmem S6x80x512 .f32) (harg12 : arg12.IsWhole) (arg13 : Memref sig .tc .vmem S6x128x512 .bf16) (harg13 : arg13.IsWhole) (arg2 : BitVec 32) (v194 : FVec F S80x512 .f32) (v195 : Vec F S1x80x512 .f32)
    (t : Fin (k0_t1_loop i).trips) (u : Unit) :
    k0_t1_body i arg3 harg3 arg4 harg4 arg5 harg5 arg6 harg6 arg7 harg7 arg8 harg8 arg9 harg9 arg10 harg10 arg11 harg11 arg12 harg12 arg13 harg13 arg2 v194 v195 t u
      = (let M : Ms := ⟨arg3, arg4, arg5, arg6, arg7, arg8, arg9, arg10, arg11, arg12, arg13⟩
        steps6 M arg7 arg8 arg9 arg10 (k0_off1 i t) (k0_off1_inb i t) (k0_off2 i t) (k0_off2_inb i t) <|
        steps6 M arg8 arg7 arg10 arg9 (k0_off3 i t 1#32) (k0_off3_inb i t 0) (k0_off4 i t 1#32) (k0_off4_inb i t 0) <|
        steps6 M arg7 arg8 arg9 arg10 (k0_off3 i t 2#32) (k0_off3_inb i t 1) (k0_off4 i t 2#32) (k0_off4_inb i t 1) <|
        steps6 M arg8 arg7 arg10 arg9 (k0_off5 i t) (k0_off5_inb i t) (k0_off6 i t) (k0_off6_inb i t) <|
        .ret ()) := rfl

/-- One trip of the loop, as four steps. -/
def tripK (M : Ms) (i : grid0.Coords) (t : Fin (k0_t1_loop i).trips) : Prog (TpuEff nD τ sig (Elt F) Λ₀ .tc) Unit :=
  steps6 M M.a7 M.a8 M.a9 M.a10 (k0_off1 i t) (k0_off1_inb i t) (k0_off2 i t) (k0_off2_inb i t) <|
  steps6 M M.a8 M.a7 M.a10 M.a9 (k0_off3 i t 1#32) (k0_off3_inb i t 0) (k0_off4 i t 1#32) (k0_off4_inb i t 0) <|
  steps6 M M.a7 M.a8 M.a9 M.a10 (k0_off3 i t 2#32) (k0_off3_inb i t 1) (k0_off4 i t 2#32) (k0_off4_inb i t 1) <|
  steps6 M M.a8 M.a7 M.a10 M.a9 (k0_off5 i t) (k0_off5_inb i t) (k0_off6 i t) (k0_off6_inb i t) <|
  .ret ()

/-- What the loops hand to the diagonal tiles. -/
abbrev MidR : Type := Σ' (v214 : IVec S256x256 1) (v216 : BitVec 32), BitVec 32

/-- The causal mask of one tile and the number of the last tile. -/
def midR (arg2 : BitVec 32) : MidR :=
  ⟨k0_pay552, Scalar.addi (Scalar.muli 2#32 arg2) 1#32, Scalar.muli (Scalar.addi (Scalar.muli 2#32 arg2) 1#32) 256#32⟩

/-- The two further tiles before an odd block of queries, if it is one. -/
def oddK (M : Ms) (i : grid0.Coords) (arg2 : BitVec 32) : Prog (TpuEff nD τ sig (Elt F) Λ₀ .tc) MidR :=
  if h1 : k0_cond1 i = 1#1 then
    steps6 M M.a7 M.a8 M.a9 M.a10 (k0_off13 i) (k0_off13_inb i h1) (k0_off14 i) (k0_off14_inb i h1) <|
    steps6 M M.a8 M.a7 M.a10 M.a9 (k0_off15 i) (k0_off15_inb i h1) (k0_off16 i) (k0_off16_inb i h1) <|
    .ret (midR arg2)
  else .ret (midR arg2)

/-- The loops between the start and the diagonal. -/
def mid (M : Ms) (i : grid0.Coords) (arg2 : BitVec 32) : Prog (TpuEff nD τ sig (Elt F) Λ₀ .tc) MidR :=
  (Scf.Loop.for (k0_t1_loop i) (k0_t1_ok i) () (fun t _ => tripK (F := F) M i t)).bind fun _ => oddK M i arg2

/-- The second loop makes no trip. -/
theorem loop2_trips (i : grid0.Coords) : (k0_t2_loop i).trips = 0 := by
  have h : ∀ n : Fin 8, (let arg2 := BitVec.ofNat 32 n.val
      let v207 := Scalar.addi 0#32 (Scalar.muli (Scalar.divsi (Scalar.subi (Scalar.divsi (Scalar.addi (Scalar.subi (Scalar.shrui arg2 1#32) 0#32) (Scalar.subi 1#32 1#32)) 1#32) 0#32) 1#32) 1#32)
      let v204 := Scalar.addi 0#32 (Scalar.subi (Scalar.divsi (Scalar.addi (Scalar.subi (Scalar.shrui arg2 1#32) 0#32) (Scalar.subi 1#32 1#32)) 1#32) 0#32)
      Scf.trips v207 v204 1#32) = 0 := by decide
  exact h (i 2)

theorem loop2_nil (i : grid0.Coords) {E : Type → Type} (body : Fin (k0_t2_loop i).trips → PUnit → Prog E PUnit) :
    Scf.Loop.for (k0_t2_loop i) (k0_t2_ok i) ⟨⟩ body = .ret ⟨⟩ := by
  have h := loop2_trips i
  unfold Scf.Loop.for
  rw [Scf.for_eq]
  have : List.finRange (Scf.trips (k0_t2_loop i).lb (k0_t2_loop i).ub (k0_t2_loop i).st) = [] := by
    apply List.eq_nil_of_length_eq_zero
    rw [List.length_finRange]
    exact h
  rw [this]
  rfl

/-- The printed loops are `mid`, after the last store of the start. -/
theorem part105_eq (i : grid0.Coords) (arg3 : Memref sig .tc .vmem S1x6x512x128 .bf16) (harg3 : arg3.IsWhole) (arg4 : Memref sig .tc .vmem S1x6x4096x128 .bf16) (harg4 : arg4.IsWhole) (arg5 : Memref sig .tc .vmem S1x16x480x256 .bf16) (harg5 : arg5.IsWhole) (arg6 : Memref sig .tc .vmem S1x384x512 .bf16) (harg6 : arg6.IsWhole) (arg7 : Memref sig .tc .vmem S6x256x512 .f32) (harg7 : arg7.IsWhole) (arg8 : Memref sig .tc .vmem S6x256x512 .f32) (harg8 : arg8.IsWhole) (arg9 : Memref sig .tc .vmem S6x1x512 .f32) (harg9 : arg9.IsWhole) (arg10 : Memref sig .tc .vmem S6x1x512 .f32) (harg10 : arg10.IsWhole) (arg11 : Memref sig .tc .vmem S6x1x512 .f32) (harg11 : arg11.IsWhole) (arg12 : Memref sig .tc .vmem S6x80x512 .f32) (harg12 : arg12.IsWhole) (arg13 : Memref sig .tc .vmem S6x128x512 .bf16) (harg13 : arg13.IsWhole)  (arg2 : BitVec 32) (v194 : FVec F S80x512 .f32) (v195 : Vec F S1x80x512 .f32) :
    k0_part105 (F := F) i arg3 harg3 arg4 harg4 arg5 harg5 arg6 harg6 arg7 harg7 arg8 harg8 arg9 harg9 arg10 harg10 arg11 harg11 arg12 harg12 arg13 harg13 arg2 v194 v195
      = .op (.store arg12 (Rect.unit (s := S6x80x512) ![5, 0, 0] S1x80x512.size inb_S6x80x512_S1x80x512_5_0_0) (k0_pay548 v194) Finset.univ (View.stores_vmem_bits_univ h_S1x80x512 rfl) (.inl rfl)) fun _ =>
      mid ⟨arg3, arg4, arg5, arg6, arg7, arg8, arg9, arg10, arg11, arg12, arg13⟩ i arg2 := by
  rw [k0_part105_eq_skeleton]
  unfold k0_part105_skel mid
  refine (Prog.bind_lift _ _).trans (congrArg (Prog.op _) (funext fun _ => ?_))
  refine congrArg₂ Prog.bind ?_ (funext fun _ => ?_)
  · refine congrArg (Scf.for (E := TpuEff nD τ sig (Elt F) Λ₀ .tc) _ _ _ _ _) (funext fun t => funext fun u => ?_)
    exact body1_eq i _ _ _ _ _ _ _ _ _ _ _ _ _ _ _ _ _ _ _ _ _ _ _ v194 v195 t u
  refine (congrArg (fun p => Prog.bind p _) (loop2_nil i _)).trans ?_
  refine (Prog.bind_ret _ _).trans ?_
  unfold oddK
  by_cases h : k0_cond1 i = 1#1
  · refine (dif_pos h).trans (Eq.trans ?_ (dif_pos h).symm)
    rfl
  · refine (dif_neg h).trans (Eq.trans ?_ (dif_neg h).symm)
    rfl

/-- What follows the loops, up to the last store but one. -/
def tail1 (M : Ms) (harg6 : M.a6.IsWhole) (i : grid0.Coords) (x : MidR) : Prog (TpuEff nD τ sig (Elt F) Λ₀ .tc) (FVec F S64x512 .bf16) :=
        diag1K M i x.1 (h := 0) (by omega) <|
        diag1K M i x.1 (h := 1) (by omega) <|
        diag1K M i x.1 (h := 2) (by omega) <|
        diag1K M i x.1 (h := 3) (by omega) <|
        diag1K M i x.1 (h := 4) (by omega) <|
        diag1K M i x.1 (h := 5) (by omega) <|
        diag2K M i x.1 (h := 0) (by omega) <|
        diag2K M i x.1 (h := 1) (by omega) <|
        diag2K M i x.1 (h := 2) (by omega) <|
        diag2K M i x.1 (h := 3) (by omega) <|
        diag2K M i x.1 (h := 4) (by omega) <|
        diag2K M i x.1 (h := 5) (by omega) <|
        normK M (h := 0) (by omega) (View.stores_vmem h_S1x64x512 (harg6.storeExact_slice rfl _ packedbf16_S1x384x512_S1x64x512_0_0_0) (fun _ => rfl)) <|
        normK M (h := 1) (by omega) (View.stores_vmem h_S1x64x512 (harg6.storeExact_slice rfl _ packedbf16_S1x384x512_S1x64x512_0_64_0) (fun _ => rfl)) <|
        normK M (h := 2) (by omega) (View.stores_vmem h_S1x64x512 (harg6.storeExact_slice rfl _ packedbf16_S1x384x512_S1x64x512_0_128_0) (fun _ => rfl)) <|
        normK M (h := 3) (by omega) (View.stores_vmem h_S1x64x512 (harg6.storeExact_slice rfl _ packedbf16_S1x384x512_S1x64x512_0_192_0) (fun _ => rfl)) <|
        .op (.load M.a12 (Rnum (h := 4) (by omega)).toLoadRect (View.loadsAt_vmem h_S1x64x512)) fun a =>
        .op (.load M.a12 (Rden (h := 4) (by omega)).toLoadRect (View.loadsAt_vmem h_S1x1x512)) fun l =>
        .op (.load M.a6 (Rout (h := 4) (by omega)).toLoadRect (View.loadsAt_vmem h_S1x64x512)) fun _ =>
        .ret (k0_pay633 a l)

/-- The rest. -/
def tail2 (M : Ms) (harg6 : M.a6.IsWhole) (v : FVec F S64x512 .bf16) : Prog (TpuEff nD τ sig (Elt F) Λ₀ .tc) PUnit :=
  .op (.store M.a6 (Rout (h := 4) (by omega)) (k0_pay1 v) Finset.univ (View.stores_vmem h_S1x64x512 (harg6.storeExact_slice rfl _ packedbf16_S1x384x512_S1x64x512_0_256_0) (fun _ => rfl)) (.inl rfl)) fun _ =>
  normK M (h := 5) (by omega) (View.stores_vmem h_S1x64x512 (harg6.storeExact_slice rfl _ packedbf16_S1x384x512_S1x64x512_0_320_0) (fun _ => rfl)) <|
  .ret ⟨⟩

theorem part121_eq (i : grid0.Coords) (arg3 : Memref sig .tc .vmem S1x6x512x128 .bf16) (harg3 : arg3.IsWhole) (arg4 : Memref sig .tc .vmem S1x6x4096x128 .bf16) (harg4 : arg4.IsWhole) (arg5 : Memref sig .tc .vmem S1x16x480x256 .bf16) (harg5 : arg5.IsWhole) (arg6 : Memref sig .tc .vmem S1x384x512 .bf16) (harg6 : arg6.IsWhole) (arg7 : Memref sig .tc .vmem S6x256x512 .f32) (harg7 : arg7.IsWhole) (arg8 : Memref sig .tc .vmem S6x256x512 .f32) (harg8 : arg8.IsWhole) (arg9 : Memref sig .tc .vmem S6x1x512 .f32) (harg9 : arg9.IsWhole) (arg10 : Memref sig .tc .vmem S6x1x512 .f32) (harg10 : arg10.IsWhole) (arg11 : Memref sig .tc .vmem S6x1x512 .f32) (harg11 : arg11.IsWhole) (arg12 : Memref sig .tc .vmem S6x80x512 .f32) (harg12 : arg12.IsWhole) (arg13 : Memref sig .tc .vmem S6x128x512 .bf16) (harg13 : arg13.IsWhole) :
    k0_part121 (F := F) i arg3 harg3 arg4 harg4 arg5 harg5 arg6 harg6 arg7 harg7 arg8 harg8 arg9 harg9 arg10 harg10 arg11 harg11 arg12 harg12 arg13 harg13
      = (let M : Ms := ⟨arg3, arg4, arg5, arg6, arg7, arg8, arg9, arg10, arg11, arg12, arg13⟩
        initK M (h := 0) (by omega) (View.stores_vmem h_S1x128x512 (harg13.storeExact_slice rfl _ packedbf16_S6x128x512_S1x128x512_0_0_0) (fun _ => rfl)) <|
        initK M (h := 1) (by omega) (View.stores_vmem h_S1x128x512 (harg13.storeExact_slice rfl _ packedbf16_S6x128x512_S1x128x512_1_0_0) (fun _ => rfl)) <|
        initK M (h := 2) (by omega) (View.stores_vmem h_S1x128x512 (harg13.storeExact_slice rfl _ packedbf16_S6x128x512_S1x128x512_2_0_0) (fun _ => rfl)) <|
        initK M (h := 3) (by omega) (View.stores_vmem h_S1x128x512 (harg13.storeExact_slice rfl _ packedbf16_S6x128x512_S1x128x512_3_0_0) (fun _ => rfl)) <|
        initK M (h := 4) (by omega) (View.stores_vmem h_S1x128x512 (harg13.storeExact_slice rfl _ packedbf16_S6x128x512_S1x128x512_4_0_0) (fun _ => rfl)) <|
        initK M (h := 5) (by omega) (View.stores_vmem h_S1x128x512 (harg13.storeExact_slice rfl _ packedbf16_S6x128x512_S1x128x512_5_0_0) (fun _ => rfl)) <|
        (mid M i (BitVec.ofNat 32 (i 2).val)).bind (tail1 M harg6 i)) := by
  rw [k0_part121_eq_skeleton]
  unfold k0_part121_skel
  rw [show k0_part105 (F := F) = _ from funext fun i => funext fun a3 => funext fun ha3 => funext fun a4 => funext fun ha4 => funext fun a5 => funext fun ha5 => funext fun a6 => funext fun ha6 => funext fun a7 => funext fun ha7 => funext fun a8 => funext fun ha8 => funext fun a9 => funext fun ha9 => funext fun a10 => funext fun ha10 => funext fun a11 => funext fun ha11 => funext fun a12 => funext fun ha12 => funext fun a13 => funext fun ha13 => funext fun b1 => funext fun b2 => funext fun b3 => part105_eq i a3 ha3 a4 ha4 a5 ha5 a6 ha6 a7 ha7 a8 ha8 a9 ha9 a10 ha10 a11 ha11 a12 ha12 a13 ha13 b1 b2 b3]
  rfl

theorem initK_bind (M : Ms) {h : ℕ} (hh : h < 6) (hx : (M.a13.access (Rq hh)).Stores Finset.univ)
    {α β : Type} (k : Prog (TpuEff nD τ sig (Elt F) Λ₀ .tc) α) (f : α → Prog (TpuEff nD τ sig (Elt F) Λ₀ .tc) β) :
    (initK M hh hx k).bind f = initK M hh hx (k.bind f) := rfl

/-- The kernel's body as its pieces. -/
theorem kernel_eq (i : grid0.Coords) (arg3 : Memref sig .tc .vmem S1x6x512x128 .bf16) (harg3 : arg3.IsWhole) (arg4 : Memref sig .tc .vmem S1x6x4096x128 .bf16) (harg4 : arg4.IsWhole) (arg5 : Memref sig .tc .vmem S1x16x480x256 .bf16) (harg5 : arg5.IsWhole) (arg6 : Memref sig .tc .vmem S1x384x512 .bf16) (harg6 : arg6.IsWhole) (arg7 : Memref sig .tc .vmem S6x256x512 .f32) (harg7 : arg7.IsWhole) (arg8 : Memref sig .tc .vmem S6x256x512 .f32) (harg8 : arg8.IsWhole) (arg9 : Memref sig .tc .vmem S6x1x512 .f32) (harg9 : arg9.IsWhole) (arg10 : Memref sig .tc .vmem S6x1x512 .f32) (harg10 : arg10.IsWhole) (arg11 : Memref sig .tc .vmem S6x1x512 .f32) (harg11 : arg11.IsWhole) (arg12 : Memref sig .tc .vmem S6x80x512 .f32) (harg12 : arg12.IsWhole) (arg13 : Memref sig .tc .vmem S6x128x512 .bf16) (harg13 : arg13.IsWhole) :
    cc0_fox_attention (F := F) i arg3 harg3 arg4 harg4 arg5 harg5 arg6 harg6 arg7 harg7 arg8 harg8 arg9 harg9 arg10 harg10 arg11 harg11 arg12 harg12 arg13 harg13
      = (let M : Ms := ⟨arg3, arg4, arg5, arg6, arg7, arg8, arg9, arg10, arg11, arg12, arg13⟩
        initK M (h := 0) (by omega) (View.stores_vmem h_S1x128x512 (harg13.storeExact_slice rfl _ packedbf16_S6x128x512_S1x128x512_0_0_0) (fun _ => rfl)) <|
        initK M (h := 1) (by omega) (View.stores_vmem h_S1x128x512 (harg13.storeExact_slice rfl _ packedbf16_S6x128x512_S1x128x512_1_0_0) (fun _ => rfl)) <|
        initK M (h := 2) (by omega) (View.stores_vmem h_S1x128x512 (harg13.storeExact_slice rfl _ packedbf16_S6x128x512_S1x128x512_2_0_0) (fun _ => rfl)) <|
        initK M (h := 3) (by omega) (View.stores_vmem h_S1x128x512 (harg13.storeExact_slice rfl _ packedbf16_S6x128x512_S1x128x512_3_0_0) (fun _ => rfl)) <|
        initK M (h := 4) (by omega) (View.stores_vmem h_S1x128x512 (harg13.storeExact_slice rfl _ packedbf16_S6x128x512_S1x128x512_4_0_0) (fun _ => rfl)) <|
        initK M (h := 5) (by omega) (View.stores_vmem h_S1x128x512 (harg13.storeExact_slice rfl _ packedbf16_S6x128x512_S1x128x512_5_0_0) (fun _ => rfl)) <|
        (mid ⟨arg3, arg4, arg5, arg6, arg7, arg8, arg9, arg10, arg11, arg12, arg13⟩ i (BitVec.ofNat 32 (i 2).val)).bind fun x =>
        diag1K M i x.1 (h := 0) (by omega) <|
        diag1K M i x.1 (h := 1) (by omega) <|
        diag1K M i x.1 (h := 2) (by omega) <|
        diag1K M i x.1 (h := 3) (by omega) <|
        diag1K M i x.1 (h := 4) (by omega) <|
        diag1K M i x.1 (h := 5) (by omega) <|
        diag2K M i x.1 (h := 0) (by omega) <|
        diag2K M i x.1 (h := 1) (by omega) <|
        diag2K M i x.1 (h := 2) (by omega) <|
        diag2K M i x.1 (h := 3) (by omega) <|
        diag2K M i x.1 (h := 4) (by omega) <|
        diag2K M i x.1 (h := 5) (by omega) <|
        normK M (h := 0) (by omega) (View.stores_vmem h_S1x64x512 (harg6.storeExact_slice rfl _ packedbf16_S1x384x512_S1x64x512_0_0_0) (fun _ => rfl)) <|
        normK M (h := 1) (by omega) (View.stores_vmem h_S1x64x512 (harg6.storeExact_slice rfl _ packedbf16_S1x384x512_S1x64x512_0_64_0) (fun _ => rfl)) <|
        normK M (h := 2) (by omega) (View.stores_vmem h_S1x64x512 (harg6.storeExact_slice rfl _ packedbf16_S1x384x512_S1x64x512_0_128_0) (fun _ => rfl)) <|
        normK M (h := 3) (by omega) (View.stores_vmem h_S1x64x512 (harg6.storeExact_slice rfl _ packedbf16_S1x384x512_S1x64x512_0_192_0) (fun _ => rfl)) <|
        normK M (h := 4) (by omega) (View.stores_vmem h_S1x64x512 (harg6.storeExact_slice rfl _ packedbf16_S1x384x512_S1x64x512_0_256_0) (fun _ => rfl)) <|
        normK M (h := 5) (by omega) (View.stores_vmem h_S1x64x512 (harg6.storeExact_slice rfl _ packedbf16_S1x384x512_S1x64x512_0_320_0) (fun _ => rfl)) <|
        .ret ⟨⟩) := by
  rw [cc0_fox_attention_eq_skeleton]
  unfold cc0_fox_attention_skel
  rw [part121_eq]
  show Prog.bind _ (tail2 ⟨arg3, arg4, arg5, arg6, arg7, arg8, arg9, arg10, arg11, arg12, arg13⟩ harg6) = _
  refine (initK_bind _ _ _ _ _).trans (congrArg _ ?_)
  refine (initK_bind _ _ _ _ _).trans (congrArg _ ?_)
  refine (initK_bind _ _ _ _ _).trans (congrArg _ ?_)
  refine (initK_bind _ _ _ _ _).trans (congrArg _ ?_)
  refine (initK_bind _ _ _ _ _).trans (congrArg _ ?_)
  refine (initK_bind _ _ _ _ _).trans (congrArg _ ?_)
  refine (Prog.bind_assoc _ _ _).trans (congrArg _ (funext fun x => ?_))
  rfl

end Cert.KernelIdeal.Fox
-- ==== Proof.State.lean ====
module

public import proofs.«01_k».proof.Proof.Step

@[expose] public section

set_option maxRecDepth 65536

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-! ## One head's slab of a stack, and its right half -/

section Slab
variable {Val : EltTy → Type} {e : EltTy} {a : ℕ}

/-- The head `h` of a stack of six. -/
abbrev slab (a b : ℕ) {h : ℕ} (hh : h < 6) : Rect ⟨3, ![6, a, b]⟩ :=
  Rect.unit (s := ⟨3, ![6, a, b]⟩) ![h, 0, 0] (⟨3, ![1, a, b]⟩ : Shape).size (slab_inb hh)

/-- The right half of the head `h`. -/
abbrev slabR (a : ℕ) {h : ℕ} (hh : h < 6) : Rect ⟨3, ![6, a, 512]⟩ :=
  Rect.unit (s := ⟨3, ![6, a, 512]⟩) ![h, 0, 256] (⟨3, ![1, a, 256]⟩ : Shape).size (right_inb hh)

theorem half_inb (a : ℕ) : ∀ x, (![0, 0, 256] : Fin 3 → ℕ) x + (⟨3, ![1, a, 256]⟩ : Shape).size x ≤ (⟨3, ![1, a, 512]⟩ : Shape).size x := by
  intro x
  fin_cases x <;> simp

/-- The right half of one head's array. -/
abbrev half (a : ℕ) : Rect ⟨3, ![1, a, 512]⟩ :=
  Rect.unit (s := ⟨3, ![1, a, 512]⟩) ![0, 0, 256] (⟨3, ![1, a, 256]⟩ : Shape).size (half_inb a)

/-- Two heads do not meet. -/
theorem slab_ne {a b a' b' o o' : ℕ} {h h' : ℕ} (ne : h ≠ h') {i₁ i₂}
    (x : (Rect.unit (s := ⟨3, ![6, a, b]⟩) ![h, 0, o] (⟨3, ![1, a, a']⟩ : Shape).size i₁).shape.Idx)
    (x' : (Rect.unit (s := ⟨3, ![6, a, b]⟩) ![h', 0, o'] (⟨3, ![1, a, b']⟩ : Shape).size i₂).shape.Idx) :
    (Rect.unit (s := ⟨3, ![6, a, b]⟩) ![h, 0, o] (⟨3, ![1, a, a']⟩ : Shape).size i₁).emb x
      ≠ (Rect.unit (s := ⟨3, ![6, a, b]⟩) ![h', 0, o'] (⟨3, ![1, a, b']⟩ : Shape).size i₂).emb x' := by
  intro he
  have h0 := congrArg (fun y => (y 0).val) he
  have hx : (x 0).val < 1 := (x 0).isLt
  have hx' : (x' 0).val < 1 := (x' 0).isLt
  simp at h0
  omega

/-- The right half of a head is the right half of the head's array. -/
theorem slabR_emb {h : ℕ} (hh : h < 6) (x : (⟨3, ![1, a, 256]⟩ : Shape).Idx) : (slabR a hh).emb x = (slab a 512 hh).emb ((half a).emb x) := by
  refine funext fun i => Fin.ext ?_
  fin_cases i <;> simp

theorem ld_slabR (X : (⟨3, ![6, a, 512]⟩ : Shape).Idx → Val e) {h : ℕ} (hh : h < 6) :
    View.ld X (slabR a hh) = View.ld (View.ld X (slab a 512 hh)) (half a) :=
  funext fun x => congrArg X (slabR_emb hh x)

theorem ld_put_slabR (X : (⟨3, ![6, a, 512]⟩ : Shape).Idx → Val e) {h : ℕ} (hh : h < 6) (w) :
    View.ld (put X (slabR a hh) w) (slab a 512 hh) = put (View.ld X (slab a 512 hh)) (half a) w := by
  funext y
  show put X (slabR a hh) w ((slab a 512 hh).emb y) = _
  by_cases hy : ∃ x, (half a).emb x = y
  · obtain ⟨x, rfl⟩ := hy
    rw [put_emb]
    exact (congrArg _ (slabR_emb hh x).symm).trans (put_emb X (slabR a hh) w x)
  · rw [put_off (View.ld X (slab a 512 hh)) _ _ _ (fun x hx => hy ⟨x, hx⟩), put_off X]
    · rfl
    · intro x hx
      rw [slabR_emb] at hx
      exact hy ⟨x, (slab a 512 hh).emb.injective hx⟩

end Slab

/-! ## The state of a head -/

/-- What the scratch buffers hold for one head. -/
@[ext] structure Hd (F : FTy → Type) where
  s0 : Vec F S1x256x512 .f32
  s1 : Vec F S1x256x512 .f32
  b0 : Vec F S1x1x512 .f32
  b1 : Vec F S1x1x512 .f32
  m : Vec F S1x1x512 .f32
  acc : Vec F S1x80x512 .f32
  qt : Vec F S1x128x512 .bf16

/-- A head's part of the seven scratch arrays. -/
def hd (X7 X8 : Vec F S6x256x512 .f32) (X9 X10 X11 : Vec F S6x1x512 .f32) (X12 : Vec F S6x80x512 .f32) (X13 : Vec F S6x128x512 .bf16)
    (h : Fin 6) : Hd F :=
  ⟨View.ld X7 (Rs h.2), View.ld X8 (Rs h.2), View.ld X9 (Rb h.2), View.ld X10 (Rb h.2), View.ld X11 (Rb h.2), View.ld X12 (Ra h.2), View.ld X13 (Rq h.2)⟩

/-- A tile of one head's keys. -/
def kTile (X4 : Vec F S1x6x4096x128 .bf16) {h : ℕ} (hh : h < 6) (oK : Fin 2 → ℕ) (hK : ∀ a, oK a + S256x128.size a ≤ S4096x128.size a) : Vec F S256x128 .bf16 :=
  View.ld (part X4 (Rect.unit (s := S1x6x4096x128) ![0, h, 0, 0] S1x1x4096x128.size (k_inb hh)) (squeezes_S1x1x4096x128_S4096x128 : Shape.Squeezes _ _).numel_eq)
    (Rect.unit (s := S4096x128) oK S256x128.size hK)

/-- A tile of one head's values. -/
def vTile (X5 : Vec F S1x16x480x256 .bf16) {h : ℕ} (hh : h < 6) (oV : Fin 3 → ℕ) (hV : ∀ a, oV a + S1x80x256.size a ≤ S16x80x256.size a) : Vec F S1x80x256 .bf16 :=
  View.ld (part X5 (Rect.unit (s := S1x16x480x256) ![0, 0, 80 * h, 0] S1x16x80x256.size (v_inb hh)) (squeezes_S1x16x80x256_S16x80x256 : Shape.Squeezes _ _).numel_eq)
    (Rect.unit (s := S16x80x256) oV S1x80x256.size hV)

/-- The start of a head. -/
def Hd.init (H : Hd F) (q : Vec F S1x1x512x128 .bf16) (kb : Vec F S256x128 .bf16) : Hd F :=
  { H with qt := k0_pay509 q, s0 := k0_pay511 kb (k0_pay509 q), b0 := k0_pay512 kb (k0_pay509 q), m := k0_pay514 (k0_pay513 (F := F)), acc := k0_pay515 (F := F) }

/-- A step from the first slot to the second. -/
def Hd.stepA (H : Hd F) (kb : Vec F S256x128 .bf16) (v : Vec F S1x80x256 .bf16) : Hd F :=
  { H with s1 := k0_pay4 kb H.qt, b1 := k0_pay5 kb H.qt, m := k0_pay10 (k0_pay7 H.m H.b0),
           acc := k0_pay11 (k0_pay6 H.m) (k0_pay7 H.m H.b0) (k0_pay8 H.s0) (k0_pay9 H.m H.b0) H.acc v }

/-- A step from the second slot to the first. -/
def Hd.stepB (H : Hd F) (kb : Vec F S256x128 .bf16) (v : Vec F S1x80x256 .bf16) : Hd F :=
  { H with s0 := k0_pay4 kb H.qt, b0 := k0_pay5 kb H.qt, m := k0_pay10 (k0_pay7 H.m H.b1),
           acc := k0_pay11 (k0_pay6 H.m) (k0_pay7 H.m H.b1) (k0_pay8 H.s1) (k0_pay9 H.m H.b1) H.acc v }

/-- The first diagonal tile. -/
def Hd.diag1 (H : Hd F) (cm : IVec S256x256 1) (kb : Vec F S256x128 .bf16) (v : Vec F S1x80x256 .bf16) : Hd F :=
  { H with s1 := put (Val := Elt F) (e := .f32) H.s1 (half 256) (k0_pay553 kb (View.ld (Val := Elt F) (e' := .bf16) H.qt (half 128))), m := k0_pay558 cm H.s0 H.m,
           acc := k0_pay560 (k0_pay557 cm H.s0 H.m) (k0_pay559 cm H.s0 H.m H.acc) v }

/-- The second diagonal tile. -/
def Hd.diag2 (H : Hd F) (cm : IVec S256x256 1) (v : Vec F S1x80x256 .bf16) : Hd F :=
  { H with acc := put (Val := Elt F) (e := .f32) H.acc (half 80) (k0_pay628 cm (View.ld (Val := Elt F) (e' := .f32) H.s1 (half 256)) (View.ld (Val := Elt F) (e' := .f32) H.m (half 1)) (View.ld (Val := Elt F) (e' := .f32) H.acc (half 80)) v) }

/-! ## The triples -/

variable (c : Dev nD) (M : Ms)

/-- What the body owns at any point: the input blocks, the output block, and scratch in the state `H`. -/
def Inv (X3 : Vec F S1x6x512x128 .bf16) (X4 : Vec F S1x6x4096x128 .bf16) (X5 : Vec F S1x16x480x256 .bf16) (X6 : Vec F S1x384x512 .bf16)
    (H : Fin 6 → Hd F) : sProp 𝕄 :=
  iprop(owns (c : Thread nD τ) M.a3 fullShare X3 ∗ owns (c : Thread nD τ) M.a4 fullShare X4 ∗ owns (c : Thread nD τ) M.a5 fullShare X5 ∗ owns (c : Thread nD τ) M.a6 fullShare X6 ∗
    ∃ X7 X8 X9 X10 X11 X12 X13, ⌜H = hd X7 X8 X9 X10 X11 X12 X13⌝ ∗
      owns (c : Thread nD τ) M.a7 fullShare X7 ∗ owns (c : Thread nD τ) M.a8 fullShare X8 ∗ owns (c : Thread nD τ) M.a9 fullShare X9 ∗ owns (c : Thread nD τ) M.a10 fullShare X10 ∗
      owns (c : Thread nD τ) M.a11 fullShare X11 ∗ owns (c : Thread nD τ) M.a12 fullShare X12 ∗ owns (c : Thread nD τ) M.a13 fullShare X13)

variable {X3 : Vec F S1x6x512x128 .bf16} {X4 : Vec F S1x6x4096x128 .bf16} {X5 : Vec F S1x16x480x256 .bf16} {X6 : Vec F S1x384x512 .bf16}
  {H : Fin 6 → Hd F} {α : Type} {k : Prog (TpuEff nD τ sig (Elt F) Λ₀ .tc) α}

/-- A slab of a stack with one slab replaced. -/
theorem ld_put_slab {Val : EltTy → Type} {e : EltTy} {a b : ℕ} (X : (⟨3, ![6, a, b]⟩ : Shape).Idx → Val e) {h : ℕ} (hh : h < 6) (w) (g : Fin 6) (hg : g ≠ ⟨h, hh⟩) :
    View.ld (put X (slab a b hh) w) (slab a b g.2) = View.ld X (slab a b g.2) :=
  ld_put_of_ne _ _ _ _ fun x x' => slab_ne (fun e => hg (Fin.ext e.symm)) x x'

theorem ld_put_slabR_ne {Val : EltTy → Type} {e : EltTy} {a : ℕ} (X : (⟨3, ![6, a, 512]⟩ : Shape).Idx → Val e) {h : ℕ} (hh : h < 6) (w) (g : Fin 6) (hg : g ≠ ⟨h, hh⟩) :
    View.ld (put X (slabR a hh) w) (slab a 512 g.2) = View.ld X (slab a 512 g.2) :=
  ld_put_of_ne _ _ _ _ fun x x' => slab_ne (fun e => hg (Fin.ext e.symm)) x x'

/-! The same at the scratch arrays' own shapes. -/

theorem put_s_ne (X : Vec F S6x256x512 .f32) {h : ℕ} (hh : h < 6) (w) (g : Fin 6) (hg : g ≠ ⟨h, hh⟩) :
    View.ld (Val := Elt F) (e' := .f32) (put (Val := Elt F) (e := .f32) X (Rs hh) w) (Rs g.2) = View.ld (Val := Elt F) (e' := .f32) X (Rs g.2) :=
  ld_put_slab (Val := Elt F) (e := .f32) (a := 256) (b := 512) X hh w g hg
theorem put_sR_ne (X : Vec F S6x256x512 .f32) {h : ℕ} (hh : h < 6) (w) (g : Fin 6) (hg : g ≠ ⟨h, hh⟩) :
    View.ld (Val := Elt F) (e' := .f32) (put (Val := Elt F) (e := .f32) X (RsR hh) w) (Rs g.2) = View.ld (Val := Elt F) (e' := .f32) X (Rs g.2) :=
  ld_put_slabR_ne (Val := Elt F) (e := .f32) (a := 256) X hh w g hg
theorem put_sR (X : Vec F S6x256x512 .f32) {h : ℕ} (hh : h < 6) (w) :
    View.ld (Val := Elt F) (e' := .f32) (put (Val := Elt F) (e := .f32) X (RsR hh) w) (Rs hh) = put (Val := Elt F) (e := .f32) (View.ld (Val := Elt F) (e' := .f32) X (Rs hh)) (half 256) w :=
  ld_put_slabR (Val := Elt F) (e := .f32) (a := 256) X hh w
theorem ld_sR (X : Vec F S6x256x512 .f32) {h : ℕ} (hh : h < 6) :
    View.ld (Val := Elt F) (e' := .f32) X (RsR hh) = View.ld (Val := Elt F) (e' := .f32) (View.ld (Val := Elt F) (e' := .f32) X (Rs hh)) (half 256) :=
  ld_slabR (Val := Elt F) (e := .f32) (a := 256) X hh

theorem put_b_ne (X : Vec F S6x1x512 .f32) {h : ℕ} (hh : h < 6) (w) (g : Fin 6) (hg : g ≠ ⟨h, hh⟩) :
    View.ld (Val := Elt F) (e' := .f32) (put (Val := Elt F) (e := .f32) X (Rb hh) w) (Rb g.2) = View.ld (Val := Elt F) (e' := .f32) X (Rb g.2) :=
  ld_put_slab (Val := Elt F) (e := .f32) (a := 1) (b := 512) X hh w g hg
theorem put_bR_ne (X : Vec F S6x1x512 .f32) {h : ℕ} (hh : h < 6) (w) (g : Fin 6) (hg : g ≠ ⟨h, hh⟩) :
    View.ld (Val := Elt F) (e' := .f32) (put (Val := Elt F) (e := .f32) X (RbR hh) w) (Rb g.2) = View.ld (Val := Elt F) (e' := .f32) X (Rb g.2) :=
  ld_put_slabR_ne (Val := Elt F) (e := .f32) (a := 1) X hh w g hg
theorem put_bR (X : Vec F S6x1x512 .f32) {h : ℕ} (hh : h < 6) (w) :
    View.ld (Val := Elt F) (e' := .f32) (put (Val := Elt F) (e := .f32) X (RbR hh) w) (Rb hh) = put (Val := Elt F) (e := .f32) (View.ld (Val := Elt F) (e' := .f32) X (Rb hh)) (half 1) w :=
  ld_put_slabR (Val := Elt F) (e := .f32) (a := 1) X hh w
theorem ld_bR (X : Vec F S6x1x512 .f32) {h : ℕ} (hh : h < 6) :
    View.ld (Val := Elt F) (e' := .f32) X (RbR hh) = View.ld (Val := Elt F) (e' := .f32) (View.ld (Val := Elt F) (e' := .f32) X (Rb hh)) (half 1) :=
  ld_slabR (Val := Elt F) (e := .f32) (a := 1) X hh

theorem put_a_ne (X : Vec F S6x80x512 .f32) {h : ℕ} (hh : h < 6) (w) (g : Fin 6) (hg : g ≠ ⟨h, hh⟩) :
    View.ld (Val := Elt F) (e' := .f32) (put (Val := Elt F) (e := .f32) X (Ra hh) w) (Ra g.2) = View.ld (Val := Elt F) (e' := .f32) X (Ra g.2) :=
  ld_put_slab (Val := Elt F) (e := .f32) (a := 80) (b := 512) X hh w g hg
theorem put_aR_ne (X : Vec F S6x80x512 .f32) {h : ℕ} (hh : h < 6) (w) (g : Fin 6) (hg : g ≠ ⟨h, hh⟩) :
    View.ld (Val := Elt F) (e' := .f32) (put (Val := Elt F) (e := .f32) X (RaR hh) w) (Ra g.2) = View.ld (Val := Elt F) (e' := .f32) X (Ra g.2) :=
  ld_put_slabR_ne (Val := Elt F) (e := .f32) (a := 80) X hh w g hg
theorem put_aR (X : Vec F S6x80x512 .f32) {h : ℕ} (hh : h < 6) (w) :
    View.ld (Val := Elt F) (e' := .f32) (put (Val := Elt F) (e := .f32) X (RaR hh) w) (Ra hh) = put (Val := Elt F) (e := .f32) (View.ld (Val := Elt F) (e' := .f32) X (Ra hh)) (half 80) w :=
  ld_put_slabR (Val := Elt F) (e := .f32) (a := 80) X hh w
theorem ld_aR (X : Vec F S6x80x512 .f32) {h : ℕ} (hh : h < 6) :
    View.ld (Val := Elt F) (e' := .f32) X (RaR hh) = View.ld (Val := Elt F) (e' := .f32) (View.ld (Val := Elt F) (e' := .f32) X (Ra hh)) (half 80) :=
  ld_slabR (Val := Elt F) (e := .f32) (a := 80) X hh

theorem put_q_ne (X : Vec F S6x128x512 .bf16) {h : ℕ} (hh : h < 6) (w) (g : Fin 6) (hg : g ≠ ⟨h, hh⟩) :
    View.ld (Val := Elt F) (e' := .bf16) (put (Val := Elt F) (e := .bf16) X (Rq hh) w) (Rq g.2) = View.ld (Val := Elt F) (e' := .bf16) X (Rq g.2) :=
  ld_put_slab (Val := Elt F) (e := .bf16) (a := 128) (b := 512) X hh w g hg
theorem put_qR_ne (X : Vec F S6x128x512 .bf16) {h : ℕ} (hh : h < 6) (w) (g : Fin 6) (hg : g ≠ ⟨h, hh⟩) :
    View.ld (Val := Elt F) (e' := .bf16) (put (Val := Elt F) (e := .bf16) X (RqR hh) w) (Rq g.2) = View.ld (Val := Elt F) (e' := .bf16) X (Rq g.2) :=
  ld_put_slabR_ne (Val := Elt F) (e := .bf16) (a := 128) X hh w g hg
theorem put_qR (X : Vec F S6x128x512 .bf16) {h : ℕ} (hh : h < 6) (w) :
    View.ld (Val := Elt F) (e' := .bf16) (put (Val := Elt F) (e := .bf16) X (RqR hh) w) (Rq hh) = put (Val := Elt F) (e := .bf16) (View.ld (Val := Elt F) (e' := .bf16) X (Rq hh)) (half 128) w :=
  ld_put_slabR (Val := Elt F) (e := .bf16) (a := 128) X hh w
theorem ld_qR (X : Vec F S6x128x512 .bf16) {h : ℕ} (hh : h < 6) :
    View.ld (Val := Elt F) (e' := .bf16) X (RqR hh) = View.ld (Val := Elt F) (e' := .bf16) (View.ld (Val := Elt F) (e' := .bf16) X (Rq hh)) (half 128) :=
  ld_slabR (Val := Elt F) (e := .bf16) (a := 128) X hh

/-- The start of one head. -/
theorem wp_initK {Q : α → sProp 𝕄} {h : ℕ} (hh : h < 6) (hx) :
    Inv c M X3 X4 X5 X6 H
      ⊢ iprop((Inv c M X3 X4 X5 X6 (Function.update H ⟨h, hh⟩ ((H ⟨h, hh⟩).init (View.ld (Val := Elt F) (e' := .bf16) X3 (Rin hh)) (kTile X4 hh ![0, 0] inb_S4096x128_S256x128_0_0))) -∗ Wp c k Q)
        -∗ Wp c (initK M hh hx k) Q) := by
  unfold Inv initK
  iintro ⟨H3, H4, H5, H6, %X7, %X8, %X9, %X10, %X11, %X12, %X13, %e, H7, H8, H9, H10, H11, H12, H13⟩ Hk
  iapply (wp_ld c) $$ [H3]
  · iexact H3
  iintro H3
  iapply (wp_ld c) $$ [H13]
  · iexact H13
  iintro H13
  iapply (wp_st c) $$ [H13]
  · iexact H13
  iintro H13
  iapply (wp_ld_part c) $$ [H4]
  · iexact H4
  iintro H4
  iapply (wp_ld c) $$ [H13]
  · iexact H13
  iintro H13
  iapply (wp_ld c) $$ [H7]
  · iexact H7
  iintro H7
  iapply (wp_st c) $$ [H7]
  · iexact H7
  iintro H7
  iapply (wp_ld c) $$ [H9]
  · iexact H9
  iintro H9
  iapply (wp_st c) $$ [H9]
  · iexact H9
  iintro H9
  iapply (wp_ld c) $$ [H11]
  · iexact H11
  iintro H11
  iapply (wp_st c) $$ [H11]
  · iexact H11
  iintro H11
  iapply (wp_ld c) $$ [H12]
  · iexact H12
  iintro H12
  iapply (wp_st c) $$ [H12]
  · iexact H12
  iintro H12
  iapply Hk
  isplitl [H3]
  · iexact H3
  isplitl [H4]
  · iexact H4
  isplitl [H5]
  · iexact H5
  isplitl [H6]
  · iexact H6
  iexists _, _, _, _, _, _, _
  isplitr
  swap
  · isplitl [H7]
    · iexact H7
    isplitl [H8]
    · iexact H8
    isplitl [H9]
    · iexact H9
    isplitl [H10]
    · iexact H10
    isplitl [H11]
    · iexact H11
    isplitl [H12]
    · iexact H12
    iexact H13
  ipureintro
  subst e
  funext g
  rcases eq_or_ne g ⟨h, hh⟩ with rfl | hg
  · rw [Function.update_self]
    unfold hd Hd.init kTile
    simp only [ld_put]
  · rw [Function.update_of_ne hg]
    unfold hd
    rw [put_s_ne X7 hh _ g hg, put_b_ne X9 hh _ g hg, put_b_ne X11 hh _ g hg, put_a_ne X12 hh _ g hg, put_q_ne X13 hh _ g hg]

/-- A step of one head from the first slot to the second. -/
theorem wp_stepA {Q : α → sProp 𝕄} {h : ℕ} (hh : h < 6) (oK) (hK) (oV) (hV) :
    Inv c M X3 X4 X5 X6 H
      ⊢ iprop((Inv c M X3 X4 X5 X6 (Function.update H ⟨h, hh⟩ ((H ⟨h, hh⟩).stepA (kTile X4 hh oK hK) (vTile X5 hh oV hV))) -∗ Wp c k Q)
        -∗ Wp c (stepK M M.a7 M.a8 M.a9 M.a10 hh oK hK oV hV k) Q) := by
  unfold Inv stepK
  iintro ⟨H3, H4, H5, H6, %X7, %X8, %X9, %X10, %X11, %X12, %X13, %e, H7, H8, H9, H10, H11, H12, H13⟩ Hk
  iapply (wp_ld_part c) $$ [H4]
  · iexact H4
  iintro H4
  iapply (wp_ld c) $$ [H13]
  · iexact H13
  iintro H13
  iapply (wp_ld c) $$ [H8]
  · iexact H8
  iintro H8
  iapply (wp_st c) $$ [H8]
  · iexact H8
  iintro H8
  iapply (wp_ld c) $$ [H10]
  · iexact H10
  iintro H10
  iapply (wp_st c) $$ [H10]
  · iexact H10
  iintro H10
  iapply (wp_ld c) $$ [H11]
  · iexact H11
  iintro H11
  iapply (wp_ld c) $$ [H9]
  · iexact H9
  iintro H9
  iapply (wp_ld c) $$ [H7]
  · iexact H7
  iintro H7
  iapply (wp_ld c) $$ [H11]
  · iexact H11
  iintro H11
  iapply (wp_st c) $$ [H11]
  · iexact H11
  iintro H11
  iapply (wp_ld c) $$ [H12]
  · iexact H12
  iintro H12
  iapply (wp_ld_part c) $$ [H5]
  · iexact H5
  iintro H5
  iapply (wp_ld c) $$ [H12]
  · iexact H12
  iintro H12
  iapply (wp_st c) $$ [H12]
  · iexact H12
  iintro H12
  iapply Hk
  isplitl [H3]
  · iexact H3
  isplitl [H4]
  · iexact H4
  isplitl [H5]
  · iexact H5
  isplitl [H6]
  · iexact H6
  iexists _, _, _, _, _, _, _
  isplitr
  swap
  · isplitl [H7]
    · iexact H7
    isplitl [H8]
    · iexact H8
    isplitl [H9]
    · iexact H9
    isplitl [H10]
    · iexact H10
    isplitl [H11]
    · iexact H11
    isplitl [H12]
    · iexact H12
    iexact H13
  ipureintro
  subst e
  funext g
  rcases eq_or_ne g ⟨h, hh⟩ with rfl | hg
  · rw [Function.update_self]
    unfold hd Hd.stepA kTile vTile
    simp only [ld_put]
  · rw [Function.update_of_ne hg]
    unfold hd
    rw [put_s_ne X8 hh _ g hg, put_b_ne X10 hh _ g hg, put_b_ne X11 hh _ g hg, put_a_ne X12 hh _ g hg]

/-- A step of one head from the second slot to the first. -/
theorem wp_stepB {Q : α → sProp 𝕄} {h : ℕ} (hh : h < 6) (oK) (hK) (oV) (hV) :
    Inv c M X3 X4 X5 X6 H
      ⊢ iprop((Inv c M X3 X4 X5 X6 (Function.update H ⟨h, hh⟩ ((H ⟨h, hh⟩).stepB (kTile X4 hh oK hK) (vTile X5 hh oV hV))) -∗ Wp c k Q)
        -∗ Wp c (stepK M M.a8 M.a7 M.a10 M.a9 hh oK hK oV hV k) Q) := by
  unfold Inv stepK
  iintro ⟨H3, H4, H5, H6, %X7, %X8, %X9, %X10, %X11, %X12, %X13, %e, H7, H8, H9, H10, H11, H12, H13⟩ Hk
  iapply (wp_ld_part c) $$ [H4]
  · iexact H4
  iintro H4
  iapply (wp_ld c) $$ [H13]
  · iexact H13
  iintro H13
  iapply (wp_ld c) $$ [H7]
  · iexact H7
  iintro H7
  iapply (wp_st c) $$ [H7]
  · iexact H7
  iintro H7
  iapply (wp_ld c) $$ [H9]
  · iexact H9
  iintro H9
  iapply (wp_st c) $$ [H9]
  · iexact H9
  iintro H9
  iapply (wp_ld c) $$ [H11]
  · iexact H11
  iintro H11
  iapply (wp_ld c) $$ [H10]
  · iexact H10
  iintro H10
  iapply (wp_ld c) $$ [H8]
  · iexact H8
  iintro H8
  iapply (wp_ld c) $$ [H11]
  · iexact H11
  iintro H11
  iapply (wp_st c) $$ [H11]
  · iexact H11
  iintro H11
  iapply (wp_ld c) $$ [H12]
  · iexact H12
  iintro H12
  iapply (wp_ld_part c) $$ [H5]
  · iexact H5
  iintro H5
  iapply (wp_ld c) $$ [H12]
  · iexact H12
  iintro H12
  iapply (wp_st c) $$ [H12]
  · iexact H12
  iintro H12
  iapply Hk
  isplitl [H3]
  · iexact H3
  isplitl [H4]
  · iexact H4
  isplitl [H5]
  · iexact H5
  isplitl [H6]
  · iexact H6
  iexists _, _, _, _, _, _, _
  isplitr
  swap
  · isplitl [H7]
    · iexact H7
    isplitl [H8]
    · iexact H8
    isplitl [H9]
    · iexact H9
    isplitl [H10]
    · iexact H10
    isplitl [H11]
    · iexact H11
    isplitl [H12]
    · iexact H12
    iexact H13
  ipureintro
  subst e
  funext g
  rcases eq_or_ne g ⟨h, hh⟩ with rfl | hg
  · rw [Function.update_self]
    unfold hd Hd.stepB kTile vTile
    simp only [ld_put]
  · rw [Function.update_of_ne hg]
    unfold hd
    rw [put_s_ne X7 hh _ g hg, put_b_ne X9 hh _ g hg, put_b_ne X11 hh _ g hg, put_a_ne X12 hh _ g hg]

/-- The first diagonal tile of one head. -/
theorem wp_diag1 {Q : α → sProp 𝕄} {h : ℕ} (hh : h < 6) (i : grid0.Coords) (cm : IVec S256x256 1) :
    Inv c M X3 X4 X5 X6 H
      ⊢ iprop((Inv c M X3 X4 X5 X6 (Function.update H ⟨h, hh⟩ ((H ⟨h, hh⟩).diag1 cm (kTile X4 hh (k0_off17 i) (k0_off17_inb i)) (vTile X5 hh (k0_off18 i) (k0_off18_inb i)))) -∗ Wp c k Q)
        -∗ Wp c (diag1K M i cm hh k) Q) := by
  unfold Inv diag1K
  iintro ⟨H3, H4, H5, H6, %X7, %X8, %X9, %X10, %X11, %X12, %X13, %e, H7, H8, H9, H10, H11, H12, H13⟩ Hk
  iapply (wp_ld_part c) $$ [H4]
  · iexact H4
  iintro H4
  iapply (wp_ld c) $$ [H13]
  · iexact H13
  iintro H13
  iapply (wp_ld c) $$ [H8]
  · iexact H8
  iintro H8
  iapply (wp_st c) $$ [H8]
  · iexact H8
  iintro H8
  iapply (wp_ld c) $$ [H7]
  · iexact H7
  iintro H7
  iapply (wp_ld c) $$ [H11]
  · iexact H11
  iintro H11
  iapply (wp_ld c) $$ [H11]
  · iexact H11
  iintro H11
  iapply (wp_st c) $$ [H11]
  · iexact H11
  iintro H11
  iapply (wp_ld c) $$ [H12]
  · iexact H12
  iintro H12
  iapply (wp_ld_part c) $$ [H5]
  · iexact H5
  iintro H5
  iapply (wp_ld c) $$ [H12]
  · iexact H12
  iintro H12
  iapply (wp_st c) $$ [H12]
  · iexact H12
  iintro H12
  iapply Hk
  isplitl [H3]
  · iexact H3
  isplitl [H4]
  · iexact H4
  isplitl [H5]
  · iexact H5
  isplitl [H6]
  · iexact H6
  iexists _, _, _, _, _, _, _
  isplitr
  swap
  · isplitl [H7]
    · iexact H7
    isplitl [H8]
    · iexact H8
    isplitl [H9]
    · iexact H9
    isplitl [H10]
    · iexact H10
    isplitl [H11]
    · iexact H11
    isplitl [H12]
    · iexact H12
    iexact H13
  ipureintro
  subst e
  funext g
  rcases eq_or_ne g ⟨h, hh⟩ with rfl | hg
  · rw [Function.update_self]
    unfold hd Hd.diag1 kTile vTile
    simp only [ld_put, put_sR X8 hh, ld_qR X13 hh]
  · rw [Function.update_of_ne hg]
    unfold hd
    rw [put_sR_ne X8 hh _ g hg, put_b_ne X11 hh _ g hg, put_a_ne X12 hh _ g hg]

/-- The second diagonal tile of one head. -/
theorem wp_diag2 {Q : α → sProp 𝕄} {h : ℕ} (hh : h < 6) (i : grid0.Coords) (cm : IVec S256x256 1) :
    Inv c M X3 X4 X5 X6 H
      ⊢ iprop((Inv c M X3 X4 X5 X6 (Function.update H ⟨h, hh⟩ ((H ⟨h, hh⟩).diag2 cm (vTile X5 hh (k0_off19 i) (k0_off19_inb i)))) -∗ Wp c k Q)
        -∗ Wp c (diag2K M i cm hh k) Q) := by
  unfold Inv diag2K
  iintro ⟨H3, H4, H5, H6, %X7, %X8, %X9, %X10, %X11, %X12, %X13, %e, H7, H8, H9, H10, H11, H12, H13⟩ Hk
  iapply (wp_ld c) $$ [H8]
  · iexact H8
  iintro H8
  iapply (wp_ld c) $$ [H11]
  · iexact H11
  iintro H11
  iapply (wp_ld c) $$ [H12]
  · iexact H12
  iintro H12
  iapply (wp_ld_part c) $$ [H5]
  · iexact H5
  iintro H5
  iapply (wp_ld c) $$ [H12]
  · iexact H12
  iintro H12
  iapply (wp_st c) $$ [H12]
  · iexact H12
  iintro H12
  iapply Hk
  isplitl [H3]
  · iexact H3
  isplitl [H4]
  · iexact H4
  isplitl [H5]
  · iexact H5
  isplitl [H6]
  · iexact H6
  iexists _, _, _, _, _, _, _
  isplitr
  swap
  · isplitl [H7]
    · iexact H7
    isplitl [H8]
    · iexact H8
    isplitl [H9]
    · iexact H9
    isplitl [H10]
    · iexact H10
    isplitl [H11]
    · iexact H11
    isplitl [H12]
    · iexact H12
    iexact H13
  ipureintro
  subst e
  funext g
  rcases eq_or_ne g ⟨h, hh⟩ with rfl | hg
  · rw [Function.update_self]
    unfold hd Hd.diag2 vTile
    simp only [ld_put, put_aR X12 hh, ld_sR X8 hh, ld_bR X11 hh, ld_aR X12 hh]
  · rw [Function.update_of_ne hg]
    unfold hd
    rw [put_aR_ne X12 hh _ g hg]

/-- The rows of one head's accumulator that hold the weighted sum, and the row that holds the sum of the weights. -/
theorem numR_inb : ∀ x, (![0, 0, 0] : Fin 3 → ℕ) x + S1x64x512.size x ≤ S1x80x512.size x := by decide
theorem denR_inb : ∀ x, (![0, 64, 0] : Fin 3 → ℕ) x + S1x1x512.size x ≤ S1x80x512.size x := by decide
abbrev numR : Rect S1x80x512 := Rect.unit (s := S1x80x512) ![0, 0, 0] S1x64x512.size numR_inb
abbrev denR : Rect S1x80x512 := Rect.unit (s := S1x80x512) ![0, 64, 0] S1x1x512.size denR_inb

/-- What a head's accumulator gives. -/
def Hd.out (H : Hd F) : FVec F S1x64x512 .bf16 :=
  k0_pay629 (View.ld (Val := Elt F) (e' := .f32) H.acc numR) (View.ld (Val := Elt F) (e' := .f32) H.acc denR)

theorem ld_num (X : Vec F S6x80x512 .f32) {h : ℕ} (hh : h < 6) :
    View.ld (Val := Elt F) (e' := .f32) X (Rnum hh) = View.ld (Val := Elt F) (e' := .f32) (View.ld (Val := Elt F) (e' := .f32) X (Ra hh)) numR :=
  funext fun x => congrArg X (funext fun i => Fin.ext (by fin_cases i <;> simp))

theorem ld_den (X : Vec F S6x80x512 .f32) {h : ℕ} (hh : h < 6) :
    View.ld (Val := Elt F) (e' := .f32) X (Rden hh) = View.ld (Val := Elt F) (e' := .f32) (View.ld (Val := Elt F) (e' := .f32) X (Ra hh)) denR :=
  funext fun x => congrArg X (funext fun i => Fin.ext (by fin_cases i <;> simp))

/-- The end of one head. -/
theorem wp_norm {Q : α → sProp 𝕄} {h : ℕ} (hh : h < 6) (hx) :
    Inv c M X3 X4 X5 X6 H
      ⊢ iprop((Inv c M X3 X4 X5 (put (Val := Elt F) (e := .bf16) X6 (Rout hh) (H ⟨h, hh⟩).out) H -∗ Wp c k Q)
        -∗ Wp c (normK M hh hx k) Q) := by
  unfold Inv normK
  iintro ⟨H3, H4, H5, H6, %X7, %X8, %X9, %X10, %X11, %X12, %X13, %e, H7, H8, H9, H10, H11, H12, H13⟩ Hk
  iapply (wp_ld c) $$ [H12]
  · iexact H12
  iintro H12
  iapply (wp_ld c) $$ [H12]
  · iexact H12
  iintro H12
  iapply (wp_ld c) $$ [H6]
  · iexact H6
  iintro H6
  iapply (wp_st c) $$ [H6]
  · iexact H6
  iintro H6
  rw [show k0_pay629 (F := F) (View.ld (Val := Elt F) (e' := .f32) X12 (Rnum hh)) (View.ld (Val := Elt F) (e' := .f32) X12 (Rden hh)) = (H ⟨h, hh⟩).out from by
    rw [ld_num, ld_den, e]; rfl]
  iapply Hk
  isplitl [H3]
  · iexact H3
  isplitl [H4]
  · iexact H4
  isplitl [H5]
  · iexact H5
  isplitl [H6]
  · iexact H6
  iexists _, _, _, _, _, _, _
  isplitr
  · ipureintro
    exact e
  isplitl [H7]
  · iexact H7
  isplitl [H8]
  · iexact H8
  isplitl [H9]
  · iexact H9
  isplitl [H10]
  · iexact H10
  isplitl [H11]
  · iexact H11
  isplitl [H12]
  · iexact H12
  iexact H13

end Cert.KernelIdeal.Fox
-- ==== Proof.Pay.lean ====
module

public import proofs.«01_k».proof.Proof.State
public import Idealize.ShloMosaic.Lib.Pointwise

@[expose] public section

set_option maxRecDepth 65536

noncomputable section

namespace Cert.KernelIdeal.Fox

open Idealize.ShloMosaic
open Cert.KernelIdeal Cert.KernelIdeal.Gen

theorem ninf : Ideal.ofBits .f32 0xFF800000#32 = ⊥ := by
  simp [Ideal.ofBits, Ideal.ieee]

theorem mask_bot : (Named.named (F := Ideal) κ "mask" (φ := .f32) 0xF149F2CA#32) = ⊥ :=
  IdealRules.named_const.ideal_named_scalar κ "mask" (φ := .f32) 0xF149F2CA#32 ⊥ rfl

theorem pay4_at (kb : Vec Ideal S256x128 .bf16) (qt : Vec Ideal S1x128x512 .bf16) (k : Fin 256) (j : Fin 512) :
    k0_pay4 kb qt (ix3 0 k j) = ∑ l : Fin 128, kb (ix2 k l) * qt (ix3 0 l j) := by
  pointwise [k0_pay4, k0_pay3]

theorem pay511_at (kb : Vec Ideal S256x128 .bf16) (qt : Vec Ideal S1x128x512 .bf16) (k : Fin 256) (j : Fin 512) :
    k0_pay511 kb qt (ix3 0 k j) = ∑ l : Fin 128, kb (ix2 k l) * qt (ix3 0 l j) := by
  pointwise [k0_pay511, k0_pay510]

theorem pay5_at (kb : Vec Ideal S256x128 .bf16) (qt : Vec Ideal S1x128x512 .bf16) (j : Fin 512) :
    k0_pay5 kb qt (ix3 0 0 j) = Finset.univ.sup fun k : Fin 256 => ∑ l : Fin 128, kb (ix2 k l) * qt (ix3 0 l j) := by
  pointwise [k0_pay5, k0_pay3]
  rw [ninf]
  rfl

theorem pay512_at (kb : Vec Ideal S256x128 .bf16) (qt : Vec Ideal S1x128x512 .bf16) (j : Fin 512) :
    k0_pay512 kb qt (ix3 0 0 j) = Finset.univ.sup fun k : Fin 256 => ∑ l : Fin 128, kb (ix2 k l) * qt (ix3 0 l j) := by
  pointwise [k0_pay512, k0_pay510]
  rw [ninf]
  rfl

theorem pay509_at (q : Vec Ideal S1x1x512x128 .bf16) (l : Fin 128) (j : Fin 512) :
    k0_pay509 q (ix3 0 l j) = q (ix4 0 0 j l) := by
  pointwise [k0_pay509]

theorem pay514_at (j : Fin 512) : k0_pay514 (k0_pay513 (F := Ideal)) (ix3 0 0 j) = ⊥ := by
  pointwise [k0_pay514, k0_pay513]
  exact mask_bot

theorem pay515_at (d : Fin 80) (j : Fin 512) : k0_pay515 (F := Ideal) (ix3 0 d j) = 0 := by
  pointwise [k0_pay515]

theorem pay10_at (m b : Vec Ideal S1x1x512 .f32) (j : Fin 512) : k0_pay10 (k0_pay7 m b) (ix3 0 0 j) = max (m (ix3 0 0 j)) (b (ix3 0 0 j)) := by
  pointwise [k0_pay10, k0_pay7, k0_pay6]

theorem pay11_at (m b : Vec Ideal S1x1x512 .f32) (s : Vec Ideal S1x256x512 .f32) (a : Vec Ideal S1x80x512 .f32) (v : Vec Ideal S1x80x256 .bf16) (d : Fin 80) (j : Fin 512) :
    k0_pay11 (k0_pay6 m) (k0_pay7 m b) (k0_pay8 s) (k0_pay9 m b) a v (ix3 0 d j)
      = a (ix3 0 d j) * Ideal.exp2 (m (ix3 0 0 j) - max (m (ix3 0 0 j)) (b (ix3 0 0 j)))
        + ∑ k : Fin 256, v (ix3 0 d k) * Ideal.exp2 (s (ix3 0 k j) - max (m (ix3 0 0 j)) (b (ix3 0 0 j))) := by
  pointwise [k0_pay11, k0_pay6, k0_pay7, k0_pay8, k0_pay9]
  rfl

theorem pay553_at (kb : Vec Ideal S256x128 .bf16) (qt : Vec Ideal S1x128x256 .bf16) (k : Fin 256) (j : Fin 256) :
    k0_pay553 kb qt (ix3 0 k j) = ∑ l : Fin 128, kb (ix2 k l) * qt (ix3 0 l j) := by
  pointwise [k0_pay553]

theorem pay552_at (k j : Fin 256) : k0_pay552 (ix2 k j) = if k.val ≤ j.val then 1#1 else 0#1 := by
  pointwise [k0_pay552]
  have hk := k.isLt
  have hj := j.isLt
  have e : (BitVec.ofNat 32 k.val).sle (BitVec.ofNat 32 j.val) = decide (k.val ≤ j.val) := by
    rw [BitVec.sle_eq_decide, BitVec.toInt_eq_toNat_of_lt (by simp; omega), BitVec.toInt_eq_toNat_of_lt (by simp; omega)]
    simp [Nat.mod_eq_of_lt (show k.val < 4294967296 by omega), Nat.mod_eq_of_lt (show j.val < 4294967296 by omega)]
  show BitVec.ofBool ((BitVec.ofNat 32 k.val).sle (BitVec.ofNat 32 j.val)) = _
  rw [e]
  by_cases h : k.val ≤ j.val <;> simp [h]

/-- The scores of the first diagonal tile. -/
def masked1 (s : Vec Ideal S1x256x512 .f32) (k : Fin 256) (j : Fin 512) : EReal :=
  if k.val ≤ j.val then s (ix3 0 k j) else ⊥

theorem pay554_at (s : Vec Ideal S1x256x512 .f32) (k : Fin 256) (j : Fin 512) : k0_pay554 k0_pay552 s (ix2 k j) = masked1 s k j := by
  pointwise [k0_pay554]
  unfold masked1
  have hk := k.isLt
  split
  · rw [pay552_at, mask_bot]
    by_cases h : k.val ≤ j.val <;> simp [h, Scalar.select]
  · have e : (if k.val ≤ j.val then s (ix3 0 k j) else ⊥) = s (ix3 0 k j) := if_pos (by omega)
    exact (congrArg (fun x => s (ix3 0 k x)) (Fin.ext (by simp; omega))).trans e.symm

theorem pay558_at (s : Vec Ideal S1x256x512 .f32) (m : Vec Ideal S1x1x512 .f32) (j : Fin 512) :
    k0_pay558 k0_pay552 s m (ix3 0 0 j) = max (m (ix3 0 0 j)) (Finset.univ.sup fun k => masked1 s k j) := by
  pointwise [k0_pay558, k0_pay556, k0_pay555]
  simp only [pay554_at, ninf]
  rfl

theorem pay560_at (s : Vec Ideal S1x256x512 .f32) (m : Vec Ideal S1x1x512 .f32) (a : Vec Ideal S1x80x512 .f32) (v : Vec Ideal S1x80x256 .bf16) (d : Fin 80) (j : Fin 512) :
    k0_pay560 (k0_pay557 k0_pay552 s m) (k0_pay559 k0_pay552 s m a) v (ix3 0 d j)
      = a (ix3 0 d j) * Ideal.exp2 (m (ix3 0 0 j) - max (m (ix3 0 0 j)) (Finset.univ.sup fun k => masked1 s k j))
        + ∑ k : Fin 256, v (ix3 0 d k) * Ideal.exp2 (masked1 s k j - max (m (ix3 0 0 j)) (Finset.univ.sup fun k => masked1 s k j)) := by
  pointwise [k0_pay560, k0_pay557, k0_pay559, k0_pay556, k0_pay555]
  simp only [pay554_at, ninf]
  rfl

/-- The scores of the second diagonal tile. -/
def masked2 (s : Vec Ideal S1x256x256 .f32) (k : Fin 256) (j : Fin 256) : EReal :=
  if k.val ≤ j.val then s (ix3 0 k j) else ⊥

theorem pay628_at (s : Vec Ideal S1x256x256 .f32) (m : Vec Ideal S1x1x256 .f32) (a : Vec Ideal S1x80x256 .f32) (v : Vec Ideal S1x80x256 .bf16) (d : Fin 80) (j : Fin 256) :
    k0_pay628 k0_pay552 s m a v (ix3 0 d j)
      = a (ix3 0 d j) * Ideal.exp2 (m (ix3 0 0 j) - max (m (ix3 0 0 j)) (Finset.univ.sup fun k => masked2 s k j))
        + ∑ k : Fin 256, v (ix3 0 d k) * Ideal.exp2 (masked2 s k j - max (m (ix3 0 0 j)) (Finset.univ.sup fun k => masked2 s k j)) := by
  have e : ∀ k, Scalar.select (k0_pay552 (ix2 k j)) (s (ix3 0 k j)) (Named.named (F := Ideal) κ "mask" (φ := .f32) 0xF149F2CA#32) = masked2 s k j := by
    intro k
    unfold masked2
    rw [pay552_at, mask_bot]
    by_cases h : k.val ≤ j.val <;> simp [h, Scalar.select]
  pointwise [k0_pay628]
  simp only [e, ninf]
  rfl

theorem out_at (H : Hd Ideal) (d : Fin 64) (j : Fin 512) :
    H.out (ix3 0 d j) = Ideal.div (H.acc (ix3 0 ⟨d.val, by omega⟩ j)) (H.acc (ix3 0 64 j)) := by
  pointwise [Hd.out, k0_pay629]

end Cert.KernelIdeal.Fox
-- ==== Proof.Math.lean ====
module

public import Idealize.ShloMosaic.PureOps.Ideal.Laws

@[expose] public section

noncomputable section

namespace Cert.Fox

open Idealize.ShloMosaic

/-! ## Exponentials of base two -/

theorem exp2_coe (r : ℝ) : Ideal.exp2 (r : EReal) = ((2 : ℝ) ^ r : ℝ) := rfl

theorem exp2_bot : Ideal.exp2 ⊥ = 0 := rfl

/-- A weight: the power of two of a score that is a number, zero of a score that is `⊥`. -/
def wt (s : EReal) : ℝ := (Ideal.exp2 s).toReal

theorem wt_coe (r : ℝ) : wt r = (2 : ℝ) ^ r := rfl
theorem wt_bot : wt ⊥ = 0 := rfl

theorem wt_nonneg (s : EReal) : 0 ≤ wt s := by
  induction s with
  | bot => simp [wt_bot]
  | coe r => rw [wt_coe]; positivity
  | top => show 0 ≤ (⊤ : EReal).toReal; simp

/-- The weight relative to a maximum. -/
theorem exp2_sub (s : EReal) (hs : s ≠ ⊤) (r : ℝ) : Ideal.exp2 (s - (r : EReal)) = ((wt s * (2 : ℝ) ^ (-r) : ℝ) : EReal) := by
  induction s with
  | bot => simp [wt_bot, exp2_bot]
  | coe x =>
    rw [← EReal.coe_sub, exp2_coe, wt_coe, ← Real.rpow_add two_pos, sub_eq_add_neg]
  | top => exact absurd rfl hs

/-! ## Sums of extended reals times nonnegative reals -/

theorem mul_add_coe {a b : ℝ} (ha : 0 ≤ a) (hb : 0 ≤ b) (x : EReal) : x * (a : EReal) + x * (b : EReal) = x * ((a + b : ℝ) : EReal) := by
  rw [EReal.coe_add, EReal.left_distrib_of_nonneg (by exact_mod_cast ha) (by exact_mod_cast hb)]

theorem add_mul_coe {a : ℝ} (ha : 0 ≤ a) (x y : EReal) : (x + y) * (a : EReal) = x * (a : EReal) + y * (a : EReal) :=
  EReal.right_distrib_of_nonneg_of_ne_top (by exact_mod_cast ha) (EReal.coe_ne_top a) x y

theorem sum_mul_coe {ι : Type*} (s : Finset ι) {a : ℝ} (ha : 0 ≤ a) (f : ι → EReal) : (∑ i ∈ s, f i) * (a : EReal) = ∑ i ∈ s, f i * (a : EReal) := by
  classical
  induction s using Finset.induction_on with
  | empty => simp
  | insert i s hi ih => rw [Finset.sum_insert hi, Finset.sum_insert hi, add_mul_coe ha, ih]

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem mul_mul_coe (x : EReal) (a b : ℝ) : x * ((a * b : ℝ) : EReal) = x * (a : EReal) * (b : EReal) := by
  rw [EReal.coe_mul, mul_assoc]

/-! ## Maxima -/

/-- The larger of numbers and `⊥` is a number as soon as one of them is. -/
theorem sup_real {ι : Type*} [Fintype ι] (f : ι → EReal) (hf : ∀ i, f i ≠ ⊤) (i : ι) (hi : f i ≠ ⊥) : ∃ r : ℝ, Finset.univ.sup f = r := by
  have h1 : Finset.univ.sup f ≠ ⊥ := fun h => hi (le_bot_iff.mp (h ▸ Finset.le_sup (f := f) (Finset.mem_univ i)))
  have h2 : Finset.univ.sup f ≠ ⊤ := by
    refine ne_of_lt ((Finset.sup_lt_iff (bot_lt_top)).mpr fun j _ => lt_top_iff_ne_top.mpr (hf j))
  exact ⟨_, (EReal.coe_toReal h2 h1).symm⟩

/-! ## The running sum -/

/-- The running maximum `M` and the running sum `acc` stand for the sum `A` of values by weights: nothing has been seen, or `acc` is `A` scaled by the maximum. -/
def Run (M acc A : EReal) : Prop := (M = ⊥ ∧ acc = 0 ∧ A = 0) ∨ ∃ r : ℝ, M = r ∧ acc = A * (((2 : ℝ) ^ (-r) : ℝ) : EReal)

theorem Run.start : Run ⊥ 0 0 := .inl ⟨rfl, rfl, rfl⟩

/-- One tile more. -/
theorem Run.step {M acc A : EReal} (h : Run M acc A) {ι : Type*} [Fintype ι] (s v : ι → EReal) (hs : ∀ i, s i ≠ ⊤) (i : ι) (hi : s i ≠ ⊥) :
    Run (max M (Finset.univ.sup s)) (acc * Ideal.exp2 (M - max M (Finset.univ.sup s)) + ∑ k, v k * Ideal.exp2 (s k - max M (Finset.univ.sup s)))
      (A + ∑ k, v k * (wt (s k) : EReal)) := by
  obtain ⟨b, hb⟩ := sup_real s hs i hi
  have key : ∃ r : ℝ, max M (Finset.univ.sup s) = r := by
    rcases h with ⟨rfl, -, -⟩ | ⟨r, rfl, -⟩
    · exact ⟨b, by rw [hb, max_eq_right bot_le]⟩
    · exact ⟨max r b, by rw [hb]; exact (EReal.coe_strictMono.monotone.map_max).symm⟩
  obtain ⟨r', hr'⟩ := key
  refine .inr ⟨r', hr', ?_⟩
  rw [hr', add_mul_coe (by positivity), sum_mul_coe _ (by positivity)]
  congr 1
  · rcases h with ⟨rfl, rfl, rfl⟩ | ⟨r, rfl, rfl⟩
    · simp
    · rw [exp2_sub _ (EReal.coe_ne_top r), wt_coe, ← mul_mul_coe]
      congr 2
      rw [← mul_assoc, ← Real.rpow_add two_pos]
      simp
  · refine Finset.sum_congr rfl fun k _ => ?_
    rw [exp2_sub _ (hs k), mul_mul_coe]

/-- The quotient of two running sums. -/
theorem Run.div {M a l A : EReal} {L : ℝ} (ha : Run M a A) (hl : Run M l (L : EReal)) (hL : 0 < L) : Ideal.div a l = A * ((L⁻¹ : ℝ) : EReal) := by
  rcases hl with ⟨-, -, h⟩ | ⟨r, rfl, rfl⟩
  · exact absurd (by exact_mod_cast h) hL.ne'
  rcases ha with ⟨h, -, -⟩ | ⟨r', h, rfl⟩
  · exact absurd h (EReal.coe_ne_bot r)
  obtain rfl : r = r' := by exact_mod_cast h
  have hp : (0 : ℝ) < 2 ^ (-r) := by positivity
  rw [← EReal.coe_mul]
  unfold Ideal.div
  rw [if_neg (by exact_mod_cast (mul_pos hL hp).ne'), ← EReal.coe_inv, ← mul_mul_coe]
  congr 2
  field_simp

end Cert.Fox
-- ==== Proof.Body.lean ====
module

public import proofs.«01_k».proof.Proof.State
public import Idealize.ShloMosaic.Lib.Scf
public import Idealize.ShloMosaic.Lib.ValueIdxCore

@[expose] public section

set_option maxRecDepth 65536

noncomputable section

namespace Cert.KernelIdeal.Fox

open Idealize.ShloMosaic.ValueIdx Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-! ## Six heads in turn -/

/-- The heads below `n` as `K` has them, the others as `H` has them. -/
def upto {α : Type} (H K : Fin 6 → α) (n : ℕ) : Fin 6 → α := fun g => if g.val < n then K g else H g

theorem upto_zero {α : Type} (H K : Fin 6 → α) : upto H K 0 = H := funext fun g => if_neg (Nat.not_lt_zero _)
theorem upto_six {α : Type} (H K : Fin 6 → α) : upto H K 6 = K := funext fun g => if_pos g.2
theorem upto_self {α : Type} (H K : Fin 6 → α) {h : ℕ} (hh : h < 6) : upto H K h ⟨h, hh⟩ = H ⟨h, hh⟩ := if_neg (Nat.lt_irrefl h)
theorem upto_succ {α : Type} (H K : Fin 6 → α) {h : ℕ} (hh : h < 6) : Function.update (upto H K h) ⟨h, hh⟩ (K ⟨h, hh⟩) = upto H K (h + 1) := by
  funext g
  rcases eq_or_ne g ⟨h, hh⟩ with rfl | hg
  · rw [Function.update_self]
    exact (if_pos (Nat.lt_succ_self h)).symm
  · rw [Function.update_of_ne hg]
    have : g.val ≠ h := fun e => hg (Fin.ext e)
    unfold upto
    congr 1
    exact propext ⟨fun h => by omega, fun h => by omega⟩

/-! ## The tiles and the state after `n` tiles -/

theorem kt_inb (n : ℕ) : ∀ a, (![256 * (n % 16), 0] : Fin 2 → ℕ) a + S256x128.size a ≤ S4096x128.size a := by
  have := Nat.mod_lt n (by omega : 16 > 0)
  intro x
  fin_cases x <;> simp <;> omega

theorem vt_inb (n : ℕ) : ∀ a, (![n % 16, 0, 0] : Fin 3 → ℕ) a + S1x80x256.size a ≤ S16x80x256.size a := by
  have := Nat.mod_lt n (by omega : 16 > 0)
  intro x
  fin_cases x <;> simp <;> omega

/-- The keys of tile `n`, and its values. -/
def kT (X4 : Vec F S1x6x4096x128 .bf16) (h : Fin 6) (n : ℕ) : Vec F S256x128 .bf16 := kTile X4 h.2 ![256 * (n % 16), 0] (kt_inb n)
def vT (X5 : Vec F S1x16x480x256 .bf16) (h : Fin 6) (n : ℕ) : Vec F S1x80x256 .bf16 := vTile X5 h.2 ![n % 16, 0, 0] (vt_inb n)

theorem kTile_eq (X4 : Vec F S1x6x4096x128 .bf16) {h : ℕ} (hh : h < 6) {oK : Fin 2 → ℕ} {hK} {n : ℕ} (e : oK = ![256 * (n % 16), 0]) :
    kTile X4 hh oK hK = kT X4 ⟨h, hh⟩ n := by subst e; rfl
theorem vTile_eq (X5 : Vec F S1x16x480x256 .bf16) {h : ℕ} (hh : h < 6) {oV : Fin 3 → ℕ} {hV} {n : ℕ} (e : oV = ![n % 16, 0, 0]) :
    vTile X5 hh oV hV = vT X5 ⟨h, hh⟩ n := by subst e; rfl

/-- The queries of one head. -/
def qT (X3 : Vec F S1x6x512x128 .bf16) (h : Fin 6) : Vec F S1x1x512x128 .bf16 := View.ld (Val := Elt F) (e' := .bf16) X3 (Rin h.2)

/-- A head after `n` tiles. -/
def run (X3 : Vec F S1x6x512x128 .bf16) (X4 : Vec F S1x6x4096x128 .bf16) (X5 : Vec F S1x16x480x256 .bf16) (H : Fin 6 → Hd F) (h : Fin 6) : ℕ → Hd F
  | 0 => (H h).init (qT X3 h) (kT X4 h 0)
  | n + 1 => if n % 2 = 0 then (run X3 X4 X5 H h n).stepA (kT X4 h (n + 1)) (vT X5 h n) else (run X3 X4 X5 H h n).stepB (kT X4 h (n + 1)) (vT X5 h n)

/-- A head at the end of query block `b`. -/
def fin1 (X3 : Vec F S1x6x512x128 .bf16) (X4 : Vec F S1x6x4096x128 .bf16) (X5 : Vec F S1x16x480x256 .bf16) (H : Fin 6 → Hd F) (b : ℕ) (h : Fin 6) : Hd F :=
  (run X3 X4 X5 H h (2 * b)).diag1 k0_pay552 (kT X4 h (2 * b + 1)) (vT X5 h (2 * b))
def fin2 (X3 : Vec F S1x6x512x128 .bf16) (X4 : Vec F S1x6x4096x128 .bf16) (X5 : Vec F S1x16x480x256 .bf16) (H : Fin 6 → Hd F) (b : ℕ) (h : Fin 6) : Hd F :=
  (fin1 X3 X4 X5 H b h).diag2 k0_pay552 (vT X5 h (2 * b + 1))

/-! ## Where the tiles lie -/

theorem trips1 (i : grid0.Coords) : (k0_t1_loop i).trips = (i 2).val / 2 := by
  have h : ∀ n : Fin 8, Scf.trips (0#32) (Scalar.addi 0#32 (Scalar.muli (Scalar.divsi (Scalar.subi (Scalar.divsi (Scalar.addi (Scalar.subi (Scalar.shrui (BitVec.ofNat 32 n.val) 1#32) 0#32) (Scalar.subi 1#32 1#32)) 1#32) 0#32) 1#32) 1#32)) (1#32) = n.val / 2 := by decide
  exact h (i 2)

theorem t_lt (i : grid0.Coords) (t : Fin (k0_t1_loop i).trips) : t.val < 3 := by
  have h := lt_of_lt_of_eq t.2 (trips1 i)
  have : (i 2).val < 8 := (i 2).2
  omega

section Offsets
variable (i : grid0.Coords) (t : Fin (k0_t1_loop i).trips)

theorem off1_eq : k0_off1 i t = ![256 * ((4 * t.val + 1) % 16), 0] := by
  have h := t_lt i t
  unfold k0_off1
  generalize t.val = n at h ⊢
  interval_cases n <;> rfl
theorem off2_eq : k0_off2 i t = ![(4 * t.val) % 16, 0, 0] := by
  have h := t_lt i t
  unfold k0_off2
  generalize t.val = n at h ⊢
  interval_cases n <;> rfl
theorem off3_1_eq : k0_off3 i t 1#32 = ![256 * ((4 * t.val + 1 + 1) % 16), 0] := by
  have h := t_lt i t
  unfold k0_off3
  generalize t.val = n at h ⊢
  interval_cases n <;> rfl
theorem off4_1_eq : k0_off4 i t 1#32 = ![(4 * t.val + 1) % 16, 0, 0] := by
  have h := t_lt i t
  unfold k0_off4
  generalize t.val = n at h ⊢
  interval_cases n <;> rfl
theorem off3_2_eq : k0_off3 i t 2#32 = ![256 * ((4 * t.val + 2 + 1) % 16), 0] := by
  have h := t_lt i t
  unfold k0_off3
  generalize t.val = n at h ⊢
  interval_cases n <;> rfl
theorem off4_2_eq : k0_off4 i t 2#32 = ![(4 * t.val + 2) % 16, 0, 0] := by
  have h := t_lt i t
  unfold k0_off4
  generalize t.val = n at h ⊢
  interval_cases n <;> rfl
theorem off5_eq : k0_off5 i t = ![256 * ((4 * t.val + 3 + 1) % 16), 0] := by
  have h := t_lt i t
  unfold k0_off5
  generalize t.val = n at h ⊢
  interval_cases n <;> rfl
theorem off6_eq : k0_off6 i t = ![(4 * t.val + 3) % 16, 0, 0] := by
  have h := t_lt i t
  unfold k0_off6
  generalize t.val = n at h ⊢
  interval_cases n <;> rfl
theorem off13_eq (h0 : (i 2).val % 2 = 1) : k0_off13 i = ![256 * ((2 * (i 2).val - 2 + 1) % 16), 0] := by
  have h : (i 2).val < 8 := (i 2).2
  unfold k0_off13
  generalize (i 2).val = n at h h0 ⊢
  interval_cases n <;> first | rfl | omega
theorem off14_eq (h0 : (i 2).val % 2 = 1) : k0_off14 i = ![(2 * (i 2).val - 2) % 16, 0, 0] := by
  have h : (i 2).val < 8 := (i 2).2
  unfold k0_off14
  generalize (i 2).val = n at h h0 ⊢
  interval_cases n <;> first | rfl | omega
theorem off15_eq (h0 : (i 2).val % 2 = 1) : k0_off15 i = ![256 * ((2 * (i 2).val - 1 + 1) % 16), 0] := by
  have h : (i 2).val < 8 := (i 2).2
  unfold k0_off15
  generalize (i 2).val = n at h h0 ⊢
  interval_cases n <;> first | rfl | omega
theorem off16_eq (h0 : (i 2).val % 2 = 1) : k0_off16 i = ![(2 * (i 2).val - 1) % 16, 0, 0] := by
  have h : (i 2).val < 8 := (i 2).2
  unfold k0_off16
  generalize (i 2).val = n at h h0 ⊢
  interval_cases n <;> first | rfl | omega
theorem off17_eq : k0_off17 i = ![256 * ((2 * (i 2).val + 1) % 16), 0] := by
  have h : (i 2).val < 8 := (i 2).2
  unfold k0_off17
  generalize (i 2).val = n at h ⊢
  interval_cases n <;> rfl
theorem off18_eq : k0_off18 i = ![(2 * (i 2).val) % 16, 0, 0] := by
  have h : (i 2).val < 8 := (i 2).2
  unfold k0_off18
  generalize (i 2).val = n at h ⊢
  interval_cases n <;> rfl
theorem off19_eq : k0_off19 i = ![(2 * (i 2).val + 1) % 16, 0, 0] := by
  have h : (i 2).val < 8 := (i 2).2
  unfold k0_off19
  generalize (i 2).val = n at h ⊢
  interval_cases n <;> rfl

theorem cond1_eq : k0_cond1 i = 1#1 ↔ (i 2).val % 2 = 1 := by
  have h : (i 2).val < 8 := (i 2).2
  unfold k0_cond1
  generalize (i 2).val = n at h ⊢
  interval_cases n <;> decide

end Offsets

/-! ## The triples for six heads -/

variable (c : Dev nD) (M : Ms) {X3 : Vec F S1x6x512x128 .bf16} {X4 : Vec F S1x6x4096x128 .bf16} {X5 : Vec F S1x16x480x256 .bf16} {X6 : Vec F S1x384x512 .bf16}
  {α : Type} {k : Prog (TpuEff nD τ sig (Elt F) Λ₀ .tc) α}

/-- The start, one head after another. -/
theorem head_init {Q : α → sProp 𝕄} {H K : Fin 6 → Hd F} {h : ℕ} (hh : h < 6) (hx)
    (e : K ⟨h, hh⟩ = (H ⟨h, hh⟩).init (View.ld (Val := Elt F) (e' := .bf16) X3 (Rin hh)) (kTile X4 hh ![0, 0] inb_S4096x128_S256x128_0_0)) :
    Inv c M X3 X4 X5 X6 (upto H K h) ⊢ iprop((Inv c M X3 X4 X5 X6 (upto H K (h + 1)) -∗ Wp c k Q) -∗ Wp c (initK M hh hx k) Q) := by
  have h1 := wp_initK c M (X3 := X3) (X4 := X4) (X5 := X5) (X6 := X6) (H := upto H K h) (k := k) (Q := Q) hh hx
  rw [upto_self, ← e, upto_succ] at h1
  exact h1

/-- A step, one head after another. -/
theorem head_stepA {Q : α → sProp 𝕄} {H K : Fin 6 → Hd F} {h : ℕ} (hh : h < 6) (oK) (hK) (oV) (hV)
    (e : K ⟨h, hh⟩ = (H ⟨h, hh⟩).stepA (kTile X4 hh oK hK) (vTile X5 hh oV hV)) :
    Inv c M X3 X4 X5 X6 (upto H K h) ⊢ iprop((Inv c M X3 X4 X5 X6 (upto H K (h + 1)) -∗ Wp c k Q) -∗ Wp c (stepK M M.a7 M.a8 M.a9 M.a10 hh oK hK oV hV k) Q) := by
  have h1 := wp_stepA c M (X3 := X3) (X4 := X4) (X5 := X5) (X6 := X6) (H := upto H K h) (k := k) (Q := Q) hh oK hK oV hV
  rw [upto_self, ← e, upto_succ] at h1
  exact h1

/-- A step, one head after another. -/
theorem head_stepB {Q : α → sProp 𝕄} {H K : Fin 6 → Hd F} {h : ℕ} (hh : h < 6) (oK) (hK) (oV) (hV)
    (e : K ⟨h, hh⟩ = (H ⟨h, hh⟩).stepB (kTile X4 hh oK hK) (vTile X5 hh oV hV)) :
    Inv c M X3 X4 X5 X6 (upto H K h) ⊢ iprop((Inv c M X3 X4 X5 X6 (upto H K (h + 1)) -∗ Wp c k Q) -∗ Wp c (stepK M M.a8 M.a7 M.a10 M.a9 hh oK hK oV hV k) Q) := by
  have h1 := wp_stepB c M (X3 := X3) (X4 := X4) (X5 := X5) (X6 := X6) (H := upto H K h) (k := k) (Q := Q) hh oK hK oV hV
  rw [upto_self, ← e, upto_succ] at h1
  exact h1

/-- The first diagonal tile, one head after another. -/
theorem head_diag1 {Q : α → sProp 𝕄} {H K : Fin 6 → Hd F} {h : ℕ} (hh : h < 6) (i : grid0.Coords) (cm : IVec S256x256 1)
    (e : K ⟨h, hh⟩ = (H ⟨h, hh⟩).diag1 cm (kTile X4 hh (k0_off17 i) (k0_off17_inb i)) (vTile X5 hh (k0_off18 i) (k0_off18_inb i))) :
    Inv c M X3 X4 X5 X6 (upto H K h) ⊢ iprop((Inv c M X3 X4 X5 X6 (upto H K (h + 1)) -∗ Wp c k Q) -∗ Wp c (diag1K M i cm hh k) Q) := by
  have h1 := wp_diag1 c M (X3 := X3) (X4 := X4) (X5 := X5) (X6 := X6) (H := upto H K h) (k := k) (Q := Q) hh i cm
  rw [upto_self, ← e, upto_succ] at h1
  exact h1

/-- The second diagonal tile, one head after another. -/
theorem head_diag2 {Q : α → sProp 𝕄} {H K : Fin 6 → Hd F} {h : ℕ} (hh : h < 6) (i : grid0.Coords) (cm : IVec S256x256 1)
    (e : K ⟨h, hh⟩ = (H ⟨h, hh⟩).diag2 cm (vTile X5 hh (k0_off19 i) (k0_off19_inb i))) :
    Inv c M X3 X4 X5 X6 (upto H K h) ⊢ iprop((Inv c M X3 X4 X5 X6 (upto H K (h + 1)) -∗ Wp c k Q) -∗ Wp c (diag2K M i cm hh k) Q) := by
  have h1 := wp_diag2 c M (X3 := X3) (X4 := X4) (X5 := X5) (X6 := X6) (H := upto H K h) (k := k) (Q := Q) hh i cm
  rw [upto_self, ← e, upto_succ] at h1
  exact h1

/-- A step of all the heads. -/
theorem six_stepA {Q : α → sProp 𝕄} {H K : Fin 6 → Hd F} (oK) (hK) (oV) (hV)
    (e : ∀ (h : ℕ) (hh : h < 6), K ⟨h, hh⟩ = (H ⟨h, hh⟩).stepA (kTile X4 hh oK hK) (vTile X5 hh oV hV)) :
    Inv c M X3 X4 X5 X6 H ⊢ iprop((Inv c M X3 X4 X5 X6 K -∗ Wp c k Q) -∗ Wp c (steps6 M M.a7 M.a8 M.a9 M.a10 oK hK oV hV k) Q) := by
  have h0 : Inv c M X3 X4 X5 X6 (upto H K 0) ⊢ iprop((Inv c M X3 X4 X5 X6 (upto H K 6) -∗ Wp c k Q) -∗ Wp c (steps6 M M.a7 M.a8 M.a9 M.a10 oK hK oV hV k) Q) := by
    unfold steps6
    iintro HI Hk
    iapply (head_stepA c M (H := H) (K := K) (h := 0) _ oK hK oV hV (e 0 _)) $$ [HI]
    · iexact HI
    iintro HI
    iapply (head_stepA c M (H := H) (K := K) (h := 1) _ oK hK oV hV (e 1 _)) $$ [HI]
    · iexact HI
    iintro HI
    iapply (head_stepA c M (H := H) (K := K) (h := 2) _ oK hK oV hV (e 2 _)) $$ [HI]
    · iexact HI
    iintro HI
    iapply (head_stepA c M (H := H) (K := K) (h := 3) _ oK hK oV hV (e 3 _)) $$ [HI]
    · iexact HI
    iintro HI
    iapply (head_stepA c M (H := H) (K := K) (h := 4) _ oK hK oV hV (e 4 _)) $$ [HI]
    · iexact HI
    iintro HI
    iapply (head_stepA c M (H := H) (K := K) (h := 5) _ oK hK oV hV (e 5 _)) $$ [HI]
    · iexact HI
    iintro HI
    iapply Hk
    iexact HI
  rw [upto_zero, upto_six] at h0
  exact h0

/-- A step of all the heads. -/
theorem six_stepB {Q : α → sProp 𝕄} {H K : Fin 6 → Hd F} (oK) (hK) (oV) (hV)
    (e : ∀ (h : ℕ) (hh : h < 6), K ⟨h, hh⟩ = (H ⟨h, hh⟩).stepB (kTile X4 hh oK hK) (vTile X5 hh oV hV)) :
    Inv c M X3 X4 X5 X6 H ⊢ iprop((Inv c M X3 X4 X5 X6 K -∗ Wp c k Q) -∗ Wp c (steps6 M M.a8 M.a7 M.a10 M.a9 oK hK oV hV k) Q) := by
  have h0 : Inv c M X3 X4 X5 X6 (upto H K 0) ⊢ iprop((Inv c M X3 X4 X5 X6 (upto H K 6) -∗ Wp c k Q) -∗ Wp c (steps6 M M.a8 M.a7 M.a10 M.a9 oK hK oV hV k) Q) := by
    unfold steps6
    iintro HI Hk
    iapply (head_stepB c M (H := H) (K := K) (h := 0) _ oK hK oV hV (e 0 _)) $$ [HI]
    · iexact HI
    iintro HI
    iapply (head_stepB c M (H := H) (K := K) (h := 1) _ oK hK oV hV (e 1 _)) $$ [HI]
    · iexact HI
    iintro HI
    iapply (head_stepB c M (H := H) (K := K) (h := 2) _ oK hK oV hV (e 2 _)) $$ [HI]
    · iexact HI
    iintro HI
    iapply (head_stepB c M (H := H) (K := K) (h := 3) _ oK hK oV hV (e 3 _)) $$ [HI]
    · iexact HI
    iintro HI
    iapply (head_stepB c M (H := H) (K := K) (h := 4) _ oK hK oV hV (e 4 _)) $$ [HI]
    · iexact HI
    iintro HI
    iapply (head_stepB c M (H := H) (K := K) (h := 5) _ oK hK oV hV (e 5 _)) $$ [HI]
    · iexact HI
    iintro HI
    iapply Hk
    iexact HI
  rw [upto_zero, upto_six] at h0
  exact h0

/-- The first diagonal tile of all the heads. -/
theorem six_diag1 {Q : α → sProp 𝕄} {H K : Fin 6 → Hd F} (i : grid0.Coords) (cm : IVec S256x256 1)
    (e : ∀ (h : ℕ) (hh : h < 6), K ⟨h, hh⟩ = (H ⟨h, hh⟩).diag1 cm (kTile X4 hh (k0_off17 i) (k0_off17_inb i)) (vTile X5 hh (k0_off18 i) (k0_off18_inb i))) :
    Inv c M X3 X4 X5 X6 H ⊢ iprop((Inv c M X3 X4 X5 X6 K -∗ Wp c k Q) -∗ Wp c (diag1K M i cm (h := 0) (by omega) <| diag1K M i cm (h := 1) (by omega) <| diag1K M i cm (h := 2) (by omega) <| diag1K M i cm (h := 3) (by omega) <| diag1K M i cm (h := 4) (by omega) <| diag1K M i cm (h := 5) (by omega) k) Q) := by
  have h0 : Inv c M X3 X4 X5 X6 (upto H K 0) ⊢ iprop((Inv c M X3 X4 X5 X6 (upto H K 6) -∗ Wp c k Q) -∗ Wp c (diag1K M i cm (h := 0) (by omega) <| diag1K M i cm (h := 1) (by omega) <| diag1K M i cm (h := 2) (by omega) <| diag1K M i cm (h := 3) (by omega) <| diag1K M i cm (h := 4) (by omega) <| diag1K M i cm (h := 5) (by omega) k) Q) := by
    iintro HI Hk
    iapply (head_diag1 c M (H := H) (K := K) (h := 0) _ i cm (e 0 _)) $$ [HI]
    · iexact HI
    iintro HI
    iapply (head_diag1 c M (H := H) (K := K) (h := 1) _ i cm (e 1 _)) $$ [HI]
    · iexact HI
    iintro HI
    iapply (head_diag1 c M (H := H) (K := K) (h := 2) _ i cm (e 2 _)) $$ [HI]
    · iexact HI
    iintro HI
    iapply (head_diag1 c M (H := H) (K := K) (h := 3) _ i cm (e 3 _)) $$ [HI]
    · iexact HI
    iintro HI
    iapply (head_diag1 c M (H := H) (K := K) (h := 4) _ i cm (e 4 _)) $$ [HI]
    · iexact HI
    iintro HI
    iapply (head_diag1 c M (H := H) (K := K) (h := 5) _ i cm (e 5 _)) $$ [HI]
    · iexact HI
    iintro HI
    iapply Hk
    iexact HI
  rw [upto_zero, upto_six] at h0
  exact h0

/-- The second diagonal tile of all the heads. -/
theorem six_diag2 {Q : α → sProp 𝕄} {H K : Fin 6 → Hd F} (i : grid0.Coords) (cm : IVec S256x256 1)
    (e : ∀ (h : ℕ) (hh : h < 6), K ⟨h, hh⟩ = (H ⟨h, hh⟩).diag2 cm (vTile X5 hh (k0_off19 i) (k0_off19_inb i))) :
    Inv c M X3 X4 X5 X6 H ⊢ iprop((Inv c M X3 X4 X5 X6 K -∗ Wp c k Q) -∗ Wp c (diag2K M i cm (h := 0) (by omega) <| diag2K M i cm (h := 1) (by omega) <| diag2K M i cm (h := 2) (by omega) <| diag2K M i cm (h := 3) (by omega) <| diag2K M i cm (h := 4) (by omega) <| diag2K M i cm (h := 5) (by omega) k) Q) := by
  have h0 : Inv c M X3 X4 X5 X6 (upto H K 0) ⊢ iprop((Inv c M X3 X4 X5 X6 (upto H K 6) -∗ Wp c k Q) -∗ Wp c (diag2K M i cm (h := 0) (by omega) <| diag2K M i cm (h := 1) (by omega) <| diag2K M i cm (h := 2) (by omega) <| diag2K M i cm (h := 3) (by omega) <| diag2K M i cm (h := 4) (by omega) <| diag2K M i cm (h := 5) (by omega) k) Q) := by
    iintro HI Hk
    iapply (head_diag2 c M (H := H) (K := K) (h := 0) _ i cm (e 0 _)) $$ [HI]
    · iexact HI
    iintro HI
    iapply (head_diag2 c M (H := H) (K := K) (h := 1) _ i cm (e 1 _)) $$ [HI]
    · iexact HI
    iintro HI
    iapply (head_diag2 c M (H := H) (K := K) (h := 2) _ i cm (e 2 _)) $$ [HI]
    · iexact HI
    iintro HI
    iapply (head_diag2 c M (H := H) (K := K) (h := 3) _ i cm (e 3 _)) $$ [HI]
    · iexact HI
    iintro HI
    iapply (head_diag2 c M (H := H) (K := K) (h := 4) _ i cm (e 4 _)) $$ [HI]
    · iexact HI
    iintro HI
    iapply (head_diag2 c M (H := H) (K := K) (h := 5) _ i cm (e 5 _)) $$ [HI]
    · iexact HI
    iintro HI
    iapply Hk
    iexact HI
  rw [upto_zero, upto_six] at h0
  exact h0

/-- The start of all the heads. -/
theorem six_init {Q : α → sProp 𝕄} {H K : Fin 6 → Hd F} (hx0 : (M.a13.access (Rq (h := 0) (by omega))).Stores Finset.univ) (hx1 : (M.a13.access (Rq (h := 1) (by omega))).Stores Finset.univ) (hx2 : (M.a13.access (Rq (h := 2) (by omega))).Stores Finset.univ) (hx3 : (M.a13.access (Rq (h := 3) (by omega))).Stores Finset.univ) (hx4 : (M.a13.access (Rq (h := 4) (by omega))).Stores Finset.univ) (hx5 : (M.a13.access (Rq (h := 5) (by omega))).Stores Finset.univ)
    (e : ∀ (h : ℕ) (hh : h < 6), K ⟨h, hh⟩ = (H ⟨h, hh⟩).init (View.ld (Val := Elt F) (e' := .bf16) X3 (Rin hh)) (kTile X4 hh ![0, 0] inb_S4096x128_S256x128_0_0)) :
    Inv c M X3 X4 X5 X6 H ⊢ iprop((Inv c M X3 X4 X5 X6 K -∗ Wp c k Q) -∗ Wp c (initK M (h := 0) (by omega) hx0 <| initK M (h := 1) (by omega) hx1 <| initK M (h := 2) (by omega) hx2 <| initK M (h := 3) (by omega) hx3 <| initK M (h := 4) (by omega) hx4 <| initK M (h := 5) (by omega) hx5 k) Q) := by
  have h0 : Inv c M X3 X4 X5 X6 (upto H K 0) ⊢ iprop((Inv c M X3 X4 X5 X6 (upto H K 6) -∗ Wp c k Q) -∗ Wp c (initK M (h := 0) (by omega) hx0 <| initK M (h := 1) (by omega) hx1 <| initK M (h := 2) (by omega) hx2 <| initK M (h := 3) (by omega) hx3 <| initK M (h := 4) (by omega) hx4 <| initK M (h := 5) (by omega) hx5 k) Q) := by
    iintro HI Hk
    iapply (head_init c M (H := H) (K := K) (h := 0) _ hx0 (e 0 _)) $$ [HI]
    · iexact HI
    iintro HI
    iapply (head_init c M (H := H) (K := K) (h := 1) _ hx1 (e 1 _)) $$ [HI]
    · iexact HI
    iintro HI
    iapply (head_init c M (H := H) (K := K) (h := 2) _ hx2 (e 2 _)) $$ [HI]
    · iexact HI
    iintro HI
    iapply (head_init c M (H := H) (K := K) (h := 3) _ hx3 (e 3 _)) $$ [HI]
    · iexact HI
    iintro HI
    iapply (head_init c M (H := H) (K := K) (h := 4) _ hx4 (e 4 _)) $$ [HI]
    · iexact HI
    iintro HI
    iapply (head_init c M (H := H) (K := K) (h := 5) _ hx5 (e 5 _)) $$ [HI]
    · iexact HI
    iintro HI
    iapply Hk
    iexact HI
  rw [upto_zero, upto_six] at h0
  exact h0

/-- The heads after `n` tiles. -/
abbrev runs (X3 : Vec F S1x6x512x128 .bf16) (X4 : Vec F S1x6x4096x128 .bf16) (X5 : Vec F S1x16x480x256 .bf16) (H : Fin 6 → Hd F) (n : ℕ) : Fin 6 → Hd F :=
  fun h => run X3 X4 X5 H h n

theorem run_A (H : Fin 6 → Hd F) {n : ℕ} (hn : n % 2 = 0) {oK : Fin 2 → ℕ} {hK} {oV : Fin 3 → ℕ} {hV} (eK : oK = ![256 * ((n + 1) % 16), 0]) (eV : oV = ![n % 16, 0, 0])
    (h : ℕ) (hh : h < 6) : runs X3 X4 X5 H (n + 1) ⟨h, hh⟩ = (runs X3 X4 X5 H n ⟨h, hh⟩).stepA (kTile X4 hh oK hK) (vTile X5 hh oV hV) := by
  rw [kTile_eq X4 hh eK, vTile_eq X5 hh eV]
  exact if_pos hn

theorem run_B (H : Fin 6 → Hd F) {n : ℕ} (hn : n % 2 = 1) {oK : Fin 2 → ℕ} {hK} {oV : Fin 3 → ℕ} {hV} (eK : oK = ![256 * ((n + 1) % 16), 0]) (eV : oV = ![n % 16, 0, 0])
    (h : ℕ) (hh : h < 6) : runs X3 X4 X5 H (n + 1) ⟨h, hh⟩ = (runs X3 X4 X5 H n ⟨h, hh⟩).stepB (kTile X4 hh oK hK) (vTile X5 hh oV hV) := by
  rw [kTile_eq X4 hh eK, vTile_eq X5 hh eV]
  exact if_neg (by omega)

/-- A finished program. -/
theorem wp_done {β : Type} {P : sProp 𝕄} (x : β) : P ⊢ Wp c (.ret x) (fun _ => P) :=
  pure_le_wp_ret (Fr := frame) (wpE := wpE (defs₀ (F := F)) Variants.none (c : Thread nD τ) none) (E := Set.univ) x (fun _ => P)

/-- One trip of the loop. -/
theorem wp_trip (H : Fin 6 → Hd F) (i : grid0.Coords) (t : Fin (k0_t1_loop i).trips) :
    Inv c M X3 X4 X5 X6 (runs X3 X4 X5 H (4 * t.val))
      ⊢ Wp c (tripK (F := F) M i t) (fun _ => Inv c M X3 X4 X5 X6 (runs X3 X4 X5 H (4 * (t.val + 1)))) := by
  unfold tripK
  iintro HI
  iapply (six_stepA c M (H := runs X3 X4 X5 H (4 * t.val)) (K := runs X3 X4 X5 H (4 * t.val + 1)) _ _ _ _ (run_A H (by omega) (off1_eq i t) (off2_eq i t))) $$ [HI]
  · iexact HI
  iintro HI
  iapply (six_stepB c M (H := runs X3 X4 X5 H (4 * t.val + 1)) (K := runs X3 X4 X5 H (4 * t.val + 1 + 1)) _ _ _ _ (run_B H (by omega) (off3_1_eq i t) (off4_1_eq i t))) $$ [HI]
  · iexact HI
  iintro HI
  iapply (six_stepA c M (H := runs X3 X4 X5 H (4 * t.val + 2)) (K := runs X3 X4 X5 H (4 * t.val + 2 + 1)) _ _ _ _ (run_A H (by omega) (off3_2_eq i t) (off4_2_eq i t))) $$ [HI]
  · iexact HI
  iintro HI
  iapply (six_stepB c M (H := runs X3 X4 X5 H (4 * t.val + 3)) (K := runs X3 X4 X5 H (4 * t.val + 3 + 1)) _ _ _ _ (run_B H (by omega) (off5_eq i t) (off6_eq i t))) $$ [HI]
  · iexact HI
  iintro HI
  iapply (wp_done c _)
  iexact HI

/-- The two further tiles before an odd query block. -/
theorem wp_odd {Q : α → sProp 𝕄} (H : Fin 6 → Hd F) (i : grid0.Coords) (arg2 : BitVec 32) (g : MidR → Prog (TpuEff nD τ sig (Elt F) Λ₀ .tc) α) :
    Inv c M X3 X4 X5 X6 (runs X3 X4 X5 H (4 * ((i 2).val / 2)))
      ⊢ iprop((Inv c M X3 X4 X5 X6 (runs X3 X4 X5 H (2 * (i 2).val)) -∗ Wp c (g (midR arg2)) Q) -∗ Wp c ((oddK (F := F) M i arg2).bind g) Q) := by
  unfold oddK
  by_cases h1 : k0_cond1 i = 1#1
  · have h2 := (cond1_eq i).1 h1
    rw [dif_pos h1]
    obtain ⟨n, hn⟩ : ∃ n, (i 2).val = 2 * n + 1 := ⟨(i 2).val / 2, by omega⟩
    have e13 := off13_eq i h2
    have e14 := off14_eq i h2
    have e15 := off15_eq i h2
    have e16 := off16_eq i h2
    rw [show 2 * (i 2).val - 2 = 4 * n by omega] at e13 e14
    rw [show 2 * (i 2).val - 1 = 4 * n + 1 by omega] at e15 e16
    rw [show 4 * ((i 2).val / 2) = 4 * n by omega, show 2 * (i 2).val = 4 * n + 1 + 1 by omega]
    show _ ⊢ iprop(_ -∗ Wp c (steps6 M M.a7 M.a8 M.a9 M.a10 (k0_off13 i) (k0_off13_inb i h1) (k0_off14 i) (k0_off14_inb i h1) <|
      steps6 M M.a8 M.a7 M.a10 M.a9 (k0_off15 i) (k0_off15_inb i h1) (k0_off16 i) (k0_off16_inb i h1) <| g (midR arg2)) Q)
    iintro HI Hk
    iapply (six_stepA c M (H := runs X3 X4 X5 H (4 * n)) (K := runs X3 X4 X5 H (4 * n + 1)) _ _ _ _ (run_A H (by omega) e13 e14)) $$ [HI]
    · iexact HI
    iintro HI
    iapply (six_stepB c M (H := runs X3 X4 X5 H (4 * n + 1)) (K := runs X3 X4 X5 H (4 * n + 1 + 1)) _ _ _ _ (run_B H (by omega) e15 e16)) $$ [HI]
    · iexact HI
    iintro HI
    iapply Hk
    iexact HI
  · have h2 : ¬ (i 2).val % 2 = 1 := fun h => h1 ((cond1_eq i).2 h)
    rw [dif_neg h1, show 4 * ((i 2).val / 2) = 2 * (i 2).val by omega]
    show _ ⊢ iprop(_ -∗ Wp c (g (midR arg2)) Q)
    iintro HI Hk
    iapply Hk
    iexact HI

/-- The loop and what follows it up to the diagonal. -/
theorem wp_mid {Q : α → sProp 𝕄} (H : Fin 6 → Hd F) (i : grid0.Coords) (arg2 : BitVec 32) (g : MidR → Prog (TpuEff nD τ sig (Elt F) Λ₀ .tc) α) :
    Inv c M X3 X4 X5 X6 (runs X3 X4 X5 H 0)
      ⊢ iprop((Inv c M X3 X4 X5 X6 (runs X3 X4 X5 H (2 * (i 2).val)) -∗ Wp c (g (midR arg2)) Q) -∗ Wp c ((mid (F := F) M i arg2).bind g) Q) := by
  have hb : (mid (F := F) M i arg2).bind g
      = (Scf.Loop.for (k0_t1_loop i) (k0_t1_ok i) () (fun t _ => tripK (F := F) M i t)).bind fun _ => (oddK M i arg2).bind g := Prog.bind_assoc _ _ _
  rw [hb]
  have hl := Scf.wp_for_bind frame (wpE (defs₀ (F := F)) Variants.none (c : Thread nD τ) none) Set.univ (k0_t1_loop i).lb (k0_t1_loop i).ub (k0_t1_loop i).st (k0_t1_ok i) ()
    (fun t _ => tripK (F := F) M i t) (fun n _ => Inv c M X3 X4 X5 X6 (runs X3 X4 X5 H (4 * n))) (fun t _ => wp_trip c M H i t)
    (kk := fun _ => (oddK M i arg2).bind g) (Q := Q)
  iintro HI Hk
  iapply hl $$ [HI]
  · iexact HI
  iintro %u HI
  iapply (wp_odd c M H i arg2 g) $$ [HI]
  · rw [← trips1 i]
    iexact HI
  iexact Hk

/-! ## The output block -/

/-- The block the heads' results make up. -/
def outOf (H : Fin 6 → Hd F) : Vec F S1x384x512 .bf16 := fun y =>
  (H ⟨(y 1).val / 64, Nat.div_lt_of_lt_mul (y 1).2⟩).out (ix3 0 ⟨(y 1).val % 64, Nat.mod_lt _ (by decide)⟩ (y 2))

theorem put_out (X : Vec F S1x384x512 .bf16) {h : ℕ} (hh : h < 6) (w : Vec F S1x64x512 .bf16) (y : S1x384x512.Idx) :
    put (Val := Elt F) (e := .bf16) X (Rout hh) w y
      = if (y 1).val / 64 = h then w (ix3 0 ⟨(y 1).val % 64, Nat.mod_lt _ (by decide)⟩ (y 2)) else X y := by
  by_cases hy : (y 1).val / 64 = h
  · rw [if_pos hy]
    have he : (Rout hh).emb (ix3 0 ⟨(y 1).val % 64, Nat.mod_lt _ (by decide)⟩ (y 2)) = y := by
      refine funext fun a => Fin.ext ?_
      have h0 : (y 0).val < 1 := (y 0).2
      fin_cases a
      · show 0 + 1 * 0 = (y 0).val
        omega
      · show 64 * h + 1 * ((y 1).val % 64) = (y 1).val
        omega
      · show 0 + 1 * (y 2).val = (y 2).val
        omega
    exact (congrArg (put (Val := Elt F) (e := .bf16) X (Rout hh) w) he.symm).trans (put_emb (Val := Elt F) (e := .bf16) X (Rout hh) w _)
  · rw [if_neg hy]
    refine put_off (Val := Elt F) (e := .bf16) X (Rout hh) w y fun x hx => hy ?_
    have h1 : 64 * h + 1 * (x 1).val = (y 1).val := congrArg (fun z => (z 1).val) hx
    have h2 : (x 1).val < 64 := (x 1).2
    omega

/-- Six blocks of rows put in turn make up the whole output block. -/
theorem put_all (X : Vec F S1x384x512 .bf16) (H : Fin 6 → Hd F) :
    put (Val := Elt F) (e := .bf16) (put (Val := Elt F) (e := .bf16) (put (Val := Elt F) (e := .bf16) (put (Val := Elt F) (e := .bf16) (put (Val := Elt F) (e := .bf16) (put (Val := Elt F) (e := .bf16) X
      (Rout (h := 0) (by decide)) (H ⟨0, by decide⟩).out) (Rout (h := 1) (by decide)) (H ⟨1, by decide⟩).out) (Rout (h := 2) (by decide)) (H ⟨2, by decide⟩).out)
      (Rout (h := 3) (by decide)) (H ⟨3, by decide⟩).out) (Rout (h := 4) (by decide)) (H ⟨4, by decide⟩).out) (Rout (h := 5) (by decide)) (H ⟨5, by decide⟩).out
      = outOf H := by
  funext y
  simp only [put_out]
  unfold outOf
  have hy : (y 1).val / 64 < 6 := Nat.div_lt_of_lt_mul (y 1).2
  generalize hg : (⟨(y 1).val / 64, hy⟩ : Fin 6) = g
  have hv : (y 1).val / 64 = g.val := congrArg Fin.val hg
  rw [hv]
  fin_cases g <;> simp

/-- A head's result at the end of a query block does not depend on what scratch held before. -/
theorem run_indep (H H' : Fin 6 → Hd F) (h : Fin 6) (n : ℕ) : run X3 X4 X5 H h (n + 1) = run X3 X4 X5 H' h (n + 1) := by
  induction n with
  | zero => rfl
  | succ n ih =>
    show (if _ then _ else _) = (if _ then _ else _)
    rw [ih]

theorem out_indep (H H' : Fin 6 → Hd F) (b : ℕ) (h : Fin 6) : (fin2 X3 X4 X5 H b h).out = (fin2 X3 X4 X5 H' b h).out := by
  unfold fin2 fin1
  rcases b with _ | b
  · unfold Hd.out Hd.diag2 Hd.diag1
    simp only [ld_put]
    rfl
  · rw [show 2 * (b + 1) = (2 * b + 1) + 1 by omega, run_indep H H']

/-- Some head state. -/
def hd0 : Hd F := ⟨constant S1x256x512 .f32 0x00000000#32, constant S1x256x512 .f32 0x00000000#32, constant S1x1x512 .f32 0x00000000#32, constant S1x1x512 .f32 0x00000000#32,
  constant S1x1x512 .f32 0x00000000#32, constant S1x80x512 .f32 0x00000000#32, constant S1x128x512 .bf16 0x0000#16⟩

/-- The output block of query block `b`. -/
def outBlk (b : ℕ) (X3 : Vec F S1x6x512x128 .bf16) (X4 : Vec F S1x6x4096x128 .bf16) (X5 : Vec F S1x16x480x256 .bf16) : Vec F S1x384x512 .bf16 :=
  outOf (fin2 X3 X4 X5 (fun _ => hd0) b)

theorem outOf_fin (H : Fin 6 → Hd F) (b : ℕ) : outOf (fin2 X3 X4 X5 H b) = outBlk b X3 X4 X5 := by
  unfold outBlk outOf
  funext y
  rw [out_indep H (fun _ => hd0)]

/-- The six heads' ends. -/
theorem six_norm {Q : α → sProp 𝕄} (H : Fin 6 → Hd F) (hx0 : (M.a6.access (Rout (h := 0) (by omega))).Stores Finset.univ) (hx1 : (M.a6.access (Rout (h := 1) (by omega))).Stores Finset.univ) (hx2 : (M.a6.access (Rout (h := 2) (by omega))).Stores Finset.univ) (hx3 : (M.a6.access (Rout (h := 3) (by omega))).Stores Finset.univ) (hx4 : (M.a6.access (Rout (h := 4) (by omega))).Stores Finset.univ) (hx5 : (M.a6.access (Rout (h := 5) (by omega))).Stores Finset.univ) :
    Inv c M X3 X4 X5 X6 H ⊢ iprop((Inv c M X3 X4 X5 (outOf H) H -∗ Wp c k Q) -∗ Wp c (normK M (h := 0) (by omega) hx0 <| normK M (h := 1) (by omega) hx1 <| normK M (h := 2) (by omega) hx2 <| normK M (h := 3) (by omega) hx3 <| normK M (h := 4) (by omega) hx4 <| normK M (h := 5) (by omega) hx5 k) Q) := by
  rw [← put_all X6 H]
  iintro HI Hk
  iapply (wp_norm c M (H := H) (h := 0) _ hx0) $$ [HI]
  · iexact HI
  iintro HI
  iapply (wp_norm c M (H := H) (h := 1) _ hx1) $$ [HI]
  · iexact HI
  iintro HI
  iapply (wp_norm c M (H := H) (h := 2) _ hx2) $$ [HI]
  · iexact HI
  iintro HI
  iapply (wp_norm c M (H := H) (h := 3) _ hx3) $$ [HI]
  · iexact HI
  iintro HI
  iapply (wp_norm c M (H := H) (h := 4) _ hx4) $$ [HI]
  · iexact HI
  iintro HI
  iapply (wp_norm c M (H := H) (h := 5) _ hx5) $$ [HI]
  · iexact HI
  iintro HI
  iapply Hk
  iexact HI

/-- The kernel body at a grid point: from the input blocks, any output block and any scratch, to the output block of `outBlk`. -/
theorem kernel_triple (i : grid0.Coords) (arg3 : Memref sig .tc .vmem S1x6x512x128 .bf16) (harg3 : arg3.IsWhole) (arg4 : Memref sig .tc .vmem S1x6x4096x128 .bf16) (harg4 : arg4.IsWhole) (arg5 : Memref sig .tc .vmem S1x16x480x256 .bf16) (harg5 : arg5.IsWhole) (arg6 : Memref sig .tc .vmem S1x384x512 .bf16) (harg6 : arg6.IsWhole) (arg7 : Memref sig .tc .vmem S6x256x512 .f32) (harg7 : arg7.IsWhole) (arg8 : Memref sig .tc .vmem S6x256x512 .f32) (harg8 : arg8.IsWhole) (arg9 : Memref sig .tc .vmem S6x1x512 .f32) (harg9 : arg9.IsWhole) (arg10 : Memref sig .tc .vmem S6x1x512 .f32) (harg10 : arg10.IsWhole) (arg11 : Memref sig .tc .vmem S6x1x512 .f32) (harg11 : arg11.IsWhole) (arg12 : Memref sig .tc .vmem S6x80x512 .f32) (harg12 : arg12.IsWhole) (arg13 : Memref sig .tc .vmem S6x128x512 .bf16) (harg13 : arg13.IsWhole) (H : Fin 6 → Hd F) :
    Inv c ⟨arg3, arg4, arg5, arg6, arg7, arg8, arg9, arg10, arg11, arg12, arg13⟩ X3 X4 X5 X6 H
      ⊢ Wp c (cc0_fox_attention (F := F) i arg3 harg3 arg4 harg4 arg5 harg5 arg6 harg6 arg7 harg7 arg8 harg8 arg9 harg9 arg10 harg10 arg11 harg11 arg12 harg12 arg13 harg13)
          (fun _ => iprop(∃ H', Inv c ⟨arg3, arg4, arg5, arg6, arg7, arg8, arg9, arg10, arg11, arg12, arg13⟩ X3 X4 X5 (outBlk (i 2).val X3 X4 X5) H')) := by
  rw [kernel_eq]
  iintro HI
  iapply (six_init c ⟨arg3, arg4, arg5, arg6, arg7, arg8, arg9, arg10, arg11, arg12, arg13⟩ (H := H) (K := runs X3 X4 X5 H 0) _ _ _ _ _ _ (fun h hh => rfl)) $$ [HI]
  · iexact HI
  iintro HI
  iapply (wp_mid c ⟨arg3, arg4, arg5, arg6, arg7, arg8, arg9, arg10, arg11, arg12, arg13⟩ H i _ _) $$ [HI]
  · iexact HI
  iintro HI
  iapply (six_diag1 c ⟨arg3, arg4, arg5, arg6, arg7, arg8, arg9, arg10, arg11, arg12, arg13⟩ (H := runs X3 X4 X5 H (2 * (i 2).val)) (K := fin1 X3 X4 X5 H (i 2).val) i _ (fun h hh => by
    rw [kTile_eq X4 hh (off17_eq i), vTile_eq X5 hh (off18_eq i)]; rfl)) $$ [HI]
  · iexact HI
  iintro HI
  iapply (six_diag2 c ⟨arg3, arg4, arg5, arg6, arg7, arg8, arg9, arg10, arg11, arg12, arg13⟩ (H := fin1 X3 X4 X5 H (i 2).val) (K := fin2 X3 X4 X5 H (i 2).val) i _ (fun h hh => by
    rw [vTile_eq X5 hh (off19_eq i)]; rfl)) $$ [HI]
  · iexact HI
  iintro HI
  iapply (six_norm c ⟨arg3, arg4, arg5, arg6, arg7, arg8, arg9, arg10, arg11, arg12, arg13⟩ (fin2 X3 X4 X5 H (i 2).val) _ _ _ _ _ _) $$ [HI]
  · iexact HI
  rw [outOf_fin]
  iintro HI
  iapply (le_wp_ret (Fr := frame) (wpE := wpE (defs₀ (F := F)) Variants.none (c : Thread nD τ) none) (E := Set.univ) _ _)
  iexists _
  iexact HI

end Cert.KernelIdeal.Fox
-- ==== Proof.Head.lean ====
module

public import proofs.«01_k».proof.Proof.Pay
public import proofs.«01_k».proof.Proof.Math
public import proofs.«01_k».proof.Proof.Body

@[expose] public section

set_option maxRecDepth 65536

noncomputable section

namespace Cert.KernelIdeal.Fox

open Idealize.ShloMosaic
open Cert.KernelIdeal Cert.KernelIdeal.Gen
open Cert.Fox

variable (X3 : Vec Ideal S1x6x512x128 .bf16) (X4 : Vec Ideal S1x6x4096x128 .bf16) (X5 : Vec Ideal S1x16x480x256 .bf16) (H : Fin 6 → Hd Ideal) (h : Fin 6)

/-- The score of key `k` of tile `n` against query `j` of the block. -/
def sc (n : ℕ) (k : Fin 256) (j : Fin 512) : EReal := ∑ l : Fin 128, kT X4 h n (ix2 k l) * qT X3 h (ix4 0 0 j l)

/-- The weighted sum of a whole tile. -/
def tsum (n : ℕ) (d : Fin 80) (j : Fin 512) : EReal := ∑ k : Fin 256, vT X5 h n (ix3 0 d k) * (wt (sc X3 X4 h n k j) : EReal)

/-- What a head holds after `n` tiles. -/
structure After (n : ℕ) (s : Vec Ideal S1x256x512 .f32) (b m : Vec Ideal S1x1x512 .f32) (acc : Vec Ideal S1x80x512 .f32) (qt : Vec Ideal S1x128x512 .bf16) : Prop where
  q : ∀ l j, qt (ix3 0 l j) = qT X3 h (ix4 0 0 j l)
  s : ∀ k j, s (ix3 0 k j) = sc X3 X4 h n k j
  b : ∀ j, b (ix3 0 0 j) = Finset.univ.sup fun k => sc X3 X4 h n k j
  run : ∀ d j, Run (m (ix3 0 0 j)) (acc (ix3 0 d j)) (∑ i ∈ Finset.range n, tsum X3 X4 X5 h i d j)

variable (hreal : ∀ n < 16, ∀ k j, ∃ r : ℝ, sc X3 X4 h n k j = r)

include hreal in
/-- One step, whichever slot holds the scores. -/
theorem After.step {n : ℕ} (hn : n < 16) {s b m acc qt} (A : After X3 X4 X5 h n s b m acc qt) :
    After X3 X4 X5 h (n + 1) (k0_pay4 (kT X4 h (n + 1)) qt) (k0_pay5 (kT X4 h (n + 1)) qt) (k0_pay10 (k0_pay7 m b))
      (k0_pay11 (k0_pay6 m) (k0_pay7 m b) (k0_pay8 s) (k0_pay9 m b) acc (vT X5 h n)) qt where
  q := A.q
  s k j := by
    rw [pay4_at]
    exact Finset.sum_congr rfl fun l _ => by rw [A.q]
  b j := by
    rw [pay5_at]
    refine congrArg _ (funext fun k => Finset.sum_congr rfl fun l _ => by rw [A.q])
  run d j := by
    rw [pay10_at, pay11_at, A.b, Finset.sum_range_succ]
    simp only [A.s]
    refine (A.run d j).step _ _ (fun k => ?_) 0 ?_
    · obtain ⟨r, hr⟩ := hreal n hn k j
      rw [hr]
      exact EReal.coe_ne_top r
    · obtain ⟨r, hr⟩ := hreal n hn 0 j
      rw [hr]
      exact EReal.coe_ne_bot r

theorem run_even {n : ℕ} (e : n % 2 = 0) : run X3 X4 X5 H h (n + 1) = (run X3 X4 X5 H h n).stepA (kT X4 h (n + 1)) (vT X5 h n) := by
  show (if n % 2 = 0 then _ else _) = _
  exact if_pos e

theorem run_odd {n : ℕ} (e : ¬n % 2 = 0) : run X3 X4 X5 H h (n + 1) = (run X3 X4 X5 H h n).stepB (kT X4 h (n + 1)) (vT X5 h n) := by
  show (if n % 2 = 0 then _ else _) = _
  exact if_neg e

/-- The state with the scores of the next tile in the first slot, or in the second. -/
def AfterA (n : ℕ) (S : Hd Ideal) : Prop := After X3 X4 X5 h n S.s0 S.b0 S.m S.acc S.qt
def AfterB (n : ℕ) (S : Hd Ideal) : Prop := After X3 X4 X5 h n S.s1 S.b1 S.m S.acc S.qt

theorem after_zero : AfterA X3 X4 X5 h 0 (run X3 X4 X5 H h 0) where
  q l j := pay509_at _ l j
  s k j := by
    refine (pay511_at _ _ k j).trans ?_
    exact Finset.sum_congr rfl fun l _ => by rw [pay509_at]
  b j := by
    have e0 : (run X3 X4 X5 H h 0).b0 = k0_pay512 (kT X4 h 0) (k0_pay509 (qT X3 h)) := by
      unfold run Hd.init
      dsimp only
    rw [e0, pay512_at]
    exact congrArg _ (funext fun k => Finset.sum_congr rfl fun l _ => by rw [pay509_at])
  run d j := by
    have e1 : (run X3 X4 X5 H h 0).m (ix3 0 0 j) = ⊥ := pay514_at j
    have e2 : (run X3 X4 X5 H h 0).acc (ix3 0 d j) = 0 := pay515_at d j
    rw [e1, e2, Finset.range_zero, Finset.sum_empty]
    exact Run.start

include hreal in
/-- After an even number of tiles the first slot holds the scores of the next tile, after an odd number the second. -/
theorem after_run (n : ℕ) : n ≤ 16 → (n % 2 = 0 → AfterA X3 X4 X5 h n (run X3 X4 X5 H h n)) ∧ (¬n % 2 = 0 → AfterB X3 X4 X5 h n (run X3 X4 X5 H h n)) := by
  induction n with
  | zero => exact fun _ => ⟨fun _ => after_zero X3 X4 X5 H h, fun e => absurd rfl e⟩
  | succ n ih =>
    intro hn
    obtain ⟨ia, ib⟩ := ih (by omega)
    constructor
    · intro e
      have e' : ¬n % 2 = 0 := by omega
      rw [run_odd X3 X4 X5 H h e']
      unfold AfterA Hd.stepB
      dsimp only
      exact (show After _ _ _ _ _ _ _ _ _ _ from ib e').step X3 X4 X5 h hreal (by omega)
    · intro e
      have e' : n % 2 = 0 := by omega
      rw [run_even X3 X4 X5 H h e']
      unfold AfterB Hd.stepA
      dsimp only
      exact (show After _ _ _ _ _ _ _ _ _ _ from ia e').step X3 X4 X5 h hreal (by omega)

/-! ## The two diagonal tiles -/

/-- A column of the right half. -/
theorem half_emb {a : ℕ} (d : Fin a) (j : Fin 256) : (half a).emb (ix3 0 d j) = ix3 0 d ⟨256 + j.val, by omega⟩ := by
  refine funext fun i => Fin.ext ?_
  fin_cases i <;> simp

theorem put_right {a : ℕ} (X w) (d : Fin a) (j : Fin 256) :
    put (Val := Elt Ideal) (e := .f32) X (half a) w (ix3 0 d ⟨256 + j.val, by omega⟩) = w (ix3 0 d j) := by
  rw [← half_emb]
  exact put_emb X (half a) w (ix3 0 d j)

theorem put_left {a : ℕ} (X w) (d : Fin a) (j : Fin 512) (hj : j.val < 256) : put (Val := Elt Ideal) (e := .f32) X (half a) w (ix3 0 d j) = X (ix3 0 d j) := by
  refine put_off X (half a) w _ fun x hx => ?_
  have := congrArg (fun y => (y 2).val) hx
  simp at this
  omega

theorem ld_half {a : ℕ} {e : EltTy} (X : (⟨3, ![1, a, 512]⟩ : Shape).Idx → Elt Ideal e) (d : Fin a) (j : Fin 256) :
    View.ld (Val := Elt Ideal) (e' := e) X (half a) (ix3 0 d j) = X (ix3 0 d ⟨256 + j.val, by omega⟩) :=
  congrArg X (half_emb d j)

/-- The score the diagonal leaves: `o` columns of the block precede the tile. -/
def dsc (o n : ℕ) (k : Fin 256) (j : Fin 512) : EReal := if o + k.val ≤ j.val then sc X3 X4 h n k j else ⊥

/-- The weighted sum of a diagonal tile. -/
def dsum (o n : ℕ) (d : Fin 80) (j : Fin 512) : EReal := ∑ k : Fin 256, vT X5 h n (ix3 0 d k) * (wt (dsc X3 X4 h o n k j) : EReal)

variable {b : ℕ} (hb : b < 8)

include hreal in
theorem dsc_top (o : ℕ) {n : ℕ} (hn : n < 16) (k j) : dsc X3 X4 h o n k j ≠ ⊤ := by
  unfold dsc
  split
  · obtain ⟨r, hr⟩ := hreal n hn k j
    rw [hr]
    exact EReal.coe_ne_top r
  · exact bot_ne_top

include hreal in
theorem dsc_bot {o n : ℕ} (hn : n < 16) (k : Fin 256) (j : Fin 512) (hk : o + k.val ≤ j.val) : dsc X3 X4 h o n k j ≠ ⊥ := by
  unfold dsc
  rw [if_pos hk]
  obtain ⟨r, hr⟩ := hreal n hn k j
  rw [hr]
  exact EReal.coe_ne_bot r

include hreal hb in
/-- After the first diagonal tile. -/
theorem fin1_run (d : Fin 80) (j : Fin 512) :
    Run ((fin1 X3 X4 X5 H b h).m (ix3 0 0 j)) ((fin1 X3 X4 X5 H b h).acc (ix3 0 d j))
      (∑ i ∈ Finset.range (2 * b), tsum X3 X4 X5 h i d j + dsum X3 X4 X5 h 0 (2 * b) d j) := by
  have A : AfterA X3 X4 X5 h (2 * b) (run X3 X4 X5 H h (2 * b)) := (after_run X3 X4 X5 H h hreal (2 * b) (by omega)).1 (by omega)
  have e : ∀ k, masked1 (run X3 X4 X5 H h (2 * b)).s0 k j = dsc X3 X4 h 0 (2 * b) k j := by
    intro k
    unfold masked1 dsc
    rw [A.s, zero_add]
  have e1 : (fin1 X3 X4 X5 H b h).m (ix3 0 0 j) = _ := pay558_at (run X3 X4 X5 H h (2 * b)).s0 (run X3 X4 X5 H h (2 * b)).m j
  have e2 : (fin1 X3 X4 X5 H b h).acc (ix3 0 d j) = _ := pay560_at (run X3 X4 X5 H h (2 * b)).s0 (run X3 X4 X5 H h (2 * b)).m (run X3 X4 X5 H h (2 * b)).acc (vT X5 h (2 * b)) d j
  rw [e1, e2]
  simp only [e]
  exact (A.run d j).step _ _ (dsc_top X3 X4 h hreal 0 (by omega) · j) 0 (dsc_bot X3 X4 h hreal (by omega) 0 j (by simp))

include hreal hb in
/-- The scores the second diagonal tile reads. -/
theorem fin1_s1 (k : Fin 256) (j : Fin 256) : View.ld (Val := Elt Ideal) (e' := .f32) (fin1 X3 X4 X5 H b h).s1 (half 256) (ix3 0 k j) = sc X3 X4 h (2 * b + 1) k ⟨256 + j.val, by omega⟩ := by
  have A : AfterA X3 X4 X5 h (2 * b) (run X3 X4 X5 H h (2 * b)) := (after_run X3 X4 X5 H h hreal (2 * b) (by omega)).1 (by omega)
  rw [ld_half]
  refine (put_right _ _ k j).trans ?_
  rw [pay553_at]
  refine Finset.sum_congr rfl fun l _ => ?_
  rw [ld_half]
  exact congrArg _ (A.q l _)

/-- The whole sum. -/
def wsum (b : ℕ) (d : Fin 80) (j : Fin 512) : EReal :=
  ∑ i ∈ Finset.range (2 * b), tsum X3 X4 X5 h i d j + dsum X3 X4 X5 h 0 (2 * b) d j + dsum X3 X4 X5 h 256 (2 * b + 1) d j

include hreal hb in
/-- At the end every column's accumulator is scaled by one maximum. -/
theorem fin2_run (j : Fin 512) : ∃ M, ∀ d : Fin 80, Run M ((fin2 X3 X4 X5 H b h).acc (ix3 0 d j)) (wsum X3 X4 X5 h b d j) := by
  by_cases hj : j.val < 256
  · refine ⟨(fin1 X3 X4 X5 H b h).m (ix3 0 0 j), fun d => ?_⟩
    have e1 : (fin2 X3 X4 X5 H b h).acc (ix3 0 d j) = (fin1 X3 X4 X5 H b h).acc (ix3 0 d j) := put_left _ _ d j hj
    have e2 : dsum X3 X4 X5 h 256 (2 * b + 1) d j = 0 := by
      refine Finset.sum_eq_zero fun k _ => ?_
      unfold dsc
      rw [if_neg (by omega), wt_bot, EReal.coe_zero, mul_zero]
    unfold wsum
    rw [e1, e2, add_zero]
    exact fin1_run X3 X4 X5 H h hreal hb d j
  · have hi : ∃ i : Fin 256, ∃ hi : 256 + i.val < 512, j = ⟨256 + i.val, hi⟩ := ⟨⟨j.val - 256, by omega⟩, by simp; omega, Fin.ext (by simp; omega)⟩
    clear hj
    obtain ⟨i, hi, rfl⟩ := hi
    refine ⟨max ((fin1 X3 X4 X5 H b h).m (ix3 0 0 ⟨256 + i.val, hi⟩)) (Finset.univ.sup fun k => dsc X3 X4 h 256 (2 * b + 1) k ⟨256 + i.val, hi⟩), fun d => ?_⟩
    have e : ∀ k, masked2 (View.ld (Val := Elt Ideal) (e' := .f32) (fin1 X3 X4 X5 H b h).s1 (half 256)) k i = dsc X3 X4 h 256 (2 * b + 1) k ⟨256 + i.val, hi⟩ := by
      intro k
      unfold masked2 dsc
      rw [fin1_s1 X3 X4 X5 H h hreal hb]
      simp only [Nat.add_le_add_iff_left]
    have e1 : (fin2 X3 X4 X5 H b h).acc (ix3 0 d ⟨256 + i.val, hi⟩) = _ := (put_right _ _ d i).trans (pay628_at _ _ _ _ d i)
    rw [e1, ld_half, ld_half]
    simp only [e]
    exact (fin1_run X3 X4 X5 H h hreal hb d _).step _ _ (dsc_top X3 X4 h hreal 256 (by omega) · _) 0 (dsc_bot X3 X4 h hreal (by omega) 0 _ (by simp))

/-! ## The whole row -/

/-- The weight of key `i` against column `j` of query block `b`: none above the diagonal. -/
def wrow (σ : ℕ → Fin 512 → ℝ) (b : ℕ) (j : Fin 512) (i : ℕ) : ℝ := if i ≤ 512 * b + j.val then (2 : ℝ) ^ (σ i j) else 0

section Row
variable (σ : ℕ → Fin 512 → ℝ) (V : ℕ → Fin 80 → EReal)
  (hs : ∀ n < 16, ∀ k j, sc X3 X4 h n k j = (σ (256 * n + k.val) j : EReal))
  (hv : ∀ n < 16, ∀ d k, vT X5 h n (ix3 0 d k) = V (256 * n + k.val) d)

/-- A tile's part of the row. -/
def part' (b : ℕ) (d : Fin 80) (j : Fin 512) (n : ℕ) : EReal := ∑ k ∈ Finset.range 256, V (256 * n + k) d * (wrow σ b j (256 * n + k) : EReal)

include hs hv hb in
theorem tsum_eq {n : ℕ} (hn : n < 2 * b) (d j) : tsum X3 X4 X5 h n d j = part' σ V b d j n := by
  unfold tsum part'
  rw [← Fin.sum_univ_eq_sum_range (fun k => V (256 * n + k) d * (wrow σ b j (256 * n + k) : EReal)) 256]
  refine Finset.sum_congr rfl fun k _ => ?_
  rw [hs n (by omega), hv n (by omega), wt_coe]
  unfold wrow
  rw [if_pos (by omega)]

include hs hv hb in
theorem dsum_eq {n o : ℕ} (hn : n < 16) (ho : 512 * b + o = 256 * n) (d j) : dsum X3 X4 X5 h o n d j = part' σ V b d j n := by
  unfold dsum part'
  rw [← Fin.sum_univ_eq_sum_range (fun k => V (256 * n + k) d * (wrow σ b j (256 * n + k) : EReal)) 256]
  refine Finset.sum_congr rfl fun k _ => ?_
  unfold wrow dsc
  rw [hs n hn, hv n hn]
  by_cases e : o + k.val ≤ j.val
  · rw [if_pos e, if_pos (by omega), wt_coe]
  · rw [if_neg e, if_neg (by omega), wt_bot]

theorem part'_zero {n : ℕ} (hn : 2 * b + 2 ≤ n) (d j) : part' σ V b d j n = 0 := by
  refine Finset.sum_eq_zero fun k _ => ?_
  unfold wrow
  rw [if_neg (by omega), EReal.coe_zero, mul_zero]

theorem range_tiles {M : Type*} [AddCommMonoid M] (g : ℕ → M) (n : ℕ) : ∑ i ∈ Finset.range (256 * n), g i = ∑ a ∈ Finset.range n, ∑ k ∈ Finset.range 256, g (256 * a + k) := by
  induction n with
  | zero => rfl
  | succ n ih => rw [Nat.mul_succ, Finset.sum_range_add, Finset.sum_range_succ (fun a => ∑ k ∈ Finset.range 256, g (256 * a + k)) n, ih]

include hs hv hb in
theorem wsum_eq (d j) : wsum X3 X4 X5 h b d j = ∑ i ∈ Finset.range 4096, V i d * (wrow σ b j i : EReal) := by
  have e : ∑ i ∈ Finset.range 4096, V i d * (wrow σ b j i : EReal) = ∑ a ∈ Finset.range 16, part' σ V b d j a := range_tiles _ 16
  have e2 : ∑ a ∈ Finset.range 16, part' σ V b d j a = ∑ a ∈ Finset.range (2 * b + 2), part' σ V b d j a := by
    refine (Finset.sum_subset (Finset.range_subset_range.mpr (by omega)) fun x _ hx => ?_).symm
    exact part'_zero σ V (by simpa using hx) d j
  rw [e, e2, Finset.sum_range_succ, Finset.sum_range_succ]
  unfold wsum
  rw [dsum_eq X3 X4 X5 h hb σ V hs hv (n := 2 * b) (by omega) (by omega), dsum_eq X3 X4 X5 h hb σ V hs hv (n := 2 * b + 1) (by omega) (by omega)]
  rw [Finset.sum_congr rfl fun i hi => tsum_eq X3 X4 X5 h hb σ V hs hv (Finset.mem_range.mp hi) d j]

theorem wrow_nonneg (j i) : 0 ≤ wrow σ b j i := by
  unfold wrow
  split
  · positivity
  · exact le_refl 0

theorem wrow_pos (j) : 0 < ∑ i ∈ Finset.range 4096, wrow σ b j i := by
  refine Finset.sum_pos' (fun i _ => wrow_nonneg σ j i) ⟨0, by simp, ?_⟩
  unfold wrow
  rw [if_pos (Nat.zero_le _)]
  positivity

include hs hv hb in
/-- What a head gives: the values averaged by the weights. -/
theorem head_out (one : ∀ i < 4096, V i 64 = 1) (d : Fin 64) (j : Fin 512) :
    (fin2 X3 X4 X5 H b h).out (ix3 0 d j)
      = (∑ i ∈ Finset.range 4096, V i ⟨d.val, by omega⟩ * (wrow σ b j i : EReal)) * (((∑ i ∈ Finset.range 4096, wrow σ b j i)⁻¹ : ℝ) : EReal) := by
  obtain ⟨M, hM⟩ := fin2_run X3 X4 X5 H h (fun n hn k j => ⟨_, hs n hn k j⟩) hb j
  have h1 := hM ⟨d.val, by omega⟩
  have h2 := hM 64
  rw [wsum_eq X3 X4 X5 h hb σ V hs hv] at h1 h2
  have e : ∑ i ∈ Finset.range 4096, V i 64 * (wrow σ b j i : EReal) = ((∑ i ∈ Finset.range 4096, wrow σ b j i : ℝ) : EReal) := by
    rw [coe_sum]
    exact Finset.sum_congr rfl fun i hi => by rw [one i (Finset.mem_range.mp hi), one_mul]
  rw [e] at h2
  rw [out_at]
  exact h1.div h2 (wrow_pos σ j)

end Row

end Cert.KernelIdeal.Fox
-- ==== Proof.Tiles.lean ====
module

public import proofs.«01_k».proof.Proof.Head

@[expose] public section

set_option maxRecDepth 65536

noncomputable section

namespace Cert.KernelIdeal.Fox

open Idealize.ShloMosaic Idealize.ShloMosaic.TcCoe Idealize.ShloMosaic.Tactic
open Cert.KernelIdeal Cert.KernelIdeal.Gen
open Cert.Fox

/-! ## The tiles at an index -/

theorem qT_at (X3 : Vec Ideal S1x6x512x128 .bf16) (h : Fin 6) (j : Fin 512) (l : Fin 128) : qT X3 h (ix4 0 0 j l) = X3 (ix4 0 h j l) := by
  refine congrArg X3 (funext fun i => Fin.ext ?_)
  fin_cases i <;> simp [ix4]

theorem cast_k (h : S4096x128.numel = S1x1x4096x128.numel) (a : Fin 4096) (l : Fin 128) :
    Shape.reshapeEquiv (s := S1x1x4096x128) (s' := S4096x128) h (ix2 a l) = ix4 0 0 a l := by
  pointwise

theorem cast_v (h : S16x80x256.numel = S1x16x80x256.numel) (n : Fin 16) (d : Fin 80) (k : Fin 256) :
    Shape.reshapeEquiv (s := S1x16x80x256) (s' := S16x80x256) h (ix3 n d k) = ix4 0 n d k := by
  pointwise

theorem kT_at (X4 : Vec Ideal S1x6x4096x128 .bf16) (h : Fin 6) {n : ℕ} (hn : n < 16) (k : Fin 256) (l : Fin 128) :
    kT X4 h n (ix2 k l) = X4 (ix4 0 h ⟨256 * n + k.val, by omega⟩ l) := by
  have e1 : (Rect.unit (s := S4096x128) ![256 * (n % 16), 0] S256x128.size (kt_inb n)).emb (ix2 k l) = ix2 ⟨256 * n + k.val, by omega⟩ l := by
    refine funext fun i => Fin.ext ?_
    fin_cases i <;> simp [ix2] <;> omega
  have e2 : (Rect.unit (s := S1x6x4096x128) ![0, h.val, 0, 0] S1x1x4096x128.size (k_inb h.2)).emb (ix4 0 0 ⟨256 * n + k.val, by omega⟩ l) = ix4 0 h ⟨256 * n + k.val, by omega⟩ l := by
    refine funext fun i => Fin.ext ?_
    fin_cases i <;> simp [ix4]
  refine (congrArg (part X4 (Rect.unit (s := S1x6x4096x128) ![0, h.val, 0, 0] S1x1x4096x128.size (k_inb h.2)) (squeezes_S1x1x4096x128_S4096x128 : Shape.Squeezes _ _).numel_eq) e1).trans ?_
  refine (congrArg (fun y => X4 ((Rect.unit (s := S1x6x4096x128) ![0, h.val, 0, 0] S1x1x4096x128.size (k_inb h.2)).emb y)) (cast_k _ _ l)).trans ?_
  exact congrArg X4 e2

theorem vT_at (X5 : Vec Ideal S1x16x480x256 .bf16) (h : Fin 6) {n : ℕ} (hn : n < 16) (d : Fin 80) (k : Fin 256) :
    vT X5 h n (ix3 0 d k) = X5 (ix4 0 ⟨n, hn⟩ ⟨80 * h.val + d.val, by omega⟩ k) := by
  have e1 : (Rect.unit (s := S16x80x256) ![n % 16, 0, 0] S1x80x256.size (vt_inb n)).emb (ix3 0 d k) = ix3 ⟨n, hn⟩ d k := by
    refine funext fun i => Fin.ext ?_
    fin_cases i <;> simp [ix3] <;> omega
  have e2 : (Rect.unit (s := S1x16x480x256) ![0, 0, 80 * h.val, 0] S1x16x80x256.size (v_inb h.2)).emb (ix4 0 ⟨n, hn⟩ d k) = ix4 0 ⟨n, hn⟩ ⟨80 * h.val + d.val, by omega⟩ k := by
    refine funext fun i => Fin.ext ?_
    fin_cases i <;> simp [ix4]
  refine (congrArg (part X5 (Rect.unit (s := S1x16x480x256) ![0, 0, 80 * h.val, 0] S1x16x80x256.size (v_inb h.2)) (squeezes_S1x16x80x256_S16x80x256 : Shape.Squeezes _ _).numel_eq) e1).trans ?_
  refine (congrArg (fun y => X5 ((Rect.unit (s := S1x16x480x256) ![0, 0, 80 * h.val, 0] S1x16x80x256.size (v_inb h.2)).emb y)) (cast_v _ _ d k)).trans ?_
  exact congrArg X5 e2

end Cert.KernelIdeal.Fox
-- ==== Proof.Run.lean ====
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffix

@[expose] public section

set_option maxRecDepth 65536

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the pipeline is told of the body -/

/-- The arrays as the host lines leave them; after a point each input buffer holds its block and the output buffer the
    block of `outBlk`; scratch holds anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t 2).val (iblk m c 0 t) (iblk m c 1 t) (iblk m c 2 t)
  Φ _ := Pipeline.ΦA spec0 c
  q _ := fullShare
  owed _ := 0

/-- The arrays the pipeline starts from. -/
theorem A_eq (c : Dev nD) (w : Fin cfg0.W) : (dats m 0 c).A w = V m c (Pipeline.arrRef spec0 w) := by
  dsimp only [dats]

/-- The buffers after a point, one by one. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlk (grid0.coords t 2).val (iblk m c 0 t) (iblk m c 1 t) (iblk m c 2 t) := by dsimp only [dats]

/-- The input buffers before a point hold their blocks. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

/-- The memrefs the body is called with at a point. -/
abbrev Mt (t : Fin cfg0.N) : Ms :=
  ⟨win0_0.stage (cfg0.slots t 0), win0_1.stage (cfg0.slots t 1), win0_2.stage (cfg0.slots t 2), win0_3.stage (cfg0.slots t 3),
    Memref.whole cc0_scratch0, Memref.whole cc0_scratch1, Memref.whole cc0_scratch2, Memref.whole cc0_scratch3, Memref.whole cc0_scratch4,
    Memref.whole cc0_scratch5, Memref.whole cc0_scratch6⟩

/-- The body's triple, started from scratch that holds anything. -/
theorem sound_kernel (c : Dev nD) (t : Fin cfg0.N) (X3 : Vec F S1x6x512x128 .bf16) (X4 : Vec F S1x6x4096x128 .bf16) (X5 : Vec F S1x16x480x256 .bf16)
    (X6 : Vec F S1x384x512 .bf16) {P Q : sProp 𝕄}
    (hQ : iprop(P ∗ (Pipeline.scopedRest spec0 c : sProp 𝕄) ∗ owns (c : Thread nD τ) (st0_0 t) fullShare X3 ∗ owns (c : Thread nD τ) (st0_1 t) fullShare X4
        ∗ owns (c : Thread nD τ) (st0_2 t) fullShare X5 ∗ owns (c : Thread nD τ) (st0_3 t) fullShare (outBlk (grid0.coords t 2).val X3 X4 X5)) ⊢ Q) :
    iprop(P ∗ (Pipeline.scopedRest spec0 c : sProp 𝕄) ∗ owns (c : Thread nD τ) (st0_0 t) fullShare X3 ∗ owns (c : Thread nD τ) (st0_1 t) fullShare X4
        ∗ owns (c : Thread nD τ) (st0_2 t) fullShare X5 ∗ owns (c : Thread nD τ) (st0_3 t) fullShare X6)
      ⊢ Wp c (bodyAt0 (F := F) t) (fun _ => Q) := by
  have key := fun H => kernel_triple c (F := F) (X3 := X3) (X4 := X4) (X5 := X5) (X6 := X6) (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) H
  rw [scopedRest0_eq] at hQ ⊢
  unfold bodyAt0
  iintro ⟨HP, ⟨⟨%X7, H7⟩, ⟨%X8, H8⟩, ⟨%X9, H9⟩, ⟨%X10, H10⟩, ⟨%X11, H11⟩, ⟨%X12, H12⟩, ⟨%X13, H13⟩⟩, H3, H4, H5, H6⟩
  iapply (wp_wand _ _ _) $$ [H3 H4 H5 H6 H7 H8 H9 H10 H11 H12 H13]
  · iapply (key (hd X7 X8 X9 X10 X11 X12 X13))
    unfold Inv
    simp only [owns_whole]
    iframe
    iexists _, _, _, _, _, _, _
    iframe
    ipureintro
    rfl
  iintro %_ ⟨%H', HI⟩
  unfold Inv
  simp only [owns_whole]
  icases HI with ⟨H3, H4, H5, H6, %Y7, %Y8, %Y9, %Y10, %Y11, %Y12, %Y13, %e, H7, H8, H9, H10, H11, H12, H13⟩
  iapply hQ
  iframe
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iexists _; iexact H13

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a point, as the pipeline asks for it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after_0, after_1, after_2, after_3]
  unfold Pipeline.ΦA
  iintro ⟨⟨HS, HR⟩, Ho, ⟨%d0, H0⟩, ⟨%d1, H1⟩, ⟨%d2, H2⟩, ⟨%d3, H3⟩⟩
  iapply (sound_kernel c t (iblk m c 0 t) (iblk m c 1 t) (iblk m c 2 t) _
    (P := iprop((∃ r, prngReg c r) ∗ (dats m 0 c).owesAt () t.castSucc)) ?_) $$ [HS HR Ho H0 H1 H2 H3]
  · iintro ⟨⟨HR, Ho⟩, HS, H0, H1, H2, H3⟩
    iframe
  · iframe

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 1600000 in
/-- Every run of the program ends with the arrays as the pipeline's data and the later host lines say, and every
    counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they were, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩, h.2⟩) (run_main m ρ)

end Cert.KernelIdeal.Fox
-- ==== Proof.Host.lean ====
module

public import proofs.«01_k».proof.Proof.Math
public import proofs.«01_k».proof.Proof.Run
public import Idealize.ShloMosaic.Lib.Pointwise

@[expose] public section

set_option maxRecDepth 65536

noncomputable section

namespace Cert.KernelIdeal.Fox

open Idealize.ShloMosaic Idealize.ShloMosaic.TcCoe Idealize.ShloMosaic.Tactic
open Cert.KernelIdeal Cert.KernelIdeal.Gen
open Cert.Fox

/-! ## The arrays the host lines make -/

/-- The factor that turns natural exponents into exponents of two. -/
def l2e : FVec Ideal S_ .f32 := Host.divf (constant S_ .f32 0x3F800000#32) (Host.log (constant S_ .f32 0x40000000#32))

/-- The log-gates in base two, and the three parts they are split into. -/
def gate (g : FVec Ideal S8x4096x6 .f32) : FVec Ideal S8x4096x6 .f32 := mulf g (broadcastInDim S8x4096x6 ![] bcast_S_S8x4096x6 (id l2e))
def hi (g : FVec Ideal S8x4096x6 .f32) : FVec Ideal S8x4096x6 .bf16 := truncf .bf16 (gate g) bitsLt_bf16_f32
def rest (g : FVec Ideal S8x4096x6 .f32) : FVec Ideal S8x4096x6 .f32 := subf (gate g) (extf .f32 (hi g) bitsLt_bf16_f32)
def mid3 (g : FVec Ideal S8x4096x6 .f32) : FVec Ideal S8x4096x6 .bf16 := truncf .bf16 (rest g) bitsLt_bf16_f32
def lo (g : FVec Ideal S8x4096x6 .f32) : FVec Ideal S8x4096x6 .bf16 := truncf .bf16 (subf (rest g) (extf .f32 (mid3 g) bitsLt_bf16_f32)) bitsLt_bf16_f32
def parts (g : FVec Ideal S8x4096x6 .f32) : FVec Ideal S8x4096x6x3 .f32 :=
  extf .f32 (concatenate S8x4096x6x3 3 [⟨S8x4096x6x1, broadcastInDim S8x4096x6x1 ![0, 1, 2] bcast_S8x4096x6_S8x4096x6x1_0_1_2 (hi g)⟩,
    ⟨S8x4096x6x1, broadcastInDim S8x4096x6x1 ![0, 1, 2] bcast_S8x4096x6_S8x4096x6x1_0_1_2 (mid3 g)⟩,
    ⟨S8x4096x6x1, broadcastInDim S8x4096x6x1 ![0, 1, 2] bcast_S8x4096x6_S8x4096x6x1_0_1_2 (lo g)⟩] concatenates_S8x4096x6x1_S8x4096x6x1_S8x4096x6x1_S8x4096x6x3_d3 : FVec Ideal S8x4096x6x3 .bf16) bitsLt_bf16_f32
def ones : FVec Ideal S8x4096x6x3 .f32 := broadcastInDim S8x4096x6x3 ![] bcast_S_S8x4096x6x3 (constant S_ .f32 0x3F800000#32)
def zeros : FVec Ideal S8x4096x6x58 .f32 := broadcastInDim S8x4096x6x58 ![] bcast_S_S8x4096x6x58 (constant S_ .f32 0x00000000#32)

/-- The queries and the keys with the gates in lanes of their own. -/
def qw (q : FVec Ideal S8x4096x6x64 .f32) (g : FVec Ideal S8x4096x6 .f32) : FVec Ideal S8x6x4096x128 .bf16 :=
  truncf .bf16 (transpose S8x6x4096x128 [0, 2, 1, 3] (concatenate S8x4096x6x128 3
    [⟨S8x4096x6x64, mulf q (broadcastInDim S8x4096x6x64 ![] bcast_S_S8x4096x6x64 (id (mulf (constant S_ .f32 0x3E000000#32) l2e)))⟩, ⟨S8x4096x6x3, ones⟩, ⟨S8x4096x6x3, parts g⟩, ⟨S8x4096x6x58, zeros⟩]
    concatenates_S8x4096x6x64_S8x4096x6x3_S8x4096x6x3_S8x4096x6x58_S8x4096x6x128_d3 : FVec Ideal S8x4096x6x128 .f32) transposes_S8x4096x6x128_S8x6x4096x128_0_2_1_3) bitsLt_bf16_f32
def kw (k : FVec Ideal S8x4096x6x64 .f32) (g : FVec Ideal S8x4096x6 .f32) : FVec Ideal S8x6x4096x128 .bf16 :=
  truncf .bf16 (transpose S8x6x4096x128 [0, 2, 1, 3] (concatenate S8x4096x6x128 3
    [⟨S8x4096x6x64, k⟩, ⟨S8x4096x6x3, Host.negf (parts g)⟩, ⟨S8x4096x6x3, ones⟩, ⟨S8x4096x6x58, zeros⟩]
    concatenates_S8x4096x6x64_S8x4096x6x3_S8x4096x6x3_S8x4096x6x58_S8x4096x6x128_d3 : FVec Ideal S8x4096x6x128 .f32) transposes_S8x4096x6x128_S8x6x4096x128_0_2_1_3) bitsLt_bf16_f32

/-- The values tile by tile, with rows of ones below. -/
def vw (v : FVec Ideal S8x4096x6x64 .f32) : FVec Ideal S8x16x480x256 .bf16 :=
  shapeCast S8x16x480x256 (concatenate S8x16x6x80x256 3 [⟨S8x16x6x64x256, (truncf .bf16 (transpose S8x16x6x64x256 [0, 1, 3, 4, 2] (shapeCast S8x16x256x6x64 v shapeCasts_S8x4096x6x64_S8x16x256x6x64) transposes_S8x16x256x6x64_S8x16x6x64x256_0_1_3_4_2) bitsLt_bf16_f32 : FVec Ideal S8x16x6x64x256 .bf16)⟩,
    ⟨S8x16x6x16x256, broadcastInDim S8x16x6x16x256 ![] bcast_S_S8x16x6x16x256 (constant S_ .bf16 0x3F80#16)⟩] concatenates_S8x16x6x64x256_S8x16x6x16x256_S8x16x6x80x256_d3 : FVec Ideal S8x16x6x80x256 .bf16) shapeCasts_S8x16x6x80x256_S8x16x480x256

variable (m : (ℓ : Loc nD τ sig) → Buf (Elt Ideal) ℓ) (c : Dev nD)

set_option maxHeartbeats 2000000

theorem V_v27 : V m c main_v27 = qw (m ((c.tc : Thread nD τ).loc main_arg0)) (m ((c.tc : Thread nD τ).loc main_arg3)) := by
  show StableHlo.after hostOps0 _ (Proc.devRef .tc main_v27) = _
  after_results <;> rfl

theorem V_v29 : V m c main_v29 = kw (m ((c.tc : Thread nD τ).loc main_arg1)) (m ((c.tc : Thread nD τ).loc main_arg3)) := by
  show StableHlo.after hostOps0 _ (Proc.devRef .tc main_v29) = _
  after_results <;> rfl

theorem V_v35 : V m c main_v35 = vw (m ((c.tc : Thread nD τ).loc main_arg2)) := by
  show StableHlo.after hostOps0 _ (Proc.devRef .tc main_v35) = _
  after_results <;> rfl

theorem vw_at (v : FVec Ideal S8x4096x6x64 .f32) (b : Fin 8) (n : Fin 16) (h : Fin 6) (d : Fin 80) (k : Fin 256) :
    vw v (ix4 b n ⟨80 * h.val + d.val, by omega⟩ k) = if hd : d.val < 64 then v (ix4 b ⟨256 * n.val + k.val, by omega⟩ h ⟨d.val, hd⟩) else 1 := by
  pointwise [vw]
  split
  · exact congrArg (fun x => v (ix4 b x h _)) (Fin.ext (by simp; omega))
  · rfl

/-! ## The scores -/

/-- The factor as a number. -/
def e2 : ℝ := (Real.log 2)⁻¹

theorem two_f32 : Ideal.ofBits .f32 0x40000000#32 = ((2 : ℝ) : EReal) := by
  simp [Ideal.ofBits, Ideal.ieee]
  rw [← EReal.coe_mul]
  norm_num

theorem eighth_f32 : Ideal.ofBits .f32 0x3E000000#32 = (((1 : ℝ) / 8 : ℝ) : EReal) := by
  simp [Ideal.ofBits, Ideal.ieee]
  norm_num
  rw [← EReal.coe_mul]
  norm_num

theorem l2e_at (i : S_.Idx) : l2e i = (e2 : EReal) := by
  show Ideal.div (Ideal.ofBits .f32 0x3F800000#32) (Ideal.log (Ideal.ofBits .f32 0x40000000#32)) = _
  have h : Ideal.log (Ideal.ofBits .f32 0x40000000#32) = ((Real.log 2 : ℝ) : EReal) := by
    rw [two_f32]
    show (if (2 : ℝ) ≤ 0 then (⊥ : EReal) else (Real.log 2 : ℝ)) = _
    rw [if_neg (by norm_num)]
  have hl : Real.log 2 ≠ 0 := (Real.log_pos (by norm_num)).ne'
  rw [h, show Ideal.ofBits .f32 0x3F800000#32 = 1 from by simp]
  unfold Ideal.div
  rw [if_neg (by exact_mod_cast hl), one_mul, ← EReal.coe_inv]
  rfl

theorem two_rpow (x : ℝ) : (2 : ℝ) ^ (x * e2) = Real.exp x := by
  have hl : Real.log 2 ≠ 0 := (Real.log_pos (by norm_num)).ne'
  rw [Real.rpow_def_of_pos two_pos]
  unfold e2
  congr 1
  field_simp

/-- A sum over the 128 lanes, by what the lanes hold. -/
theorem lanes (f : Fin 128 → EReal) : ∑ l, f l = ∑ l : Fin 64, f ⟨l.val, by omega⟩ + (∑ l : Fin 3, f ⟨64 + l.val, by omega⟩ + (∑ l : Fin 3, f ⟨67 + l.val, by omega⟩ + ∑ l : Fin 58, f ⟨70 + l.val, by omega⟩)) := by
  refine (Fin.sum_univ_add (a := 64) (b := 64) f).trans ?_
  congr 1
  refine (Fin.sum_univ_add (a := 3) (b := 61) _).trans ?_
  congr 1
  refine (Fin.sum_univ_add (a := 3) (b := 58) _).trans ?_
  congr 1

variable (qr kr : S8x4096x6x64.Idx → ℝ) (gr : S8x4096x6.Idx → ℝ)

theorem gate_at (i : S8x4096x6.Idx) : gate (fun i => (gr i : EReal)) i = ((gr i * e2 : ℝ) : EReal) := by
  show (gr i : EReal) * l2e _ = _
  rw [l2e_at, EReal.coe_mul]

theorem rest_at (i : S8x4096x6.Idx) : rest (fun i => (gr i : EReal)) i = 0 := by
  show gate (fun i => (gr i : EReal)) i - gate (fun i => (gr i : EReal)) i = 0
  rw [gate_at, ← EReal.coe_sub, sub_self, EReal.coe_zero]

theorem parts_at (b : Fin 8) (h : Fin 6) (t : Fin 4096) (l : Fin 3) :
    parts (fun i => (gr i : EReal)) (ix4 b t h l) = ((if l.val = 0 then gr (ix3 b t h) * e2 else 0 : ℝ) : EReal) := by
  have h1 : ∀ i, hi (fun i => (gr i : EReal)) i = ((gr i * e2 : ℝ) : EReal) := gate_at gr
  have h2 : ∀ i, mid3 (fun i => (gr i : EReal)) i = 0 := rest_at gr
  have h3 : ∀ i, lo (fun i => (gr i : EReal)) i = 0 := fun i => by
    show rest (fun i => (gr i : EReal)) i - rest (fun i => (gr i : EReal)) i = 0
    rw [rest_at, sub_zero]
  pointwise [parts]
  rw [h1, h2, h3]
  fin_cases l <;> simp

theorem qw_0 (q : FVec Ideal S8x4096x6x64 .f32) (g : FVec Ideal S8x4096x6 .f32) (b : Fin 8) (h : Fin 6) (t : Fin 4096) (l : Fin 64) :
    qw q g (ix4 b h t ⟨l.val, by omega⟩) = q (ix4 b t h l) * ((1 / 8 * e2 : ℝ) : EReal) := by
  have hl := l.isLt
  have e : (mulf (constant S_ .f32 0x3E000000#32) l2e : FVec Ideal S_ .f32) ix0 = ((1 / 8 * e2 : ℝ) : EReal) := by
    show Ideal.ofBits .f32 0x3E000000#32 * l2e _ = _
    rw [eighth_f32, l2e_at, EReal.coe_mul]
  pointwise [qw]
  exact congrArg (fun x => q (ix4 b t h l) * x) e
theorem qw_1 (q : FVec Ideal S8x4096x6x64 .f32) (g : FVec Ideal S8x4096x6 .f32) (b : Fin 8) (h : Fin 6) (t : Fin 4096) (l : Fin 3) :
    qw q g (ix4 b h t ⟨64 + l.val, by omega⟩) = 1 := by
  have hl := l.isLt
  pointwise [qw, ones]
theorem qw_2 (q : FVec Ideal S8x4096x6x64 .f32) (g : FVec Ideal S8x4096x6 .f32) (b : Fin 8) (h : Fin 6) (t : Fin 4096) (l : Fin 3) :
    qw q g (ix4 b h t ⟨67 + l.val, by omega⟩) = parts g (ix4 b t h l) := by
  have hl := l.isLt
  pointwise [qw, ones]
  exact (dif_neg (by omega)).trans ((if_neg (by omega)).trans ((dif_pos (by omega)).trans (congrArg (fun x => parts g (ix4 b t h x)) (Fin.ext (by simp; omega)))))
theorem qw_3 (q : FVec Ideal S8x4096x6x64 .f32) (g : FVec Ideal S8x4096x6 .f32) (b : Fin 8) (h : Fin 6) (t : Fin 4096) (l : Fin 58) :
    qw q g (ix4 b h t ⟨70 + l.val, by omega⟩) = 0 := by
  have hl := l.isLt
  pointwise [qw, ones, zeros]
  exact (dif_neg (by omega)).trans ((if_neg (by omega)).trans (dif_neg (by omega)))
theorem kw_0 (k : FVec Ideal S8x4096x6x64 .f32) (g : FVec Ideal S8x4096x6 .f32) (b : Fin 8) (h : Fin 6) (t : Fin 4096) (l : Fin 64) :
    kw k g (ix4 b h t ⟨l.val, by omega⟩) = k (ix4 b t h l) := by
  have hl := l.isLt
  pointwise [kw]
theorem kw_1 (k : FVec Ideal S8x4096x6x64 .f32) (g : FVec Ideal S8x4096x6 .f32) (b : Fin 8) (h : Fin 6) (t : Fin 4096) (l : Fin 3) :
    kw k g (ix4 b h t ⟨64 + l.val, by omega⟩) = -parts g (ix4 b t h l) := by
  have hl := l.isLt
  pointwise [kw, ones]
theorem kw_2 (k : FVec Ideal S8x4096x6x64 .f32) (g : FVec Ideal S8x4096x6 .f32) (b : Fin 8) (h : Fin 6) (t : Fin 4096) (l : Fin 3) :
    kw k g (ix4 b h t ⟨67 + l.val, by omega⟩) = 1 := by
  have hl := l.isLt
  pointwise [kw, ones]
  exact (dif_neg (by omega)).trans ((dif_neg (by omega)).trans (dif_pos (by omega)))

/-- A score is the scaled product of query and key with the two gates, times the factor. -/
theorem score_at (b : Fin 8) (h : Fin 6) (t i : Fin 4096) :
    ∑ l : Fin 128, kw (fun i => (kr i : EReal)) (fun i => (gr i : EReal)) (ix4 b h i l) * qw (fun i => (qr i : EReal)) (fun i => (gr i : EReal)) (ix4 b h t l)
      = ((((∑ l : Fin 64, qr (ix4 b t h l) * kr (ix4 b i h l)) * (1 / 8) + gr (ix3 b t h) - gr (ix3 b i h)) * e2 : ℝ) : EReal) := by
  rw [lanes]
  simp only [qw_0, qw_1, qw_2, qw_3, kw_0, kw_1, kw_2, parts_at, mul_zero, Finset.sum_const_zero, add_zero, mul_one, one_mul]
  simp only [← EReal.coe_mul, ← coe_sum, ← EReal.coe_neg, ← EReal.coe_add]
  congr 1
  simp only [Fin.sum_univ_three, Fin.val_zero, Fin.val_one, Fin.val_two]
  simp only [if_true, one_ne_zero, if_false, OfNat.ofNat_ne_zero, neg_zero, add_zero]
  have e : ∑ l : Fin 64, kr (ix4 b i h l) * (qr (ix4 b t h l) * (1 / 8 * e2)) = (∑ l : Fin 64, qr (ix4 b t h l) * kr (ix4 b i h l)) * (1 / 8) * e2 := by
    rw [Finset.sum_mul, Finset.sum_mul]
    exact Finset.sum_congr rfl fun l _ => by ring
  rw [e]
  ring

end Cert.KernelIdeal.Fox
-- ==== Proof.Index.lean ====
module

public import proofs.«01_k».proof.Proof.Host

@[expose] public section

set_option maxRecDepth 65536

noncomputable section

namespace Cert.KernelIdeal.Fox

open Idealize.ShloMosaic Idealize.ShloMosaic.TcCoe Idealize.ShloMosaic.Tactic
open Cert.KernelIdeal Cert.KernelIdeal.Gen
open Cert.Fox

/-! Which block of each array a point of the grid looks at. -/

/-- The batch and the query block of a point. -/
abbrev bt (t : Fin cfg0.N) : Fin 8 := grid0.coords t 0
abbrev qb (t : Fin cfg0.N) : Fin 8 := grid0.coords t 2

theorem index_0 : ∀ t : Fin cfg0.N, win0_0.index t 0 = (bt t).val ∧ win0_0.index t 1 = 0 ∧ win0_0.index t 2 = (qb t).val ∧ win0_0.index t 3 = 0 := by decide +kernel
theorem index_1 : ∀ t : Fin cfg0.N, win0_1.index t 0 = (bt t).val ∧ win0_1.index t 1 = 0 ∧ win0_1.index t 2 = 0 ∧ win0_1.index t 3 = 0 := by decide +kernel
theorem index_2 : ∀ t : Fin cfg0.N, win0_2.index t 0 = (bt t).val ∧ win0_2.index t 1 = 0 ∧ win0_2.index t 2 = 0 ∧ win0_2.index t 3 = 0 := by decide +kernel
theorem index_3 : ∀ t : Fin cfg0.N, win0_3.index t 0 = (bt t).val ∧ win0_3.index t 1 = 0 ∧ win0_3.index t 2 = (qb t).val := by decide +kernel

end Cert.KernelIdeal.Fox
-- ==== Proof.Blocks.lean ====
module

public import proofs.«01_k».proof.Proof.Index

@[expose] public section

set_option maxRecDepth 65536

noncomputable section

namespace Cert.KernelIdeal.Fox

open Idealize.ShloMosaic Idealize.ShloMosaic.TcCoe Idealize.ShloMosaic.Tactic
open Cert.KernelIdeal Cert.KernelIdeal.Gen
open Cert.Fox

variable (m : (ℓ : Loc nD τ sig) → Buf (Elt Ideal) ℓ) (c : Dev nD)

theorem one_mul_add (a : ℕ) : a * 1 + 1 * 0 = a := by omega
theorem zero_mul_add (n a : ℕ) : 0 * n + 1 * a = a := by omega
theorem mul_add_comm (n a b : ℕ) : a * n + 1 * b = n * a + b := by rw [Nat.mul_comm, Nat.one_mul]

theorem iblk0_at (t : Fin cfg0.N) (h : Fin 6) (j : Fin 512) (l : Fin 128) :
    (iblk m c 0 t : Vec Ideal S1x6x512x128 .bf16) (ix4 0 h j l) = V m c main_v27 (ix4 (bt t) h ⟨512 * (qb t).val + j.val, by omega⟩ l) := by
  obtain ⟨e0, e1, e2, e3⟩ := index_0 t
  refine congrArg (V m c main_v27) (funext fun i => Fin.ext ?_)
  match i with
  | ⟨0, _⟩ => exact (congrArg (fun x : ℕ => x * 1 + 1 * 0) e0).trans (one_mul_add _)
  | ⟨1, _⟩ => exact (congrArg (fun x : ℕ => x * 6 + 1 * h.val) e1).trans (zero_mul_add _ _)
  | ⟨2, _⟩ => exact (congrArg (fun x : ℕ => x * 512 + 1 * j.val) e2).trans (mul_add_comm _ _ _)
  | ⟨3, _⟩ => exact (congrArg (fun x : ℕ => x * 128 + 1 * l.val) e3).trans (zero_mul_add _ _)

theorem iblk1_at (t : Fin cfg0.N) (h : Fin 6) (j : Fin 4096) (l : Fin 128) :
    (iblk m c 1 t : Vec Ideal S1x6x4096x128 .bf16) (ix4 0 h j l) = V m c main_v29 (ix4 (bt t) h j l) := by
  obtain ⟨e0, e1, e2, e3⟩ := index_1 t
  refine congrArg (V m c main_v29) (funext fun i => Fin.ext ?_)
  match i with
  | ⟨0, _⟩ => exact (congrArg (fun x : ℕ => x * 1 + 1 * 0) e0).trans (one_mul_add _)
  | ⟨1, _⟩ => exact (congrArg (fun x : ℕ => x * 6 + 1 * h.val) e1).trans (zero_mul_add _ _)
  | ⟨2, _⟩ => exact (congrArg (fun x : ℕ => x * 4096 + 1 * j.val) e2).trans (zero_mul_add _ _)
  | ⟨3, _⟩ => exact (congrArg (fun x : ℕ => x * 128 + 1 * l.val) e3).trans (zero_mul_add _ _)

theorem iblk2_at (t : Fin cfg0.N) (n : Fin 16) (d : Fin 480) (k : Fin 256) :
    (iblk m c 2 t : Vec Ideal S1x16x480x256 .bf16) (ix4 0 n d k) = V m c main_v35 (ix4 (bt t) n d k) := by
  obtain ⟨e0, e1, e2, e3⟩ := index_2 t
  refine congrArg (V m c main_v35) (funext fun i => Fin.ext ?_)
  match i with
  | ⟨0, _⟩ => exact (congrArg (fun x : ℕ => x * 1 + 1 * 0) e0).trans (one_mul_add _)
  | ⟨1, _⟩ => exact (congrArg (fun x : ℕ => x * 16 + 1 * n.val) e1).trans (zero_mul_add _ _)
  | ⟨2, _⟩ => exact (congrArg (fun x : ℕ => x * 480 + 1 * d.val) e2).trans (zero_mul_add _ _)
  | ⟨3, _⟩ => exact (congrArg (fun x : ℕ => x * 256 + 1 * k.val) e3).trans (zero_mul_add _ _)

end Cert.KernelIdeal.Fox
-- ==== Proof.Att.lean ====
module

public import proofs.«01_k».proof.Proof.Math
public import Idealize.ShloMosaic.Lib.Pointwise

@[expose] public section

/-! The forgetting attention over the reals: what both programs compute. -/

noncomputable section

namespace Cert.Fox

open Idealize.ShloMosaic

/-- The shape of the queries, keys and values, and the shape of the decay. -/
abbrev Sq : Shape := ⟨4, ![8, 4096, 6, 64]⟩
abbrev Sg : Shape := ⟨3, ![8, 4096, 6]⟩

variable (qr kr : Sq.Idx → ℝ) (gr : Sg.Idx → ℝ) (v : Sq.Idx → EReal)

/-- The score of key `i` against query `t`. -/
def scr (b : Fin 8) (h : Fin 6) (t i : Fin 4096) : ℝ :=
  (∑ l : Fin 64, qr (ix4 b t h l) * kr (ix4 b i h l)) * (1 / 8) + gr (ix3 b t h) - gr (ix3 b i h)

/-- The weight of key `i` against query `t`. -/
def wgt (b : Fin 8) (h : Fin 6) (t i : Fin 4096) : ℝ :=
  if i.val ≤ t.val then Real.exp (scr qr kr gr b h t i) else 0

/-- The attention of query `t`: the values averaged by the weights. -/
def att (b : Fin 8) (t : Fin 4096) (h : Fin 6) (d : Fin 64) : EReal :=
  (∑ i : Fin 4096, v (ix4 b i h d) * (wgt qr kr gr b h t i : EReal)) * (((∑ i : Fin 4096, wgt qr kr gr b h t i)⁻¹ : ℝ) : EReal)

end Cert.Fox
-- ==== Proof.Value.lean ====
module

public import proofs.«01_k».proof.Proof.Tiles
public import proofs.«01_k».proof.Proof.Blocks
public import proofs.«01_k».proof.Proof.Att

@[expose] public section

set_option maxRecDepth 65536

noncomputable section

namespace Cert.KernelIdeal.Fox

open Idealize.ShloMosaic Idealize.ShloMosaic.TcCoe Idealize.ShloMosaic.Tactic
open Cert.KernelIdeal Cert.KernelIdeal.Gen
open Cert.Fox

variable (m : (ℓ : Loc nD τ sig) → Buf (Elt Ideal) ℓ) (c : Dev nD)

/-- A row of the output block is a row of one head's result. -/
theorem outOf_at (H : Fin 6 → Hd Ideal) (h : Fin 6) (d : Fin 64) (j : Fin 512) :
    outOf H (ix3 0 ⟨64 * h.val + d.val, by omega⟩ j) = (H h).out (ix3 0 d j) := by
  have a : ∀ p, (⟨(64 * h.val + d.val) / 64, p⟩ : Fin 6) = h := fun p => Fin.ext (by show (64 * h.val + d.val) / 64 = h.val; omega)
  have b : ∀ p, (⟨(64 * h.val + d.val) % 64, p⟩ : Fin 64) = d := fun p => Fin.ext (by show (64 * h.val + d.val) % 64 = d.val; omega)
  rw [ix3_eq_valueIdx 0 d j]
  exact congrArg₂ (fun x y => (H x).out (ValueIdx.ix3 0 y j)) (a _) (b _)

section G
variable (qr kr : Sq.Idx → ℝ) (gr : Sg.Idx → ℝ) (v : Sq.Idx → EReal)

variable (hq : m ((c.tc : Thread nD τ).loc main_arg0) = fun i => (qr i : EReal)) (hk : m ((c.tc : Thread nD τ).loc main_arg1) = fun i => (kr i : EReal))
  (hg : m ((c.tc : Thread nD τ).loc main_arg3) = fun i => (gr i : EReal)) (hv : m ((c.tc : Thread nD τ).loc main_arg2) = v)

include hq hk hg hv in
/-- What the body leaves at a point. -/
theorem outBlk_at (t : Fin cfg0.N) (h : Fin 6) (d : Fin 64) (j : Fin 512) :
    outBlk (qb t).val (iblk m c 0 t) (iblk m c 1 t) (iblk m c 2 t) (ix3 0 ⟨64 * h.val + d.val, by omega⟩ j)
      = att qr kr gr v (bt t) ⟨512 * (qb t).val + j.val, by omega⟩ h d := by
  have e : outBlk (qb t).val (iblk m c 0 t) (iblk m c 1 t) (iblk m c 2 t) (ix3 0 ⟨64 * h.val + d.val, by omega⟩ j)
      = (fin2 (iblk m c 0 t) (iblk m c 1 t) (iblk m c 2 t) (fun _ => hd0) (qb t).val h).out (ix3 0 d j) := outOf_at _ h d j
  let σ : ℕ → Fin 512 → ℝ := fun i j => if hi : i < 4096 then scr qr kr gr (bt t) h ⟨512 * (qb t).val + j.val, by omega⟩ ⟨i, hi⟩ * e2 else 0
  let W : ℕ → Fin 80 → EReal := fun i d => if hi : i < 4096 then (if hd : d.val < 64 then v (ix4 (bt t) ⟨i, hi⟩ h ⟨d.val, hd⟩) else 1) else 0
  have hs : ∀ n < 16, ∀ k j, sc (iblk m c 0 t) (iblk m c 1 t) h n k j = (σ (256 * n + k.val) j : EReal) := by
    intro n hn k j
    unfold sc
    have hi : 256 * n + k.val < 4096 := by omega
    have e27 : V m c main_v27 = qw (fun i => (qr i : EReal)) (fun i => (gr i : EReal)) := by rw [V_v27, hq, hg]
    have e29 : V m c main_v29 = kw (fun i => (kr i : EReal)) (fun i => (gr i : EReal)) := by rw [V_v29, hk, hg]
    refine (Finset.sum_congr rfl fun l _ => congrArg₂ (fun a b : EReal => a * b)
      (((kT_at (iblk m c 1 t) h hn k l).trans (iblk1_at m c t h _ l)).trans (congrFun e29 _))
      (((qT_at (iblk m c 0 t) h j l).trans (iblk0_at m c t h j l)).trans (congrFun e27 _))).trans ?_
    refine (score_at qr kr gr (bt t) h ⟨512 * (qb t).val + j.val, by omega⟩ ⟨256 * n + k.val, hi⟩).trans ?_
    have e : σ (256 * n + k.val) j = scr qr kr gr (bt t) h ⟨512 * (qb t).val + j.val, by omega⟩ ⟨256 * n + k.val, hi⟩ * e2 := dif_pos hi
    rw [e]; rfl
  have hw : ∀ n < 16, ∀ d k, vT (iblk m c 2 t) h n (ix3 0 d k) = W (256 * n + k.val) d := by
    intro n hn d k
    have hi : 256 * n + k.val < 4096 := by omega
    rw [vT_at _ _ hn, iblk2_at, V_v35, hv]
    refine (vw_at _ _ ⟨n, hn⟩ h d k).trans ?_
    have e : W (256 * n + k.val) d = if hd : d.val < 64 then v (ix4 (bt t) ⟨256 * n + k.val, hi⟩ h ⟨d.val, hd⟩) else 1 := dif_pos hi
    exact e.symm
  have hone : ∀ i < 4096, W i 64 = 1 := by
    intro i hi
    refine (dif_pos hi).trans (dif_neg (by decide))
  rw [e, head_out _ _ _ _ h (qb t).2 σ W hs hw hone]
  have hwt : ∀ i : Fin 4096, wrow σ (qb t).val j i.val = wgt qr kr gr (bt t) h ⟨512 * (qb t).val + j.val, by omega⟩ i := by
    intro i
    unfold wrow wgt
    have : σ i.val j = _ := dif_pos i.2
    rw [this, two_rpow]
  unfold att
  rw [← Fin.sum_univ_eq_sum_range (fun i => W i ⟨d.val, by omega⟩ * (wrow σ (qb t).val j i : EReal)) 4096, ← Fin.sum_univ_eq_sum_range (fun i => wrow σ (qb t).val j i) 4096]
  simp only [hwt]
  congr 1
  refine Finset.sum_congr rfl fun i _ => ?_
  congr 1
  exact (dif_pos i.2).trans (dif_pos d.2)

end G

end Cert.KernelIdeal.Fox
-- ==== Proof.Final.lean ====
module

public import proofs.«01_k».proof.Proof.Value
public import proofs.«01_k».proof.Proof.Run

@[expose] public section

set_option maxRecDepth 65536

noncomputable section

namespace Cert.KernelIdeal.Fox

open Idealize.ShloMosaic Idealize.ShloMosaic.TcCoe Idealize.ShloMosaic.Tactic
open Cert.KernelIdeal Cert.KernelIdeal.Gen
open Cert.Fox

variable (m : (ℓ : Loc nD τ sig) → Buf (Elt Ideal) ℓ) (c : Dev nD)
variable (qr kr : Sq.Idx → ℝ) (gr : Sg.Idx → ℝ) (v : Sq.Idx → EReal)

/-- The array the windows are written back to: head `h`'s channel `d` is row `64 h + d`. -/
def G36 : Vec Ideal S8x384x4096 .bf16 := fun y =>
  att qr kr gr v (y 0) (y 2) ⟨(y 1).val / 64, Nat.div_lt_of_lt_mul (y 1).2⟩ ⟨(y 1).val % 64, Nat.mod_lt _ (by decide)⟩

theorem G36_at (b : Fin 8) (h : Fin 6) (d : Fin 64) (t : Fin 4096) :
    G36 qr kr gr v (ix3 b ⟨64 * h.val + d.val, by omega⟩ t) = att qr kr gr v b t h d := by
  have a : ∀ p, (⟨(64 * h.val + d.val) / 64, p⟩ : Fin 6) = h := fun p => Fin.ext (by show (64 * h.val + d.val) / 64 = h.val; omega)
  have e : ∀ p, (⟨(64 * h.val + d.val) % 64, p⟩ : Fin 64) = d := fun p => Fin.ext (by show (64 * h.val + d.val) % 64 = d.val; omega)
  exact congrArg₂ (fun x y => att qr kr gr v b t x y) (a _) (e _)

/-- The host's operations after the call, at an index. -/
theorem tail_at (X : Vec Ideal S8x384x4096 .bf16) (b : Fin 8) (t : Fin 4096) (h : Fin 6) (d : Fin 64) :
    transpose S8x4096x6x64 [0, 3, 1, 2] (shapeCast S8x6x64x4096 X shapeCasts_S8x384x4096_S8x6x64x4096) transposes_S8x6x64x4096_S8x4096x6x64_0_3_1_2 (ix4 b t h d)
      = X (ix3 b ⟨64 * h.val + d.val, by omega⟩ t) := by
  pointwise
  exact congrArg (fun r => X (ix3 b r t)) (Fin.ext (by show h.val * 64 + d.val = 64 * h.val + d.val; omega))

/-- Every batch and query block has its point. -/
theorem point_of : ∀ b q : Fin 8, ∃ t : Fin cfg0.N, bt t = b ∧ qb t = q := by decide +kernel

/-- Where the output block of a point lies in its array. -/
theorem emb_3 (t : Fin cfg0.N) (r : Fin 384) (j : Fin 512) :
    ((cfg0.win 3).blk t).view.emb (ix3 0 r j) = (ix3 (bt t) r ⟨512 * (qb t).val + j.val, by omega⟩ : S8x384x4096.Idx) := by
  obtain ⟨e0, e1, e2⟩ := index_3 t
  refine funext fun i => Fin.ext ?_
  match i with
  | ⟨0, _⟩ => exact (congrArg (fun x : ℕ => x * 1 + 1 * 0) e0).trans (one_mul_add _)
  | ⟨1, _⟩ => exact (congrArg (fun x : ℕ => x * 384 + 1 * r.val) e1).trans (zero_mul_add _ _)
  | ⟨2, _⟩ => exact (congrArg (fun x : ℕ => x * 512 + 1 * j.val) e2).trans (mul_add_comm _ _ _)

end Cert.KernelIdeal.Fox
-- ==== Proof.Out.lean ====
module

public import proofs.«01_k».proof.Proof.Final

@[expose] public section

set_option maxRecDepth 65536

noncomputable section

namespace Cert.KernelIdeal.Fox

open Idealize.ShloMosaic Idealize.ShloMosaic.TcCoe Idealize.ShloMosaic.Tactic Idealize.SL.Sem
open Cert.KernelIdeal Cert.KernelIdeal.Gen
open Cert.Fox

variable (m : (ℓ : Loc nD τ sig) → Buf (Elt Ideal) ℓ) (ρ : Dev nD → PrngReg) (c : Dev nD)
variable (qr kr : Sq.Idx → ℝ) (gr : Sg.Idx → ℝ) (v : Sq.Idx → EReal)
variable (hq : m ((c.tc : Thread nD τ).loc main_arg0) = fun i => (qr i : EReal)) (hk : m ((c.tc : Thread nD τ).loc main_arg1) = fun i => (kr i : EReal))
  (hg : m ((c.tc : Thread nD τ).loc main_arg3) = fun i => (gr i : EReal)) (hv : m ((c.tc : Thread nD τ).loc main_arg2) = v)

/-- An index of an output block: head `h`'s channel `d`, query `j`. -/
theorem idx_3 (y : S1x384x512.Idx) : ∃ (h : Fin 6) (d : Fin 64) (j : Fin 512), y = ix3 0 ⟨64 * h.val + d.val, by omega⟩ j := by
  have h1 : (y 1).val < 384 := (y 1).2
  refine ⟨⟨(y 1).val / 64, by omega⟩, ⟨(y 1).val % 64, by omega⟩, y 2, funext fun i => Fin.ext ?_⟩
  match i with
  | ⟨0, _⟩ => exact Nat.lt_one_iff.mp (y 0).2
  | ⟨1, _⟩ => exact (Nat.div_add_mod _ 64).symm
  | ⟨2, _⟩ => rfl

include hq hk hg hv in
/-- The block a point computes is the block of `G36` it writes. -/
theorem out_block (t : Fin cfg0.N) (y : S1x384x512.Idx) :
    outBlk (qb t).val (iblk m c 0 t) (iblk m c 1 t) (iblk m c 2 t) y = G36 qr kr gr v (((cfg0.win 3).blk t).view.emb y) := by
  obtain ⟨h, d, j, rfl⟩ := idx_3 y
  refine (outBlk_at m c qr kr gr v hq hk hg hv t h d j).trans ?_
  refine Eq.trans ?_ (congrArg (G36 qr kr gr v) (emb_3 t ⟨64 * h.val + d.val, by omega⟩ j)).symm
  exact (G36_at qr kr gr v (bt t) h d _).symm

include hq hk hg hv in
theorem flushed_eq (t : Fin cfg0.N) :
    (dats m 0 c).flushed 3 t = ((cfg0.win 3).blk t).view.read (Elt Ideal) (G36 qr kr gr v) := by
  show (cfg0.win 3).cut (grid0.coords t) ((dats m 0 c).after 3 t) = _
  rw [after_3]
  funext y
  exact out_block m c qr kr gr v hq hk hg hv t y

include hq hk hg hv in
/-- The blocks cover the array. -/
theorem final_out : (dats m 0 c).arrAt 3 cfg0.N = G36 qr kr gr v :=
  (dats m 0 c).arrAt_eq_of_cover 3 (G36 qr kr gr v) (fun t _ => flushed_eq m c qr kr gr v hq hk hg hv t) fun i => by
    have h2 : (i 2).val < 4096 := (i 2).isLt
    obtain ⟨t, hb, hj⟩ := point_of (i 0) ⟨(i 2).val / 512, by omega⟩
    refine ⟨t, flush0_3 t, ?_⟩
    have e : i = ((cfg0.win 3).blk t).view.emb (ix3 0 (i 1) ⟨(i 2).val % 512, Nat.mod_lt _ (by decide)⟩) := by
      refine Eq.trans ?_ (emb_3 t (i 1) ⟨(i 2).val % 512, Nat.mod_lt _ (by decide)⟩).symm
      refine funext fun a => Fin.ext ?_
      match a with
      | ⟨0, _⟩ => exact (congrArg Fin.val hb).symm
      | ⟨1, _⟩ => rfl
      | ⟨2, _⟩ => exact ((congrArg (fun x : Fin 8 => 512 * x.val + (i 2).val % 512) hj).trans (Nat.div_add_mod _ 512)).symm
    rw [e]
    exact View.emb_mem_set _ _

include hq hk hg hv in
/-- What the run's result buffer ends holding. -/
theorem tail_eq : Pipeline.afterTail₀ cfgs (dats m) 0 (V0 m) [hostOps1] c main_v38
    = transpose S8x4096x6x64 [0, 3, 1, 2] (shapeCast S8x6x64x4096 (G36 qr kr gr v) shapeCasts_S8x384x4096_S8x6x64x4096) transposes_S8x6x64x4096_S8x4096x6x64_0_3_1_2 := by
  unfold Pipeline.afterTail₀
  simp only [List.flatten_cons, List.flatten_nil, List.append_nil]
  show StableHlo.after hostOps1 _ (Proc.devRef .tc main_v38) = _
  after_results
  have e : Pipeline.withArrays (cfgs 0).spec c (V0 m c) (fun w => (dats m 0 c).arrAt w (cfgs 0).N) (Proc.tc.devRef main_v36) = G36 qr kr gr v :=
    (Pipeline.withArrays_arr spec0 (by decide) c (V0 m c) (fun w => (dats m 0 c).arrAt w (cfgs 0).N) 3).trans (final_out m c qr kr gr v hq hk hg hv)
  exact congrArg (fun X : Vec Ideal S8x384x4096 .bf16 => transpose S8x4096x6x64 [0, 3, 1, 2] (shapeCast S8x6x64x4096 X shapeCasts_S8x384x4096_S8x6x64x4096) transposes_S8x6x64x4096_S8x4096x6x64_0_3_1_2) e

/-- The attention of every query, as the result's contents. -/
def res : Vec Ideal S8x4096x6x64 .bf16 := fun i => att qr kr gr v (i 0) (i 1) (i 2) (i 3)

include hq hk hg hv in
/-- The result buffer ends holding the attention. -/
theorem result_eq : Pipeline.afterTail₀ cfgs (dats m) 0 (V0 m) [hostOps1] c main_v38 = res qr kr gr v := by
  refine (tail_eq m c qr kr gr v hq hk hg hv).trans (funext fun i => ?_)
  obtain ⟨b, t, h, d, rfl⟩ : ∃ b t h d, i = ix4 b t h d := ⟨i 0, i 1, i 2, i 3, eq_ix4 i⟩
  exact (tail_at (G36 qr kr gr v) b t h d).trans (G36_at qr kr gr v b h d t)

end Cert.KernelIdeal.Fox
-- ==== Proof.Top.lean ====
module

public import proofs.«01_k».proof.Proof.Math
public import Idealize.ShloMosaic.Lib.Pointwise

@[expose] public section

noncomputable section

namespace Cert.Fox

open Idealize.ShloMosaic

variable {s t u : Shape}

/-- A maximum over one axis, from `⊥`. -/
theorem reduce_max {a : Fin s.rank} (x : s.Idx → EReal) (init : u.Idx → EReal) (h' : s.ReducesTo [a] t) (h : s.Reduces [a] t) (hu : 0 < u.numel)
    (hi : ∀ i, init i = ⊥) (j : t.Idx) :
    Host.reduce (FloatOps.maximumf (F := Ideal) (φ := .f32)) x init h' hu j = Finset.univ.sup (fun k => x (h.lift j k)) := by
  refine (Host.reduce_eq_fold_single (max : EReal → EReal → EReal) x init h' h hu j).trans ?_
  rw [hi]
  rfl

/-- The index at which a maximum over the last axis reads. -/
theorem lift_last {n0 n1 n2 n3 : ℕ} (h : (⟨4, ![n0, n1, n2, n3]⟩ : Shape).Reduces [3] ⟨3, ![n0, n1, n2]⟩) (a : Fin n0) (b : Fin n1) (c : Fin n2) (k : Fin n3) :
    h.lift (ix3 a b c) k = ix4 a b c k := by
  refine funext fun i => Fin.ext ?_
  refine (Shape.Reduces.lift_val h (ix3 a b c) (show Fin ((⟨4, ![n0, n1, n2, n3]⟩ : Shape).size 3) from k) i).trans ?_
  match i with
  | ⟨0, _⟩ => rfl
  | ⟨1, _⟩ => rfl
  | ⟨2, _⟩ => rfl
  | ⟨3, _⟩ => rfl

/-- The greatest of a row, written as the host writes it. -/
theorem row_max {n0 n1 n2 n3 : ℕ} (S : FVec Ideal ⟨4, ![n0, n1, n2, n3]⟩ .f32) (init : FVec Ideal u .f32) (w : FVec Ideal ⟨3, ![n0, n1, n2]⟩ .f32)
    (h' : (⟨4, ![n0, n1, n2, n3]⟩ : Shape).ReducesTo [3] ⟨3, ![n0, n1, n2]⟩) (h : (⟨4, ![n0, n1, n2, n3]⟩ : Shape).Reduces [3] ⟨3, ![n0, n1, n2]⟩)
    (hu : 0 < u.numel) (hi : ∀ i, init i = (⊥ : EReal)) (hw : ∀ i, w i = (⊥ : EReal)) (a : Fin n0) (b : Fin n1) (c : Fin n2) :
    maximumf w (Host.reduce (FloatOps.maximumf (F := Ideal) (φ := .f32)) S init h' hu) (ix3 a b c) = Finset.univ.sup fun k : Fin n3 => S (ix4 a b c k) := by
  have e : Host.reduce (FloatOps.maximumf (F := Ideal) (φ := .f32)) S init h' hu (ix3 a b c) = Finset.univ.sup fun k : Fin n3 => S (ix4 a b c k) :=
    (reduce_max S init h' h hu hi (ix3 a b c)).trans
      (congrArg (fun f : Fin n3 → EReal => Finset.univ.sup f) (funext fun k => congrArg S (lift_last h a b c k)))
  show max (w (ix3 a b c)) (Host.reduce (FloatOps.maximumf (F := Ideal) (φ := .f32)) S init h' hu (ix3 a b c)) = _
  rw [e, hw]
  exact max_eq_right bot_le

/-- Comparing two positions as 32-bit words. -/
theorem sle_pos (i t : Fin 4096) : IntOp.cmpi .sle (BitVec.ofNat 32 i.val) (BitVec.ofNat 32 t.val) = if i.val ≤ t.val then 1#1 else 0#1 := by
  have e : (BitVec.ofNat 32 i.val).sle (BitVec.ofNat 32 t.val) = decide (i.val ≤ t.val) := by
    rw [BitVec.sle_eq_decide, BitVec.toInt_eq_toNat_of_lt (by simp; omega), BitVec.toInt_eq_toNat_of_lt (by simp; omega)]
    simp [Nat.mod_eq_of_lt (show i.val < 4294967296 by omega), Nat.mod_eq_of_lt (show t.val < 4294967296 by omega)]
  show BitVec.ofBool ((BitVec.ofNat 32 i.val).sle (BitVec.ofNat 32 t.val)) = _
  rw [e]
  by_cases h : i.val ≤ t.val <;> simp [h]

theorem minus_inf : Ideal.ofBits .f32 0xFF800000#32 = ⊥ := by
  simp [Ideal.ofBits, Ideal.ieee]

/-- Choosing by a bit that a condition sets. -/
theorem select_if {α : Type} (p : Prop) [Decidable p] (x y : α) : Scalar.select (if p then 1#1 else 0#1) x y = if p then x else y := by
  by_cases h : p <;> simp [h, Scalar.select]

end Cert.Fox
-- ==== Proof.Ref.lean ====
module

public import proofs.«01_k».proof.Proof.Att
public import proofs.«01_k».proof.Proof.Top
public import proofs.«01_k».proof.Proof.Gen.ReferenceIdeal.Run

@[expose] public section

set_option maxRecDepth 65536

noncomputable section

namespace Cert.ReferenceIdeal.Fox

open Idealize.ShloMosaic Idealize.ShloMosaic.TcCoe
open Cert.ReferenceIdeal Cert.ReferenceIdeal.Gen Cert.ReferenceIdeal.Value
open Cert.Fox

/-- The masked scores: `−∞` where the key comes after the query. -/
def scores (q k : FVec Ideal S8x4096x6x64 .f32) (g : FVec Ideal S8x4096x6 .f32) : FVec Ideal S8x6x4096x4096 .f32 :=
  select (broadcastInDim S8x6x4096x4096 ![2, 3] bcast_S4096x4096_S8x6x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (subf (addf (mulf (Host.dotGeneral dot_S8x4096x6x64_S8x4096x6x64_S8x6x4096x4096_3_3_1_1_02_02 none q k) (broadcastInDim S8x6x4096x4096 ![] bcast_S_S8x6x4096x4096 (constant S_ .f32 0x3E000000#32))) (broadcastInDim S8x6x4096x4096 ![0, 1, 2, 3] bcast_S8x6x4096x1_S8x6x4096x4096_0_1_2_3 (broadcastInDim S8x6x4096x1 ![0, 1, 2] bcast_S8x6x4096_S8x6x4096x1_0_1_2 (transpose S8x6x4096 [0, 2, 1] g transposes_S8x4096x6_S8x6x4096_0_2_1)))) (broadcastInDim S8x6x4096x4096 ![0, 1, 2, 3] bcast_S8x6x1x4096_S8x6x4096x4096_0_1_2_3 (broadcastInDim S8x6x1x4096 ![0, 1, 3] bcast_S8x6x4096_S8x6x1x4096_0_1_3 (transpose S8x6x4096 [0, 2, 1] g transposes_S8x4096x6_S8x6x4096_0_2_1))))
    (broadcastInDim S8x6x4096x4096 ![] bcast_S_S8x6x4096x4096 (id (constant S_ .f32 0xFF800000#32)))

/-- Each row's greatest score. -/
def top (S : FVec Ideal S8x6x4096x4096 .f32) : FVec Ideal S8x6x4096 .f32 :=
  maximumf (broadcastInDim S8x6x4096 ![] bcast_S_S8x6x4096 (constant S_ .f32 0xFF800000#32)) (Host.reduce FloatOps.maximumf S (constant S_ .f32 0xFF800000#32) reducesTo_S8x6x4096x4096_S8x6x4096_d3 h_S_)

/-- The exponentials of the scores, the greatest of the row taken off. -/
def exps (S : FVec Ideal S8x6x4096x4096 .f32) : FVec Ideal S8x6x4096x4096 .f32 :=
  Host.exp (subf S (broadcastInDim S8x6x4096x4096 ![0, 1, 2, 3] bcast_S8x6x4096x1_S8x6x4096x4096_0_1_2_3 (broadcastInDim S8x6x4096x1 ![0, 1, 2] bcast_S8x6x4096_S8x6x4096x1_0_1_2 (top S))))

/-- The values averaged by the normalised exponentials. -/
def avg (v : FVec Ideal S8x4096x6x64 .f32) (E : FVec Ideal S8x6x4096x4096 .f32) : FVec Ideal S8x4096x6x64 .bf16 :=
  truncf .bf16 (transpose S8x4096x6x64 [0, 3, 1, 2] (Host.dotGeneral dot_S8x4096x6x64_S8x6x4096x4096_S8x6x64x4096_1_3_3_2_02_01 none v (Host.divf E (broadcastInDim S8x6x4096x4096 ![0, 1, 2, 3] bcast_S8x6x4096x1_S8x6x4096x4096_0_1_2_3 (broadcastInDim S8x6x4096x1 ![0, 1, 2] bcast_S8x6x4096_S8x6x4096x1_0_1_2 (Host.reduceAdd E (constant S_ .f32 0x00000000#32) reducesTo_S8x6x4096x4096_S8x6x4096_d3 h_S_))))) transposes_S8x6x64x4096_S8x4096x6x64_0_3_1_2) bitsLt_bf16_f32

theorem res_eq (m : (ℓ : Loc nD τ sig) → Buf (Elt Ideal) ℓ) (c : Dev nD) :
    res_main_v30 m c = avg (m ((c.tc : Thread nD τ).loc main_arg2)) (exps (scores (m ((c.tc : Thread nD τ).loc main_arg0)) (m ((c.tc : Thread nD τ).loc main_arg1)) (m ((c.tc : Thread nD τ).loc main_arg3)))) := by
  unfold res_main_v30 avg exps top scores; rfl

theorem scores_at (q k : FVec Ideal S8x4096x6x64 .f32) (g : FVec Ideal S8x4096x6 .f32) (b : Fin 8) (h : Fin 6) (t i : Fin 4096) :
    scores q k g (ix4 b h t i) = if i.val ≤ t.val then (∑ l : Fin 64, q (ix4 b t h l) * k (ix4 b i h l)) * Ideal.ofBits .f32 0x3E000000#32 + g (ix3 b t h) - g (ix3 b i h) else ⊥ := by
  pointwise [scores]
  rw [sle_pos, select_if]
  exact congrArg (fun x : EReal => if i.val ≤ t.val then (∑ l : Fin 64, q (ix4 b t h l) * k (ix4 b i h l)) * Ideal.ofBits .f32 0x3E000000#32 + g (ix3 b t h) - g (ix3 b i h) else x) minus_inf

theorem exps_at (S : FVec Ideal S8x6x4096x4096 .f32) (b : Fin 8) (h : Fin 6) (t i : Fin 4096) :
    exps S (ix4 b h t i) = Ideal.exp (S (ix4 b h t i) - top S (ix3 b h t)) := by
  pointwise [exps]

end Cert.ReferenceIdeal.Fox
-- ==== Proof.RefTop.lean ====
module

public import proofs.«01_k».proof.Proof.Ref
public import proofs.«01_k».proof.Proof.Top
public import proofs.«01_k».proof.Proof.Gen.ReferenceIdeal.Run

@[expose] public section

set_option maxRecDepth 65536

noncomputable section

namespace Cert.ReferenceIdeal.Fox

open Idealize.ShloMosaic Idealize.ShloMosaic.TcCoe
open Cert.ReferenceIdeal Cert.ReferenceIdeal.Gen Cert.ReferenceIdeal.Value
open Cert.Fox

theorem red3 : S8x6x4096x4096.Reduces [3] S8x6x4096 := by decide

theorem top_at (S : FVec Ideal S8x6x4096x4096 .f32) (b : Fin 8) (h : Fin 6) (t : Fin 4096) :
    top S (ix3 b h t) = Finset.univ.sup fun i : Fin 4096 => S (ix4 b h t i) := by
  have hi : ∀ i, (constant S_ .f32 0xFF800000#32 : FVec Ideal S_ .f32) i = (⊥ : EReal) := fun _ => minus_inf
  have hw : ∀ i, (broadcastInDim S8x6x4096 ![] bcast_S_S8x6x4096 (constant S_ .f32 0xFF800000#32) : FVec Ideal S8x6x4096 .f32) i = (⊥ : EReal) := fun i => hi _
  unfold top
  generalize (constant S_ .f32 0xFF800000#32 : FVec Ideal S_ .f32) = z at *
  generalize (broadcastInDim S8x6x4096 ![] bcast_S_S8x6x4096 z : FVec Ideal S8x6x4096 .f32) = w at *
  exact row_max S z w _ red3 _ hi hw b h t

end Cert.ReferenceIdeal.Fox
-- ==== Proof.RefAvg.lean ====
module

public import proofs.«01_k».proof.Proof.Ref
public import proofs.«01_k».proof.Proof.Top
public import proofs.«01_k».proof.Proof.Gen.ReferenceIdeal.Run

@[expose] public section

set_option maxRecDepth 65536

noncomputable section

namespace Cert.ReferenceIdeal.Fox

open Idealize.ShloMosaic Idealize.ShloMosaic.TcCoe
open Cert.ReferenceIdeal Cert.ReferenceIdeal.Gen Cert.ReferenceIdeal.Value
open Cert.Fox

theorem avg_at (v : FVec Ideal S8x4096x6x64 .f32) (E : FVec Ideal S8x6x4096x4096 .f32) (b : Fin 8) (t : Fin 4096) (h : Fin 6) (d : Fin 64) :
    avg v E (ix4 b t h d) = ∑ i : Fin 4096, v (ix4 b i h d) * Ideal.div (E (ix4 b h t i)) (∑ i : Fin 4096, E (ix4 b h t i)) := by
  pointwise [avg]

end Cert.ReferenceIdeal.Fox
-- ==== Proof.RefRes.lean ====
module

public import proofs.«01_k».proof.Proof.RefTop
public import proofs.«01_k».proof.Proof.RefAvg

@[expose] public section

set_option maxRecDepth 65536

noncomputable section

namespace Cert.ReferenceIdeal.Fox

open Idealize.ShloMosaic Idealize.ShloMosaic.TcCoe
open Cert.ReferenceIdeal Cert.ReferenceIdeal.Gen Cert.ReferenceIdeal.Value
open Cert.Fox

/-- The scale of the scores. -/
theorem eighth : Ideal.ofBits .f32 0x3E000000#32 = (((1 : ℝ) / 8 : ℝ) : EReal) := by
  simp [Ideal.ofBits, Ideal.ieee]
  norm_num
  rw [← EReal.coe_mul]
  norm_num

/-- Averaging by normalised exponentials: the greatest score cancels. -/
theorem softmax_avg {n : ℕ} (s : Fin n → EReal) (w : Fin n → ℝ) (v : Fin n → EReal) (t : Fin n)
    (hs : ∀ i, (∃ x : ℝ, s i = x ∧ w i = Real.exp x) ∨ (s i = ⊥ ∧ w i = 0)) (ht : s t ≠ ⊥) :
    ∑ i, v i * Ideal.div (Ideal.exp (s i - Finset.univ.sup s)) (∑ i, Ideal.exp (s i - Finset.univ.sup s))
      = (∑ i, v i * (w i : EReal)) * (((∑ i, w i)⁻¹ : ℝ) : EReal) := by
  have htop : ∀ i, s i ≠ ⊤ := fun i => by
    rcases hs i with ⟨x, hx, -⟩ | ⟨hx, -⟩ <;> rw [hx]
    · exact EReal.coe_ne_top x
    · exact bot_ne_top
  have hw0 : ∀ i, 0 ≤ w i := fun i => by
    rcases hs i with ⟨x, -, hx⟩ | ⟨-, hx⟩ <;> rw [hx]
    exact (Real.exp_pos x).le
  have hwt : 0 < w t := by
    rcases hs t with ⟨x, -, hx⟩ | ⟨hx, -⟩
    · rw [hx]; exact Real.exp_pos x
    · exact absurd hx ht
  have hL : 0 < ∑ i, w i := Finset.sum_pos' (fun i _ => hw0 i) ⟨t, Finset.mem_univ t, hwt⟩
  obtain ⟨r, hr⟩ := sup_real s htop t ht
  have he : ∀ i, Ideal.exp (s i - Finset.univ.sup s) = ((w i * Real.exp (-r) : ℝ) : EReal) := fun i => by
    rw [hr]
    rcases hs i with ⟨x, hx, hw⟩ | ⟨hx, hw⟩
    · rw [hx, hw, ← EReal.coe_sub, ← Real.exp_add]; rfl
    · rw [hx, hw, zero_mul, EReal.bot_sub]; rfl
  have hsum : ∑ i, Ideal.exp (s i - Finset.univ.sup s) = (((∑ i, w i) * Real.exp (-r) : ℝ) : EReal) := by
    rw [Finset.sum_congr rfl fun i _ => he i, Finset.sum_mul, coe_sum]
  have hp : (0 : ℝ) < Real.exp (-r) := Real.exp_pos _
  have hd : ∀ i, Ideal.div (Ideal.exp (s i - Finset.univ.sup s)) (∑ i, Ideal.exp (s i - Finset.univ.sup s)) = ((w i * (∑ i, w i)⁻¹ : ℝ) : EReal) := fun i => by
    rw [hsum, he i]
    unfold Ideal.div
    rw [if_neg (by exact_mod_cast (mul_pos hL hp).ne'), ← EReal.coe_inv, ← EReal.coe_mul]
    congr 1
    field_simp
  rw [sum_mul_coe _ (inv_nonneg.mpr hL.le)]
  refine Finset.sum_congr rfl fun i _ => ?_
  rw [hd i, mul_mul_coe]

variable (qr kr : Sq.Idx → ℝ) (gr : Sg.Idx → ℝ) (v : Sq.Idx → EReal)

/-- The reference's result is the attention. -/
theorem ref_at (b : Fin 8) (t : Fin 4096) (h : Fin 6) (d : Fin 64) :
    avg v (exps (scores (fun i => (qr i : EReal)) (fun i => (kr i : EReal)) (fun i => (gr i : EReal)))) (ix4 b t h d) = att qr kr gr v b t h d := by
  rw [avg_at]
  simp only [exps_at, top_at]
  have hs : ∀ i : Fin 4096, scores (fun i => (qr i : EReal)) (fun i => (kr i : EReal)) (fun i => (gr i : EReal)) (ix4 b h t i)
      = if i.val ≤ t.val then (scr qr kr gr b h t i : EReal) else ⊥ := fun i => by
    rw [scores_at, eighth]
    refine congrArg (fun x : EReal => if i.val ≤ t.val then x else ⊥) ?_
    simp only [← EReal.coe_mul]
    rw [← coe_sum, ← EReal.coe_mul, ← EReal.coe_add, ← EReal.coe_sub]
    rfl
  exact softmax_avg (fun i => scores (fun i => (qr i : EReal)) (fun i => (kr i : EReal)) (fun i => (gr i : EReal)) (ix4 b h t i))
    (wgt qr kr gr b h t) (fun i => v (ix4 b i h d)) t (fun i => by
      by_cases hi : i.val ≤ t.val
      · exact .inl ⟨scr qr kr gr b h t i, (hs i).trans (if_pos hi), if_pos hi⟩
      · exact .inr ⟨(hs i).trans (if_neg hi), if_neg hi⟩) (by
      show scores _ _ _ _ ≠ ⊥
      rw [hs t, if_pos le_rfl]
      exact EReal.coe_ne_bot _)

end Cert.ReferenceIdeal.Fox
-- ==== Proof.Finite.lean ====
module

public import proofs.«01_k».proof.Pre_finite
public import Idealize.ShloMosaic.PureOps.Ideal.Laws
public import Idealize.ShloMosaic.Lib.ReduceAll

@[expose] public section

noncomputable section

namespace Cert.Fox

open Idealize.ShloMosaic

theorem plus_inf : Ideal.ofBits .f32 0x7F800000#32 = ⊤ := by
  simp [Ideal.ofBits, Ideal.ieee]

/-- An entry whose absolute value is below infinity is a number. -/
theorem real_of_lt {s : Shape} (x y : FVec Ideal s .f32) (i : s.Idx) (hy : y i = (⊤ : EReal)) (h : cmpf .olt (Host.absf x) y i = 1#1) :
    ∃ r : ℝ, x i = (r : EReal) := by
  have h' : BitVec.ofBool (decide (max (x i : EReal) (-(x i : EReal)) < y i)) = 1#1 := h
  rw [hy] at h'
  have hlt : max (x i : EReal) (-(x i : EReal)) < ⊤ := by
    by_contra hn
    rw [decide_eq_false hn] at h'
    exact absurd h' (by decide)
  have h1 : (x i : EReal) ≠ ⊤ := ((le_max_left _ _).trans_lt hlt).ne
  have h2 : (x i : EReal) ≠ ⊥ := fun e => ((le_max_right (x i : EReal) _).trans_lt hlt).ne (by rw [e]; rfl)
  exact ⟨_, (EReal.coe_toReal h1 h2).symm⟩

theorem and_one (a b : BitVec 1) (h : IntOp.andi a b = 1#1) : a = 1#1 ∧ b = 1#1 := by
  revert a b; decide

/-- A conjunction over every entry. -/
theorem reals_of_all {s t u : Shape} [Subsingleton t.Idx] {axes : List (Fin s.rank)} (x y : FVec Ideal s .f32) (hy : ∀ i, y i = (⊤ : EReal)) (init : u.Idx → BitVec 1)
    (h : s.ReducesTo axes t) (hu : 0 < u.numel) (j : t.Idx) (e : Host.reduce IntOp.andi (cmpf .olt (Host.absf x) y) init h hu j = 1#1) :
    ∃ r : s.Idx → ℝ, x = fun i => (r i : EReal) := by
  have := fun i => real_of_lt x y i (hy i) (Host.reduce_andi_all _ init h hu j e i)
  choose r hr using this
  exact ⟨r, funext hr⟩

open Cert.Pre_finite in
/-- What the precondition says: queries, keys and decay are arrays of numbers. -/
theorem reals [Facts] (q k v : FVec Ideal S8x4096x6x64 .f32) (g : FVec Ideal S8x4096x6 .f32) (h : Cert.Pre_finite.fn (F := Ideal) q k v g = fun _ => 1#1) :
    (∃ r : S8x4096x6x64.Idx → ℝ, q = fun i => (r i : EReal)) ∧ (∃ r : S8x4096x6x64.Idx → ℝ, k = fun i => (r i : EReal)) ∧ (∃ r : S8x4096x6.Idx → ℝ, g = fun i => (r i : EReal)) := by
  have j : S_.Idx := fun i => i.elim0
  haveI : Subsingleton S_.Idx := ⟨fun a b => funext fun i => i.elim0⟩
  have hj := congrFun h j
  obtain ⟨h01, h3⟩ := and_one _ _ hj
  obtain ⟨h0, h1⟩ := and_one _ _ h01
  exact ⟨reals_of_all q _ (fun _ => plus_inf) _ _ _ j h0, reals_of_all k _ (fun _ => plus_inf) _ _ _ j h1, reals_of_all g _ (fun _ => plus_inf) _ _ _ j h3⟩

end Cert.Fox
-- ==== Proof.Rows.lean ====
module

public import Idealize.ShloMosaic.Lib.Pointwise

@[expose] public section

noncomputable section

namespace Cert.Rows

open Idealize.ShloMosaic

/-! The feed-forward and the normalisation of ONE row, over the extended reals: what both calls and both
    references compute of each row of their arrays. -/

/-- The mean of a row. -/
def avg (y : Fin 1024 → EReal) : EReal := Ideal.div (∑ k, y k) (Ideal.ofBits .f32 0x44800000#32)

/-- A row with its mean taken off. -/
def dev (y : Fin 1024 → EReal) (n : Fin 1024) : EReal := y n - avg y

/-- The layer norm of a row, with gain `g` and bias `b`. -/
def ln (y g b : Fin 1024 → EReal) (n : Fin 1024) : EReal :=
  dev y n * Ideal.rsqrt (avg (fun k => dev y k * dev y k) + Ideal.ofBits .f32 0x3727C5AC#32) * g n + b n

/-- The gated hidden unit `f` of a row: `silu (x·wg) · (x·wu)`. -/
def hid (x : Fin 1024 → EReal) (wg wu : Fin 1024 → Fin 2816 → EReal) (f : Fin 2816) : EReal :=
  (∑ k, x k * wg k f) * Ideal.logistic (∑ k, x k * wg k f) * ∑ k, x k * wu k f

/-- The feed-forward of a row. -/
def swiglu (x : Fin 1024 → EReal) (wg wu : Fin 1024 → Fin 2816 → EReal) (wd : Fin 2816 → Fin 1024 → EReal) (n : Fin 1024) : EReal :=
  ∑ f, hid x wg wu f * wd f n

/-- The residual of a row: `α·x + ½·swiglu x`. -/
def resid (x : Fin 1024 → EReal) (wg wu : Fin 1024 → Fin 2816 → EReal) (wd : Fin 2816 → Fin 1024 → EReal) (n : Fin 1024) : EReal :=
  Ideal.ofBits .f32 0x3FB504F3#32 * x n + Ideal.ofBits .f32 0x3F000000#32 * swiglu x wg wu wd n

/-- The feed-forward of a row, its residual and its layer norm. -/
def ffn (x : Fin 1024 → EReal) (wg wu : Fin 1024 → Fin 2816 → EReal) (wd : Fin 2816 → Fin 1024 → EReal) (g b : Fin 1024 → EReal) (n : Fin 1024) : EReal :=
  ln (resid x wg wu wd) g b n

/-- Three parts side by side in a row of 1024. -/
def cat (p : Fin 384 → EReal) (q : Fin 256 → EReal) (r : Fin 384 → EReal) (k : Fin 1024) : EReal :=
  if h : k.val < 384 then p ⟨k.val, h⟩ else if h' : k.val - 384 < 256 then q ⟨k.val - 384, h'⟩ else r ⟨k.val - 640, by omega⟩

/-- The mixers' outputs `x` projected, on the residual `α·h`. -/
def mixed (x h : Fin 1024 → EReal) (wo : Fin 1024 → Fin 1024 → EReal) (n : Fin 1024) : EReal :=
  Ideal.ofBits .f32 0x3FB504F3#32 * h n + ∑ k, x k * wo k n

/-- Hidden unit `f` of the first 1536. -/
abbrev f0 (f : Fin 1536) : Fin 2816 := ⟨f.val, by omega⟩
/-- Hidden unit `f` of the last 1280. -/
abbrev f1 (f : Fin 1280) : Fin 2816 := ⟨1536 + f.val, by omega⟩

/-- A sum over the hidden units is the sum over the first 1536 and the sum over the last 1280. -/
theorem sum_split (F : Fin 2816 → EReal) : (∑ f, F (f0 f)) + ∑ f, F (f1 f) = ∑ f, F f :=
  (Fin.sum_univ_add (a := 1536) (b := 1280) F).symm

/-- A part of the feed-forward of row `x`: the hidden units of `ι`, with their columns of the weights. -/
def part (ι : Type) [Fintype ι] (x : Fin 1024 → EReal) (wg wu : Fin 1024 → ι → EReal) (wd : ι → Fin 1024 → EReal) (n : Fin 1024) : EReal :=
  ∑ f, ((∑ k, x k * wg k f) * Ideal.logistic (∑ k, x k * wg k f) * ∑ k, x k * wu k f) * wd f n

/-- The part of equal rows and weights is equal. -/
theorem part_congr {ι : Type} [Fintype ι] {x x' : Fin 1024 → EReal} {wg wg' wu wu' : Fin 1024 → ι → EReal} {wd wd' : ι → Fin 1024 → EReal}
    (hx : x = x') (hg : wg = wg') (hu : wu = wu') (hd : wd = wd') (n : Fin 1024) : part ι x wg wu wd n = part ι x' wg' wu' wd' n := by
  subst hx hg hu hd; rfl

/-- The layer norm of equal rows, gains and biases is equal. -/
theorem ln_congr {y y' g g' b b' : Fin 1024 → EReal} (hy : y = y') (hg : g = g') (hb : b = b') (n : Fin 1024) : ln y g b n = ln y' g' b' n := by
  subst hy hg hb; rfl

/-- The projection of equal parts and weights is equal. -/
theorem mixed_congr {p p' : Fin 384 → EReal} {q q' : Fin 256 → EReal} {r r' : Fin 384 → EReal} {h h' : Fin 1024 → EReal} {wo wo' : Fin 1024 → Fin 1024 → EReal}
    (hp : p = p') (hq : q = q') (hr : r = r') (hh : h = h') (hw : wo = wo') : mixed (cat p q r) h wo = mixed (cat p' q' r') h' wo' := by
  subst hp hq hr hh hw; rfl

/-- The feed-forward of equal rows and weights is equal. -/
theorem ffn_congr {x x' : Fin 1024 → EReal} {wg wg' wu wu' : Fin 1024 → Fin 2816 → EReal} {wd wd' : Fin 2816 → Fin 1024 → EReal} {g g' b b' : Fin 1024 → EReal}
    (hx : x = x') (h1 : wg = wg') (h2 : wu = wu') (h3 : wd = wd') (h4 : g = g') (h5 : b = b') (n : Fin 1024) : ffn x wg wu wd g b n = ffn x' wg' wu' wd' g' b' n := by
  subst hx h1 h2 h3 h4 h5; rfl

/-- The feed-forward in the two parts of the hidden units. -/
theorem swiglu_split (x : Fin 1024 → EReal) (wg wu : Fin 1024 → Fin 2816 → EReal) (wd : Fin 2816 → Fin 1024 → EReal) (n : Fin 1024) :
    part (Fin 1536) x (fun k f => wg k (f0 f)) (fun k f => wu k (f0 f)) (fun f n => wd (f0 f) n) n
      + part (Fin 1280) x (fun k f => wg k (f1 f)) (fun k f => wu k (f1 f)) (fun f n => wd (f1 f) n) n = swiglu x wg wu wd n :=
  sum_split fun f => hid x wg wu f * wd f n

/-- The residual, with the feed-forward in the two parts of the hidden units. -/
theorem resid_split (x : Fin 1024 → EReal) (wg wu : Fin 1024 → Fin 2816 → EReal) (wd : Fin 2816 → Fin 1024 → EReal) (n : Fin 1024) (z a b : EReal)
    (hz : z = x n) (ha : a = part (Fin 1536) x (fun k f => wg k (f0 f)) (fun k f => wu k (f0 f)) (fun f n => wd (f0 f) n) n)
    (hb : b = part (Fin 1280) x (fun k f => wg k (f1 f)) (fun k f => wu k (f1 f)) (fun f n => wd (f1 f) n) n) :
    Ideal.ofBits .f32 0x3FB504F3#32 * z + Ideal.ofBits .f32 0x3F000000#32 * (a + b) = resid x wg wu wd n := by
  rw [hz, ha, hb, swiglu_split]; rfl

end Cert.Rows
-- ==== Proof.FfPay.lean ====
module

public import proofs.«01_k».proof.Proof.Rows
public import proofs.«01_k».proof.Proof.Gen.FeedForwardIdeal.Value

@[expose] public section

set_option maxRecDepth 65536

noncomputable section

namespace Cert.FeedForwardIdeal.Ffn

open Idealize.ShloMosaic Idealize.ShloMosaic.TcCoe Idealize.ShloMosaic.Tactic Idealize.SL.Sem
open Cert.FeedForwardIdeal Cert.FeedForwardIdeal.Gen
open Cert.Rows

/-! ## The loads, at an index -/

theorem ld0 (x : Vec Ideal S1024x1024 .f32) (j : Fin 512) (k : Fin 1024) : (View.ld x r0_0 : Vec Ideal _ _) (ix2 j k) = x (ix2 ⟨j.val, by omega⟩ k) := by
  refine congrArg x (funext fun a => Fin.ext ?_)
  match a with
  | ⟨0, _⟩ => exact (by omega : 0 + 1 * j.val = j.val)
  | ⟨1, _⟩ => exact (by omega : 0 + 1 * k.val = k.val)
theorem ld3 (x : Vec Ideal S1024x1024 .f32) (j : Fin 512) (k : Fin 1024) : (View.ld x r0_3 : Vec Ideal _ _) (ix2 j k) = x (ix2 ⟨512 + j.val, by omega⟩ k) := by
  refine congrArg x (funext fun a => Fin.ext ?_)
  match a with
  | ⟨0, _⟩ => exact (by omega : 512 + 1 * j.val = 512 + j.val)
  | ⟨1, _⟩ => exact (by omega : 0 + 1 * k.val = k.val)
theorem ld1 (x : Vec Ideal S1x1024x2816 .bf16) (k : Fin 1024) (f : Fin 1536) : (View.ld x r0_1 : Vec Ideal _ _) (ix3 0 k f) = x (ix3 0 k (f0 f)) := by
  refine congrArg x (funext fun a => Fin.ext ?_)
  match a with
  | ⟨0, _⟩ => rfl
  | ⟨1, _⟩ => exact (by omega : 0 + 1 * k.val = k.val)
  | ⟨2, _⟩ => exact (by omega : 0 + 1 * f.val = f.val)
theorem ld4 (x : Vec Ideal S1x1024x2816 .bf16) (k : Fin 1024) (f : Fin 1280) : (View.ld x r0_4 : Vec Ideal _ _) (ix3 0 k f) = x (ix3 0 k (f1 f)) := by
  refine congrArg x (funext fun a => Fin.ext ?_)
  match a with
  | ⟨0, _⟩ => rfl
  | ⟨1, _⟩ => exact (by omega : 0 + 1 * k.val = k.val)
  | ⟨2, _⟩ => exact (by omega : 1536 + 1 * f.val = 1536 + f.val)
theorem ld2 (x : Vec Ideal S1x2816x1024 .bf16) (f : Fin 1536) (n : Fin 1024) : (View.ld x r0_2 : Vec Ideal _ _) (ix3 0 f n) = x (ix3 0 (f0 f) n) := by
  refine congrArg x (funext fun a => Fin.ext ?_)
  match a with
  | ⟨0, _⟩ => rfl
  | ⟨1, _⟩ => exact (by omega : 0 + 1 * f.val = f.val)
  | ⟨2, _⟩ => exact (by omega : 0 + 1 * n.val = n.val)
theorem ld5 (x : Vec Ideal S1x2816x1024 .bf16) (f : Fin 1280) (n : Fin 1024) : (View.ld x r0_5 : Vec Ideal _ _) (ix3 0 f n) = x (ix3 0 (f1 f) n) := by
  refine congrArg x (funext fun a => Fin.ext ?_)
  match a with
  | ⟨0, _⟩ => rfl
  | ⟨1, _⟩ => exact (by omega : 1536 + 1 * f.val = 1536 + f.val)
  | ⟨2, _⟩ => exact (by omega : 0 + 1 * n.val = n.val)
theorem ld6 (x : Vec Ideal S1x1x1024 .f32) (n : Fin 1024) : (View.ld x r0_6 : Vec Ideal _ _) (ix3 0 0 n) = x (ix3 0 0 n) := by
  refine congrArg x (funext fun a => Fin.ext ?_)
  match a with
  | ⟨0, _⟩ => rfl
  | ⟨1, _⟩ => rfl
  | ⟨2, _⟩ => exact (by omega : 0 + 1 * n.val = n.val)

/-! ## The payloads, at an index -/

theorem pay2_at (x : FVec Ideal S512x1024 .f32) (j : Fin 512) (n : Fin 1024) : k0_pay2 x (ix2 j n) = x (ix2 j n) := by
  pointwise [k0_pay2]
theorem pay5_at (x : FVec Ideal S512x1024 .f32) (j : Fin 512) (n : Fin 1024) : k0_pay5 x (ix2 j n) = x (ix2 j n) := by
  pointwise [k0_pay5]
theorem pay4_at (x : FVec Ideal S512x1024 .f32) (g u : FVec Ideal S1x1024x1536 .bf16) (d : FVec Ideal S1x1536x1024 .bf16) (j : Fin 512) (n : Fin 1024) :
    k0_pay4 (F := Ideal) x g u d (ix2 j n) = part (Fin 1536) (fun k => x (ix2 j k)) (fun k f => g (ix3 0 k f)) (fun k f => u (ix3 0 k f)) (fun f n => d (ix3 0 f n)) n := by
  pointwise [k0_pay4, k0_pay3, k0_pay2]
  rfl
theorem pay6_at (x : FVec Ideal S512x1024 .f32) (g u : FVec Ideal S1x1024x1280 .bf16) (d : FVec Ideal S1x1280x1024 .bf16) (j : Fin 512) (n : Fin 1024) :
    k0_pay6 (F := Ideal) x g u d (ix2 j n) = part (Fin 1280) (fun k => x (ix2 j k)) (fun k f => g (ix3 0 k f)) (fun k f => u (ix3 0 k f)) (fun f n => d (ix3 0 f n)) n := by
  pointwise [k0_pay6, k0_pay3, k0_pay2]
  rfl
theorem pay8_at (x : FVec Ideal S512x1024 .f32) (g u : FVec Ideal S1x1024x1536 .bf16) (d : FVec Ideal S1x1536x1024 .bf16) (j : Fin 512) (n : Fin 1024) :
    k0_pay8 (F := Ideal) x g u d (ix2 j n) = part (Fin 1536) (fun k => x (ix2 j k)) (fun k f => g (ix3 0 k f)) (fun k f => u (ix3 0 k f)) (fun f n => d (ix3 0 f n)) n := by
  pointwise [k0_pay8, k0_pay7]
  rfl
theorem pay9_at (x : FVec Ideal S1x1x1024 .f32) (n : Fin 1024) : k0_pay9 x (ix2 0 n) = x (ix3 0 0 n) := by
  pointwise [k0_pay9]
theorem pay10_at (x : FVec Ideal S1x1x1024 .f32) (n : Fin 1024) : k0_pay10 x (ix2 0 n) = x (ix3 0 0 n) := by
  pointwise [k0_pay10]
theorem pay15_at (x : FVec Ideal S1x1x1024 .f32) (n : Fin 1024) : k0_pay15 x (ix2 0 n) = x (ix3 0 0 n) := by
  pointwise [k0_pay15]
theorem pay16_at (x : FVec Ideal S1x1x1024 .f32) (n : Fin 1024) : k0_pay16 x (ix2 0 n) = x (ix3 0 0 n) := by
  pointwise [k0_pay16]
theorem pay11_at (x a b : FVec Ideal S512x1024 .f32) (j : Fin 512) (n : Fin 1024) :
    k0_pay11 x a b (ix2 j n) = dev (fun n => Ideal.ofBits .f32 0x3FB504F3#32 * x (ix2 j n) + Ideal.ofBits .f32 0x3F000000#32 * (a (ix2 j n) + b (ix2 j n))) n := by
  pointwise [k0_pay11]
  rfl
theorem pay12_at (x a b : FVec Ideal S512x1024 .f32) (j : Fin 512) :
    k0_pay12 x a b (ix2 j 0) = avg fun n => k0_pay11 x a b (ix2 j n) * k0_pay11 x a b (ix2 j n) := by
  pointwise [k0_pay12]
  rfl
theorem pay13_at (a b : FVec Ideal S1x1024 .f32) (d : FVec Ideal S512x1024 .f32) (e : FVec Ideal S512x1 .f32) (x : Ideal .f32) (j : Fin 512) (n : Fin 1024) :
    k0_pay13 a b d e x (ix2 j n) = d (ix2 j n) * Ideal.rsqrt (e (ix2 j 0) + x) * a (ix2 0 n) + b (ix2 0 n) := by
  pointwise [k0_pay13]
theorem pay14_at (x : FVec Ideal S512x1024 .f32) (a : FVec Ideal S512x1024 .f32) (g u : FVec Ideal S1x1024x1280 .bf16) (d : FVec Ideal S1x1280x1024 .bf16) (j : Fin 512) (n : Fin 1024) :
    k0_pay14 x (k0_pay7 x) a g u d (ix2 j n) = Ideal.ofBits .f32 0x3FB504F3#32 * x (ix2 j n) + Ideal.ofBits .f32 0x3F000000#32 * (a (ix2 j n)
      + part (Fin 1280) (fun k => x (ix2 j k)) (fun k f => g (ix3 0 k f)) (fun k f => u (ix3 0 k f)) (fun f n => d (ix3 0 f n)) n) := by
  pointwise [k0_pay14, k0_pay7]
  rfl
theorem pay17_at (x : FVec Ideal S512x1024 .f32) (y : FVec Ideal S512x1024 .bf16) (a : FVec Ideal S512x1024 .f32) (g u : FVec Ideal S1x1024x1280 .bf16) (d : FVec Ideal S1x1280x1024 .bf16) (j : Fin 512) :
    k0_pay17 x y a g u d (ix2 j 0) = ∑ n, k0_pay14 x y a g u d (ix2 j n) := by
  pointwise [k0_pay17]
theorem pay1_at (y : FVec Ideal S512x1024 .f32) (g b : FVec Ideal S1x1024 .f32) (s : FVec Ideal S512x1 .f32) (j : Fin 512) (n : Fin 1024)
    (hs : s (ix2 j 0) = ∑ n : Fin 1024, y (ix2 j n)) :
    k0_pay1 y g b s (Ideal.ofBits .f32 0x44800000#32) (ix2 j n) = ln (fun n => y (ix2 j n)) (fun n => g (ix2 0 n)) (fun n => b (ix2 0 n)) n := by
  pointwise [k0_pay1]
  rw [hs]
  rfl

end Cert.FeedForwardIdeal.Ffn
-- ==== Proof.FfOut.lean ====
module

public import proofs.«01_k».proof.Proof.FfPay

@[expose] public section

set_option maxRecDepth 65536

noncomputable section

namespace Cert.FeedForwardIdeal.Ffn

open Idealize.ShloMosaic Idealize.ShloMosaic.TcCoe Idealize.ShloMosaic.Tactic Idealize.SL.Sem
open Cert.FeedForwardIdeal Cert.FeedForwardIdeal.Gen
open Cert.Rows

variable (x0 : Vec Ideal S1024x1024 .f32) (x1 x2 : Vec Ideal S1x1024x2816 .bf16) (x3 : Vec Ideal S1x2816x1024 .bf16) (x4 x5 : Vec Ideal S1x1x1024 .f32)

/-- Row `r` of the block, as the body normalises it. -/
def rowOut (r : Fin 1024) (n : Fin 1024) : EReal :=
  ffn (fun k => x0 (ix2 r k)) (fun k f => x1 (ix3 0 k f)) (fun k f => x2 (ix3 0 k f)) (fun f n => x3 (ix3 0 f n)) (fun n => x4 (ix3 0 0 n)) (fun n => x5 (ix3 0 0 n)) n

/-- The two parts of the feed-forward of row `r`, read off the block's weights. -/
abbrev lowPart (r : Fin 1024) (n : Fin 1024) : EReal :=
  part (Fin 1536) (fun k => x0 (ix2 r k)) (fun k f => x1 (ix3 0 k (f0 f))) (fun k f => x2 (ix3 0 k (f0 f))) (fun f n => x3 (ix3 0 (f0 f) n)) n
abbrev highPart (r : Fin 1024) (n : Fin 1024) : EReal :=
  part (Fin 1280) (fun k => x0 (ix2 r k)) (fun k f => x1 (ix3 0 k (f1 f))) (fun k f => x2 (ix3 0 k (f1 f))) (fun f n => x3 (ix3 0 (f1 f) n)) n

theorem pay18_at (j : Fin 512) (n : Fin 1024) : k0_pay18 x0 x1 x2 x3 x4 x5 (ix2 j n) = x0 (ix2 ⟨j.val, by omega⟩ n) :=
  (pay2_at _ j n).trans (ld0 x0 j n)
theorem pay20_at (j : Fin 512) (n : Fin 1024) : k0_pay20 x0 x1 x2 x3 x4 x5 (ix2 j n) = x0 (ix2 ⟨512 + j.val, by omega⟩ n) :=
  (pay5_at _ j n).trans (ld3 x0 j n)
theorem pay19_at (j : Fin 512) (n : Fin 1024) : k0_pay19 x0 x1 x2 x3 x4 x5 (ix2 j n) = lowPart x0 x1 x2 x3 ⟨j.val, by omega⟩ n :=
  (pay4_at _ _ _ _ j n).trans (part_congr (funext fun k => ld0 x0 j k) (funext fun k => funext fun f => ld1 x1 k f)
    (funext fun k => funext fun f => ld1 x2 k f) (funext fun f => funext fun n => ld2 x3 f n) n)
theorem pay21_at (j : Fin 512) (n : Fin 1024) : k0_pay21 x0 x1 x2 x3 x4 x5 (ix2 j n) = highPart x0 x1 x2 x3 ⟨j.val, by omega⟩ n :=
  (pay6_at _ _ _ _ j n).trans (part_congr (funext fun k => ld0 x0 j k) (funext fun k => funext fun f => ld4 x1 k f)
    (funext fun k => funext fun f => ld4 x2 k f) (funext fun f => funext fun n => ld5 x3 f n) n)
theorem pay23_at (j : Fin 512) (n : Fin 1024) : k0_pay23 x0 x1 x2 x3 x4 x5 (ix2 j n) = lowPart x0 x1 x2 x3 ⟨512 + j.val, by omega⟩ n :=
  (pay8_at _ _ _ _ j n).trans (part_congr (funext fun k => pay20_at x0 x1 x2 x3 x4 x5 j k) (funext fun k => funext fun f => ld1 x1 k f)
    (funext fun k => funext fun f => ld1 x2 k f) (funext fun f => funext fun n => ld2 x3 f n) n)

/-- The residual of row `r`. -/
abbrev rowRes (r : Fin 1024) : Fin 1024 → EReal :=
  resid (fun k => x0 (ix2 r k)) (fun k f => x1 (ix3 0 k f)) (fun k f => x2 (ix3 0 k f)) (fun f n => x3 (ix3 0 f n))

theorem res_of (r : Fin 1024) (n : Fin 1024) (x a b : EReal) (hx : x = x0 (ix2 r n)) (ha : a = lowPart x0 x1 x2 x3 r n) (hb : b = highPart x0 x1 x2 x3 r n) :
    Ideal.ofBits .f32 0x3FB504F3#32 * x + Ideal.ofBits .f32 0x3F000000#32 * (a + b) = rowRes x0 x1 x2 x3 r n :=
  resid_split (fun k => x0 (ix2 r k)) (fun k f => x1 (ix3 0 k f)) (fun k f => x2 (ix3 0 k f)) (fun f n => x3 (ix3 0 f n)) n x a b hx ha hb

theorem dev_at (j : Fin 512) (n : Fin 1024) :
    k0_pay11 (k0_pay18 x0 x1 x2 x3 x4 x5) (k0_pay19 x0 x1 x2 x3 x4 x5) (k0_pay21 x0 x1 x2 x3 x4 x5) (ix2 j n) = dev (rowRes x0 x1 x2 x3 ⟨j.val, by omega⟩) n :=
  (pay11_at _ _ _ j n).trans (congrArg (fun y => dev y n) (funext fun n =>
    res_of x0 x1 x2 x3 ⟨j.val, by omega⟩ n _ _ _ (pay18_at x0 x1 x2 x3 x4 x5 j n) (pay19_at x0 x1 x2 x3 x4 x5 j n) (pay21_at x0 x1 x2 x3 x4 x5 j n)))

theorem var_at (j : Fin 512) :
    k0_pay12 (k0_pay18 x0 x1 x2 x3 x4 x5) (k0_pay19 x0 x1 x2 x3 x4 x5) (k0_pay21 x0 x1 x2 x3 x4 x5) (ix2 j 0)
      = avg fun n => dev (rowRes x0 x1 x2 x3 ⟨j.val, by omega⟩) n * dev (rowRes x0 x1 x2 x3 ⟨j.val, by omega⟩) n :=
  (pay12_at _ _ _ j).trans (congrArg avg (funext fun n => congrArg₂ (· * ·) (dev_at x0 x1 x2 x3 x4 x5 j n) (dev_at x0 x1 x2 x3 x4 x5 j n)))

/-- The first store's payload: the first 512 rows. -/
theorem first_at (j : Fin 512) (n : Fin 1024) :
    k0_pay13 (k0_pay9 (View.ld x4 r0_6)) (k0_pay10 (View.ld x5 r0_6)) (k0_pay11 (k0_pay18 x0 x1 x2 x3 x4 x5) (k0_pay19 x0 x1 x2 x3 x4 x5) (k0_pay21 x0 x1 x2 x3 x4 x5))
      (k0_pay12 (k0_pay18 x0 x1 x2 x3 x4 x5) (k0_pay19 x0 x1 x2 x3 x4 x5) (k0_pay21 x0 x1 x2 x3 x4 x5)) (Scalar.ofBits .f32 0x3727C5AC#32) (ix2 j n)
      = rowOut x0 x1 x2 x3 x4 x5 ⟨j.val, by omega⟩ n :=
  (pay13_at _ _ _ _ _ j n).trans (congrArg₂ (· + ·) (congrArg₂ (· * ·) (congrArg₂ (· * ·) (dev_at x0 x1 x2 x3 x4 x5 j n)
    (congrArg (fun v : EReal => Ideal.rsqrt (v + Ideal.ofBits .f32 0x3727C5AC#32)) (var_at x0 x1 x2 x3 x4 x5 j)))
    ((pay9_at _ n).trans (ld6 x4 n))) ((pay10_at _ n).trans (ld6 x5 n)))

theorem res2_at (j : Fin 512) (n : Fin 1024) :
    k0_pay14 (k0_pay20 x0 x1 x2 x3 x4 x5) (k0_pay22 x0 x1 x2 x3 x4 x5) (k0_pay23 x0 x1 x2 x3 x4 x5) (View.ld x1 r0_4) (View.ld x2 r0_4) (View.ld x3 r0_5) (ix2 j n)
      = rowRes x0 x1 x2 x3 ⟨512 + j.val, by omega⟩ n :=
  (pay14_at _ _ _ _ _ j n).trans (res_of x0 x1 x2 x3 ⟨512 + j.val, by omega⟩ n _ _ _ (pay20_at x0 x1 x2 x3 x4 x5 j n) (pay23_at x0 x1 x2 x3 x4 x5 j n)
    (part_congr (funext fun k => pay20_at x0 x1 x2 x3 x4 x5 j k) (funext fun k => funext fun f => ld4 x1 k f)
    (funext fun k => funext fun f => ld4 x2 k f) (funext fun f => funext fun n => ld5 x3 f n) n))

/-- The second store's payload: the last 512 rows. -/
theorem second_at (j : Fin 512) (n : Fin 1024) :
    k0_pay1 (k0_pay14 (k0_pay20 x0 x1 x2 x3 x4 x5) (k0_pay22 x0 x1 x2 x3 x4 x5) (k0_pay23 x0 x1 x2 x3 x4 x5) (View.ld x1 r0_4) (View.ld x2 r0_4) (View.ld x3 r0_5))
      (k0_pay15 (View.ld x4 r0_6)) (k0_pay16 (View.ld x5 r0_6))
      (k0_pay17 (k0_pay20 x0 x1 x2 x3 x4 x5) (k0_pay22 x0 x1 x2 x3 x4 x5) (k0_pay23 x0 x1 x2 x3 x4 x5) (View.ld x1 r0_4) (View.ld x2 r0_4) (View.ld x3 r0_5)) (Scalar.ofBits .f32 0x44800000#32) (ix2 j n)
      = rowOut x0 x1 x2 x3 x4 x5 ⟨512 + j.val, by omega⟩ n :=
  (pay1_at _ _ _ _ j n (pay17_at _ _ _ _ _ _ j)).trans (ln_congr (funext fun n => res2_at x0 x1 x2 x3 x4 x5 j n)
    (funext fun n => (pay15_at _ n).trans (ld6 x4 n)) (funext fun n => (pay16_at _ n).trans (ld6 x5 n)) n)

/-- What the body leaves in its output block: each row's feed-forward, residual and layer norm. -/
theorem out_at (r n : Fin 1024) : out0_6 x0 x1 x2 x3 x4 x5 (ix2 r n) = rowOut x0 x1 x2 x3 x4 x5 r n := by
  refine View.canon_apply_of_pieces (Val := Elt Ideal) (fun i => rowOut x0 x1 x2 x3 x4 x5 (i 0) (i 1) : Vec Ideal S1024x1024 .f32) _ ?_ (ix2 r n) (cover0_6 _ _ _)
  intro p hp x
  rcases List.mem_cons.mp hp with rfl | hp
  · obtain ⟨j, n, rfl⟩ : ∃ (j : Fin 512) (n : Fin 1024), x = ix2 j n := ⟨x 0, x 1, eq_ix2 x⟩
    refine (second_at x0 x1 x2 x3 x4 x5 j n).trans (congrArg₂ (rowOut x0 x1 x2 x3 x4 x5) (Fin.ext ?_) (Fin.ext ?_))
    · exact (by omega : 512 + j.val = 512 + 1 * j.val)
    · exact (by omega : n.val = 0 + 1 * n.val)
  · obtain rfl := List.mem_singleton.mp hp
    obtain ⟨j, n, rfl⟩ : ∃ (j : Fin 512) (n : Fin 1024), x = ix2 j n := ⟨x 0, x 1, eq_ix2 x⟩
    refine (first_at x0 x1 x2 x3 x4 x5 j n).trans (congrArg₂ (rowOut x0 x1 x2 x3 x4 x5) (Fin.ext ?_) (Fin.ext ?_))
    · exact (by omega : j.val = 0 + 1 * j.val)
    · exact (by omega : n.val = 0 + 1 * n.val)

end Cert.FeedForwardIdeal.Ffn
-- ==== Proof.FfFinal.lean ====
module

public import proofs.«01_k».proof.Proof.FfOut

@[expose] public section

set_option maxRecDepth 65536

noncomputable section

namespace Cert.FeedForwardIdeal.Ffn

open Idealize.ShloMosaic Idealize.ShloMosaic.TcCoe Idealize.ShloMosaic.Tactic Idealize.SL.Sem
open Cert.FeedForwardIdeal Cert.FeedForwardIdeal.Gen
open Cert.Rows

variable (m : (ℓ : Loc nD τ sig) → Buf (Elt Ideal) ℓ) (c : Dev nD)

/-! ## The arrays the region finds -/

theorem V_v0 : V m c main_v0 = shapeCast S32768x1024 (m ((c.tc : Thread nD τ).loc main_arg0) : Vec Ideal S8x4096x1024 .f32) shapeCasts_S8x4096x1024_S32768x1024 := by
  show StableHlo.after hostOps0 _ (Proc.devRef .tc main_v0) = _
  after_results <;> rfl
theorem V_v1 : V m c main_v1 = (truncf .bf16 (m ((c.tc : Thread nD τ).loc main_arg1) : FVec Ideal S2x1024x2816 .f32) bitsLt_bf16_f32 : FVec Ideal S2x1024x2816 .bf16) := by
  show StableHlo.after hostOps0 _ (Proc.devRef .tc main_v1) = _
  after_results <;> rfl
theorem V_v2 : V m c main_v2 = (truncf .bf16 (m ((c.tc : Thread nD τ).loc main_arg2) : FVec Ideal S2x1024x2816 .f32) bitsLt_bf16_f32 : FVec Ideal S2x1024x2816 .bf16) := by
  show StableHlo.after hostOps0 _ (Proc.devRef .tc main_v2) = _
  after_results <;> rfl
theorem V_v3 : V m c main_v3 = (truncf .bf16 (m ((c.tc : Thread nD τ).loc main_arg3) : FVec Ideal S2x2816x1024 .f32) bitsLt_bf16_f32 : FVec Ideal S2x2816x1024 .bf16) := by
  show StableHlo.after hostOps0 _ (Proc.devRef .tc main_v3) = _
  after_results <;> rfl
theorem V_v4 : V m c main_v4 = shapeCast S2x1x1024 (m ((c.tc : Thread nD τ).loc main_arg4) : Vec Ideal S2x1024 .f32) shapeCasts_S2x1024_S2x1x1024 := by
  show StableHlo.after hostOps0 _ (Proc.devRef .tc main_v4) = _
  after_results <;> rfl
theorem V_v5 : V m c main_v5 = shapeCast S2x1x1024 (m ((c.tc : Thread nD τ).loc main_arg5) : Vec Ideal S2x1024 .f32) shapeCasts_S2x1024_S2x1x1024 := by
  show StableHlo.after hostOps0 _ (Proc.devRef .tc main_v5) = _
  after_results <;> rfl

theorem rows_at (h : FVec Ideal S8x4096x1024 .f32) (r : Fin 32768) (k : Fin 1024) :
    shapeCast S32768x1024 h shapeCasts_S8x4096x1024_S32768x1024 (ix2 r k) = h (ix3 ⟨r.val / 4096, by omega⟩ ⟨r.val % 4096, by omega⟩ k) := by
  pointwise []
theorem scale_at (g : FVec Ideal S2x1024 .f32) (n : Fin 1024) : shapeCast S2x1x1024 g shapeCasts_S2x1024_S2x1x1024 (ix3 0 0 n) = g (ix2 0 n) := by
  pointwise []

/-! ## The blocks a point looks at -/

theorem index_0 : ∀ t : Fin cfg0.N, win0_0.index t 0 = t.val ∧ win0_0.index t 1 = 0 := by decide +kernel
theorem index_1 : ∀ t : Fin cfg0.N, win0_1.index t 0 = 0 ∧ win0_1.index t 1 = 0 ∧ win0_1.index t 2 = 0 := by decide +kernel
theorem index_2 : ∀ t : Fin cfg0.N, win0_2.index t 0 = 0 ∧ win0_2.index t 1 = 0 ∧ win0_2.index t 2 = 0 := by decide +kernel
theorem index_3 : ∀ t : Fin cfg0.N, win0_3.index t 0 = 0 ∧ win0_3.index t 1 = 0 ∧ win0_3.index t 2 = 0 := by decide +kernel
theorem index_4 : ∀ t : Fin cfg0.N, win0_4.index t 0 = 0 ∧ win0_4.index t 1 = 0 ∧ win0_4.index t 2 = 0 := by decide +kernel
theorem index_5 : ∀ t : Fin cfg0.N, win0_5.index t 0 = 0 ∧ win0_5.index t 1 = 0 ∧ win0_5.index t 2 = 0 := by decide +kernel
theorem index_6 : ∀ t : Fin cfg0.N, win0_6.index t 0 = t.val ∧ win0_6.index t 1 = 0 := by decide +kernel

theorem zero_mul_add (n a : ℕ) : 0 * n + 1 * a = a := by omega
theorem mul_add_comm (n a b : ℕ) : a * n + 1 * b = n * a + b := by rw [Nat.mul_comm, Nat.one_mul]

/-- Row `j` of a point's block, as a row of the array. -/
abbrev row (t : Fin cfg0.N) (j : Fin 1024) : Fin 32768 := ⟨1024 * t.val + j.val, by have h : t.val < 32 := t.isLt; omega⟩

theorem iblk0_at (t : Fin cfg0.N) (j k : Fin 1024) : (iblk m c 0 t : Vec Ideal S1024x1024 .f32) (ix2 j k) = V m c main_v0 (ix2 (row t j) k) := by
  obtain ⟨e0, e1⟩ := index_0 t
  refine congrArg (V m c main_v0) (funext fun i => Fin.ext ?_)
  match i with
  | ⟨0, _⟩ => exact (congrArg (fun x : ℕ => x * 1024 + 1 * j.val) e0).trans (mul_add_comm _ _ _)
  | ⟨1, _⟩ => exact (congrArg (fun x : ℕ => x * 1024 + 1 * k.val) e1).trans (zero_mul_add _ _)
theorem iblk1_at (t : Fin cfg0.N) (k : Fin 1024) (f : Fin 2816) : (iblk m c 1 t : Vec Ideal S1x1024x2816 .bf16) (ix3 0 k f) = V m c main_v1 (ix3 0 k f) := by
  obtain ⟨e0, e1, e2⟩ := index_1 t
  refine congrArg (V m c main_v1) (funext fun i => Fin.ext ?_)
  match i with
  | ⟨0, _⟩ => exact (congrArg (fun x : ℕ => x * 1 + 1 * 0) e0).trans (zero_mul_add _ _)
  | ⟨1, _⟩ => exact (congrArg (fun x : ℕ => x * 1024 + 1 * k.val) e1).trans (zero_mul_add _ _)
  | ⟨2, _⟩ => exact (congrArg (fun x : ℕ => x * 2816 + 1 * f.val) e2).trans (zero_mul_add _ _)
theorem iblk2_at (t : Fin cfg0.N) (k : Fin 1024) (f : Fin 2816) : (iblk m c 2 t : Vec Ideal S1x1024x2816 .bf16) (ix3 0 k f) = V m c main_v2 (ix3 0 k f) := by
  obtain ⟨e0, e1, e2⟩ := index_2 t
  refine congrArg (V m c main_v2) (funext fun i => Fin.ext ?_)
  match i with
  | ⟨0, _⟩ => exact (congrArg (fun x : ℕ => x * 1 + 1 * 0) e0).trans (zero_mul_add _ _)
  | ⟨1, _⟩ => exact (congrArg (fun x : ℕ => x * 1024 + 1 * k.val) e1).trans (zero_mul_add _ _)
  | ⟨2, _⟩ => exact (congrArg (fun x : ℕ => x * 2816 + 1 * f.val) e2).trans (zero_mul_add _ _)
theorem iblk3_at (t : Fin cfg0.N) (f : Fin 2816) (n : Fin 1024) : (iblk m c 3 t : Vec Ideal S1x2816x1024 .bf16) (ix3 0 f n) = V m c main_v3 (ix3 0 f n) := by
  obtain ⟨e0, e1, e2⟩ := index_3 t
  refine congrArg (V m c main_v3) (funext fun i => Fin.ext ?_)
  match i with
  | ⟨0, _⟩ => exact (congrArg (fun x : ℕ => x * 1 + 1 * 0) e0).trans (zero_mul_add _ _)
  | ⟨1, _⟩ => exact (congrArg (fun x : ℕ => x * 2816 + 1 * f.val) e1).trans (zero_mul_add _ _)
  | ⟨2, _⟩ => exact (congrArg (fun x : ℕ => x * 1024 + 1 * n.val) e2).trans (zero_mul_add _ _)
theorem iblk4_at (t : Fin cfg0.N) (n : Fin 1024) : (iblk m c 4 t : Vec Ideal S1x1x1024 .f32) (ix3 0 0 n) = V m c main_v4 (ix3 0 0 n) := by
  obtain ⟨e0, e1, e2⟩ := index_4 t
  refine congrArg (V m c main_v4) (funext fun i => Fin.ext ?_)
  match i with
  | ⟨0, _⟩ => exact (congrArg (fun x : ℕ => x * 1 + 1 * 0) e0).trans (zero_mul_add _ _)
  | ⟨1, _⟩ => exact (congrArg (fun x : ℕ => x * 1 + 1 * 0) e1).trans (zero_mul_add _ _)
  | ⟨2, _⟩ => exact (congrArg (fun x : ℕ => x * 1024 + 1 * n.val) e2).trans (zero_mul_add _ _)
theorem iblk5_at (t : Fin cfg0.N) (n : Fin 1024) : (iblk m c 5 t : Vec Ideal S1x1x1024 .f32) (ix3 0 0 n) = V m c main_v5 (ix3 0 0 n) := by
  obtain ⟨e0, e1, e2⟩ := index_5 t
  refine congrArg (V m c main_v5) (funext fun i => Fin.ext ?_)
  match i with
  | ⟨0, _⟩ => exact (congrArg (fun x : ℕ => x * 1 + 1 * 0) e0).trans (zero_mul_add _ _)
  | ⟨1, _⟩ => exact (congrArg (fun x : ℕ => x * 1 + 1 * 0) e1).trans (zero_mul_add _ _)
  | ⟨2, _⟩ => exact (congrArg (fun x : ℕ => x * 1024 + 1 * n.val) e2).trans (zero_mul_add _ _)

/-- Where a point's output block lies in the array. -/
theorem emb_6 (t : Fin cfg0.N) (j n : Fin 1024) : ((cfg0.win 6).blk t).view.emb (ix2 j n) = (ix2 (row t j) n : S32768x1024.Idx) := by
  obtain ⟨e0, e1⟩ := index_6 t
  refine funext fun i => Fin.ext ?_
  match i with
  | ⟨0, _⟩ => exact (congrArg (fun x : ℕ => x * 1024 + 1 * j.val) e0).trans (mul_add_comm _ _ _)
  | ⟨1, _⟩ => exact (congrArg (fun x : ℕ => x * 1024 + 1 * n.val) e1).trans (zero_mul_add _ _)

/-! ## The final array -/

/-- Every row of the activations through the feed-forward, its residual and its layer norm. -/
def res (h : Vec Ideal S8x4096x1024 .f32) (wg wu : Vec Ideal S2x1024x2816 .f32) (wd : Vec Ideal S2x2816x1024 .f32) (g b : Vec Ideal S2x1024 .f32) : Vec Ideal S32768x1024 .f32 :=
  fun i => ffn (fun k => h (ix3 ⟨(i 0).val / 4096, Nat.div_lt_of_lt_mul (i 0).isLt⟩ ⟨(i 0).val % 4096, Nat.mod_lt _ (by decide)⟩ k))
    (fun k f => wg (ix3 0 k f)) (fun k f => wu (ix3 0 k f)) (fun f n => wd (ix3 0 f n)) (fun n => g (ix2 0 n)) (fun n => b (ix2 0 n)) (i 1)

variable (h : Vec Ideal S8x4096x1024 .f32) (wg wu : Vec Ideal S2x1024x2816 .f32) (wd : Vec Ideal S2x2816x1024 .f32) (g b : Vec Ideal S2x1024 .f32)
variable (hh : m ((c.tc : Thread nD τ).loc main_arg0) = h) (h1 : m ((c.tc : Thread nD τ).loc main_arg1) = wg) (h2 : m ((c.tc : Thread nD τ).loc main_arg2) = wu)
  (h3 : m ((c.tc : Thread nD τ).loc main_arg3) = wd) (h4 : m ((c.tc : Thread nD τ).loc main_arg4) = g) (h5 : m ((c.tc : Thread nD τ).loc main_arg5) = b)

include hh h1 h2 h3 h4 h5 in
/-- The block a point computes is the block of `res` it writes. -/
theorem block_at (t : Fin cfg0.N) (j n : Fin 1024) :
    rowOut (iblk m c 0 t) (iblk m c 1 t) (iblk m c 2 t) (iblk m c 3 t) (iblk m c 4 t) (iblk m c 5 t) j n = res h wg wu wd g b (ix2 (row t j) n) := by
  subst hh h1 h2 h3 h4 h5
  refine ffn_congr (funext fun k => ?_) (funext fun k => funext fun f => ?_) (funext fun k => funext fun f => ?_) (funext fun f => funext fun n => ?_) (funext fun n => ?_) (funext fun n => ?_) n
  · exact (iblk0_at m c t j k).trans ((congrFun (V_v0 m c) _).trans (rows_at _ (row t j) k))
  · exact (iblk1_at m c t k f).trans (congrFun (V_v1 m c) _)
  · exact (iblk2_at m c t k f).trans (congrFun (V_v2 m c) _)
  · exact (iblk3_at m c t f n).trans (congrFun (V_v3 m c) _)
  · exact (iblk4_at m c t n).trans ((congrFun (V_v4 m c) _).trans (scale_at _ n))
  · exact (iblk5_at m c t n).trans ((congrFun (V_v5 m c) _).trans (scale_at _ n))

include hh h1 h2 h3 h4 h5 in
theorem flushed_eq (t : Fin cfg0.N) : (dats m 0 c).flushed 6 t = ((cfg0.win 6).blk t).view.read (Elt Ideal) (res h wg wu wd g b) := by
  refine (Value.flushed6 m c t).trans (funext fun y => ?_)
  obtain ⟨j, n, rfl⟩ : ∃ (j n : Fin 1024), y = ix2 j n := ⟨y 0, y 1, eq_ix2 y⟩
  refine (out_at _ _ _ _ _ _ j n).trans ((block_at m c h wg wu wd g b hh h1 h2 h3 h4 h5 t j n).trans ?_)
  exact (congrArg (res h wg wu wd g b) (emb_6 t j n)).symm

include hh h1 h2 h3 h4 h5 in
/-- The blocks cover the array: it ends holding the feed-forward of every row. -/
theorem final_out : (dats m 0 c).arrAt 6 cfg0.N = res h wg wu wd g b :=
  (dats m 0 c).arrAt_eq_of_cover 6 (res h wg wu wd g b) (fun t _ => flushed_eq m c h wg wu wd g b hh h1 h2 h3 h4 h5 t) fun i => by
    have h0 : (i 0).val < 32768 := (i 0).isLt
    obtain ⟨t, ht⟩ : ∃ t : Fin cfg0.N, t.val = (i 0).val / 1024 := ⟨⟨(i 0).val / 1024, (by omega : (i 0).val / 1024 < 32)⟩, rfl⟩
    refine ⟨t, flush0_6 t, ?_⟩
    have e : i = ((cfg0.win 6).blk t).view.emb (ix2 ⟨(i 0).val % 1024, Nat.mod_lt _ (by decide)⟩ (i 1)) := by
      refine Eq.trans ?_ (emb_6 t ⟨(i 0).val % 1024, Nat.mod_lt _ (by decide)⟩ (i 1)).symm
      refine funext fun a => Fin.ext ?_
      match a with
      | ⟨0, _⟩ => exact ((congrArg (fun x : ℕ => 1024 * x + (i 0).val % 1024) ht).trans (Nat.div_add_mod _ 1024)).symm
      | ⟨1, _⟩ => rfl
    rw [e]
    exact View.emb_mem_set _ _

end Cert.FeedForwardIdeal.Ffn
-- ==== Proof.FfRef.lean ====
module

public import proofs.«01_k».proof.Proof.Rows
public import proofs.«01_k».proof.Proof.Gen.FeedForwardReferenceIdeal.Run

@[expose] public section

set_option maxRecDepth 65536

noncomputable section

namespace Cert.FeedForwardReferenceIdeal.Ffn

open Idealize.ShloMosaic Idealize.ShloMosaic.TcCoe
open Cert.FeedForwardReferenceIdeal Cert.FeedForwardReferenceIdeal.Gen Cert.FeedForwardReferenceIdeal.Value
open Cert.Rows

/-! ## The reference's lines, in pieces -/

/-- The first layer's matrices and vectors. -/
def up (w : FVec Ideal S2x1024x2816 .f32) : FVec Ideal S1024x2816 .f32 :=
  shapeCast _ (extractStridedSlice S1x1024x2816 ![0, 0, 0] w slices_S2x1024x2816_S1x1024x2816_0_0_0) shapeCasts_S1x1024x2816_S1024x2816
def down (w : FVec Ideal S2x2816x1024 .f32) : FVec Ideal S2816x1024 .f32 :=
  shapeCast _ (extractStridedSlice S1x2816x1024 ![0, 0, 0] w slices_S2x2816x1024_S1x2816x1024_0_0_0) shapeCasts_S1x2816x1024_S2816x1024
def wide (g : FVec Ideal S2x1024 .f32) : FVec Ideal S8x4096x1024 .f32 :=
  broadcastInDim S8x4096x1024 ![0, 1, 2] bcast_S1x1x1024_S8x4096x1024_0_1_2 (broadcastInDim S1x1x1024 ![2] bcast_S1024_S1x1x1024_2 (shapeCast _ (extractStridedSlice S1x1024 ![0, 0] g slices_S2x1024_S1x1024_0_0) shapeCasts_S1x1024_S1024))

/-- The activations times a matrix. -/
def dot (h : FVec Ideal S8x4096x1024 .f32) (w : FVec Ideal S1024x2816 .f32) : FVec Ideal S8x4096x2816 .f32 :=
  Host.dotGeneral dot_S8x4096x1024_S1024x2816_S8x4096x2816_2_0_01_1_n_n none h w

/-- The gated hidden units: `silu G · U`. -/
def gated (G U : FVec Ideal S8x4096x2816 .f32) : FVec Ideal S8x4096x2816 .f32 :=
  mulf (mulf G (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf G))))) U

/-- The residual: `α·h + ½·H·wd`. -/
def sumRes (h : FVec Ideal S8x4096x1024 .f32) (H : FVec Ideal S8x4096x2816 .f32) (wd : FVec Ideal S2816x1024 .f32) : FVec Ideal S8x4096x1024 .f32 :=
  addf (mulf (broadcastInDim S8x4096x1024 ![] bcast_S_S8x4096x1024 (constant S_ .f32 0x3FB504F3#32)) h) (mulf (broadcastInDim S8x4096x1024 ![] bcast_S_S8x4096x1024 (constant S_ .f32 0x3F000000#32)) (Host.dotGeneral dot_S8x4096x2816_S2816x1024_S8x4096x1024_2_0_01_1_n_n none H wd))

/-- Each row's mean, and the rows with their means taken off. -/
def mean (y : FVec Ideal S8x4096x1024 .f32) : FVec Ideal S8x4096x1 .f32 :=
  Host.divf (broadcastInDim S8x4096x1 ![0, 1] bcast_S8x4096_S8x4096x1_0_1 (Host.reduceAdd y (constant S_ .f32 0x00000000#32) reducesTo_S8x4096x1024_S8x4096_d2 h_S_)) (broadcastInDim S8x4096x1 ![] bcast_S_S8x4096x1 (constant S_ .f32 0x44800000#32))
def centred (y : FVec Ideal S8x4096x1024 .f32) : FVec Ideal S8x4096x1024 .f32 :=
  subf y (broadcastInDim S8x4096x1024 ![0, 1, 2] bcast_S8x4096x1_S8x4096x1024_0_1_2 (mean y))

/-- The layer norm of every row. -/
def norm (y : FVec Ideal S8x4096x1024 .f32) (g b : FVec Ideal S8x4096x1024 .f32) : FVec Ideal S8x4096x1024 .f32 :=
  addf (mulf (mulf (centred y) (broadcastInDim S8x4096x1024 ![0, 1, 2] bcast_S8x4096x1_S8x4096x1024_0_1_2 (Host.rsqrt (addf (mean (mulf (centred y) (centred y))) (broadcastInDim S8x4096x1 ![] bcast_S_S8x4096x1 (constant S_ .f32 0x3727C5AC#32)))))) g) b

theorem res_eq (m : (ℓ : Loc nD τ sig) → Buf (Elt Ideal) ℓ) (c : Dev nD) :
    res_main_v44 m c = shapeCast S32768x1024 (norm (sumRes (m ((c.tc : Thread nD τ).loc main_arg0))
      (gated (dot (m ((c.tc : Thread nD τ).loc main_arg0)) (up (m ((c.tc : Thread nD τ).loc main_arg1)))) (dot (m ((c.tc : Thread nD τ).loc main_arg0)) (up (m ((c.tc : Thread nD τ).loc main_arg2))))) (down (m ((c.tc : Thread nD τ).loc main_arg3))))
      (wide (m ((c.tc : Thread nD τ).loc main_arg4))) (wide (m ((c.tc : Thread nD τ).loc main_arg5)))) shapeCasts_S8x4096x1024_S32768x1024 := by
  unfold res_main_v44 norm centred mean sumRes gated dot up down wide; rfl

/-! ## The pieces, at an index -/

theorem up_at (w : FVec Ideal S2x1024x2816 .f32) (k : Fin 1024) (f : Fin 2816) : up w (ix2 k f) = w (ix3 0 k f) := by
  pointwise [up]
theorem down_at (w : FVec Ideal S2x2816x1024 .f32) (f : Fin 2816) (n : Fin 1024) : down w (ix2 f n) = w (ix3 0 f n) := by
  pointwise [down]
theorem wide_at (g : FVec Ideal S2x1024 .f32) (b : Fin 8) (t : Fin 4096) (n : Fin 1024) : wide g (ix3 b t n) = g (ix2 0 n) := by
  pointwise [wide]
theorem dot_at (h : FVec Ideal S8x4096x1024 .f32) (w : FVec Ideal S1024x2816 .f32) (b : Fin 8) (t : Fin 4096) (f : Fin 2816) :
    dot h w (ix3 b t f) = ∑ k : Fin 1024, h (ix3 b t k) * w (ix2 k f) := by
  pointwise [dot]
theorem gated_at (G U : FVec Ideal S8x4096x2816 .f32) (b : Fin 8) (t : Fin 4096) (f : Fin 2816) :
    gated G U (ix3 b t f) = G (ix3 b t f) * Ideal.logistic (G (ix3 b t f)) * U (ix3 b t f) := by
  pointwise [gated]
  rfl
theorem sumRes_at (h : FVec Ideal S8x4096x1024 .f32) (H : FVec Ideal S8x4096x2816 .f32) (wd : FVec Ideal S2816x1024 .f32) (b : Fin 8) (t : Fin 4096) (n : Fin 1024) :
    sumRes h H wd (ix3 b t n) = Ideal.ofBits .f32 0x3FB504F3#32 * h (ix3 b t n) + Ideal.ofBits .f32 0x3F000000#32 * ∑ f : Fin 2816, H (ix3 b t f) * wd (ix2 f n) := by
  pointwise [sumRes]
theorem mean_at (y : FVec Ideal S8x4096x1024 .f32) (b : Fin 8) (t : Fin 4096) : mean y (ix3 b t 0) = avg fun n => y (ix3 b t n) := by
  pointwise [mean]
  rfl
theorem centred_at (y : FVec Ideal S8x4096x1024 .f32) (b : Fin 8) (t : Fin 4096) (n : Fin 1024) : centred y (ix3 b t n) = y (ix3 b t n) - mean y (ix3 b t 0) := by
  pointwise [centred]
theorem norm_at (y g d : FVec Ideal S8x4096x1024 .f32) (b : Fin 8) (t : Fin 4096) (n : Fin 1024) :
    norm y g d (ix3 b t n) = centred y (ix3 b t n) * Ideal.rsqrt (mean (mulf (centred y) (centred y)) (ix3 b t 0) + Ideal.ofBits .f32 0x3727C5AC#32) * g (ix3 b t n) + d (ix3 b t n) := by
  pointwise [norm]
theorem rows_at (h : FVec Ideal S8x4096x1024 .f32) (r : Fin 32768) (k : Fin 1024) :
    shapeCast S32768x1024 h shapeCasts_S8x4096x1024_S32768x1024 (ix2 r k) = h (ix3 ⟨r.val / 4096, by omega⟩ ⟨r.val % 4096, by omega⟩ k) := by
  pointwise []

/-- The rows with their means taken off, row by row. -/
theorem dev_at (y : FVec Ideal S8x4096x1024 .f32) (b : Fin 8) (t : Fin 4096) (n : Fin 1024) : centred y (ix3 b t n) = dev (fun n => y (ix3 b t n)) n :=
  (centred_at y b t n).trans (congrArg (fun z : EReal => (y (ix3 b t n) : EReal) - z) (mean_at y b t))

/-- The layer norm, row by row. -/
theorem ln_at (y g d : FVec Ideal S8x4096x1024 .f32) (b : Fin 8) (t : Fin 4096) (n : Fin 1024) :
    norm y g d (ix3 b t n) = ln (fun n => y (ix3 b t n)) (fun n => g (ix3 b t n)) (fun n => d (ix3 b t n)) n :=
  (norm_at y g d b t n).trans (congrArg (fun z : EReal => z * (g (ix3 b t n) : EReal) + (d (ix3 b t n) : EReal)) (congrArg₂ (· * ·) (dev_at y b t n)
    (congrArg (fun v : EReal => Ideal.rsqrt (v + Ideal.ofBits .f32 0x3727C5AC#32))
      ((mean_at _ b t).trans (congrArg avg (funext fun k => congrArg₂ (· * ·) (dev_at y b t k) (dev_at y b t k)))))))

/-- The feed-forward, row by row. -/
theorem hid_at (h : FVec Ideal S8x4096x1024 .f32) (wg wu : FVec Ideal S2x1024x2816 .f32) (b : Fin 8) (t : Fin 4096) (f : Fin 2816) :
    gated (dot h (up wg)) (dot h (up wu)) (ix3 b t f) = hid (fun k => h (ix3 b t k)) (fun k f => wg (ix3 0 k f)) (fun k f => wu (ix3 0 k f)) f := by
  have e : ∀ w : FVec Ideal S2x1024x2816 .f32, dot h (up w) (ix3 b t f) = ∑ k : Fin 1024, (h (ix3 b t k) : EReal) * w (ix3 0 k f) := fun w =>
    (dot_at h (up w) b t f).trans (Finset.sum_congr rfl fun k _ => congrArg (fun z : EReal => (h (ix3 b t k) : EReal) * z) (up_at w k f))
  refine (gated_at _ _ b t f).trans ?_
  exact congrArg₂ (fun x y : EReal => x * Ideal.logistic x * y) (e wg) (e wu)

theorem resid_at (h : FVec Ideal S8x4096x1024 .f32) (wg wu : FVec Ideal S2x1024x2816 .f32) (wd : FVec Ideal S2x2816x1024 .f32) (b : Fin 8) (t : Fin 4096) (n : Fin 1024) :
    sumRes h (gated (dot h (up wg)) (dot h (up wu))) (down wd) (ix3 b t n)
      = resid (fun k => h (ix3 b t k)) (fun k f => wg (ix3 0 k f)) (fun k f => wu (ix3 0 k f)) (fun f n => wd (ix3 0 f n)) n :=
  (sumRes_at _ _ _ b t n).trans (congrArg (fun z : EReal => Ideal.ofBits .f32 0x3FB504F3#32 * (h (ix3 b t n) : EReal) + Ideal.ofBits .f32 0x3F000000#32 * z)
    (Finset.sum_congr rfl fun f _ => congrArg₂ (fun x y : EReal => x * y) (hid_at h wg wu b t f) (down_at wd f n)))

/-- The reference's result, row by row. -/
theorem res_at (m : (ℓ : Loc nD τ sig) → Buf (Elt Ideal) ℓ) (c : Dev nD) (h : Vec Ideal S8x4096x1024 .f32) (wg wu : Vec Ideal S2x1024x2816 .f32) (wd : Vec Ideal S2x2816x1024 .f32) (g d : Vec Ideal S2x1024 .f32)
    (hh : m ((c.tc : Thread nD τ).loc main_arg0) = h) (h1 : m ((c.tc : Thread nD τ).loc main_arg1) = wg) (h2 : m ((c.tc : Thread nD τ).loc main_arg2) = wu)
    (h3 : m ((c.tc : Thread nD τ).loc main_arg3) = wd) (h4 : m ((c.tc : Thread nD τ).loc main_arg4) = g) (h5 : m ((c.tc : Thread nD τ).loc main_arg5) = d) (r : Fin 32768) (n : Fin 1024) :
    (res_main_v44 m c : Vec Ideal S32768x1024 .f32) (ix2 r n) = ffn (fun k => h (ix3 ⟨r.val / 4096, by omega⟩ ⟨r.val % 4096, by omega⟩ k))
      (fun k f => wg (ix3 0 k f)) (fun k f => wu (ix3 0 k f)) (fun f n => wd (ix3 0 f n)) (fun n => g (ix2 0 n)) (fun n => d (ix2 0 n)) n := by
  subst hh h1 h2 h3 h4 h5
  refine (congrFun (res_eq m c) _).trans ((rows_at _ r n).trans ((ln_at _ _ _ _ _ n).trans ?_))
  exact ln_congr (funext fun k => resid_at _ _ _ _ _ _ k) (funext fun k => wide_at _ _ _ k) (funext fun k => wide_at _ _ _ k) n

end Cert.FeedForwardReferenceIdeal.Ffn
-- ==== Proof.FfClaims.lean ====
module

public import proofs.«01_k».proof.Defs
public import proofs.«01_k».proof.Proof.FfFinal
public import proofs.«01_k».proof.Proof.FfRef
public import proofs.«01_k».proof.Proof.Gen.FeedForward.Frame
public import proofs.«01_k».proof.Proof.Gen.FeedForwardIdeal

@[expose] public section

set_option maxRecDepth 65536

noncomputable section

namespace Cert.FfClaims

open Idealize.ShloMosaic Idealize.SL.Sem

/-- The feed-forward call as printed runs and keeps its arguments. -/
theorem frame_kernel : Cert.quiescent_FeedForward := fun m ρ _ => Cert.FeedForward.Gen.frame (F := Bits) m ρ

/-- The idealized feed-forward call runs and keeps its arguments. -/
theorem frame_ideal : Cert.quiescent_FeedForwardIdeal := fun m ρ _ => Cert.FeedForwardIdeal.Gen.frame (F := Ideal) m ρ

/-- The feed-forward's reference runs and keeps its arguments; it has no semaphore at all. -/
theorem frame_reference : Cert.quiescent_FeedForwardReferenceIdeal := fun m ρ _ =>
  (θ_run Cert.FeedForwardReferenceIdeal.defs _ _).mono (fun r h => ⟨fun c => (h c).2, sem_eq_zero_of_no_sems (by decide) r.2⟩)
    (Cert.FeedForwardReferenceIdeal.Value.run (F := Ideal) m ρ)

/-- Both programs compute the same feed-forward, residual and layer norm of every row. -/
theorem algebraic : Cert.algebraic_FeedForwardIdeal_FeedForwardReferenceIdeal := by
  intro m g m' g' _ hagree
  refine ⟨fun c => Cert.FeedForwardIdeal.Ffn.res (m ((c.tc : Thread Cert.FeedForwardIdeal.nD Cert.FeedForwardIdeal.τ).loc Cert.FeedForwardIdeal.main_arg0))
    (m ((c.tc : Thread Cert.FeedForwardIdeal.nD Cert.FeedForwardIdeal.τ).loc Cert.FeedForwardIdeal.main_arg1)) (m ((c.tc : Thread Cert.FeedForwardIdeal.nD Cert.FeedForwardIdeal.τ).loc Cert.FeedForwardIdeal.main_arg2))
    (m ((c.tc : Thread Cert.FeedForwardIdeal.nD Cert.FeedForwardIdeal.τ).loc Cert.FeedForwardIdeal.main_arg3)) (m ((c.tc : Thread Cert.FeedForwardIdeal.nD Cert.FeedForwardIdeal.τ).loc Cert.FeedForwardIdeal.main_arg4))
    (m ((c.tc : Thread Cert.FeedForwardIdeal.nD Cert.FeedForwardIdeal.τ).loc Cert.FeedForwardIdeal.main_arg5)), ?_, ?_⟩
  · exact (θ_run Cert.FeedForwardIdeal.defs _ _).mono (fun _ h c => ⟨(h c).1.trans (Cert.FeedForwardIdeal.Ffn.final_out m c _ _ _ _ _ _ rfl rfl rfl rfl rfl rfl), (h c).2⟩)
      (Cert.FeedForwardIdeal.Value.run_blocks (F := Ideal) m g)
  · refine (θ_run Cert.FeedForwardReferenceIdeal.defs _ _).mono (fun _ h c => ⟨(h c).1.trans ?_, (h c).2⟩) (Cert.FeedForwardReferenceIdeal.Value.run (F := Ideal) m' g')
    obtain ⟨e0, e1, e2, e3, e4, e5⟩ := hagree c
    funext i
    obtain ⟨r, n, rfl⟩ : ∃ (r : Fin 32768) (n : Fin 1024), i = ix2 r n := ⟨i 0, i 1, eq_ix2 i⟩
    exact Cert.FeedForwardReferenceIdeal.Ffn.res_at m' c _ _ _ _ _ _ e0 e1 e2 e3 e4 e5 r n

end Cert.FfClaims
-- ==== Proof.MixPay.lean ====
module

public import proofs.«01_k».proof.Proof.Rows
public import proofs.«01_k».proof.Proof.Gen.MixFeedForwardIdeal.Value

@[expose] public section

set_option maxRecDepth 65536

noncomputable section

namespace Cert.MixFeedForwardIdeal.Mix

open Idealize.ShloMosaic Idealize.ShloMosaic.TcCoe Idealize.ShloMosaic.Tactic Idealize.SL.Sem
open Cert.MixFeedForwardIdeal Cert.MixFeedForwardIdeal.Gen
open Cert.Rows

/-! ## The payloads, at an index -/

theorem pay4_at (a : FVec Ideal S1x384x512 .bf16) (b : FVec Ideal S1x256x512 .bf16) (s : FVec Ideal S1x512x384 .bf16) (h : FVec Ideal S1x512x1024 .f32) (w : FVec Ideal S1x1024x1024 .bf16) (j : Fin 512) (n : Fin 1024) :
    k0_pay4 (F := Ideal) a b s h w (ix2 j n) = dev (mixed (cat (fun i => a (ix3 0 i j)) (fun i => b (ix3 0 i j)) (fun i => s (ix3 0 j i))) (fun k => h (ix3 0 j k)) (fun k n => w (ix3 0 k n))) n := by
  pointwise [k0_pay4]
  rfl

theorem pay5_at (a : FVec Ideal S1x384x512 .bf16) (b : FVec Ideal S1x256x512 .bf16) (s : FVec Ideal S1x512x384 .bf16) (h : FVec Ideal S1x512x1024 .f32) (w : FVec Ideal S1x1024x1024 .bf16) (j : Fin 512) (n : Fin 1024) :
    k0_pay5 (F := Ideal) a b s h w (ix2 j n) = k0_pay4 a b s h w (ix2 j n) * k0_pay4 a b s h w (ix2 j n) := by
  pointwise [k0_pay5]
theorem pay2_at (x : FVec Ideal S1x1x1024 .f32) (n : Fin 1024) : k0_pay2 x (ix2 0 n) = x (ix3 0 0 n) := by
  pointwise [k0_pay2]
theorem pay3_at (x : FVec Ideal S1x1x1024 .f32) (n : Fin 1024) : k0_pay3 x (ix2 0 n) = x (ix3 0 0 n) := by
  pointwise [k0_pay3]
theorem pay16_at (x : FVec Ideal S1x1x1024 .f32) (n : Fin 1024) : k0_pay16 x (ix2 0 n) = x (ix3 0 0 n) := by
  pointwise [k0_pay16]
theorem pay12_at (x : FVec Ideal S1x1024x1280 .bf16) (k : Fin 1024) (f : Fin 1280) : k0_pay12 x (ix2 k f) = x (ix3 0 k f) := by
  pointwise [k0_pay12]
theorem pay6_at (g b : FVec Ideal S1x1024 .f32) (y z : FVec Ideal S512x1024 .f32) (j : Fin 512) (n : Fin 1024) :
    k0_pay6 g b y z (ix2 j n) = y (ix2 j n) * Ideal.rsqrt ((avg fun k => z (ix2 j k)) + Ideal.ofBits .f32 0x3727C5AC#32) * g (ix2 0 n) + b (ix2 0 n) := by
  pointwise [k0_pay6]
  rfl
theorem pay7_at (g b : FVec Ideal S1x1024 .f32) (y z : FVec Ideal S512x1024 .f32) (j : Fin 512) (n : Fin 1024) :
    k0_pay7 g b y z (ix2 j n) = k0_pay6 g b y z (ix2 j n) := by
  pointwise [k0_pay7]
theorem pay8_at (g b : FVec Ideal S1x1024 .f32) (y z : FVec Ideal S512x1024 .f32) (wg wu : FVec Ideal S1x1024x1536 .bf16) (wd : FVec Ideal S1x1536x1024 .bf16) (j : Fin 512) (n : Fin 1024) :
    k0_pay8 g b y z wg wu wd (ix2 j n) = part (Fin 1536) (fun k => k0_pay7 g b y z (ix2 j k)) (fun k f => wg (ix3 0 k f)) (fun k f => wu (ix3 0 k f)) (fun f n => wd (ix3 0 f n)) n := by
  pointwise [k0_pay8]
  rfl
theorem pay11_at (a : FVec Ideal S1x384x512 .bf16) (b : FVec Ideal S1x256x512 .bf16) (s : FVec Ideal S1x512x384 .bf16) (h : FVec Ideal S1x512x1024 .f32) (w : FVec Ideal S1x1024x1024 .bf16)
    (g d : FVec Ideal S1x1x1024 .f32) (j : Fin 512) (n : Fin 1024) :
    k0_pay11 (F := Ideal) (k0_pay9 a) (k0_pay10 b) s h w g d (ix2 j n)
      = ln (mixed (cat (fun i => a (ix3 0 i j)) (fun i => b (ix3 0 i j)) (fun i => s (ix3 0 j i))) (fun k => h (ix3 0 j k)) (fun k n => w (ix3 0 k n))) (fun n => g (ix3 0 0 n)) (fun n => d (ix3 0 0 n)) n := by
  pointwise [k0_pay11, k0_pay9, k0_pay10]
  rfl
theorem pay13_at (y : FVec Ideal S512x1024 .f32) (x : FVec Ideal S512x1024 .bf16) (a : FVec Ideal S512x1024 .f32) (wg : FVec Ideal S1024x1280 .bf16) (wu : FVec Ideal S1x1024x1280 .bf16) (wd : FVec Ideal S1x1280x1024 .bf16) (j : Fin 512) (n : Fin 1024) :
    k0_pay13 y x a wg (constant S512x1280 .f32 0x00000000#32) wu wd (ix2 j n) = Ideal.ofBits .f32 0x3FB504F3#32 * y (ix2 j n) + Ideal.ofBits .f32 0x3F000000#32 * (a (ix2 j n)
      + part (Fin 1280) (fun k => x (ix2 j k)) (fun k f => wg (ix2 k f)) (fun k f => wu (ix3 0 k f)) (fun f n => wd (ix3 0 f n)) n) := by
  pointwise [k0_pay13]
  rfl
theorem pay15_at (x : FVec Ideal S512x1024 .f32) (wg wu : FVec Ideal S1x1024x1536 .bf16) (wd : FVec Ideal S1x1536x1024 .bf16) (j : Fin 512) (n : Fin 1024) :
    k0_pay15 x wg wu wd (ix2 j n) = part (Fin 1536) (fun k => x (ix2 j k)) (fun k f => wg (ix3 0 k f)) (fun k f => wu (ix3 0 k f)) (fun f n => wd (ix3 0 f n)) n := by
  pointwise [k0_pay15, k0_pay14]
  rfl
theorem pay18_at (x : FVec Ideal S512x1024 .f32) (wg wu : FVec Ideal S1x1024x1280 .bf16) (wd : FVec Ideal S1x1280x1024 .bf16) (j : Fin 512) (n : Fin 1024) :
    k0_pay18 (k0_pay14 x) wg wu wd (ix2 j n) = part (Fin 1280) (fun k => x (ix2 j k)) (fun k f => wg (ix3 0 k f)) (fun k f => wu (ix3 0 k f)) (fun f n => wd (ix3 0 f n)) n := by
  pointwise [k0_pay18, k0_pay14]
  rfl
theorem pay17_at (y : FVec Ideal S512x1024 .f32) (g : FVec Ideal S1x1024 .f32) (d : FVec Ideal S1x1x1024 .f32) (j : Fin 512) (n : Fin 1024) :
    k0_pay17 y g d (ix3 0 j n) = ln (fun n => y (ix2 j n)) (fun n => g (ix2 0 n)) (fun n => d (ix3 0 0 n)) n := by
  pointwise [k0_pay17]
  rfl
theorem pay1_at (y a b : FVec Ideal S512x1024 .f32) (g d : FVec Ideal S1x1x1024 .f32) (j : Fin 512) (n : Fin 1024) :
    k0_pay1 y a b g d (ix3 0 j n) = ln (fun n => Ideal.ofBits .f32 0x3FB504F3#32 * y (ix2 j n) + Ideal.ofBits .f32 0x3F000000#32 * (a (ix2 j n) + b (ix2 j n)))
      (fun n => g (ix3 0 0 n)) (fun n => d (ix3 0 0 n)) n := by
  pointwise [k0_pay1]
  rfl

end Cert.MixFeedForwardIdeal.Mix
-- ==== Proof.MixOut.lean ====
module

public import proofs.«01_k».proof.Proof.MixPay

@[expose] public section

set_option maxRecDepth 65536

noncomputable section

namespace Cert.MixFeedForwardIdeal.Mix

open Idealize.ShloMosaic Idealize.ShloMosaic.TcCoe Idealize.ShloMosaic.Tactic Idealize.SL.Sem
open Cert.MixFeedForwardIdeal Cert.MixFeedForwardIdeal.Gen
open Cert.Rows

/-! ## The loads, at an index -/

/-- A row of the first half of the block, and of the second. -/
abbrev lo (j : Fin 512) : Fin 1024 := ⟨j.val, by omega⟩
abbrev hi (j : Fin 512) : Fin 1024 := ⟨512 + j.val, by omega⟩

theorem ld0 (x : Vec Ideal S1x384x1024 .bf16) (k : Fin 384) (j : Fin 512) : (View.ld x r0_0 : Vec Ideal _ _) (ix3 0 k j) = x (ix3 0 k (lo j)) := by
  refine congrArg x (funext fun a => Fin.ext ?_)
  match a with
  | ⟨0, _⟩ => rfl
  | ⟨1, _⟩ => exact (by omega : 0 + 1 * k.val = k.val)
  | ⟨2, _⟩ => exact (by omega : 0 + 1 * j.val = j.val)
theorem ld8 (x : Vec Ideal S1x384x1024 .bf16) (k : Fin 384) (j : Fin 512) : (View.ld x r0_8 : Vec Ideal _ _) (ix3 0 k j) = x (ix3 0 k (hi j)) := by
  refine congrArg x (funext fun a => Fin.ext ?_)
  match a with
  | ⟨0, _⟩ => rfl
  | ⟨1, _⟩ => exact (by omega : 0 + 1 * k.val = k.val)
  | ⟨2, _⟩ => exact (by omega : 512 + 1 * j.val = 512 + j.val)
theorem ld1 (x : Vec Ideal S1x256x1024 .bf16) (k : Fin 256) (j : Fin 512) : (View.ld x r0_1 : Vec Ideal _ _) (ix3 0 k j) = x (ix3 0 k (lo j)) := by
  refine congrArg x (funext fun a => Fin.ext ?_)
  match a with
  | ⟨0, _⟩ => rfl
  | ⟨1, _⟩ => exact (by omega : 0 + 1 * k.val = k.val)
  | ⟨2, _⟩ => exact (by omega : 0 + 1 * j.val = j.val)
theorem ld9 (x : Vec Ideal S1x256x1024 .bf16) (k : Fin 256) (j : Fin 512) : (View.ld x r0_9 : Vec Ideal _ _) (ix3 0 k j) = x (ix3 0 k (hi j)) := by
  refine congrArg x (funext fun a => Fin.ext ?_)
  match a with
  | ⟨0, _⟩ => rfl
  | ⟨1, _⟩ => exact (by omega : 0 + 1 * k.val = k.val)
  | ⟨2, _⟩ => exact (by omega : 512 + 1 * j.val = 512 + j.val)
theorem ld2 (x : Vec Ideal S1x1024x384 .bf16) (j : Fin 512) (k : Fin 384) : (View.ld x r0_2 : Vec Ideal _ _) (ix3 0 j k) = x (ix3 0 (lo j) k) := by
  refine congrArg x (funext fun a => Fin.ext ?_)
  match a with
  | ⟨0, _⟩ => rfl
  | ⟨1, _⟩ => exact (by omega : 0 + 1 * j.val = j.val)
  | ⟨2, _⟩ => exact (by omega : 0 + 1 * k.val = k.val)
theorem ld10 (x : Vec Ideal S1x1024x384 .bf16) (j : Fin 512) (k : Fin 384) : (View.ld x r0_10 : Vec Ideal _ _) (ix3 0 j k) = x (ix3 0 (hi j) k) := by
  refine congrArg x (funext fun a => Fin.ext ?_)
  match a with
  | ⟨0, _⟩ => rfl
  | ⟨1, _⟩ => exact (by omega : 512 + 1 * j.val = 512 + j.val)
  | ⟨2, _⟩ => exact (by omega : 0 + 1 * k.val = k.val)
theorem ld3 (x : Vec Ideal S1x1024x1024 .f32) (j : Fin 512) (k : Fin 1024) : (View.ld x r0_3 : Vec Ideal _ _) (ix3 0 j k) = x (ix3 0 (lo j) k) := by
  refine congrArg x (funext fun a => Fin.ext ?_)
  match a with
  | ⟨0, _⟩ => rfl
  | ⟨1, _⟩ => exact (by omega : 0 + 1 * j.val = j.val)
  | ⟨2, _⟩ => exact (by omega : 0 + 1 * k.val = k.val)
theorem ld11 (x : Vec Ideal S1x1024x1024 .f32) (j : Fin 512) (k : Fin 1024) : (View.ld x r0_11 : Vec Ideal _ _) (ix3 0 j k) = x (ix3 0 (hi j) k) := by
  refine congrArg x (funext fun a => Fin.ext ?_)
  match a with
  | ⟨0, _⟩ => rfl
  | ⟨1, _⟩ => exact (by omega : 512 + 1 * j.val = 512 + j.val)
  | ⟨2, _⟩ => exact (by omega : 0 + 1 * k.val = k.val)
theorem ld4 (x : Vec Ideal S1x1024x1024 .bf16) (k n : Fin 1024) : (View.ld x r0_4 : Vec Ideal _ _) (ix3 0 k n) = x (ix3 0 k n) := by
  refine congrArg x (funext fun a => Fin.ext ?_)
  match a with
  | ⟨0, _⟩ => rfl
  | ⟨1, _⟩ => exact (by omega : 0 + 1 * k.val = k.val)
  | ⟨2, _⟩ => exact (by omega : 0 + 1 * n.val = n.val)
theorem ld5 (x : Vec Ideal S1x1x1024 .f32) (n : Fin 1024) : (View.ld x r0_5 : Vec Ideal _ _) (ix3 0 0 n) = x (ix3 0 0 n) := by
  refine congrArg x (funext fun a => Fin.ext ?_)
  match a with
  | ⟨0, _⟩ => rfl
  | ⟨1, _⟩ => rfl
  | ⟨2, _⟩ => exact (by omega : 0 + 1 * n.val = n.val)
theorem ld6 (x : Vec Ideal S1x1024x2816 .bf16) (k : Fin 1024) (f : Fin 1536) : (View.ld x r0_6 : Vec Ideal _ _) (ix3 0 k f) = x (ix3 0 k (f0 f)) := by
  refine congrArg x (funext fun a => Fin.ext ?_)
  match a with
  | ⟨0, _⟩ => rfl
  | ⟨1, _⟩ => exact (by omega : 0 + 1 * k.val = k.val)
  | ⟨2, _⟩ => exact (by omega : 0 + 1 * f.val = f.val)
theorem ld12 (x : Vec Ideal S1x1024x2816 .bf16) (k : Fin 1024) (f : Fin 1280) : (View.ld x r0_12 : Vec Ideal _ _) (ix3 0 k f) = x (ix3 0 k (f1 f)) := by
  refine congrArg x (funext fun a => Fin.ext ?_)
  match a with
  | ⟨0, _⟩ => rfl
  | ⟨1, _⟩ => exact (by omega : 0 + 1 * k.val = k.val)
  | ⟨2, _⟩ => exact (by omega : 1536 + 1 * f.val = 1536 + f.val)
theorem ld7 (x : Vec Ideal S1x2816x1024 .bf16) (f : Fin 1536) (n : Fin 1024) : (View.ld x r0_7 : Vec Ideal _ _) (ix3 0 f n) = x (ix3 0 (f0 f) n) := by
  refine congrArg x (funext fun a => Fin.ext ?_)
  match a with
  | ⟨0, _⟩ => rfl
  | ⟨1, _⟩ => exact (by omega : 0 + 1 * f.val = f.val)
  | ⟨2, _⟩ => exact (by omega : 0 + 1 * n.val = n.val)
theorem ld13 (x : Vec Ideal S1x2816x1024 .bf16) (f : Fin 1280) (n : Fin 1024) : (View.ld x r0_13 : Vec Ideal _ _) (ix3 0 f n) = x (ix3 0 (f1 f) n) := by
  refine congrArg x (funext fun a => Fin.ext ?_)
  match a with
  | ⟨0, _⟩ => rfl
  | ⟨1, _⟩ => exact (by omega : 1536 + 1 * f.val = 1536 + f.val)
  | ⟨2, _⟩ => exact (by omega : 0 + 1 * n.val = n.val)

variable (x0 : Vec Ideal S1x384x1024 .bf16) (x1 : Vec Ideal S1x256x1024 .bf16) (x2 : Vec Ideal S1x1024x384 .bf16) (x3 : Vec Ideal S1x1024x1024 .f32) (x4 : Vec Ideal S1x1024x1024 .bf16)
  (x5 x6 : Vec Ideal S1x1x1024 .f32) (x7 x8 : Vec Ideal S1x1024x2816 .bf16) (x9 : Vec Ideal S1x2816x1024 .bf16) (x10 x11 : Vec Ideal S1x1x1024 .f32)

/-! ## The rows the body computes -/

/-- Row `r` of the block with the mixers' outputs projected onto its residual. -/
def rowMix (r : Fin 1024) : Fin 1024 → EReal :=
  mixed (cat (fun i => x0 (ix3 0 i r)) (fun i => x1 (ix3 0 i r)) (fun i => x2 (ix3 0 r i))) (fun k => x3 (ix3 0 r k)) (fun k n => x4 (ix3 0 k n))

/-- Its layer norm. -/
def rowMid (r : Fin 1024) : Fin 1024 → EReal :=
  ln (rowMix x0 x1 x2 x3 x4 r) (fun n => x5 (ix3 0 0 n)) (fun n => x6 (ix3 0 0 n))

/-- The residual of the feed-forward of that. -/
abbrev rowRes (r : Fin 1024) : Fin 1024 → EReal :=
  resid (rowMid x0 x1 x2 x3 x4 x5 x6 r) (fun k f => x7 (ix3 0 k f)) (fun k f => x8 (ix3 0 k f)) (fun f n => x9 (ix3 0 f n))

/-- Row `r` of the block, as the body leaves it. -/
def rowOut (r : Fin 1024) (n : Fin 1024) : EReal :=
  ffn (rowMid x0 x1 x2 x3 x4 x5 x6 r) (fun k f => x7 (ix3 0 k f)) (fun k f => x8 (ix3 0 k f)) (fun f n => x9 (ix3 0 f n)) (fun n => x10 (ix3 0 0 n)) (fun n => x11 (ix3 0 0 n)) n

/-- The two parts of the feed-forward of a row `y`, read off the block's weights. -/
abbrev lowPart (y : Fin 1024 → EReal) (n : Fin 1024) : EReal :=
  part (Fin 1536) y (fun k f => x7 (ix3 0 k (f0 f))) (fun k f => x8 (ix3 0 k (f0 f))) (fun f n => x9 (ix3 0 (f0 f) n)) n
abbrev highPart (y : Fin 1024 → EReal) (n : Fin 1024) : EReal :=
  part (Fin 1280) y (fun k f => x7 (ix3 0 k (f1 f))) (fun k f => x8 (ix3 0 k (f1 f))) (fun f n => x9 (ix3 0 (f1 f) n)) n

theorem res_of (r : Fin 1024) (n : Fin 1024) (x a b : EReal) (hx : x = rowMid x0 x1 x2 x3 x4 x5 x6 r n)
    (ha : a = lowPart x7 x8 x9 (rowMid x0 x1 x2 x3 x4 x5 x6 r) n) (hb : b = highPart x7 x8 x9 (rowMid x0 x1 x2 x3 x4 x5 x6 r) n) :
    Ideal.ofBits .f32 0x3FB504F3#32 * x + Ideal.ofBits .f32 0x3F000000#32 * (a + b) = rowRes x0 x1 x2 x3 x4 x5 x6 x7 x8 x9 r n :=
  resid_split (rowMid x0 x1 x2 x3 x4 x5 x6 r) (fun k f => x7 (ix3 0 k f)) (fun k f => x8 (ix3 0 k f)) (fun f n => x9 (ix3 0 f n)) n x a b hx ha hb

/-! ## The first half of the rows -/

theorem dev_at (j : Fin 512) (n : Fin 1024) :
    k0_pay4 (F := Ideal) (View.ld x0 r0_0) (View.ld x1 r0_1) (View.ld x2 r0_2) (View.ld x3 r0_3) (View.ld x4 r0_4) (ix2 j n) = dev (rowMix x0 x1 x2 x3 x4 (lo j)) n :=
  (pay4_at _ _ _ _ _ j n).trans (congrArg (fun y => dev y n) (mixed_congr (funext fun i => ld0 x0 i j) (funext fun i => ld1 x1 i j) (funext fun i => ld2 x2 j i)
    (funext fun k => ld3 x3 j k) (funext fun k => funext fun n => ld4 x4 k n)))

/-- The first half's layer norm, as the body binds it. -/
abbrev mid : FVec Ideal S512x1024 .f32 := k0_pay6 (k0_pay19 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (k0_pay22 x0 x1 x2 x3 x4 x5 x6 x7 x8 x9 x10 x11)

theorem mid_at (j : Fin 512) (n : Fin 1024) : mid x0 x1 x2 x3 x4 x5 x6 x7 x8 x9 x10 x11 (ix2 j n) = rowMid x0 x1 x2 x3 x4 x5 x6 (lo j) n :=
  (pay6_at _ _ _ _ j n).trans (congrArg₂ (· + ·) (congrArg₂ (· * ·) (congrArg₂ (· * ·) (dev_at x0 x1 x2 x3 x4 j n)
    (congrArg (fun v : EReal => Ideal.rsqrt (v + Ideal.ofBits .f32 0x3727C5AC#32)) (congrArg avg (funext fun k => (pay5_at _ _ _ _ _ j k).trans
      (congrArg₂ (fun x y : EReal => x * y) (dev_at x0 x1 x2 x3 x4 j k) (dev_at x0 x1 x2 x3 x4 j k))))))
    ((pay2_at _ n).trans (ld5 x5 n))) ((pay3_at _ n).trans (ld5 x6 n)))

/-- The first half's narrowed rows, as the body binds them. -/
abbrev midNarrow : FVec Ideal S512x1024 .bf16 := k0_pay7 (k0_pay19 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (k0_pay22 x0 x1 x2 x3 x4 x5 x6 x7 x8 x9 x10 x11)

theorem midNarrow_at (j : Fin 512) (n : Fin 1024) : midNarrow x0 x1 x2 x3 x4 x5 x6 x7 x8 x9 x10 x11 (ix2 j n) = rowMid x0 x1 x2 x3 x4 x5 x6 (lo j) n :=
  (pay7_at _ _ _ _ j n).trans (mid_at x0 x1 x2 x3 x4 x5 x6 x7 x8 x9 x10 x11 j n)

theorem low_at (j : Fin 512) (n : Fin 1024) :
    k0_pay8 (k0_pay19 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (k0_pay22 x0 x1 x2 x3 x4 x5 x6 x7 x8 x9 x10 x11) (View.ld x7 r0_6) (View.ld x8 r0_6) (View.ld x9 r0_7) (ix2 j n)
      = lowPart x7 x8 x9 (rowMid x0 x1 x2 x3 x4 x5 x6 (lo j)) n :=
  (pay8_at _ _ _ _ _ _ _ j n).trans (part_congr (funext fun k => midNarrow_at x0 x1 x2 x3 x4 x5 x6 x7 x8 x9 x10 x11 j k) (funext fun k => funext fun f => ld6 x7 k f)
    (funext fun k => funext fun f => ld6 x8 k f) (funext fun f => funext fun n => ld7 x9 f n) n)

/-- The first half's residual, as the body binds it. -/
abbrev firstRes : FVec Ideal S512x1024 .f32 :=
  k0_pay13 (mid x0 x1 x2 x3 x4 x5 x6 x7 x8 x9 x10 x11) (midNarrow x0 x1 x2 x3 x4 x5 x6 x7 x8 x9 x10 x11) (k0_pay8 (k0_pay19 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (k0_pay22 x0 x1 x2 x3 x4 x5 x6 x7 x8 x9 x10 x11) (View.ld x7 r0_6) (View.ld x8 r0_6) (View.ld x9 r0_7))
    (k0_pay12 (View.ld x7 r0_12)) (constant S512x1280 .f32 0x00000000#32) (View.ld x8 r0_12) (View.ld x9 r0_13)

theorem firstRes_at (j : Fin 512) (n : Fin 1024) : firstRes x0 x1 x2 x3 x4 x5 x6 x7 x8 x9 x10 x11 (ix2 j n) = rowRes x0 x1 x2 x3 x4 x5 x6 x7 x8 x9 (lo j) n :=
  (pay13_at _ _ _ _ _ _ j n).trans (res_of x0 x1 x2 x3 x4 x5 x6 x7 x8 x9 (lo j) n _ _ _ (mid_at x0 x1 x2 x3 x4 x5 x6 x7 x8 x9 x10 x11 j n) (low_at x0 x1 x2 x3 x4 x5 x6 x7 x8 x9 x10 x11 j n)
    (part_congr (funext fun k => midNarrow_at x0 x1 x2 x3 x4 x5 x6 x7 x8 x9 x10 x11 j k) (funext fun k => funext fun f => (pay12_at _ k f).trans (ld12 x7 k f))
      (funext fun k => funext fun f => ld12 x8 k f) (funext fun f => funext fun n => ld13 x9 f n) n))

/-- The first store's payload: the first 512 rows. -/
theorem first_at (j : Fin 512) (n : Fin 1024) :
    k0_pay17 (firstRes x0 x1 x2 x3 x4 x5 x6 x7 x8 x9 x10 x11) (k0_pay16 (View.ld x10 r0_5)) (View.ld x11 r0_5) (ix3 0 j n) = rowOut x0 x1 x2 x3 x4 x5 x6 x7 x8 x9 x10 x11 (lo j) n :=
  (pay17_at _ _ _ j n).trans (ln_congr (funext fun n => firstRes_at x0 x1 x2 x3 x4 x5 x6 x7 x8 x9 x10 x11 j n) (funext fun n => (pay16_at _ n).trans (ld5 x10 n)) (funext fun n => ld5 x11 n) n)

/-! ## The second half of the rows -/

theorem mid2_at (j : Fin 512) (n : Fin 1024) : k0_pay23 x0 x1 x2 x3 x4 x5 x6 x7 x8 x9 x10 x11 (ix2 j n) = rowMid x0 x1 x2 x3 x4 x5 x6 (hi j) n :=
  (pay11_at _ _ _ _ _ _ _ j n).trans (ln_congr (mixed_congr (funext fun i => ld8 x0 i j) (funext fun i => ld9 x1 i j) (funext fun i => ld10 x2 j i)
    (funext fun k => ld11 x3 j k) (funext fun k => funext fun n => ld4 x4 k n)) (funext fun n => ld5 x5 n) (funext fun n => ld5 x6 n) n)

/-- The second store's payload: the last 512 rows. -/
theorem second_at (j : Fin 512) (n : Fin 1024) :
    k0_pay1 (k0_pay23 x0 x1 x2 x3 x4 x5 x6 x7 x8 x9 x10 x11) (k0_pay15 (k0_pay23 x0 x1 x2 x3 x4 x5 x6 x7 x8 x9 x10 x11) (View.ld x7 r0_6) (View.ld x8 r0_6) (View.ld x9 r0_7)) (k0_pay18 (k0_pay14 (k0_pay23 x0 x1 x2 x3 x4 x5 x6 x7 x8 x9 x10 x11)) (View.ld x7 r0_12) (View.ld x8 r0_12) (View.ld x9 r0_13))
      (View.ld x10 r0_5) (View.ld x11 r0_5) (ix3 0 j n) = rowOut x0 x1 x2 x3 x4 x5 x6 x7 x8 x9 x10 x11 (hi j) n :=
  (pay1_at _ _ _ _ _ j n).trans (ln_congr (funext fun n => res_of x0 x1 x2 x3 x4 x5 x6 x7 x8 x9 (hi j) n _ _ _ (mid2_at x0 x1 x2 x3 x4 x5 x6 x7 x8 x9 x10 x11 j n)
    ((pay15_at _ _ _ _ j n).trans (part_congr (funext fun k => mid2_at x0 x1 x2 x3 x4 x5 x6 x7 x8 x9 x10 x11 j k) (funext fun k => funext fun f => ld6 x7 k f)
      (funext fun k => funext fun f => ld6 x8 k f) (funext fun f => funext fun n => ld7 x9 f n) n))
    ((pay18_at _ _ _ _ j n).trans (part_congr (funext fun k => mid2_at x0 x1 x2 x3 x4 x5 x6 x7 x8 x9 x10 x11 j k) (funext fun k => funext fun f => ld12 x7 k f)
      (funext fun k => funext fun f => ld12 x8 k f) (funext fun f => funext fun n => ld13 x9 f n) n)))
    (funext fun n => ld5 x10 n) (funext fun n => ld5 x11 n) n)

/-! ## The block -/

theorem eq_row (x : S1x512x1024.Idx) : ∃ (j : Fin 512) (n : Fin 1024), x = ix3 0 j n := by
  obtain ⟨z, j, n, rfl⟩ : ∃ (z : Fin 1) (j : Fin 512) (n : Fin 1024), x = ix3 z j n := ⟨x 0, x 1, x 2, eq_ix3 x⟩
  exact ⟨j, n, congrArg (fun z : Fin 1 => ix3 z j n) (Subsingleton.elim z 0)⟩

/-- What the body leaves in its output block: every row projected, normed, through the feed-forward and normed again. -/
theorem out_at (r n : Fin 1024) : out0_12 x0 x1 x2 x3 x4 x5 x6 x7 x8 x9 x10 x11 (ix3 0 r n) = rowOut x0 x1 x2 x3 x4 x5 x6 x7 x8 x9 x10 x11 r n := by
  refine View.canon_apply_of_pieces (Val := Elt Ideal) (fun i => rowOut x0 x1 x2 x3 x4 x5 x6 x7 x8 x9 x10 x11 (i 1) (i 2) : Vec Ideal S1x1024x1024 .f32) _ ?_ (ix3 0 r n) (cover0_12 _ _ _)
  intro p hp x
  rcases List.mem_cons.mp hp with rfl | hp
  · obtain ⟨j, n, rfl⟩ := eq_row x
    refine (second_at x0 x1 x2 x3 x4 x5 x6 x7 x8 x9 x10 x11 j n).trans (congrArg₂ (rowOut x0 x1 x2 x3 x4 x5 x6 x7 x8 x9 x10 x11) (Fin.ext ?_) (Fin.ext ?_))
    · exact (by omega : 512 + j.val = 512 + 1 * j.val)
    · exact (by omega : n.val = 0 + 1 * n.val)
  · obtain rfl := List.mem_singleton.mp hp
    obtain ⟨j, n, rfl⟩ := eq_row x
    refine (first_at x0 x1 x2 x3 x4 x5 x6 x7 x8 x9 x10 x11 j n).trans (congrArg₂ (rowOut x0 x1 x2 x3 x4 x5 x6 x7 x8 x9 x10 x11) (Fin.ext ?_) (Fin.ext ?_))
    · exact (by omega : j.val = 0 + 1 * j.val)
    · exact (by omega : n.val = 0 + 1 * n.val)

end Cert.MixFeedForwardIdeal.Mix
-- ==== Proof.MixFinal.lean ====
module

public import proofs.«01_k».proof.Proof.MixOut

@[expose] public section

set_option maxRecDepth 65536

noncomputable section

namespace Cert.MixFeedForwardIdeal.Mix

open Idealize.ShloMosaic Idealize.ShloMosaic.TcCoe Idealize.ShloMosaic.Tactic Idealize.SL.Sem
open Cert.MixFeedForwardIdeal Cert.MixFeedForwardIdeal.Gen
open Cert.Rows

variable (m : (ℓ : Loc nD τ sig) → Buf (Elt Ideal) ℓ) (c : Dev nD)

/-! ## The arrays the region finds -/

/-- The host's narrowed arrays: format changes are the identity here. -/
abbrev narrow {s : Shape} (x : FVec Ideal s .f32) : FVec Ideal s .bf16 := truncf .bf16 x bitsLt_bf16_f32

theorem V_v1 : V m c main_v1 = narrow (transpose S8x384x4096 [0, 2, 1] (m ((c.tc : Thread nD τ).loc main_arg0) : FVec Ideal S8x4096x384 .f32) transposes_S8x4096x384_S8x384x4096_0_2_1) := by
  show StableHlo.after hostOps0 _ (Proc.devRef .tc main_v1) = _
  after_results <;> rfl
theorem V_v3 : V m c main_v3 = narrow (transpose S8x256x4096 [0, 2, 1] (m ((c.tc : Thread nD τ).loc main_arg1) : FVec Ideal S8x4096x256 .f32) transposes_S8x4096x256_S8x256x4096_0_2_1) := by
  show StableHlo.after hostOps0 _ (Proc.devRef .tc main_v3) = _
  after_results <;> rfl
theorem V_v4 : V m c main_v4 = narrow (m ((c.tc : Thread nD τ).loc main_arg2) : FVec Ideal S8x4096x384 .f32) := by
  show StableHlo.after hostOps0 _ (Proc.devRef .tc main_v4) = _
  after_results <;> rfl
theorem V_v5 : V m c main_v5 = narrow (m ((c.tc : Thread nD τ).loc main_arg4) : FVec Ideal S2x1024x1024 .f32) := by
  show StableHlo.after hostOps0 _ (Proc.devRef .tc main_v5) = _
  after_results <;> rfl
theorem V_v6 : V m c main_v6 = shapeCast S2x1x1024 (m ((c.tc : Thread nD τ).loc main_arg5) : Vec Ideal S2x1024 .f32) shapeCasts_S2x1024_S2x1x1024 := by
  show StableHlo.after hostOps0 _ (Proc.devRef .tc main_v6) = _
  after_results <;> rfl
theorem V_v7 : V m c main_v7 = shapeCast S2x1x1024 (m ((c.tc : Thread nD τ).loc main_arg6) : Vec Ideal S2x1024 .f32) shapeCasts_S2x1024_S2x1x1024 := by
  show StableHlo.after hostOps0 _ (Proc.devRef .tc main_v7) = _
  after_results <;> rfl
theorem V_v8 : V m c main_v8 = narrow (m ((c.tc : Thread nD τ).loc main_arg7) : FVec Ideal S2x1024x2816 .f32) := by
  show StableHlo.after hostOps0 _ (Proc.devRef .tc main_v8) = _
  after_results <;> rfl
theorem V_v9 : V m c main_v9 = narrow (m ((c.tc : Thread nD τ).loc main_arg8) : FVec Ideal S2x1024x2816 .f32) := by
  show StableHlo.after hostOps0 _ (Proc.devRef .tc main_v9) = _
  after_results <;> rfl
theorem V_v10 : V m c main_v10 = narrow (m ((c.tc : Thread nD τ).loc main_arg9) : FVec Ideal S2x2816x1024 .f32) := by
  show StableHlo.after hostOps0 _ (Proc.devRef .tc main_v10) = _
  after_results <;> rfl
theorem V_v11 : V m c main_v11 = shapeCast S2x1x1024 (m ((c.tc : Thread nD τ).loc main_arg10) : Vec Ideal S2x1024 .f32) shapeCasts_S2x1024_S2x1x1024 := by
  show StableHlo.after hostOps0 _ (Proc.devRef .tc main_v11) = _
  after_results <;> rfl
theorem V_v12 : V m c main_v12 = shapeCast S2x1x1024 (m ((c.tc : Thread nD τ).loc main_arg11) : Vec Ideal S2x1024 .f32) shapeCasts_S2x1024_S2x1x1024 := by
  show StableHlo.after hostOps0 _ (Proc.devRef .tc main_v12) = _
  after_results <;> rfl

theorem turn384_at (x : FVec Ideal S8x4096x384 .f32) (b : Fin 8) (i : Fin 384) (t : Fin 4096) :
    narrow (transpose S8x384x4096 [0, 2, 1] x transposes_S8x4096x384_S8x384x4096_0_2_1) (ix3 b i t) = x (ix3 b t i) := by
  pointwise [narrow]
theorem turn256_at (x : FVec Ideal S8x4096x256 .f32) (b : Fin 8) (i : Fin 256) (t : Fin 4096) :
    narrow (transpose S8x256x4096 [0, 2, 1] x transposes_S8x4096x256_S8x256x4096_0_2_1) (ix3 b i t) = x (ix3 b t i) := by
  pointwise [narrow]
theorem scale_at (g : FVec Ideal S2x1024 .f32) (n : Fin 1024) : shapeCast S2x1x1024 g shapeCasts_S2x1024_S2x1x1024 (ix3 1 0 n) = g (ix2 1 n) := by
  pointwise []

/-! ## The blocks a point looks at -/

/-- The batch and the block of rows of a point. -/
abbrev bt (t : Fin cfg0.N) : Fin 8 := grid0.coords t 0
abbrev sb (t : Fin cfg0.N) : Fin 4 := grid0.coords t 1
/-- Row `j` of a point's block, as a row of its batch. -/
abbrev row (t : Fin cfg0.N) (j : Fin 1024) : Fin 4096 := ⟨1024 * (sb t).val + j.val, by omega⟩

theorem index_0 : ∀ t : Fin cfg0.N, win0_0.index t 0 = (bt t).val ∧ win0_0.index t 1 = 0 ∧ win0_0.index t 2 = (sb t).val := by decide +kernel
theorem index_1 : ∀ t : Fin cfg0.N, win0_1.index t 0 = (bt t).val ∧ win0_1.index t 1 = 0 ∧ win0_1.index t 2 = (sb t).val := by decide +kernel
theorem index_2 : ∀ t : Fin cfg0.N, win0_2.index t 0 = (bt t).val ∧ win0_2.index t 1 = (sb t).val ∧ win0_2.index t 2 = 0 := by decide +kernel
theorem index_3 : ∀ t : Fin cfg0.N, win0_3.index t 0 = (bt t).val ∧ win0_3.index t 1 = (sb t).val ∧ win0_3.index t 2 = 0 := by decide +kernel
theorem index_4 : ∀ t : Fin cfg0.N, win0_4.index t 0 = 1 ∧ win0_4.index t 1 = 0 ∧ win0_4.index t 2 = 0 := by decide +kernel
theorem index_5 : ∀ t : Fin cfg0.N, win0_5.index t 0 = 1 ∧ win0_5.index t 1 = 0 ∧ win0_5.index t 2 = 0 := by decide +kernel
theorem index_6 : ∀ t : Fin cfg0.N, win0_6.index t 0 = 1 ∧ win0_6.index t 1 = 0 ∧ win0_6.index t 2 = 0 := by decide +kernel
theorem index_7 : ∀ t : Fin cfg0.N, win0_7.index t 0 = 1 ∧ win0_7.index t 1 = 0 ∧ win0_7.index t 2 = 0 := by decide +kernel
theorem index_8 : ∀ t : Fin cfg0.N, win0_8.index t 0 = 1 ∧ win0_8.index t 1 = 0 ∧ win0_8.index t 2 = 0 := by decide +kernel
theorem index_9 : ∀ t : Fin cfg0.N, win0_9.index t 0 = 1 ∧ win0_9.index t 1 = 0 ∧ win0_9.index t 2 = 0 := by decide +kernel
theorem index_10 : ∀ t : Fin cfg0.N, win0_10.index t 0 = 1 ∧ win0_10.index t 1 = 0 ∧ win0_10.index t 2 = 0 := by decide +kernel
theorem index_11 : ∀ t : Fin cfg0.N, win0_11.index t 0 = 1 ∧ win0_11.index t 1 = 0 ∧ win0_11.index t 2 = 0 := by decide +kernel
theorem index_12 : ∀ t : Fin cfg0.N, win0_12.index t 0 = (bt t).val ∧ win0_12.index t 1 = (sb t).val ∧ win0_12.index t 2 = 0 := by decide +kernel

theorem one_mul_add (a : ℕ) : a * 1 + 1 * 0 = a := by omega
theorem zero_mul_add (n a : ℕ) : 0 * n + 1 * a = a := by omega
theorem mul_add_comm (n a b : ℕ) : a * n + 1 * b = n * a + b := by rw [Nat.mul_comm, Nat.one_mul]

theorem iblk0_at (t : Fin cfg0.N) (i : Fin 384) (j : Fin 1024) : (iblk m c 0 t : Vec Ideal S1x384x1024 .bf16) (ix3 0 i j) = V m c main_v1 (ix3 (bt t) i (row t j)) := by
  obtain ⟨e0, e1, e2⟩ := index_0 t
  refine congrArg (V m c main_v1) (funext fun a => Fin.ext ?_)
  match a with
  | ⟨0, _⟩ => exact (congrArg (fun x : ℕ => x * 1 + 1 * 0) e0).trans (one_mul_add _)
  | ⟨1, _⟩ => exact (congrArg (fun x : ℕ => x * 384 + 1 * i.val) e1).trans (zero_mul_add _ _)
  | ⟨2, _⟩ => exact (congrArg (fun x : ℕ => x * 1024 + 1 * j.val) e2).trans (mul_add_comm _ _ _)
theorem iblk1_at (t : Fin cfg0.N) (i : Fin 256) (j : Fin 1024) : (iblk m c 1 t : Vec Ideal S1x256x1024 .bf16) (ix3 0 i j) = V m c main_v3 (ix3 (bt t) i (row t j)) := by
  obtain ⟨e0, e1, e2⟩ := index_1 t
  refine congrArg (V m c main_v3) (funext fun a => Fin.ext ?_)
  match a with
  | ⟨0, _⟩ => exact (congrArg (fun x : ℕ => x * 1 + 1 * 0) e0).trans (one_mul_add _)
  | ⟨1, _⟩ => exact (congrArg (fun x : ℕ => x * 256 + 1 * i.val) e1).trans (zero_mul_add _ _)
  | ⟨2, _⟩ => exact (congrArg (fun x : ℕ => x * 1024 + 1 * j.val) e2).trans (mul_add_comm _ _ _)
theorem iblk2_at (t : Fin cfg0.N) (j : Fin 1024) (i : Fin 384) : (iblk m c 2 t : Vec Ideal S1x1024x384 .bf16) (ix3 0 j i) = V m c main_v4 (ix3 (bt t) (row t j) i) := by
  obtain ⟨e0, e1, e2⟩ := index_2 t
  refine congrArg (V m c main_v4) (funext fun a => Fin.ext ?_)
  match a with
  | ⟨0, _⟩ => exact (congrArg (fun x : ℕ => x * 1 + 1 * 0) e0).trans (one_mul_add _)
  | ⟨1, _⟩ => exact (congrArg (fun x : ℕ => x * 1024 + 1 * j.val) e1).trans (mul_add_comm _ _ _)
  | ⟨2, _⟩ => exact (congrArg (fun x : ℕ => x * 384 + 1 * i.val) e2).trans (zero_mul_add _ _)
theorem iblk3_at (t : Fin cfg0.N) (j k : Fin 1024) : (iblk m c 3 t : Vec Ideal S1x1024x1024 .f32) (ix3 0 j k) = V m c main_arg3 (ix3 (bt t) (row t j) k) := by
  obtain ⟨e0, e1, e2⟩ := index_3 t
  refine congrArg (V m c main_arg3) (funext fun a => Fin.ext ?_)
  match a with
  | ⟨0, _⟩ => exact (congrArg (fun x : ℕ => x * 1 + 1 * 0) e0).trans (one_mul_add _)
  | ⟨1, _⟩ => exact (congrArg (fun x : ℕ => x * 1024 + 1 * j.val) e1).trans (mul_add_comm _ _ _)
  | ⟨2, _⟩ => exact (congrArg (fun x : ℕ => x * 1024 + 1 * k.val) e2).trans (zero_mul_add _ _)
theorem iblk4_at (t : Fin cfg0.N) (k n : Fin 1024) : (iblk m c 4 t : Vec Ideal S1x1024x1024 .bf16) (ix3 0 k n) = V m c main_v5 (ix3 1 k n) := by
  obtain ⟨e0, e1, e2⟩ := index_4 t
  refine congrArg (V m c main_v5) (funext fun a => Fin.ext ?_)
  match a with
  | ⟨0, _⟩ => exact (congrArg (fun x : ℕ => x * 1 + 1 * 0) e0).trans (one_mul_add _)
  | ⟨1, _⟩ => exact (congrArg (fun x : ℕ => x * 1024 + 1 * k.val) e1).trans (zero_mul_add _ _)
  | ⟨2, _⟩ => exact (congrArg (fun x : ℕ => x * 1024 + 1 * n.val) e2).trans (zero_mul_add _ _)
theorem iblk5_at (t : Fin cfg0.N) (n : Fin 1024) : (iblk m c 5 t : Vec Ideal S1x1x1024 .f32) (ix3 0 0 n) = V m c main_v6 (ix3 1 0 n) := by
  obtain ⟨e0, e1, e2⟩ := index_5 t
  refine congrArg (V m c main_v6) (funext fun a => Fin.ext ?_)
  match a with
  | ⟨0, _⟩ => exact (congrArg (fun x : ℕ => x * 1 + 1 * 0) e0).trans (one_mul_add _)
  | ⟨1, _⟩ => exact (congrArg (fun x : ℕ => x * 1 + 1 * 0) e1).trans (zero_mul_add _ _)
  | ⟨2, _⟩ => exact (congrArg (fun x : ℕ => x * 1024 + 1 * n.val) e2).trans (zero_mul_add _ _)
theorem iblk6_at (t : Fin cfg0.N) (n : Fin 1024) : (iblk m c 6 t : Vec Ideal S1x1x1024 .f32) (ix3 0 0 n) = V m c main_v7 (ix3 1 0 n) := by
  obtain ⟨e0, e1, e2⟩ := index_6 t
  refine congrArg (V m c main_v7) (funext fun a => Fin.ext ?_)
  match a with
  | ⟨0, _⟩ => exact (congrArg (fun x : ℕ => x * 1 + 1 * 0) e0).trans (one_mul_add _)
  | ⟨1, _⟩ => exact (congrArg (fun x : ℕ => x * 1 + 1 * 0) e1).trans (zero_mul_add _ _)
  | ⟨2, _⟩ => exact (congrArg (fun x : ℕ => x * 1024 + 1 * n.val) e2).trans (zero_mul_add _ _)
theorem iblk10_at (t : Fin cfg0.N) (n : Fin 1024) : (iblk m c 10 t : Vec Ideal S1x1x1024 .f32) (ix3 0 0 n) = V m c main_v11 (ix3 1 0 n) := by
  obtain ⟨e0, e1, e2⟩ := index_10 t
  refine congrArg (V m c main_v11) (funext fun a => Fin.ext ?_)
  match a with
  | ⟨0, _⟩ => exact (congrArg (fun x : ℕ => x * 1 + 1 * 0) e0).trans (one_mul_add _)
  | ⟨1, _⟩ => exact (congrArg (fun x : ℕ => x * 1 + 1 * 0) e1).trans (zero_mul_add _ _)
  | ⟨2, _⟩ => exact (congrArg (fun x : ℕ => x * 1024 + 1 * n.val) e2).trans (zero_mul_add _ _)
theorem iblk11_at (t : Fin cfg0.N) (n : Fin 1024) : (iblk m c 11 t : Vec Ideal S1x1x1024 .f32) (ix3 0 0 n) = V m c main_v12 (ix3 1 0 n) := by
  obtain ⟨e0, e1, e2⟩ := index_11 t
  refine congrArg (V m c main_v12) (funext fun a => Fin.ext ?_)
  match a with
  | ⟨0, _⟩ => exact (congrArg (fun x : ℕ => x * 1 + 1 * 0) e0).trans (one_mul_add _)
  | ⟨1, _⟩ => exact (congrArg (fun x : ℕ => x * 1 + 1 * 0) e1).trans (zero_mul_add _ _)
  | ⟨2, _⟩ => exact (congrArg (fun x : ℕ => x * 1024 + 1 * n.val) e2).trans (zero_mul_add _ _)
theorem iblk7_at (t : Fin cfg0.N) (k : Fin 1024) (f : Fin 2816) : (iblk m c 7 t : Vec Ideal S1x1024x2816 .bf16) (ix3 0 k f) = V m c main_v8 (ix3 1 k f) := by
  obtain ⟨e0, e1, e2⟩ := index_7 t
  refine congrArg (V m c main_v8) (funext fun a => Fin.ext ?_)
  match a with
  | ⟨0, _⟩ => exact (congrArg (fun x : ℕ => x * 1 + 1 * 0) e0).trans (one_mul_add _)
  | ⟨1, _⟩ => exact (congrArg (fun x : ℕ => x * 1024 + 1 * k.val) e1).trans (zero_mul_add _ _)
  | ⟨2, _⟩ => exact (congrArg (fun x : ℕ => x * 2816 + 1 * f.val) e2).trans (zero_mul_add _ _)
theorem iblk8_at (t : Fin cfg0.N) (k : Fin 1024) (f : Fin 2816) : (iblk m c 8 t : Vec Ideal S1x1024x2816 .bf16) (ix3 0 k f) = V m c main_v9 (ix3 1 k f) := by
  obtain ⟨e0, e1, e2⟩ := index_8 t
  refine congrArg (V m c main_v9) (funext fun a => Fin.ext ?_)
  match a with
  | ⟨0, _⟩ => exact (congrArg (fun x : ℕ => x * 1 + 1 * 0) e0).trans (one_mul_add _)
  | ⟨1, _⟩ => exact (congrArg (fun x : ℕ => x * 1024 + 1 * k.val) e1).trans (zero_mul_add _ _)
  | ⟨2, _⟩ => exact (congrArg (fun x : ℕ => x * 2816 + 1 * f.val) e2).trans (zero_mul_add _ _)
theorem iblk9_at (t : Fin cfg0.N) (f : Fin 2816) (n : Fin 1024) : (iblk m c 9 t : Vec Ideal S1x2816x1024 .bf16) (ix3 0 f n) = V m c main_v10 (ix3 1 f n) := by
  obtain ⟨e0, e1, e2⟩ := index_9 t
  refine congrArg (V m c main_v10) (funext fun a => Fin.ext ?_)
  match a with
  | ⟨0, _⟩ => exact (congrArg (fun x : ℕ => x * 1 + 1 * 0) e0).trans (one_mul_add _)
  | ⟨1, _⟩ => exact (congrArg (fun x : ℕ => x * 2816 + 1 * f.val) e1).trans (zero_mul_add _ _)
  | ⟨2, _⟩ => exact (congrArg (fun x : ℕ => x * 1024 + 1 * n.val) e2).trans (zero_mul_add _ _)

/-- Where a point's output block lies in the array. -/
theorem emb_12 (t : Fin cfg0.N) (j n : Fin 1024) : ((cfg0.win 12).blk t).view.emb (ix3 0 j n) = (ix3 (bt t) (row t j) n : S8x4096x1024.Idx) := by
  obtain ⟨e0, e1, e2⟩ := index_12 t
  refine funext fun i => Fin.ext ?_
  match i with
  | ⟨0, _⟩ => exact (congrArg (fun x : ℕ => x * 1 + 1 * 0) e0).trans (one_mul_add _)
  | ⟨1, _⟩ => exact (congrArg (fun x : ℕ => x * 1024 + 1 * j.val) e1).trans (mul_add_comm _ _ _)
  | ⟨2, _⟩ => exact (congrArg (fun x : ℕ => x * 1024 + 1 * n.val) e2).trans (zero_mul_add _ _)

/-- Every batch and block of rows is a point's. -/
theorem point_of : ∀ (b : Fin 8) (s : Fin 4), ∃ t : Fin cfg0.N, bt t = b ∧ sb t = s := by decide +kernel

/-! ## The final array -/

variable (A : Vec Ideal S8x4096x384 .f32) (B : Vec Ideal S8x4096x256 .f32) (S : Vec Ideal S8x4096x384 .f32) (h : Vec Ideal S8x4096x1024 .f32) (wo : Vec Ideal S2x1024x1024 .f32) (gm bm : Vec Ideal S2x1024 .f32)
  (wg wu : Vec Ideal S2x1024x2816 .f32) (wd : Vec Ideal S2x2816x1024 .f32) (g d : Vec Ideal S2x1024 .f32)

/-- Row `t` of batch `b`: the mixers' outputs projected onto the residual, the layer norm, the feed-forward, its residual and its layer norm. -/
def resRow (b : Fin 8) (t : Fin 4096) (n : Fin 1024) : EReal :=
  ffn (ln (mixed (cat (fun i => A (ix3 b t i)) (fun i => B (ix3 b t i)) (fun i => S (ix3 b t i))) (fun k => h (ix3 b t k)) (fun k n => wo (ix3 1 k n))) (fun n => gm (ix2 1 n)) (fun n => bm (ix2 1 n)))
    (fun k f => wg (ix3 1 k f)) (fun k f => wu (ix3 1 k f)) (fun f n => wd (ix3 1 f n)) (fun n => g (ix2 1 n)) (fun n => d (ix2 1 n)) n

/-- Every row. -/
def res : Vec Ideal S8x4096x1024 .f32 := fun i => resRow A B S h wo gm bm wg wu wd g d (i 0) (i 1) (i 2)

variable (h0 : m ((c.tc : Thread nD τ).loc main_arg0) = A) (h1 : m ((c.tc : Thread nD τ).loc main_arg1) = B) (h2 : m ((c.tc : Thread nD τ).loc main_arg2) = S) (h3 : m ((c.tc : Thread nD τ).loc main_arg3) = h) (h4 : m ((c.tc : Thread nD τ).loc main_arg4) = wo) (h5 : m ((c.tc : Thread nD τ).loc main_arg5) = gm) (h6 : m ((c.tc : Thread nD τ).loc main_arg6) = bm) (h7 : m ((c.tc : Thread nD τ).loc main_arg7) = wg) (h8 : m ((c.tc : Thread nD τ).loc main_arg8) = wu) (h9 : m ((c.tc : Thread nD τ).loc main_arg9) = wd) (h10 : m ((c.tc : Thread nD τ).loc main_arg10) = g) (h11 : m ((c.tc : Thread nD τ).loc main_arg11) = d)

include h0 h1 h2 h3 h4 h5 h6 h7 h8 h9 h10 h11 in
/-- The block a point computes is the block of `res` it writes. -/
theorem block_at (t : Fin cfg0.N) (j n : Fin 1024) :
    rowOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j n = res A B S h wo gm bm wg wu wd g d (ix3 (bt t) (row t j) n) := by
  subst h0 h1 h2 h3 h4 h5 h6 h7 h8 h9 h10 h11
  show rowOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j n = resRow _ _ _ _ _ _ _ _ _ _ _ _ (bt t) (row t j) n
  unfold rowOut resRow rowMid rowMix
  refine ffn_congr (funext (ln_congr (mixed_congr (funext fun i => ?_) (funext fun i => ?_) (funext fun i => ?_) (funext fun k => ?_) (funext fun k => funext fun n => ?_)) (funext fun n => ?_) (funext fun n => ?_)))
    (funext fun k => funext fun f => ?_) (funext fun k => funext fun f => ?_) (funext fun f => funext fun n => ?_) (funext fun n => ?_) (funext fun n => ?_) n
  · exact (iblk0_at m c t i j).trans ((congrFun (V_v1 m c) _).trans (turn384_at _ _ _ _))
  · exact (iblk1_at m c t i j).trans ((congrFun (V_v3 m c) _).trans (turn256_at _ _ _ _))
  · exact (iblk2_at m c t j i).trans (congrFun (V_v4 m c) _)
  · exact (iblk3_at m c t j k).trans (congrFun (V_main_arg3 m c) _)
  · exact (iblk4_at m c t k n).trans (congrFun (V_v5 m c) _)
  · exact (iblk5_at m c t n).trans ((congrFun (V_v6 m c) _).trans (scale_at _ n))
  · exact (iblk6_at m c t n).trans ((congrFun (V_v7 m c) _).trans (scale_at _ n))
  · exact (iblk7_at m c t k f).trans (congrFun (V_v8 m c) _)
  · exact (iblk8_at m c t k f).trans (congrFun (V_v9 m c) _)
  · exact (iblk9_at m c t f n).trans (congrFun (V_v10 m c) _)
  · exact (iblk10_at m c t n).trans ((congrFun (V_v11 m c) _).trans (scale_at _ n))
  · exact (iblk11_at m c t n).trans ((congrFun (V_v12 m c) _).trans (scale_at _ n))

include h0 h1 h2 h3 h4 h5 h6 h7 h8 h9 h10 h11 in
/-- What a point writes back is its block of `res`. -/
theorem flushed_eq (t : Fin cfg0.N) : (dats m 0 c).flushed 12 t = ((cfg0.win 12).blk t).view.read (Elt Ideal) (res A B S h wo gm bm wg wu wd g d) := by
  refine (Value.flushed12 m c t).trans (funext fun y => ?_)
  obtain ⟨z, j, n, rfl⟩ : ∃ (z : Fin 1) (j n : Fin 1024), y = ix3 z j n := ⟨y 0, y 1, y 2, eq_ix3 y⟩
  obtain rfl : z = 0 := Subsingleton.elim z 0
  refine (out_at _ _ _ _ _ _ _ _ _ _ _ _ j n).trans ((block_at m c A B S h wo gm bm wg wu wd g d h0 h1 h2 h3 h4 h5 h6 h7 h8 h9 h10 h11 t j n).trans ?_)
  exact (congrArg (res A B S h wo gm bm wg wu wd g d) (emb_12 t j n)).symm

include h0 h1 h2 h3 h4 h5 h6 h7 h8 h9 h10 h11 in
/-- The blocks cover the array: it ends holding `res`. -/
theorem final_out : (dats m 0 c).arrAt 12 cfg0.N = res A B S h wo gm bm wg wu wd g d :=
  (dats m 0 c).arrAt_eq_of_cover 12 (res A B S h wo gm bm wg wu wd g d) (fun t _ => flushed_eq m c A B S h wo gm bm wg wu wd g d h0 h1 h2 h3 h4 h5 h6 h7 h8 h9 h10 h11 t) fun i => by
    have h1 : (i 1).val < 4096 := (i 1).isLt
    obtain ⟨t, hb, hj⟩ := point_of (i 0) ⟨(i 1).val / 1024, by omega⟩
    refine ⟨t, flush0_12 t, ?_⟩
    have e : i = ((cfg0.win 12).blk t).view.emb (ix3 0 ⟨(i 1).val % 1024, Nat.mod_lt _ (by decide)⟩ (i 2)) := by
      refine Eq.trans ?_ (emb_12 t ⟨(i 1).val % 1024, Nat.mod_lt _ (by decide)⟩ (i 2)).symm
      refine funext fun a => Fin.ext ?_
      match a with
      | ⟨0, _⟩ => exact (congrArg Fin.val hb).symm
      | ⟨1, _⟩ => exact ((congrArg (fun x : Fin 4 => 1024 * x.val + (i 1).val % 1024) hj).trans (Nat.div_add_mod _ 1024)).symm
      | ⟨2, _⟩ => rfl
    rw [e]
    exact View.emb_mem_set _ _

end Cert.MixFeedForwardIdeal.Mix
-- ==== Proof.MixRef.lean ====
module

public import proofs.«01_k».proof.Proof.Rows
public import proofs.«01_k».proof.Proof.Gen.MixFeedForwardReferenceIdeal.Run

@[expose] public section

set_option maxRecDepth 65536

noncomputable section

namespace Cert.MixFeedForwardReferenceIdeal.Mix

open Idealize.ShloMosaic Idealize.ShloMosaic.TcCoe Idealize.ShloMosaic.Tactic Idealize.ShloMosaic.StableHlo Idealize.SL.Sem
open Cert.MixFeedForwardReferenceIdeal Cert.MixFeedForwardReferenceIdeal.Gen Cert.MixFeedForwardReferenceIdeal.Value
open Cert.Rows

/-! ## The reference's lines, in pieces -/

/-- The second layer's matrices and vectors. -/
def up (w : FVec Ideal S2x1024x2816 .f32) : FVec Ideal S1024x2816 .f32 :=
  shapeCast _ (extractStridedSlice S1x1024x2816 ![1, 0, 0] w slices_S2x1024x2816_S1x1024x2816_1_0_0) shapeCasts_S1x1024x2816_S1024x2816
def down (w : FVec Ideal S2x2816x1024 .f32) : FVec Ideal S2816x1024 .f32 :=
  shapeCast _ (extractStridedSlice S1x2816x1024 ![1, 0, 0] w slices_S2x2816x1024_S1x2816x1024_1_0_0) shapeCasts_S1x2816x1024_S2816x1024
def wide (g : FVec Ideal S2x1024 .f32) : FVec Ideal S8x4096x1024 .f32 :=
  broadcastInDim S8x4096x1024 ![0, 1, 2] bcast_S1x1x1024_S8x4096x1024_0_1_2 (broadcastInDim S1x1x1024 ![2] bcast_S1024_S1x1x1024_2 (shapeCast _ (extractStridedSlice S1x1024 ![1, 0] g slices_S2x1024_S1x1024_1_0) shapeCasts_S1x1024_S1024))

/-- The second layer's output projection. -/
def proj (w : FVec Ideal S2x1024x1024 .f32) : FVec Ideal S1024x1024 .f32 :=
  shapeCast _ (extractStridedSlice S1x1024x1024 ![1, 0, 0] w slices_S2x1024x1024_S1x1024x1024_1_0_0) shapeCasts_S1x1024x1024_S1024x1024

/-- The mixers' outputs side by side. -/
def joined (A : FVec Ideal S8x4096x384 .f32) (B : FVec Ideal S8x4096x256 .f32) (S : FVec Ideal S8x4096x384 .f32) : FVec Ideal S8x4096x1024 .f32 :=
  concatenate S8x4096x1024 2 [⟨S8x4096x384, A⟩, ⟨S8x4096x256, B⟩, ⟨S8x4096x384, S⟩] concatenates_S8x4096x384_S8x4096x256_S8x4096x384_S8x4096x1024_d2

/-- The mixers' outputs projected, on the residual `α·h`. -/
def sumMix (h x : FVec Ideal S8x4096x1024 .f32) (w : FVec Ideal S1024x1024 .f32) : FVec Ideal S8x4096x1024 .f32 :=
  addf (mulf (broadcastInDim S8x4096x1024 ![] bcast_S_S8x4096x1024 (constant S_ .f32 0x3FB504F3#32)) h) (Host.dotGeneral dot_S8x4096x1024_S1024x1024_S8x4096x1024_2_0_01_1_n_n none x w)

/-- The activations times a matrix. -/
def dot (h : FVec Ideal S8x4096x1024 .f32) (w : FVec Ideal S1024x2816 .f32) : FVec Ideal S8x4096x2816 .f32 :=
  Host.dotGeneral dot_S8x4096x1024_S1024x2816_S8x4096x2816_2_0_01_1_n_n none h w

/-- The gated hidden units: `silu G · U`. -/
def gated (G U : FVec Ideal S8x4096x2816 .f32) : FVec Ideal S8x4096x2816 .f32 :=
  mulf (mulf G (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf G))))) U

/-- The residual: `α·h + ½·H·wd`. -/
def sumRes (h : FVec Ideal S8x4096x1024 .f32) (H : FVec Ideal S8x4096x2816 .f32) (wd : FVec Ideal S2816x1024 .f32) : FVec Ideal S8x4096x1024 .f32 :=
  addf (mulf (broadcastInDim S8x4096x1024 ![] bcast_S_S8x4096x1024 (constant S_ .f32 0x3FB504F3#32)) h) (mulf (broadcastInDim S8x4096x1024 ![] bcast_S_S8x4096x1024 (constant S_ .f32 0x3F000000#32)) (Host.dotGeneral dot_S8x4096x2816_S2816x1024_S8x4096x1024_2_0_01_1_n_n none H wd))

/-- Each row's mean, and the rows with their means taken off. -/
def mean (y : FVec Ideal S8x4096x1024 .f32) : FVec Ideal S8x4096x1 .f32 :=
  Host.divf (broadcastInDim S8x4096x1 ![0, 1] bcast_S8x4096_S8x4096x1_0_1 (Host.reduceAdd y (constant S_ .f32 0x00000000#32) reducesTo_S8x4096x1024_S8x4096_d2 h_S_)) (broadcastInDim S8x4096x1 ![] bcast_S_S8x4096x1 (constant S_ .f32 0x44800000#32))
def centred (y : FVec Ideal S8x4096x1024 .f32) : FVec Ideal S8x4096x1024 .f32 :=
  subf y (broadcastInDim S8x4096x1024 ![0, 1, 2] bcast_S8x4096x1_S8x4096x1024_0_1_2 (mean y))

/-- The layer norm of every row. -/
def norm (y : FVec Ideal S8x4096x1024 .f32) (g b : FVec Ideal S8x4096x1024 .f32) : FVec Ideal S8x4096x1024 .f32 :=
  addf (mulf (mulf (centred y) (broadcastInDim S8x4096x1024 ![0, 1, 2] bcast_S8x4096x1_S8x4096x1024_0_1_2 (Host.rsqrt (addf (mean (mulf (centred y) (centred y))) (broadcastInDim S8x4096x1 ![] bcast_S_S8x4096x1 (constant S_ .f32 0x3727C5AC#32)))))) g) b

/-- What the reference holds after its first layer norm. -/
theorem mid_eq (m : (ℓ : Loc nD τ sig) → Buf (Elt Ideal) ℓ) (c : Dev nD) :
    res_main_v34 (launchContents m c) = norm (sumMix (m ((c.tc : Thread nD τ).loc main_arg3)) (joined (m ((c.tc : Thread nD τ).loc main_arg0)) (m ((c.tc : Thread nD τ).loc main_arg1)) (m ((c.tc : Thread nD τ).loc main_arg2))) (proj (m ((c.tc : Thread nD τ).loc main_arg4)))) (wide (m ((c.tc : Thread nD τ).loc main_arg5))) (wide (m ((c.tc : Thread nD τ).loc main_arg6))) := by
  unfold res_main_v34 res_main_v16 res_main_v14 res_main_v6 norm centred mean sumMix joined proj wide; rfl

/-- What it holds before its second layer norm, of what it holds after the first. -/
theorem sum_eq (m : (ℓ : Loc nD τ sig) → Buf (Elt Ideal) ℓ) (c : Dev nD) :
    res_main_v50 (launchContents m c) = sumRes (res_main_v34 (launchContents m c))
      (gated (dot (res_main_v34 (launchContents m c)) (up (m ((c.tc : Thread nD τ).loc main_arg7)))) (dot (res_main_v34 (launchContents m c)) (up (m ((c.tc : Thread nD τ).loc main_arg8))))) (down (m ((c.tc : Thread nD τ).loc main_arg9))) := by
  unfold res_main_v50 res_main_v39 sumRes gated dot up down; rfl

/-! ## The pieces, at an index -/

theorem up_at (w : FVec Ideal S2x1024x2816 .f32) (k : Fin 1024) (f : Fin 2816) : up w (ix2 k f) = w (ix3 1 k f) := by
  pointwise [up]
theorem down_at (w : FVec Ideal S2x2816x1024 .f32) (f : Fin 2816) (n : Fin 1024) : down w (ix2 f n) = w (ix3 1 f n) := by
  pointwise [down]
theorem wide_at (g : FVec Ideal S2x1024 .f32) (b : Fin 8) (t : Fin 4096) (n : Fin 1024) : wide g (ix3 b t n) = g (ix2 1 n) := by
  pointwise [wide]
theorem dot_at (h : FVec Ideal S8x4096x1024 .f32) (w : FVec Ideal S1024x2816 .f32) (b : Fin 8) (t : Fin 4096) (f : Fin 2816) :
    dot h w (ix3 b t f) = ∑ k : Fin 1024, h (ix3 b t k) * w (ix2 k f) := by
  pointwise [dot]
theorem gated_at (G U : FVec Ideal S8x4096x2816 .f32) (b : Fin 8) (t : Fin 4096) (f : Fin 2816) :
    gated G U (ix3 b t f) = G (ix3 b t f) * Ideal.logistic (G (ix3 b t f)) * U (ix3 b t f) := by
  pointwise [gated]
  rfl
theorem sumRes_at (h : FVec Ideal S8x4096x1024 .f32) (H : FVec Ideal S8x4096x2816 .f32) (wd : FVec Ideal S2816x1024 .f32) (b : Fin 8) (t : Fin 4096) (n : Fin 1024) :
    sumRes h H wd (ix3 b t n) = Ideal.ofBits .f32 0x3FB504F3#32 * h (ix3 b t n) + Ideal.ofBits .f32 0x3F000000#32 * ∑ f : Fin 2816, H (ix3 b t f) * wd (ix2 f n) := by
  pointwise [sumRes]
theorem mean_at (y : FVec Ideal S8x4096x1024 .f32) (b : Fin 8) (t : Fin 4096) : mean y (ix3 b t 0) = avg fun n => y (ix3 b t n) := by
  pointwise [mean]
  rfl
theorem centred_at (y : FVec Ideal S8x4096x1024 .f32) (b : Fin 8) (t : Fin 4096) (n : Fin 1024) : centred y (ix3 b t n) = y (ix3 b t n) - mean y (ix3 b t 0) := by
  pointwise [centred]
theorem norm_at (y g d : FVec Ideal S8x4096x1024 .f32) (b : Fin 8) (t : Fin 4096) (n : Fin 1024) :
    norm y g d (ix3 b t n) = centred y (ix3 b t n) * Ideal.rsqrt (mean (mulf (centred y) (centred y)) (ix3 b t 0) + Ideal.ofBits .f32 0x3727C5AC#32) * g (ix3 b t n) + d (ix3 b t n) := by
  pointwise [norm]
/-- The rows with their means taken off, row by row. -/
theorem dev_at (y : FVec Ideal S8x4096x1024 .f32) (b : Fin 8) (t : Fin 4096) (n : Fin 1024) : centred y (ix3 b t n) = dev (fun n => y (ix3 b t n)) n :=
  (centred_at y b t n).trans (congrArg (fun z : EReal => (y (ix3 b t n) : EReal) - z) (mean_at y b t))

/-- The layer norm, row by row. -/
theorem ln_at (y g d : FVec Ideal S8x4096x1024 .f32) (b : Fin 8) (t : Fin 4096) (n : Fin 1024) :
    norm y g d (ix3 b t n) = ln (fun n => y (ix3 b t n)) (fun n => g (ix3 b t n)) (fun n => d (ix3 b t n)) n :=
  (norm_at y g d b t n).trans (congrArg (fun z : EReal => z * (g (ix3 b t n) : EReal) + (d (ix3 b t n) : EReal)) (congrArg₂ (· * ·) (dev_at y b t n)
    (congrArg (fun v : EReal => Ideal.rsqrt (v + Ideal.ofBits .f32 0x3727C5AC#32))
      ((mean_at _ b t).trans (congrArg avg (funext fun k => congrArg₂ (· * ·) (dev_at y b t k) (dev_at y b t k)))))))

/-- The feed-forward, row by row. -/
theorem hid_at (h : FVec Ideal S8x4096x1024 .f32) (wg wu : FVec Ideal S2x1024x2816 .f32) (b : Fin 8) (t : Fin 4096) (f : Fin 2816) :
    gated (dot h (up wg)) (dot h (up wu)) (ix3 b t f) = hid (fun k => h (ix3 b t k)) (fun k f => wg (ix3 1 k f)) (fun k f => wu (ix3 1 k f)) f := by
  have e : ∀ w : FVec Ideal S2x1024x2816 .f32, dot h (up w) (ix3 b t f) = ∑ k : Fin 1024, (h (ix3 b t k) : EReal) * w (ix3 1 k f) := fun w =>
    (dot_at h (up w) b t f).trans (Finset.sum_congr rfl fun k _ => congrArg (fun z : EReal => (h (ix3 b t k) : EReal) * z) (up_at w k f))
  refine (gated_at _ _ b t f).trans ?_
  exact congrArg₂ (fun x y : EReal => x * Ideal.logistic x * y) (e wg) (e wu)

theorem resid_at (h : FVec Ideal S8x4096x1024 .f32) (wg wu : FVec Ideal S2x1024x2816 .f32) (wd : FVec Ideal S2x2816x1024 .f32) (b : Fin 8) (t : Fin 4096) (n : Fin 1024) :
    sumRes h (gated (dot h (up wg)) (dot h (up wu))) (down wd) (ix3 b t n)
      = resid (fun k => h (ix3 b t k)) (fun k f => wg (ix3 1 k f)) (fun k f => wu (ix3 1 k f)) (fun f n => wd (ix3 1 f n)) n :=
  (sumRes_at _ _ _ b t n).trans (congrArg (fun z : EReal => Ideal.ofBits .f32 0x3FB504F3#32 * (h (ix3 b t n) : EReal) + Ideal.ofBits .f32 0x3F000000#32 * z)
    (Finset.sum_congr rfl fun f _ => congrArg₂ (fun x y : EReal => x * y) (hid_at h wg wu b t f) (down_at wd f n)))

theorem proj_at (w : FVec Ideal S2x1024x1024 .f32) (k n : Fin 1024) : proj w (ix2 k n) = w (ix3 1 k n) := by
  pointwise [proj]
theorem joined_at (A : FVec Ideal S8x4096x384 .f32) (B : FVec Ideal S8x4096x256 .f32) (S : FVec Ideal S8x4096x384 .f32) (b : Fin 8) (t : Fin 4096) (k : Fin 1024) :
    joined A B S (ix3 b t k) = cat (fun i => A (ix3 b t i)) (fun i => B (ix3 b t i)) (fun i => S (ix3 b t i)) k := by
  pointwise [joined]
  rfl
theorem sumMix_at (h x : FVec Ideal S8x4096x1024 .f32) (w : FVec Ideal S1024x1024 .f32) (b : Fin 8) (t : Fin 4096) (n : Fin 1024) :
    sumMix h x w (ix3 b t n) = Ideal.ofBits .f32 0x3FB504F3#32 * h (ix3 b t n) + ∑ k : Fin 1024, x (ix3 b t k) * w (ix2 k n) := by
  pointwise [sumMix]

/-- The projection on the residual, row by row. -/
theorem mixed_at (A : FVec Ideal S8x4096x384 .f32) (B : FVec Ideal S8x4096x256 .f32) (S : FVec Ideal S8x4096x384 .f32) (h : FVec Ideal S8x4096x1024 .f32) (w : FVec Ideal S2x1024x1024 .f32) (b : Fin 8) (t : Fin 4096) (n : Fin 1024) :
    sumMix h (joined A B S) (proj w) (ix3 b t n)
      = mixed (cat (fun i => A (ix3 b t i)) (fun i => B (ix3 b t i)) (fun i => S (ix3 b t i))) (fun k => h (ix3 b t k)) (fun k n => w (ix3 1 k n)) n :=
  (sumMix_at _ _ _ b t n).trans (congrArg (fun z : EReal => Ideal.ofBits .f32 0x3FB504F3#32 * (h (ix3 b t n) : EReal) + z)
    (Finset.sum_congr rfl fun k _ => congrArg₂ (fun x y : EReal => x * y) (joined_at A B S b t k) (proj_at w k n)))

/-- The first layer norm, row by row. -/
theorem mid_at (m : (ℓ : Loc nD τ sig) → Buf (Elt Ideal) ℓ) (c : Dev nD) (b : Fin 8) (t : Fin 4096) (n : Fin 1024) :
    (res_main_v34 (launchContents m c) : Vec Ideal S8x4096x1024 .f32) (ix3 b t n)
      = ln (mixed (cat (fun i => ((m ((c.tc : Thread nD τ).loc main_arg0)) : Vec Ideal S8x4096x384 .f32) (ix3 b t i)) (fun i => ((m ((c.tc : Thread nD τ).loc main_arg1)) : Vec Ideal S8x4096x256 .f32) (ix3 b t i)) (fun i => ((m ((c.tc : Thread nD τ).loc main_arg2)) : Vec Ideal S8x4096x384 .f32) (ix3 b t i)))
          (fun k => ((m ((c.tc : Thread nD τ).loc main_arg3)) : Vec Ideal S8x4096x1024 .f32) (ix3 b t k)) (fun k n => ((m ((c.tc : Thread nD τ).loc main_arg4)) : Vec Ideal S2x1024x1024 .f32) (ix3 1 k n)))
        (fun n => ((m ((c.tc : Thread nD τ).loc main_arg5)) : Vec Ideal S2x1024 .f32) (ix2 1 n)) (fun n => ((m ((c.tc : Thread nD τ).loc main_arg6)) : Vec Ideal S2x1024 .f32) (ix2 1 n)) n :=
  (congrFun (mid_eq m c) _).trans ((ln_at _ _ _ b t n).trans
    (ln_congr (funext fun k => mixed_at _ _ _ _ _ b t k) (funext fun k => wide_at _ b t k) (funext fun k => wide_at _ b t k) n))

variable (m : (ℓ : Loc nD τ sig) → Buf (Elt Ideal) ℓ) (c : Dev nD) (A : Vec Ideal S8x4096x384 .f32) (B : Vec Ideal S8x4096x256 .f32) (S : Vec Ideal S8x4096x384 .f32) (h : Vec Ideal S8x4096x1024 .f32)
  (wo : Vec Ideal S2x1024x1024 .f32) (gm bm : Vec Ideal S2x1024 .f32) (wg wu : Vec Ideal S2x1024x2816 .f32) (wd : Vec Ideal S2x2816x1024 .f32) (g d : Vec Ideal S2x1024 .f32)
  (h0 : m ((c.tc : Thread nD τ).loc main_arg0) = A) (h1 : m ((c.tc : Thread nD τ).loc main_arg1) = B) (h2 : m ((c.tc : Thread nD τ).loc main_arg2) = S) (h3 : m ((c.tc : Thread nD τ).loc main_arg3) = h) (h4 : m ((c.tc : Thread nD τ).loc main_arg4) = wo) (h5 : m ((c.tc : Thread nD τ).loc main_arg5) = gm) (h6 : m ((c.tc : Thread nD τ).loc main_arg6) = bm) (h7 : m ((c.tc : Thread nD τ).loc main_arg7) = wg) (h8 : m ((c.tc : Thread nD τ).loc main_arg8) = wu) (h9 : m ((c.tc : Thread nD τ).loc main_arg9) = wd) (h10 : m ((c.tc : Thread nD τ).loc main_arg10) = g) (h11 : m ((c.tc : Thread nD τ).loc main_arg11) = d)

include h0 h1 h2 h3 h4 h5 h6 h7 h8 h9 h10 h11 in
/-- The reference's result, row by row. -/
theorem res_at (b : Fin 8) (t : Fin 4096) (n : Fin 1024) :
    norm (res_main_v50 (launchContents m c)) (wide (m ((c.tc : Thread nD τ).loc main_arg10))) (wide (m ((c.tc : Thread nD τ).loc main_arg11))) (ix3 b t n)
      = ffn (ln (mixed (cat (fun i => A (ix3 b t i)) (fun i => B (ix3 b t i)) (fun i => S (ix3 b t i))) (fun k => h (ix3 b t k)) (fun k n => wo (ix3 1 k n))) (fun n => gm (ix2 1 n)) (fun n => bm (ix2 1 n)))
        (fun k f => wg (ix3 1 k f)) (fun k f => wu (ix3 1 k f)) (fun f n => wd (ix3 1 f n)) (fun n => g (ix2 1 n)) (fun n => d (ix2 1 n)) n := by
  subst h0 h1 h2 h3 h4 h5 h6 h7 h8 h9 h10 h11
  refine (ln_at _ _ _ b t n).trans ((ln_congr (funext fun k => (congrFun (sum_eq m c) _).trans (resid_at _ _ _ _ b t k)) (funext fun k => wide_at _ b t k) (funext fun k => wide_at _ b t k) n).trans ?_)
  exact ffn_congr (funext fun k => mid_at m c b t k) rfl rfl rfl rfl rfl n

end Cert.MixFeedForwardReferenceIdeal.Mix
-- ==== Proof.MixClaims.lean ====
module

public import proofs.«01_k».proof.Defs
public import proofs.«01_k».proof.Proof.MixFinal
public import proofs.«01_k».proof.Proof.MixRef
public import proofs.«01_k».proof.Proof.Gen.MixFeedForward.Frame
public import proofs.«01_k».proof.Proof.Gen.MixFeedForwardIdeal

@[expose] public section

set_option maxRecDepth 65536

noncomputable section

namespace Cert.MixClaims

open Idealize.ShloMosaic Idealize.SL.Sem

/-- The output projection and feed-forward call as printed runs and keeps its arguments. -/
theorem frame_kernel : Cert.quiescent_MixFeedForward := fun m ρ _ => Cert.MixFeedForward.Gen.frame (F := Bits) m ρ

/-- The idealized call runs and keeps its arguments. -/
theorem frame_ideal : Cert.quiescent_MixFeedForwardIdeal := fun m ρ _ => Cert.MixFeedForwardIdeal.Gen.frame (F := Ideal) m ρ

/-- The call's reference runs and keeps its arguments; it has no semaphore at all. -/
theorem frame_reference : Cert.quiescent_MixFeedForwardReferenceIdeal := fun m ρ _ =>
  (θ_run Cert.MixFeedForwardReferenceIdeal.defs _ _).mono (fun r h => ⟨fun c => (h c).2, sem_eq_zero_of_no_sems (by decide) r.2⟩)
    (Cert.MixFeedForwardReferenceIdeal.Value.run (F := Ideal) m ρ)

/-- Both programs compute the same projection, feed-forward, residuals and layer norms of every row. -/
theorem algebraic : Cert.algebraic_MixFeedForwardIdeal_MixFeedForwardReferenceIdeal := by
  intro m g m' g' _ hagree
  refine ⟨fun c => Cert.MixFeedForwardIdeal.Mix.res (m ((c.tc : Thread Cert.MixFeedForwardIdeal.nD Cert.MixFeedForwardIdeal.τ).loc Cert.MixFeedForwardIdeal.main_arg0)) (m ((c.tc : Thread Cert.MixFeedForwardIdeal.nD Cert.MixFeedForwardIdeal.τ).loc Cert.MixFeedForwardIdeal.main_arg1))
    (m ((c.tc : Thread Cert.MixFeedForwardIdeal.nD Cert.MixFeedForwardIdeal.τ).loc Cert.MixFeedForwardIdeal.main_arg2)) (m ((c.tc : Thread Cert.MixFeedForwardIdeal.nD Cert.MixFeedForwardIdeal.τ).loc Cert.MixFeedForwardIdeal.main_arg3))
    (m ((c.tc : Thread Cert.MixFeedForwardIdeal.nD Cert.MixFeedForwardIdeal.τ).loc Cert.MixFeedForwardIdeal.main_arg4)) (m ((c.tc : Thread Cert.MixFeedForwardIdeal.nD Cert.MixFeedForwardIdeal.τ).loc Cert.MixFeedForwardIdeal.main_arg5))
    (m ((c.tc : Thread Cert.MixFeedForwardIdeal.nD Cert.MixFeedForwardIdeal.τ).loc Cert.MixFeedForwardIdeal.main_arg6)) (m ((c.tc : Thread Cert.MixFeedForwardIdeal.nD Cert.MixFeedForwardIdeal.τ).loc Cert.MixFeedForwardIdeal.main_arg7))
    (m ((c.tc : Thread Cert.MixFeedForwardIdeal.nD Cert.MixFeedForwardIdeal.τ).loc Cert.MixFeedForwardIdeal.main_arg8)) (m ((c.tc : Thread Cert.MixFeedForwardIdeal.nD Cert.MixFeedForwardIdeal.τ).loc Cert.MixFeedForwardIdeal.main_arg9))
    (m ((c.tc : Thread Cert.MixFeedForwardIdeal.nD Cert.MixFeedForwardIdeal.τ).loc Cert.MixFeedForwardIdeal.main_arg10)) (m ((c.tc : Thread Cert.MixFeedForwardIdeal.nD Cert.MixFeedForwardIdeal.τ).loc Cert.MixFeedForwardIdeal.main_arg11)), ?_, ?_⟩
  · exact (θ_run Cert.MixFeedForwardIdeal.defs _ _).mono (fun _ h c => ⟨(h c).1.trans (Cert.MixFeedForwardIdeal.Mix.final_out m c _ _ _ _ _ _ _ _ _ _ _ _ rfl rfl rfl rfl rfl rfl rfl rfl rfl rfl rfl rfl), (h c).2⟩)
      (Cert.MixFeedForwardIdeal.Value.run_blocks (F := Ideal) m g)
  · refine (θ_run Cert.MixFeedForwardReferenceIdeal.defs _ _).mono (fun _ h c => ⟨(h c).1.trans ?_, (h c).2⟩) (Cert.MixFeedForwardReferenceIdeal.Value.run (F := Ideal) m' g')
    obtain ⟨e0, e1, e2, e3, e4, e5, e6, e7, e8, e9, e10, e11⟩ := hagree c
    funext i
    obtain ⟨b, t, n, rfl⟩ : ∃ (b : Fin 8) (t : Fin 4096) (n : Fin 1024), i = ix3 b t n := ⟨i 0, i 1, i 2, eq_ix3 i⟩
    exact Cert.MixFeedForwardReferenceIdeal.Mix.res_at m' c _ _ _ _ _ _ _ _ _ _ _ _ e0 e1 e2 e3 e4 e5 e6 e7 e8 e9 e10 e11 b t n

end Cert.MixClaims
-- ==== Proof.GateMath.lean ====
module

public import Idealize.ShloMosaic.Lib.Pointwise

@[expose] public section

noncomputable section

namespace Cert.Gate

open Idealize.ShloMosaic

/-! The chunked spatial gating over the extended reals: what the call and its reference compute of each row. -/

/-- The smooth gate `½·x·(1 + tanh (c·(x + d·x³)))`. -/
def gelu (x : EReal) : EReal :=
  Ideal.ofBits .f32 0x3F000000#32 * x * (1
    + Ideal.tanh (Ideal.ofBits .f32 0x3F4C422A#32 * (x + Ideal.ofBits .f32 0x3D372713#32 * (x * x * x))))

/-- The same product, grouped with `x` in front. -/
theorem gelu_eq (x : EReal) : x * (Ideal.ofBits .f32 0x3F000000#32 * (1
    + Ideal.tanh (Ideal.ofBits .f32 0x3F4C422A#32 * (x + Ideal.ofBits .f32 0x3D372713#32 * (x * x * x))))) = gelu x := by
  rw [gelu, ← mul_assoc, mul_comm x]

/-- The mean of a row. -/
def avg (y : Fin 384 → EReal) : EReal := Ideal.div (∑ k, y k) (Ideal.ofBits .f32 0x43C00000#32)

/-- A row with its mean taken off. -/
def dev (y : Fin 384 → EReal) (n : Fin 384) : EReal := y n - avg y

/-- The layer norm of a row, with gain `g` and bias `b`. -/
def ln (y g b : Fin 384 → EReal) (n : Fin 384) : EReal :=
  dev y n * Ideal.rsqrt (avg (fun k => dev y k * dev y k) + Ideal.ofBits .f32 0x3727C5AC#32) * g n + b n

/-- The layer norm of equal rows, gains and biases is equal. -/
theorem ln_congr {y y' g g' b b' : Fin 384 → EReal} (hy : y = y') (hg : g = g') (hb : b = b') (n : Fin 384) : ln y g b n = ln y' g' b' n := by
  subst hy hg hb; rfl

/-- One column `z` of a chunk mixed over the positions up to `r`, with weights `w`. -/
def mix (w z : Fin 128 → EReal) (r : Fin 128) : EReal := ∑ s, (if s.val ≤ r.val then w s else 0) * z s

/-- A row projected on a column of the weights. -/
def proj (x w : Fin 1024 → EReal) : EReal := ∑ k, x k * w k

/-- The head of a channel. -/
abbrev head (n : Fin 384) : Fin 6 := ⟨n.val / 64, by omega⟩

/-- The gating of one chunk at position `r` and channel `n`: the rows `x` of the chunk, the two halves `wu` and `wg` of the
    projection, gain and bias of the norm, the mixing weights and the mixing bias. -/
def out (x : Fin 128 → Fin 1024 → EReal) (wu wg : Fin 1024 → Fin 384 → EReal) (lg lb : Fin 384 → EReal)
    (w : Fin 6 → Fin 128 → Fin 128 → EReal) (b : Fin 128 → Fin 384 → EReal) (r : Fin 128) (n : Fin 384) : EReal :=
  gelu (proj (x r) fun k => wu k n) * (mix (w (head n) r) (fun s => ln (fun n => gelu (proj (x s) fun k => wg k n)) lg lb n) r + b r n)

/-- The gating of equal operands is equal. -/
theorem out_congr {x x' : Fin 128 → Fin 1024 → EReal} {wu wu' wg wg' : Fin 1024 → Fin 384 → EReal} {lg lg' lb lb' : Fin 384 → EReal}
    {w w' : Fin 6 → Fin 128 → Fin 128 → EReal} {b b' : Fin 128 → Fin 384 → EReal} (hx : x = x') (hu : wu = wu') (hg : wg = wg') (hl : lg = lg')
    (hb : lb = lb') (hw : w = w') (hm : b = b') (r : Fin 128) (n : Fin 384) : out x wu wg lg lb w b r n = out x' wu' wg' lg' lb' w' b' r n := by
  subst hx hu hg hl hb hw hm; rfl

/-- A 32-bit comparison of two positions, at most and at least, as a comparison of the numbers. -/
theorem le_bits (a b : Fin 128) : (BitVec.ofNat 32 a.val).sle (BitVec.ofNat 32 b.val) = decide (a.val ≤ b.val) := by
  rw [BitVec.sle_eq_decide, BitVec.toInt_eq_toNat_of_lt (by simp; omega), BitVec.toInt_eq_toNat_of_lt (by simp; omega)]
  simp [Nat.mod_eq_of_lt (show a.val < 4294967296 by omega), Nat.mod_eq_of_lt (show b.val < 4294967296 by omega)]
theorem lt_bits (a : Fin 128) : (BitVec.ofNat 32 a.val).slt 64#32 = decide (a.val < 64) := by
  rw [BitVec.slt_eq_decide, BitVec.toInt_eq_toNat_of_lt (by simp; omega), BitVec.toInt_eq_toNat_of_lt (by decide)]
  simp [Nat.mod_eq_of_lt (show a.val < 4294967296 by omega)]

theorem sle_pos (a b : Fin 128) : IntOp.cmpi .sle (BitVec.ofNat 32 a.val) (BitVec.ofNat 32 b.val) = if a.val ≤ b.val then 1#1 else 0#1 := by
  show BitVec.ofBool ((BitVec.ofNat 32 a.val).sle (BitVec.ofNat 32 b.val)) = _
  rw [le_bits]
  by_cases h : a.val ≤ b.val <;> simp [h]
theorem slt_lane (a : Fin 128) : IntOp.cmpi .slt (BitVec.ofNat 32 a.val) 64#32 = if a.val < 64 then 1#1 else 0#1 := by
  show BitVec.ofBool ((BitVec.ofNat 32 a.val).slt 64#32) = _
  rw [lt_bits]
  by_cases h : a.val < 64 <;> simp [h]

theorem select_if {α : Type} (p : Prop) [Decidable p] (x y : α) : Scalar.select (if p then 1#1 else 0#1) x y = if p then x else y := by
  by_cases h : p <;> simp [h, Scalar.select]

end Cert.Gate
-- ==== Proof.GatePay.lean ====
module

public import proofs.«01_k».proof.Proof.GateMath
public import proofs.«01_k».proof.Proof.Gen.GatingIdeal.Skeleton

@[expose] public section

set_option maxRecDepth 65536

noncomputable section

namespace Cert.GatingIdeal.Sgu

open Idealize.ShloMosaic Idealize.ShloMosaic.TcCoe Idealize.ShloMosaic.Tactic Idealize.SL.Sem
open Cert.GatingIdeal Cert.GatingIdeal.Gen
open Cert.Gate

/-! ## The payloads, at an index -/

theorem pay54_at (y : FVec Ideal S512x384 .f32) (j : Fin 512) (n : Fin 384) : k0_pay54 y (ix2 j n) = gelu (y (ix2 j n)) := by
  pointwise [k0_pay54]
  rfl
theorem pay55_at (y : FVec Ideal S512x384 .f32) (j : Fin 512) (n : Fin 384) : k0_pay55 y (ix2 j n) = gelu (y (ix2 j n)) := by
  pointwise [k0_pay55]
  rfl
theorem pay10_at (x : Vec Ideal S1x512x1024 .f32) (w : Vec Ideal S1x1024x384 .bf16) (j : Fin 512) (n : Fin 384) :
    k0_pay10 (k0_pay1 x) w (ix2 j n) = proj (fun k => x (ix3 0 j k)) (fun k => w (ix3 0 k n)) := by
  pointwise [k0_pay10, k0_pay1]
  rfl
theorem pay11_at (x : Vec Ideal S1x512x1024 .f32) (w : Vec Ideal S1x1024x384 .bf16) (j : Fin 512) (n : Fin 384) :
    k0_pay11 (k0_pay1 x) w (ix2 j n) = proj (fun k => x (ix3 0 j k)) (fun k => w (ix3 0 k n)) := by
  pointwise [k0_pay11, k0_pay1]
  rfl
theorem pay58_at (y : FVec Ideal S512x384 .f32) (g b : Vec Ideal S1x1x384 .f32) (j : Fin 512) (n : Fin 384) :
    k0_pay58 y (k0_pay56 g) (k0_pay57 b) (ix2 j n) = ln (fun n => y (ix2 j n)) (fun n => g (ix3 0 0 n)) (fun n => b (ix3 0 0 n)) n := by
  pointwise [k0_pay58, k0_pay56, k0_pay57]
  rfl
theorem pay61_at (w : Vec Ideal S1x1x128x128 .f32) (r s : Fin 128) :
    k0_pay61 w (ix2 r s) = if s.val ≤ r.val then w (ix4 0 0 r s) else 0 := by
  pointwise [k0_pay61, k0_pay60]
  rw [sle_pos, select_if]
theorem pay63_eq (w : Vec Ideal S1x1x128x128 .f32) : k0_pay63 k0_pay60 w = k0_pay61 w := rfl
theorem pay68_at (b : Vec Ideal S1x128x384 .f32) (r : Fin 128) (n : Fin 384) : k0_pay68 b (ix2 r n) = b (ix3 0 r n) := by
  pointwise [k0_pay68]

/-- The stored tile of 128 positions from `o` and 128 channels from `p`: the first half of the channels mixed with the weights
    `wa`, the second half with `wb`, the bias added, and the whole multiplied by `u`. -/
def tile (u : FVec Ideal S512x384 .f32) (g : FVec Ideal S512x384 .bf16) (wa wb : FVec Ideal S128x128 .bf16) (b : FVec Ideal S128x384 .f32) (o p : ℕ)
    (h : S512x384.Slices ![o, p] S128x128) (h' : S128x384.Slices ![0, p] S128x128) : FVec Ideal S1x128x128 .bf16 :=
  shapeCast S1x128x128 (truncf .bf16 (mulf (extractStridedSlice S128x128 ![o, p] u h) (addf (addf
    (matmul dot_S128x128_S128x128_S128x128_1_0_0_1_n_n none wa (select k0_pay67 (extractStridedSlice S128x128 ![o, p] g h) (broadcast S128x128 (Scalar.ofBits .bf16 0x0000#16))) (constant S128x128 .f32 0x00000000#32))
    (matmul dot_S128x128_S128x128_S128x128_1_0_0_1_n_n none wb (select k0_pay67 (broadcast S128x128 (Scalar.ofBits .bf16 0x0000#16)) (extractStridedSlice S128x128 ![o, p] g h)) (constant S128x128 .f32 0x00000000#32)))
    (extractStridedSlice S128x128 ![0, p] b h'))) bitsLt_bf16_f32) shapeCasts_S128x128_S1x128x128

/-! ### The twelve stores hold such tiles -/

section
variable (u : FVec Ideal S512x384 .f32) (g : FVec Ideal S512x384 .bf16) (wa wb : FVec Ideal S128x128 .bf16) (b : Vec Ideal S1x128x384 .f32)

theorem tile00 : k0_pay70 (k0_pay69 u g wa wb b) = tile u g wa wb (k0_pay68 b) 0 0 slices_S512x384_o0_0_S128x128 slices_S128x384_o0_0_S128x128 := rfl
theorem tile01 : k0_pay71 u g wa wb k0_pay67 (k0_pay68 b) = tile u g wa wb (k0_pay68 b) 0 128 slices_S512x384_o0_128_S128x128 slices_S128x384_o0_128_S128x128 := rfl
theorem tile02 : k0_pay72 u g wa wb k0_pay67 (k0_pay68 b) = tile u g wa wb (k0_pay68 b) 0 256 slices_S512x384_o0_256_S128x128 slices_S128x384_o0_256_S128x128 := rfl
theorem tile10 : k0_pay77 u (k0_pay68 b) (k0_pay75 g wa k0_pay67) (k0_pay76 g wb k0_pay67) = tile u g wa wb (k0_pay68 b) 128 0 slices_S512x384_o128_0_S128x128 slices_S128x384_o0_0_S128x128 := rfl
theorem tile11 : k0_pay78 u g wa wb k0_pay67 (k0_pay68 b) = tile u g wa wb (k0_pay68 b) 128 128 slices_S512x384_o128_128_S128x128 slices_S128x384_o0_128_S128x128 := rfl
theorem tile12 : k0_pay79 u g wa wb k0_pay67 (k0_pay68 b) = tile u g wa wb (k0_pay68 b) 128 256 slices_S512x384_o128_256_S128x128 slices_S128x384_o0_256_S128x128 := rfl
theorem tile20 : k0_pay82 u wa wb k0_pay67 (k0_pay68 b) (k0_pay80 g) k0_pay81 = tile u g wa wb (k0_pay68 b) 256 0 slices_S512x384_o256_0_S128x128 slices_S128x384_o0_0_S128x128 := rfl
theorem tile21 : k0_pay83 u g wa wb k0_pay67 (k0_pay68 b) = tile u g wa wb (k0_pay68 b) 256 128 slices_S512x384_o256_128_S128x128 slices_S128x384_o0_128_S128x128 := rfl
theorem tile22 : k0_pay85 (k0_pay84 u g wa wb k0_pay67 (k0_pay68 b)) = tile u g wa wb (k0_pay68 b) 256 256 slices_S512x384_o256_256_S128x128 slices_S128x384_o0_256_S128x128 := rfl
theorem tile30 : k0_pay86 u g wa wb k0_pay67 (k0_pay68 b) = tile u g wa wb (k0_pay68 b) 384 0 slices_S512x384_o384_0_S128x128 slices_S128x384_o0_0_S128x128 := rfl
theorem tile31 : k0_pay87 u g wa wb k0_pay67 (k0_pay68 b) = tile u g wa wb (k0_pay68 b) 384 128 slices_S512x384_o384_128_S128x128 slices_S128x384_o0_128_S128x128 := rfl
theorem tile32 : k0_pay90 (k0_pay88 g wa wb k0_pay67 (k0_pay68 b)) (k0_pay89 u) = tile u g wa wb (k0_pay68 b) 384 256 slices_S512x384_o384_256_S128x128 slices_S128x384_o0_256_S128x128 := rfl
end

theorem tile_at (u : FVec Ideal S512x384 .f32) (g : FVec Ideal S512x384 .bf16) (wa wb : FVec Ideal S128x128 .bf16) (b : FVec Ideal S128x384 .f32) (o p : ℕ)
    (h : S512x384.Slices ![o, p] S128x128) (h' : S128x384.Slices ![0, p] S128x128) (ho : o + 128 ≤ 512) (hp : p + 128 ≤ 384) (j l : Fin 128) :
    tile u g wa wb b o p h h' (ix3 0 j l) = u (ix2 ⟨o + j.val, by omega⟩ ⟨p + l.val, by omega⟩) * ((∑ s : Fin 128, wa (ix2 j s) * (if l.val < 64 then g (ix2 ⟨o + s.val, by omega⟩ ⟨p + l.val, by omega⟩) else 0))
      + (∑ s : Fin 128, wb (ix2 j s) * (if l.val < 64 then 0 else g (ix2 ⟨o + s.val, by omega⟩ ⟨p + l.val, by omega⟩))) + b (ix2 j ⟨p + l.val, by omega⟩)) := by
  pointwise [tile, k0_pay67]
  rw [slt_lane]
  simp only [select_if]
  by_cases hl : l.val < 64 <;> simp [hl]

/-! ## A point's block -/

variable (x0 : Vec Ideal S1x512x1024 .f32) (x11 x12 : Vec Ideal S1x1024x384 .bf16) (x13 x14 : Vec Ideal S1x1x384 .f32) (x15 : Vec Ideal S1x6x128x128 .f32) (x16 : Vec Ideal S1x128x384 .f32)

/-- Row `r` of chunk `q` of the block, as the body leaves it. -/
def rowOut (q : Fin 4) (r : Fin 128) (n : Fin 384) : EReal :=
  out (fun s k => x0 (ix3 0 ⟨128 * q.val + s.val, by omega⟩ k)) (fun k n => x11 (ix3 0 k n)) (fun k n => x12 (ix3 0 k n)) (fun n => x13 (ix3 0 0 n)) (fun n => x14 (ix3 0 0 n))
    (fun h r s => x15 (ix4 0 h r s)) (fun r n => x16 (ix3 0 r n)) r n

/-- The two halves of the gating, as the body binds them. -/
abbrev half : FVec Ideal S512x384 .f32 := k0_pay54 (k0_pay10 (k0_pay1 x0) x11)
abbrev gate : FVec Ideal S512x384 .bf16 := k0_pay58 (k0_pay55 (k0_pay11 (k0_pay1 x0) x12)) (k0_pay56 x13) (k0_pay57 x14)

theorem half_at (j : Fin 512) (n : Fin 384) : half x0 x11 (ix2 j n) = gelu (proj (fun k => x0 (ix3 0 j k)) fun k => x11 (ix3 0 k n)) :=
  (pay54_at _ j n).trans (congrArg gelu (pay10_at x0 x11 j n))
theorem gate_at (j : Fin 512) (n : Fin 384) :
    gate x0 x12 x13 x14 (ix2 j n) = ln (fun n => gelu (proj (fun k => x0 (ix3 0 j k)) fun k => x12 (ix3 0 k n))) (fun n => x13 (ix3 0 0 n)) (fun n => x14 (ix3 0 0 n)) n :=
  (pay58_at _ x13 x14 j n).trans (ln_congr (funext fun k => (pay55_at _ j k).trans (congrArg gelu (pay11_at x0 x12 j k))) rfl rfl n)

/-- A stored tile holds the gating of its chunk and channels. -/
theorem tile_out (q : Fin 4) (z : Fin 3) (wa wb : Vec Ideal S1x1x128x128 .f32) (ha : ∀ r s : Fin 128, wa (ix4 0 0 r s) = x15 (ix4 0 ⟨2 * z.val, by omega⟩ r s))
    (hb : ∀ r s : Fin 128, wb (ix4 0 0 r s) = x15 (ix4 0 ⟨2 * z.val + 1, by omega⟩ r s)) (o p : ℕ) (ho : o = 128 * q.val) (hp : p = 128 * z.val)
    (h : S512x384.Slices ![o, p] S128x128) (h' : S128x384.Slices ![0, p] S128x128) (j l : Fin 128) :
    tile (half x0 x11) (gate x0 x12 x13 x14) (k0_pay61 wa) (k0_pay61 wb) (k0_pay68 x16) o p h h' (ix3 0 j l)
      = rowOut x0 x11 x12 x13 x14 x15 x16 q j ⟨128 * z.val + l.val, by omega⟩ := by
  subst ho hp
  refine (tile_at _ _ _ _ _ _ _ h h' (by omega) (by omega) j l).trans (congrArg₂ (fun x y : EReal => x * y) (half_at x0 x11 _ _) (congrArg₂ (fun x y : EReal => x + y) ?_ (pay68_at x16 j _)))
  by_cases hl : l.val < 64
  · have e : head ⟨128 * z.val + l.val, by omega⟩ = ⟨2 * z.val, by omega⟩ := Fin.ext (by show (128 * z.val + l.val) / 64 = 2 * z.val; omega)
    simp only [hl, if_true, mul_zero, Finset.sum_const_zero, add_zero]
    rw [mix, e]
    exact Finset.sum_congr rfl fun s _ => congrArg₂ (fun x y : EReal => x * y) ((pay61_at wa j s).trans (by rw [ha])) (gate_at x0 x12 x13 x14 _ _)
  · have e : head ⟨128 * z.val + l.val, by omega⟩ = ⟨2 * z.val + 1, by omega⟩ := Fin.ext (by show (128 * z.val + l.val) / 64 = 2 * z.val + 1; omega)
    simp only [hl, if_false, mul_zero, Finset.sum_const_zero, zero_add]
    rw [mix, e]
    exact Finset.sum_congr rfl fun s _ => congrArg₂ (fun x y : EReal => x * y) ((pay61_at wb j s).trans (by rw [hb])) (gate_at x0 x12 x13 x14 _ _)

end Cert.GatingIdeal.Sgu
-- ==== Proof.GateHost.lean ====
module

public import proofs.«01_k».proof.Proof.GatePay
public import proofs.«01_k».proof.Proof.Gen.GatingIdeal.Frame.Runs

@[expose] public section

set_option maxRecDepth 65536

noncomputable section

namespace Cert.GatingIdeal.Sgu

open Idealize.ShloMosaic Idealize.ShloMosaic.TcCoe Idealize.ShloMosaic.Tactic Idealize.SL.Sem
open Cert.GatingIdeal Cert.GatingIdeal.Gen
open Cert.Gate

variable (m : (ℓ : Loc nD τ sig) → Buf (Elt Ideal) ℓ) (c : Dev nD)

/-! ## The arrays the region finds -/

theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The host's operations before its last line of them. -/
abbrev early : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]

/-- The arrays before that line. -/
def before : Valuation τ sig (Elt Ideal) := StableHlo.after early fun b => m (c, b)

theorem V_eq (b : Ref sig .tc) : V m c b = StableHlo.after hostOps0_20 (before m c) (Proc.devRef .tc b) :=
  (congrFun (after_app early hostOps0_20 fun b => m (c, b)) (Proc.devRef .tc b))

theorem before_arg1 : before m c (Proc.devRef .tc main_arg1) = m ((c.tc : Thread nD τ).loc main_arg1) := by
  rw [← V_main_arg1 m c, V_eq]
  after_results
theorem before_arg3 : before m c (Proc.devRef .tc main_arg3) = m ((c.tc : Thread nD τ).loc main_arg3) := by
  rw [← V_main_arg3 m c, V_eq]
  after_results
theorem before_arg4 : before m c (Proc.devRef .tc main_arg4) = m ((c.tc : Thread nD τ).loc main_arg4) := by
  rw [← V_main_arg4 m c, V_eq]
  after_results
theorem before_arg6 : before m c (Proc.devRef .tc main_arg6) = m ((c.tc : Thread nD τ).loc main_arg6) := by
  rw [← V_main_arg6 m c, V_eq]
  after_results

/-- The two halves of the projection, the mixing bias per channel, and the norm's vectors. -/
def halfU (w : FVec Ideal S2x1024x2694 .f32) : FVec Ideal S2x1024x384 .bf16 := truncf .bf16 (extractStridedSlice S2x1024x384 ![0, 0, 1926] w slices_S2x1024x2694_S2x1024x384_0_0_1926) bitsLt_bf16_f32
def halfG (w : FVec Ideal S2x1024x2694 .f32) : FVec Ideal S2x1024x384 .bf16 := truncf .bf16 (extractStridedSlice S2x1024x384 ![0, 0, 2310] w slices_S2x1024x2694_S2x1024x384_0_0_2310) bitsLt_bf16_f32
def wideB (b : FVec Ideal S2x6x128 .f32) : FVec Ideal S2x128x384 .f32 :=
  shapeCast S2x128x384 (broadcastInDim S2x128x6x64 ![0, 1, 2] bcast_S2x128x6_S2x128x6x64_0_1_2 (transpose S2x128x6 [0, 2, 1] b transposes_S2x6x128_S2x128x6_0_2_1)) shapeCasts_S2x128x6x64_S2x128x384
def flatV (g : FVec Ideal S2x384 .f32) : FVec Ideal S2x1x384 .f32 := shapeCast S2x1x384 g shapeCasts_S2x384_S2x1x384

theorem V_v114 : V m c main_v114 = halfU (m ((c.tc : Thread nD τ).loc main_arg1)) := by
  rw [V_eq, ← before_arg1 m c]
  after_results <;> rfl
theorem V_v116 : V m c main_v116 = halfG (m ((c.tc : Thread nD τ).loc main_arg1)) := by
  rw [V_eq, ← before_arg1 m c]
  after_results <;> rfl
theorem V_v119 : V m c main_v119 = wideB (m ((c.tc : Thread nD τ).loc main_arg6)) := by
  rw [V_eq, ← before_arg6 m c]
  after_results <;> rfl
theorem V_v120 : V m c main_v120 = flatV (m ((c.tc : Thread nD τ).loc main_arg3)) := by
  rw [V_eq, ← before_arg3 m c]
  after_results <;> rfl
theorem V_v121 : V m c main_v121 = flatV (m ((c.tc : Thread nD τ).loc main_arg4)) := by
  rw [V_eq, ← before_arg4 m c]
  after_results <;> rfl

theorem halfU_at (w : FVec Ideal S2x1024x2694 .f32) (k : Fin 1024) (n : Fin 384) : halfU w (ix3 0 k n) = w (ix3 0 k ⟨1926 + n.val, by omega⟩) := by
  pointwise [halfU]
theorem halfG_at (w : FVec Ideal S2x1024x2694 .f32) (k : Fin 1024) (n : Fin 384) : halfG w (ix3 0 k n) = w (ix3 0 k ⟨2310 + n.val, by omega⟩) := by
  pointwise [halfG]
theorem wideB_at (b : FVec Ideal S2x6x128 .f32) (r : Fin 128) (n : Fin 384) : wideB b (ix3 0 r n) = b (ix3 0 (head n) r) := by
  pointwise [wideB]
theorem flatV_at (g : FVec Ideal S2x384 .f32) (n : Fin 384) : flatV g (ix3 0 0 n) = g (ix2 0 n) := by
  pointwise [flatV]

/-! ## The blocks a point looks at -/

/-- The batch and the block of rows of a point. -/
abbrev bt (t : Fin cfg0.N) : Fin 8 := grid0.coords t 0
abbrev sb (t : Fin cfg0.N) : Fin 8 := grid0.coords t 1
/-- Row `j` of a point's block, as a row of its batch. -/
abbrev row (t : Fin cfg0.N) (j : Fin 512) : Fin 4096 := ⟨512 * (sb t).val + j.val, by omega⟩

theorem index_0 : ∀ t : Fin cfg0.N, win0_0.index t 0 = (bt t).val ∧ win0_0.index t 1 = (sb t).val ∧ win0_0.index t 2 = 0 := by decide +kernel
theorem index_11 : ∀ t : Fin cfg0.N, win0_11.index t 0 = 0 ∧ win0_11.index t 1 = 0 ∧ win0_11.index t 2 = 0 := by decide +kernel
theorem index_12 : ∀ t : Fin cfg0.N, win0_12.index t 0 = 0 ∧ win0_12.index t 1 = 0 ∧ win0_12.index t 2 = 0 := by decide +kernel
theorem index_13 : ∀ t : Fin cfg0.N, win0_13.index t 0 = 0 ∧ win0_13.index t 1 = 0 ∧ win0_13.index t 2 = 0 := by decide +kernel
theorem index_14 : ∀ t : Fin cfg0.N, win0_14.index t 0 = 0 ∧ win0_14.index t 1 = 0 ∧ win0_14.index t 2 = 0 := by decide +kernel
theorem index_15 : ∀ t : Fin cfg0.N, win0_15.index t 0 = 0 ∧ win0_15.index t 1 = 0 ∧ win0_15.index t 2 = 0 ∧ win0_15.index t 3 = 0 := by decide +kernel
theorem index_16 : ∀ t : Fin cfg0.N, win0_16.index t 0 = 0 ∧ win0_16.index t 1 = 0 ∧ win0_16.index t 2 = 0 := by decide +kernel
theorem index_23 : ∀ t : Fin cfg0.N, win0_23.index t 0 = (bt t).val ∧ win0_23.index t 1 = (sb t).val ∧ win0_23.index t 2 = 0 := by decide +kernel

theorem one_mul_add (a : ℕ) : a * 1 + 1 * 0 = a := by omega
theorem zero_mul_add (n a : ℕ) : 0 * n + 1 * a = a := by omega
theorem mul_add_comm (n a b : ℕ) : a * n + 1 * b = n * a + b := by rw [Nat.mul_comm, Nat.one_mul]

theorem iblk0_at (t : Fin cfg0.N) (j : Fin 512) (k : Fin 1024) : (iblk m c 0 t : Vec Ideal S1x512x1024 .f32) (ix3 0 j k) = V m c main_arg0 (ix3 (bt t) (row t j) k) := by
  obtain ⟨e0, e1, e2⟩ := index_0 t
  refine congrArg (V m c main_arg0) (funext fun a => Fin.ext ?_)
  match a with
  | ⟨0, _⟩ => exact (congrArg (fun x : ℕ => x * 1 + 1 * 0) e0).trans (one_mul_add _)
  | ⟨1, _⟩ => exact (congrArg (fun x : ℕ => x * 512 + 1 * j.val) e1).trans (mul_add_comm _ _ _)
  | ⟨2, _⟩ => exact (congrArg (fun x : ℕ => x * 1024 + 1 * k.val) e2).trans (zero_mul_add _ _)
theorem iblk11_at (t : Fin cfg0.N) (k : Fin 1024) (n : Fin 384) : (iblk m c 11 t : Vec Ideal S1x1024x384 .bf16) (ix3 0 k n) = V m c main_v114 (ix3 0 k n) := by
  obtain ⟨e0, e1, e2⟩ := index_11 t
  refine congrArg (V m c main_v114) (funext fun a => Fin.ext ?_)
  match a with
  | ⟨0, _⟩ => exact (congrArg (fun x : ℕ => x * 1 + 1 * 0) e0).trans (one_mul_add _)
  | ⟨1, _⟩ => exact (congrArg (fun x : ℕ => x * 1024 + 1 * k.val) e1).trans (zero_mul_add _ _)
  | ⟨2, _⟩ => exact (congrArg (fun x : ℕ => x * 384 + 1 * n.val) e2).trans (zero_mul_add _ _)
theorem iblk12_at (t : Fin cfg0.N) (k : Fin 1024) (n : Fin 384) : (iblk m c 12 t : Vec Ideal S1x1024x384 .bf16) (ix3 0 k n) = V m c main_v116 (ix3 0 k n) := by
  obtain ⟨e0, e1, e2⟩ := index_12 t
  refine congrArg (V m c main_v116) (funext fun a => Fin.ext ?_)
  match a with
  | ⟨0, _⟩ => exact (congrArg (fun x : ℕ => x * 1 + 1 * 0) e0).trans (one_mul_add _)
  | ⟨1, _⟩ => exact (congrArg (fun x : ℕ => x * 1024 + 1 * k.val) e1).trans (zero_mul_add _ _)
  | ⟨2, _⟩ => exact (congrArg (fun x : ℕ => x * 384 + 1 * n.val) e2).trans (zero_mul_add _ _)
theorem iblk13_at (t : Fin cfg0.N) (n : Fin 384) : (iblk m c 13 t : Vec Ideal S1x1x384 .f32) (ix3 0 0 n) = V m c main_v120 (ix3 0 0 n) := by
  obtain ⟨e0, e1, e2⟩ := index_13 t
  refine congrArg (V m c main_v120) (funext fun a => Fin.ext ?_)
  match a with
  | ⟨0, _⟩ => exact (congrArg (fun x : ℕ => x * 1 + 1 * 0) e0).trans (one_mul_add _)
  | ⟨1, _⟩ => exact (congrArg (fun x : ℕ => x * 1 + 1 * 0) e1).trans (zero_mul_add _ _)
  | ⟨2, _⟩ => exact (congrArg (fun x : ℕ => x * 384 + 1 * n.val) e2).trans (zero_mul_add _ _)
theorem iblk14_at (t : Fin cfg0.N) (n : Fin 384) : (iblk m c 14 t : Vec Ideal S1x1x384 .f32) (ix3 0 0 n) = V m c main_v121 (ix3 0 0 n) := by
  obtain ⟨e0, e1, e2⟩ := index_14 t
  refine congrArg (V m c main_v121) (funext fun a => Fin.ext ?_)
  match a with
  | ⟨0, _⟩ => exact (congrArg (fun x : ℕ => x * 1 + 1 * 0) e0).trans (one_mul_add _)
  | ⟨1, _⟩ => exact (congrArg (fun x : ℕ => x * 1 + 1 * 0) e1).trans (zero_mul_add _ _)
  | ⟨2, _⟩ => exact (congrArg (fun x : ℕ => x * 384 + 1 * n.val) e2).trans (zero_mul_add _ _)
theorem iblk15_at (t : Fin cfg0.N) (h : Fin 6) (r s : Fin 128) : (iblk m c 15 t : Vec Ideal S1x6x128x128 .f32) (ix4 0 h r s) = V m c main_arg5 (ix4 0 h r s) := by
  obtain ⟨e0, e1, e2, e3⟩ := index_15 t
  refine congrArg (V m c main_arg5) (funext fun a => Fin.ext ?_)
  match a with
  | ⟨0, _⟩ => exact (congrArg (fun x : ℕ => x * 1 + 1 * 0) e0).trans (one_mul_add _)
  | ⟨1, _⟩ => exact (congrArg (fun x : ℕ => x * 6 + 1 * h.val) e1).trans (zero_mul_add _ _)
  | ⟨2, _⟩ => exact (congrArg (fun x : ℕ => x * 128 + 1 * r.val) e2).trans (zero_mul_add _ _)
  | ⟨3, _⟩ => exact (congrArg (fun x : ℕ => x * 128 + 1 * s.val) e3).trans (zero_mul_add _ _)
theorem iblk16_at (t : Fin cfg0.N) (r : Fin 128) (n : Fin 384) : (iblk m c 16 t : Vec Ideal S1x128x384 .f32) (ix3 0 r n) = V m c main_v119 (ix3 0 r n) := by
  obtain ⟨e0, e1, e2⟩ := index_16 t
  refine congrArg (V m c main_v119) (funext fun a => Fin.ext ?_)
  match a with
  | ⟨0, _⟩ => exact (congrArg (fun x : ℕ => x * 1 + 1 * 0) e0).trans (one_mul_add _)
  | ⟨1, _⟩ => exact (congrArg (fun x : ℕ => x * 128 + 1 * r.val) e1).trans (zero_mul_add _ _)
  | ⟨2, _⟩ => exact (congrArg (fun x : ℕ => x * 384 + 1 * n.val) e2).trans (zero_mul_add _ _)

/-- Where a point's output block lies in the array. -/
theorem emb_23 (t : Fin cfg0.N) (j : Fin 512) (n : Fin 384) : ((cfg0.win 23).blk t).view.emb (ix3 0 j n) = (ix3 (bt t) (row t j) n : S8x4096x384.Idx) := by
  obtain ⟨e0, e1, e2⟩ := index_23 t
  refine funext fun i => Fin.ext ?_
  match i with
  | ⟨0, _⟩ => exact (congrArg (fun x : ℕ => x * 1 + 1 * 0) e0).trans (one_mul_add _)
  | ⟨1, _⟩ => exact (congrArg (fun x : ℕ => x * 512 + 1 * j.val) e1).trans (mul_add_comm _ _ _)
  | ⟨2, _⟩ => exact (congrArg (fun x : ℕ => x * 384 + 1 * n.val) e2).trans (zero_mul_add _ _)

/-- Every batch and block of rows is a point's. -/
theorem point_of : ∀ (b s : Fin 8), ∃ t : Fin cfg0.N, bt t = b ∧ sb t = s := by decide +kernel

end Cert.GatingIdeal.Sgu
-- ==== Proof.GateOut.lean ====
module

public import proofs.«01_k».proof.Proof.GatePay
public import proofs.«01_k».proof.Proof.Gen.GatingIdeal.Frame

@[expose] public section

set_option maxRecDepth 65536

noncomputable section

namespace Cert.GatingIdeal.Sgu

open Idealize.ShloMosaic Idealize.ShloMosaic.TcCoe Idealize.ShloMosaic.Tactic Idealize.SL.Sem
open Cert.GatingIdeal Cert.GatingIdeal.Gen
open Cert.Gate

/-! ## The mixing weights of each head, as the body loads them -/

abbrev ldw0 (x : Vec Ideal S1x6x128x128 .f32) : Vec Ideal S1x1x128x128 .f32 := View.ld x (Rect.unit (s := S1x6x128x128) ![0, 0, 0, 0] S1x1x128x128.size inb_S1x6x128x128_S1x1x128x128_0_0_0_0)
theorem ldw0_at (x : Vec Ideal S1x6x128x128 .f32) (r s : Fin 128) : ldw0 x (ix4 0 0 r s) = x (ix4 0 0 r s) := by
  refine congrArg x (funext fun a => Fin.ext ?_)
  match a with
  | ⟨0, _⟩ => rfl
  | ⟨1, _⟩ => rfl
  | ⟨2, _⟩ => exact (by omega : 0 + 1 * r.val = r.val)
  | ⟨3, _⟩ => exact (by omega : 0 + 1 * s.val = s.val)
abbrev ldw1 (x : Vec Ideal S1x6x128x128 .f32) : Vec Ideal S1x1x128x128 .f32 := View.ld x (Rect.unit (s := S1x6x128x128) ![0, 1, 0, 0] S1x1x128x128.size inb_S1x6x128x128_S1x1x128x128_0_1_0_0)
theorem ldw1_at (x : Vec Ideal S1x6x128x128 .f32) (r s : Fin 128) : ldw1 x (ix4 0 0 r s) = x (ix4 0 1 r s) := by
  refine congrArg x (funext fun a => Fin.ext ?_)
  match a with
  | ⟨0, _⟩ => rfl
  | ⟨1, _⟩ => rfl
  | ⟨2, _⟩ => exact (by omega : 0 + 1 * r.val = r.val)
  | ⟨3, _⟩ => exact (by omega : 0 + 1 * s.val = s.val)
abbrev ldw2 (x : Vec Ideal S1x6x128x128 .f32) : Vec Ideal S1x1x128x128 .f32 := View.ld x (Rect.unit (s := S1x6x128x128) ![0, 2, 0, 0] S1x1x128x128.size inb_S1x6x128x128_S1x1x128x128_0_2_0_0)
theorem ldw2_at (x : Vec Ideal S1x6x128x128 .f32) (r s : Fin 128) : ldw2 x (ix4 0 0 r s) = x (ix4 0 2 r s) := by
  refine congrArg x (funext fun a => Fin.ext ?_)
  match a with
  | ⟨0, _⟩ => rfl
  | ⟨1, _⟩ => rfl
  | ⟨2, _⟩ => exact (by omega : 0 + 1 * r.val = r.val)
  | ⟨3, _⟩ => exact (by omega : 0 + 1 * s.val = s.val)
abbrev ldw3 (x : Vec Ideal S1x6x128x128 .f32) : Vec Ideal S1x1x128x128 .f32 := View.ld x (Rect.unit (s := S1x6x128x128) ![0, 3, 0, 0] S1x1x128x128.size inb_S1x6x128x128_S1x1x128x128_0_3_0_0)
theorem ldw3_at (x : Vec Ideal S1x6x128x128 .f32) (r s : Fin 128) : ldw3 x (ix4 0 0 r s) = x (ix4 0 3 r s) := by
  refine congrArg x (funext fun a => Fin.ext ?_)
  match a with
  | ⟨0, _⟩ => rfl
  | ⟨1, _⟩ => rfl
  | ⟨2, _⟩ => exact (by omega : 0 + 1 * r.val = r.val)
  | ⟨3, _⟩ => exact (by omega : 0 + 1 * s.val = s.val)
abbrev ldw4 (x : Vec Ideal S1x6x128x128 .f32) : Vec Ideal S1x1x128x128 .f32 := View.ld x (Rect.unit (s := S1x6x128x128) ![0, 4, 0, 0] S1x1x128x128.size inb_S1x6x128x128_S1x1x128x128_0_4_0_0)
theorem ldw4_at (x : Vec Ideal S1x6x128x128 .f32) (r s : Fin 128) : ldw4 x (ix4 0 0 r s) = x (ix4 0 4 r s) := by
  refine congrArg x (funext fun a => Fin.ext ?_)
  match a with
  | ⟨0, _⟩ => rfl
  | ⟨1, _⟩ => rfl
  | ⟨2, _⟩ => exact (by omega : 0 + 1 * r.val = r.val)
  | ⟨3, _⟩ => exact (by omega : 0 + 1 * s.val = s.val)
abbrev ldw5 (x : Vec Ideal S1x6x128x128 .f32) : Vec Ideal S1x1x128x128 .f32 := View.ld x (Rect.unit (s := S1x6x128x128) ![0, 5, 0, 0] S1x1x128x128.size inb_S1x6x128x128_S1x1x128x128_0_5_0_0)
theorem ldw5_at (x : Vec Ideal S1x6x128x128 .f32) (r s : Fin 128) : ldw5 x (ix4 0 0 r s) = x (ix4 0 5 r s) := by
  refine congrArg x (funext fun a => Fin.ext ?_)
  match a with
  | ⟨0, _⟩ => rfl
  | ⟨1, _⟩ => rfl
  | ⟨2, _⟩ => exact (by omega : 0 + 1 * r.val = r.val)
  | ⟨3, _⟩ => exact (by omega : 0 + 1 * s.val = s.val)

/-! ## The twelve stores of a point -/

theorem zero3 : (![0, 0, 0] : Fin 3 → ℕ) = fun _ => 0 := funext fun a => by fin_cases a <;> rfl

section
variable (x0 : Vec Ideal S1x512x1024 .f32) (x11 x12 : Vec Ideal S1x1024x384 .bf16) (x13 x14 : Vec Ideal S1x1x384 .f32) (x15 : Vec Ideal S1x6x128x128 .f32) (x16 : Vec Ideal S1x128x384 .f32)

/-- What a point stores in its output block: a tile for each chunk and each pair of heads, the last first. -/
def pieces : List (View.Piece (Elt Ideal) S1x512x384 .bf16) :=
  [⟨Rect.unit (s := S1x512x384) ![0, 384, 256] S1x128x128.size inb_S1x512x384_S1x128x128_0_384_256, tile (half x0 x11) (gate x0 x12 x13 x14) (k0_pay61 (ldw4 x15)) (k0_pay61 (ldw5 x15)) (k0_pay68 x16) 384 256 slices_S512x384_o384_256_S128x128 slices_S128x384_o0_256_S128x128⟩,
   ⟨Rect.unit (s := S1x512x384) ![0, 384, 128] S1x128x128.size inb_S1x512x384_S1x128x128_0_384_128, tile (half x0 x11) (gate x0 x12 x13 x14) (k0_pay61 (ldw2 x15)) (k0_pay61 (ldw3 x15)) (k0_pay68 x16) 384 128 slices_S512x384_o384_128_S128x128 slices_S128x384_o0_128_S128x128⟩,
   ⟨Rect.unit (s := S1x512x384) ![0, 384, 0] S1x128x128.size inb_S1x512x384_S1x128x128_0_384_0, tile (half x0 x11) (gate x0 x12 x13 x14) (k0_pay61 (ldw0 x15)) (k0_pay61 (ldw1 x15)) (k0_pay68 x16) 384 0 slices_S512x384_o384_0_S128x128 slices_S128x384_o0_0_S128x128⟩,
   ⟨Rect.unit (s := S1x512x384) ![0, 256, 256] S1x128x128.size inb_S1x512x384_S1x128x128_0_256_256, tile (half x0 x11) (gate x0 x12 x13 x14) (k0_pay61 (ldw4 x15)) (k0_pay61 (ldw5 x15)) (k0_pay68 x16) 256 256 slices_S512x384_o256_256_S128x128 slices_S128x384_o0_256_S128x128⟩,
   ⟨Rect.unit (s := S1x512x384) ![0, 256, 128] S1x128x128.size inb_S1x512x384_S1x128x128_0_256_128, tile (half x0 x11) (gate x0 x12 x13 x14) (k0_pay61 (ldw2 x15)) (k0_pay61 (ldw3 x15)) (k0_pay68 x16) 256 128 slices_S512x384_o256_128_S128x128 slices_S128x384_o0_128_S128x128⟩,
   ⟨Rect.unit (s := S1x512x384) ![0, 256, 0] S1x128x128.size inb_S1x512x384_S1x128x128_0_256_0, tile (half x0 x11) (gate x0 x12 x13 x14) (k0_pay61 (ldw0 x15)) (k0_pay61 (ldw1 x15)) (k0_pay68 x16) 256 0 slices_S512x384_o256_0_S128x128 slices_S128x384_o0_0_S128x128⟩,
   ⟨Rect.unit (s := S1x512x384) ![0, 128, 256] S1x128x128.size inb_S1x512x384_S1x128x128_0_128_256, tile (half x0 x11) (gate x0 x12 x13 x14) (k0_pay61 (ldw4 x15)) (k0_pay61 (ldw5 x15)) (k0_pay68 x16) 128 256 slices_S512x384_o128_256_S128x128 slices_S128x384_o0_256_S128x128⟩,
   ⟨Rect.unit (s := S1x512x384) ![0, 128, 128] S1x128x128.size inb_S1x512x384_S1x128x128_0_128_128, tile (half x0 x11) (gate x0 x12 x13 x14) (k0_pay61 (ldw2 x15)) (k0_pay61 (ldw3 x15)) (k0_pay68 x16) 128 128 slices_S512x384_o128_128_S128x128 slices_S128x384_o0_128_S128x128⟩,
   ⟨Rect.unit (s := S1x512x384) ![0, 128, 0] S1x128x128.size inb_S1x512x384_S1x128x128_0_128_0, tile (half x0 x11) (gate x0 x12 x13 x14) (k0_pay61 (ldw0 x15)) (k0_pay61 (ldw1 x15)) (k0_pay68 x16) 128 0 slices_S512x384_o128_0_S128x128 slices_S128x384_o0_0_S128x128⟩,
   ⟨Rect.unit (s := S1x512x384) ![0, 0, 256] S1x128x128.size inb_S1x512x384_S1x128x128_0_0_256, tile (half x0 x11) (gate x0 x12 x13 x14) (k0_pay61 (ldw4 x15)) (k0_pay61 (ldw5 x15)) (k0_pay68 x16) 0 256 slices_S512x384_o0_256_S128x128 slices_S128x384_o0_256_S128x128⟩,
   ⟨Rect.unit (s := S1x512x384) ![0, 0, 128] S1x128x128.size inb_S1x512x384_S1x128x128_0_0_128, tile (half x0 x11) (gate x0 x12 x13 x14) (k0_pay61 (ldw2 x15)) (k0_pay61 (ldw3 x15)) (k0_pay68 x16) 0 128 slices_S512x384_o0_128_S128x128 slices_S128x384_o0_128_S128x128⟩,
   ⟨Rect.unit (s := S1x512x384) ![0, 0, 0] S1x128x128.size inb_S1x512x384_S1x128x128_0_0_0, tile (half x0 x11) (gate x0 x12 x13 x14) (k0_pay61 (ldw0 x15)) (k0_pay61 (ldw1 x15)) (k0_pay68 x16) 0 0 slices_S512x384_o0_0_S128x128 slices_S128x384_o0_0_S128x128⟩]

/-- Row `r` of the whole block. -/
def blockOut (y : S1x512x384.Idx) : EReal := rowOut x0 x11 x12 x13 x14 x15 x16 ⟨(y 1).val / 128, Nat.div_lt_of_lt_mul (y 1).isLt⟩ ⟨(y 1).val % 128, Nat.mod_lt _ (by decide)⟩ (y 2)

theorem rowOut_eq (y : S1x512x384.Idx) (q : Fin 4) (j : Fin 128) (n : Fin 384) (h1 : (y 1).val = 128 * q.val + j.val) (h2 : (y 2).val = n.val) :
    rowOut x0 x11 x12 x13 x14 x15 x16 q j n = blockOut x0 x11 x12 x13 x14 x15 x16 y := by
  rw [blockOut]
  congr 1
  · exact Fin.ext (by show q.val = (y 1).val / 128; omega)
  · exact Fin.ext (by show j.val = (y 1).val % 128; omega)
  · exact Fin.ext h2.symm

theorem eq_tile (x : S1x128x128.Idx) : ∃ j l : Fin 128, x = ix3 0 j l := by
  obtain ⟨z, j, l, rfl⟩ : ∃ (z : Fin 1) (j l : Fin 128), x = ix3 z j l := ⟨x 0, x 1, x 2, eq_ix3 x⟩
  exact ⟨j, l, congrArg (fun z : Fin 1 => ix3 z j l) (Subsingleton.elim z 0)⟩

/-- Every store holds the block's rows. -/
theorem pieces_at : ∀ p ∈ pieces x0 x11 x12 x13 x14 x15 x16, ∀ x : p.1.shape.Idx, p.2 x = blockOut x0 x11 x12 x13 x14 x15 x16 (p.1.emb x) := by
  unfold pieces
  refine List.forall_mem_cons.mpr ⟨?_, ?_⟩
  · intro x
    obtain ⟨j, l, rfl⟩ := eq_tile x
    exact (tile_out x0 x11 x12 x13 x14 x15 x16 3 2 _ _ (ldw4_at x15) (ldw5_at x15) 384 256 rfl rfl _ _ j l).trans
      (rowOut_eq x0 x11 x12 x13 x14 x15 x16 _ 3 j _ (by show 384 + 1 * j.val = 384 + j.val; omega) (by show 256 + 1 * l.val = 256 + l.val; omega))
  refine List.forall_mem_cons.mpr ⟨?_, ?_⟩
  · intro x
    obtain ⟨j, l, rfl⟩ := eq_tile x
    exact (tile_out x0 x11 x12 x13 x14 x15 x16 3 1 _ _ (ldw2_at x15) (ldw3_at x15) 384 128 rfl rfl _ _ j l).trans
      (rowOut_eq x0 x11 x12 x13 x14 x15 x16 _ 3 j _ (by show 384 + 1 * j.val = 384 + j.val; omega) (by show 128 + 1 * l.val = 128 + l.val; omega))
  refine List.forall_mem_cons.mpr ⟨?_, ?_⟩
  · intro x
    obtain ⟨j, l, rfl⟩ := eq_tile x
    exact (tile_out x0 x11 x12 x13 x14 x15 x16 3 0 _ _ (ldw0_at x15) (ldw1_at x15) 384 0 rfl rfl _ _ j l).trans
      (rowOut_eq x0 x11 x12 x13 x14 x15 x16 _ 3 j _ (by show 384 + 1 * j.val = 384 + j.val; omega) (by show 0 + 1 * l.val = 0 + l.val; omega))
  refine List.forall_mem_cons.mpr ⟨?_, ?_⟩
  · intro x
    obtain ⟨j, l, rfl⟩ := eq_tile x
    exact (tile_out x0 x11 x12 x13 x14 x15 x16 2 2 _ _ (ldw4_at x15) (ldw5_at x15) 256 256 rfl rfl _ _ j l).trans
      (rowOut_eq x0 x11 x12 x13 x14 x15 x16 _ 2 j _ (by show 256 + 1 * j.val = 256 + j.val; omega) (by show 256 + 1 * l.val = 256 + l.val; omega))
  refine List.forall_mem_cons.mpr ⟨?_, ?_⟩
  · intro x
    obtain ⟨j, l, rfl⟩ := eq_tile x
    exact (tile_out x0 x11 x12 x13 x14 x15 x16 2 1 _ _ (ldw2_at x15) (ldw3_at x15) 256 128 rfl rfl _ _ j l).trans
      (rowOut_eq x0 x11 x12 x13 x14 x15 x16 _ 2 j _ (by show 256 + 1 * j.val = 256 + j.val; omega) (by show 128 + 1 * l.val = 128 + l.val; omega))
  refine List.forall_mem_cons.mpr ⟨?_, ?_⟩
  · intro x
    obtain ⟨j, l, rfl⟩ := eq_tile x
    exact (tile_out x0 x11 x12 x13 x14 x15 x16 2 0 _ _ (ldw0_at x15) (ldw1_at x15) 256 0 rfl rfl _ _ j l).trans
      (rowOut_eq x0 x11 x12 x13 x14 x15 x16 _ 2 j _ (by show 256 + 1 * j.val = 256 + j.val; omega) (by show 0 + 1 * l.val = 0 + l.val; omega))
  refine List.forall_mem_cons.mpr ⟨?_, ?_⟩
  · intro x
    obtain ⟨j, l, rfl⟩ := eq_tile x
    exact (tile_out x0 x11 x12 x13 x14 x15 x16 1 2 _ _ (ldw4_at x15) (ldw5_at x15) 128 256 rfl rfl _ _ j l).trans
      (rowOut_eq x0 x11 x12 x13 x14 x15 x16 _ 1 j _ (by show 128 + 1 * j.val = 128 + j.val; omega) (by show 256 + 1 * l.val = 256 + l.val; omega))
  refine List.forall_mem_cons.mpr ⟨?_, ?_⟩
  · intro x
    obtain ⟨j, l, rfl⟩ := eq_tile x
    exact (tile_out x0 x11 x12 x13 x14 x15 x16 1 1 _ _ (ldw2_at x15) (ldw3_at x15) 128 128 rfl rfl _ _ j l).trans
      (rowOut_eq x0 x11 x12 x13 x14 x15 x16 _ 1 j _ (by show 128 + 1 * j.val = 128 + j.val; omega) (by show 128 + 1 * l.val = 128 + l.val; omega))
  refine List.forall_mem_cons.mpr ⟨?_, ?_⟩
  · intro x
    obtain ⟨j, l, rfl⟩ := eq_tile x
    exact (tile_out x0 x11 x12 x13 x14 x15 x16 1 0 _ _ (ldw0_at x15) (ldw1_at x15) 128 0 rfl rfl _ _ j l).trans
      (rowOut_eq x0 x11 x12 x13 x14 x15 x16 _ 1 j _ (by show 128 + 1 * j.val = 128 + j.val; omega) (by show 0 + 1 * l.val = 0 + l.val; omega))
  refine List.forall_mem_cons.mpr ⟨?_, ?_⟩
  · intro x
    obtain ⟨j, l, rfl⟩ := eq_tile x
    exact (tile_out x0 x11 x12 x13 x14 x15 x16 0 2 _ _ (ldw4_at x15) (ldw5_at x15) 0 256 rfl rfl _ _ j l).trans
      (rowOut_eq x0 x11 x12 x13 x14 x15 x16 _ 0 j _ (by show 0 + 1 * j.val = 0 + j.val; omega) (by show 256 + 1 * l.val = 256 + l.val; omega))
  refine List.forall_mem_cons.mpr ⟨?_, ?_⟩
  · intro x
    obtain ⟨j, l, rfl⟩ := eq_tile x
    exact (tile_out x0 x11 x12 x13 x14 x15 x16 0 1 _ _ (ldw2_at x15) (ldw3_at x15) 0 128 rfl rfl _ _ j l).trans
      (rowOut_eq x0 x11 x12 x13 x14 x15 x16 _ 0 j _ (by show 0 + 1 * j.val = 0 + j.val; omega) (by show 128 + 1 * l.val = 128 + l.val; omega))
  refine List.forall_mem_singleton.mpr ?_
  · intro x
    obtain ⟨j, l, rfl⟩ := eq_tile x
    exact (tile_out x0 x11 x12 x13 x14 x15 x16 0 0 _ _ (ldw0_at x15) (ldw1_at x15) 0 0 rfl rfl _ _ j l).trans
      (rowOut_eq x0 x11 x12 x13 x14 x15 x16 _ 0 j _ (by show 0 + 1 * j.val = 0 + j.val; omega) (by show 0 + 1 * l.val = 0 + l.val; omega))
end

/-! ## What the body leaves in its output block, in both cases -/

theorem pieces_A (c : Dev nD) (i : grid0.Coords) (arg2 : Memref sig .tc .vmem S1x512x1024 .f32) (harg2 : arg2.IsWhole) (arg3 : Memref sig .tc .vmem S1x1024x1536 .bf16) (harg3 : arg3.IsWhole) (arg4 : Memref sig .tc .vmem S1x384x1024 .bf16) (harg4 : arg4.IsWhole) (arg5 : Memref sig .tc .vmem S1x1024x128 .bf16) (harg5 : arg5.IsWhole) (arg6 : Memref sig .tc .vmem S1x1x128 .f32) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S512x512 .bf16) (harg9 : arg9.IsWhole) (arg10 : Memref sig .tc .vmem S384x256 .bf16) (harg10 : arg10.IsWhole) (arg11 : Memref sig .tc .vmem S1x1536 .f32) (harg11 : arg11.IsWhole) (arg12 : Memref sig .tc .vmem S512x1024 .bf16) (harg12 : arg12.IsWhole) (arg13 : Memref sig .tc .vmem S1x1024x384 .bf16) (harg13 : arg13.IsWhole) (arg14 : Memref sig .tc .vmem S1x1024x384 .bf16) (harg14 : arg14.IsWhole) (arg15 : Memref sig .tc .vmem S1x1x384 .f32) (harg15 : arg15.IsWhole) (arg16 : Memref sig .tc .vmem S1x1x384 .f32) (harg16 : arg16.IsWhole) (arg17 : Memref sig .tc .vmem S1x6x128x128 .f32) (harg17 : arg17.IsWhole) (arg18 : Memref sig .tc .vmem S1x128x384 .f32) (harg18 : arg18.IsWhole) (arg19 : Memref sig .tc .vmem S1x6x512x128 .bf16) (harg19 : arg19.IsWhole) (arg20 : Memref sig .tc .vmem S1x6x512x128 .bf16) (harg20 : arg20.IsWhole) (arg21 : Memref sig .tc .vmem S1x2x480x256 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x2x320x256 .bf16) (harg24 : arg24.IsWhole) (arg25 : Memref sig .tc .vmem S1x512x384 .bf16) (harg25 : arg25.IsWhole) (arg26 : Memref sig .tc .vmem S1x128 .f32) (harg26 : arg26.IsWhole) (hc0 : cond0_0 i)
    (x0 : Vec Ideal S1x512x1024 .f32) (x1 : Vec Ideal S1x1024x1536 .bf16) (x2 : Vec Ideal S1x384x1024 .bf16) (x3 : Vec Ideal S1x1024x128 .bf16) (x4 : Vec Ideal S1x1x128 .f32) (x5 : Vec Ideal S1x1024x1024 .bf16) (x6 : Vec Ideal S1x256x1024 .bf16) (x7 : Vec Ideal S512x512 .bf16) (x8 : Vec Ideal S384x256 .bf16) (x9 : Vec Ideal S1x1536 .f32) (x10 : Vec Ideal S512x1024 .bf16) (x11 : Vec Ideal S1x1024x384 .bf16) (x12 : Vec Ideal S1x1024x384 .bf16) (x13 : Vec Ideal S1x1x384 .f32) (x14 : Vec Ideal S1x1x384 .f32) (x15 : Vec Ideal S1x6x128x128 .f32) (x16 : Vec Ideal S1x128x384 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16).2.2.2.2.2.2.1 = pieces x0 x11 x12 x13 x14 x15 x16 := by
  unfold kernelRun0_A
  dsimp only
  sl_unfold_words
  simp only [View.readAt_eq_ld, harg2.read_unread, harg13.read_unread, harg14.read_unread, harg15.read_unread, harg16.read_unread, harg17.read_unread, harg18.read_unread]
  rw [View.ld_unit_zero (S := S1x512x1024) zero3, View.ld_unit_zero (S := S1x1024x384) zero3, View.ld_unit_zero (S := S1x1024x384) zero3, View.ld_unit_zero (S := S1x1x384) zero3, View.ld_unit_zero (S := S1x1x384) zero3, View.ld_unit_zero (S := S1x128x384) zero3]
  rfl

theorem out_A (c : Dev nD) (i : grid0.Coords) (arg2 : Memref sig .tc .vmem S1x512x1024 .f32) (harg2 : arg2.IsWhole) (arg3 : Memref sig .tc .vmem S1x1024x1536 .bf16) (harg3 : arg3.IsWhole) (arg4 : Memref sig .tc .vmem S1x384x1024 .bf16) (harg4 : arg4.IsWhole) (arg5 : Memref sig .tc .vmem S1x1024x128 .bf16) (harg5 : arg5.IsWhole) (arg6 : Memref sig .tc .vmem S1x1x128 .f32) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S512x512 .bf16) (harg9 : arg9.IsWhole) (arg10 : Memref sig .tc .vmem S384x256 .bf16) (harg10 : arg10.IsWhole) (arg11 : Memref sig .tc .vmem S1x1536 .f32) (harg11 : arg11.IsWhole) (arg12 : Memref sig .tc .vmem S512x1024 .bf16) (harg12 : arg12.IsWhole) (arg13 : Memref sig .tc .vmem S1x1024x384 .bf16) (harg13 : arg13.IsWhole) (arg14 : Memref sig .tc .vmem S1x1024x384 .bf16) (harg14 : arg14.IsWhole) (arg15 : Memref sig .tc .vmem S1x1x384 .f32) (harg15 : arg15.IsWhole) (arg16 : Memref sig .tc .vmem S1x1x384 .f32) (harg16 : arg16.IsWhole) (arg17 : Memref sig .tc .vmem S1x6x128x128 .f32) (harg17 : arg17.IsWhole) (arg18 : Memref sig .tc .vmem S1x128x384 .f32) (harg18 : arg18.IsWhole) (arg19 : Memref sig .tc .vmem S1x6x512x128 .bf16) (harg19 : arg19.IsWhole) (arg20 : Memref sig .tc .vmem S1x6x512x128 .bf16) (harg20 : arg20.IsWhole) (arg21 : Memref sig .tc .vmem S1x2x480x256 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x2x320x256 .bf16) (harg24 : arg24.IsWhole) (arg25 : Memref sig .tc .vmem S1x512x384 .bf16) (harg25 : arg25.IsWhole) (arg26 : Memref sig .tc .vmem S1x128 .f32) (harg26 : arg26.IsWhole) (hc0 : cond0_0 i)
    (x0 : Vec Ideal S1x512x1024 .f32) (x1 : Vec Ideal S1x1024x1536 .bf16) (x2 : Vec Ideal S1x384x1024 .bf16) (x3 : Vec Ideal S1x1024x128 .bf16) (x4 : Vec Ideal S1x1x128 .f32) (x5 : Vec Ideal S1x1024x1024 .bf16) (x6 : Vec Ideal S1x256x1024 .bf16) (x7 : Vec Ideal S512x512 .bf16) (x8 : Vec Ideal S384x256 .bf16) (x9 : Vec Ideal S1x1536 .f32) (x10 : Vec Ideal S512x1024 .bf16) (x11 : Vec Ideal S1x1024x384 .bf16) (x12 : Vec Ideal S1x1024x384 .bf16) (x13 : Vec Ideal S1x1x384 .f32) (x14 : Vec Ideal S1x1x384 .f32) (x15 : Vec Ideal S1x6x128x128 .f32) (x16 : Vec Ideal S1x128x384 .f32) (y : S1x512x384.Idx) :
    out0_A_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 y = blockOut x0 x11 x12 x13 x14 x15 x16 y := by
  unfold out0_A_23
  rw [View.read_writes_eq_canon _ _ _ (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16)]
  refine View.canon_apply_of_pieces (Val := Elt Ideal) (fun i => blockOut x0 x11 x12 x13 x14 x15 x16 i : Vec Ideal S1x512x384 .bf16) _ ?_ y (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 y)
  rw [pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16]
  exact pieces_at x0 x11 x12 x13 x14 x15 x16

theorem pieces_B (c : Dev nD) (i : grid0.Coords) (arg2 : Memref sig .tc .vmem S1x512x1024 .f32) (harg2 : arg2.IsWhole) (arg3 : Memref sig .tc .vmem S1x1024x1536 .bf16) (harg3 : arg3.IsWhole) (arg4 : Memref sig .tc .vmem S1x384x1024 .bf16) (harg4 : arg4.IsWhole) (arg5 : Memref sig .tc .vmem S1x1024x128 .bf16) (harg5 : arg5.IsWhole) (arg6 : Memref sig .tc .vmem S1x1x128 .f32) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S512x512 .bf16) (harg9 : arg9.IsWhole) (arg10 : Memref sig .tc .vmem S384x256 .bf16) (harg10 : arg10.IsWhole) (arg11 : Memref sig .tc .vmem S1x1536 .f32) (harg11 : arg11.IsWhole) (arg12 : Memref sig .tc .vmem S512x1024 .bf16) (harg12 : arg12.IsWhole) (arg13 : Memref sig .tc .vmem S1x1024x384 .bf16) (harg13 : arg13.IsWhole) (arg14 : Memref sig .tc .vmem S1x1024x384 .bf16) (harg14 : arg14.IsWhole) (arg15 : Memref sig .tc .vmem S1x1x384 .f32) (harg15 : arg15.IsWhole) (arg16 : Memref sig .tc .vmem S1x1x384 .f32) (harg16 : arg16.IsWhole) (arg17 : Memref sig .tc .vmem S1x6x128x128 .f32) (harg17 : arg17.IsWhole) (arg18 : Memref sig .tc .vmem S1x128x384 .f32) (harg18 : arg18.IsWhole) (arg19 : Memref sig .tc .vmem S1x6x512x128 .bf16) (harg19 : arg19.IsWhole) (arg20 : Memref sig .tc .vmem S1x6x512x128 .bf16) (harg20 : arg20.IsWhole) (arg21 : Memref sig .tc .vmem S1x2x480x256 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x2x320x256 .bf16) (harg24 : arg24.IsWhole) (arg25 : Memref sig .tc .vmem S1x512x384 .bf16) (harg25 : arg25.IsWhole) (arg26 : Memref sig .tc .vmem S1x128 .f32) (harg26 : arg26.IsWhole) (hc0 : ¬cond0_0 i)
    (x0 : Vec Ideal S1x512x1024 .f32) (x1 : Vec Ideal S1x1024x1536 .bf16) (x2 : Vec Ideal S1x384x1024 .bf16) (x3 : Vec Ideal S1x1024x128 .bf16) (x4 : Vec Ideal S1x1x128 .f32) (x5 : Vec Ideal S1x1024x1024 .bf16) (x6 : Vec Ideal S1x256x1024 .bf16) (x7 : Vec Ideal S512x512 .bf16) (x8 : Vec Ideal S384x256 .bf16) (x9 : Vec Ideal S1x1536 .f32) (x10 : Vec Ideal S512x1024 .bf16) (x11 : Vec Ideal S1x1024x384 .bf16) (x12 : Vec Ideal S1x1024x384 .bf16) (x13 : Vec Ideal S1x1x384 .f32) (x14 : Vec Ideal S1x1x384 .f32) (x15 : Vec Ideal S1x6x128x128 .f32) (x16 : Vec Ideal S1x128x384 .f32) (xs0 : Vec Ideal S1x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0).2.2.2.2.2.2.1 = pieces x0 x11 x12 x13 x14 x15 x16 := by
  unfold kernelRun0_B
  dsimp only
  sl_unfold_words
  simp only [View.readAt_eq_ld, harg2.read_unread, harg13.read_unread, harg14.read_unread, harg15.read_unread, harg16.read_unread, harg17.read_unread, harg18.read_unread]
  rw [View.ld_unit_zero (S := S1x512x1024) zero3, View.ld_unit_zero (S := S1x1024x384) zero3, View.ld_unit_zero (S := S1x1024x384) zero3, View.ld_unit_zero (S := S1x1x384) zero3, View.ld_unit_zero (S := S1x1x384) zero3, View.ld_unit_zero (S := S1x128x384) zero3]
  rfl

theorem out_B (c : Dev nD) (i : grid0.Coords) (arg2 : Memref sig .tc .vmem S1x512x1024 .f32) (harg2 : arg2.IsWhole) (arg3 : Memref sig .tc .vmem S1x1024x1536 .bf16) (harg3 : arg3.IsWhole) (arg4 : Memref sig .tc .vmem S1x384x1024 .bf16) (harg4 : arg4.IsWhole) (arg5 : Memref sig .tc .vmem S1x1024x128 .bf16) (harg5 : arg5.IsWhole) (arg6 : Memref sig .tc .vmem S1x1x128 .f32) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S512x512 .bf16) (harg9 : arg9.IsWhole) (arg10 : Memref sig .tc .vmem S384x256 .bf16) (harg10 : arg10.IsWhole) (arg11 : Memref sig .tc .vmem S1x1536 .f32) (harg11 : arg11.IsWhole) (arg12 : Memref sig .tc .vmem S512x1024 .bf16) (harg12 : arg12.IsWhole) (arg13 : Memref sig .tc .vmem S1x1024x384 .bf16) (harg13 : arg13.IsWhole) (arg14 : Memref sig .tc .vmem S1x1024x384 .bf16) (harg14 : arg14.IsWhole) (arg15 : Memref sig .tc .vmem S1x1x384 .f32) (harg15 : arg15.IsWhole) (arg16 : Memref sig .tc .vmem S1x1x384 .f32) (harg16 : arg16.IsWhole) (arg17 : Memref sig .tc .vmem S1x6x128x128 .f32) (harg17 : arg17.IsWhole) (arg18 : Memref sig .tc .vmem S1x128x384 .f32) (harg18 : arg18.IsWhole) (arg19 : Memref sig .tc .vmem S1x6x512x128 .bf16) (harg19 : arg19.IsWhole) (arg20 : Memref sig .tc .vmem S1x6x512x128 .bf16) (harg20 : arg20.IsWhole) (arg21 : Memref sig .tc .vmem S1x2x480x256 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x2x320x256 .bf16) (harg24 : arg24.IsWhole) (arg25 : Memref sig .tc .vmem S1x512x384 .bf16) (harg25 : arg25.IsWhole) (arg26 : Memref sig .tc .vmem S1x128 .f32) (harg26 : arg26.IsWhole) (hc0 : ¬cond0_0 i)
    (x0 : Vec Ideal S1x512x1024 .f32) (x1 : Vec Ideal S1x1024x1536 .bf16) (x2 : Vec Ideal S1x384x1024 .bf16) (x3 : Vec Ideal S1x1024x128 .bf16) (x4 : Vec Ideal S1x1x128 .f32) (x5 : Vec Ideal S1x1024x1024 .bf16) (x6 : Vec Ideal S1x256x1024 .bf16) (x7 : Vec Ideal S512x512 .bf16) (x8 : Vec Ideal S384x256 .bf16) (x9 : Vec Ideal S1x1536 .f32) (x10 : Vec Ideal S512x1024 .bf16) (x11 : Vec Ideal S1x1024x384 .bf16) (x12 : Vec Ideal S1x1024x384 .bf16) (x13 : Vec Ideal S1x1x384 .f32) (x14 : Vec Ideal S1x1x384 .f32) (x15 : Vec Ideal S1x6x128x128 .f32) (x16 : Vec Ideal S1x128x384 .f32) (xs0 : Vec Ideal S1x128 .f32) (y : S1x512x384.Idx) :
    out0_B_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 y = blockOut x0 x11 x12 x13 x14 x15 x16 y := by
  unfold out0_B_23
  rw [View.read_writes_eq_canon _ _ _ (cover0_B_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0)]
  refine View.canon_apply_of_pieces (Val := Elt Ideal) (fun i => blockOut x0 x11 x12 x13 x14 x15 x16 i : Vec Ideal S1x512x384 .bf16) _ ?_ y (cover0_B_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 y)
  rw [pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0]
  exact pieces_at x0 x11 x12 x13 x14 x15 x16

end Cert.GatingIdeal.Sgu
-- ==== Proof.GateFinal.lean ====
module

public import proofs.«01_k».proof.Proof.GateHost
public import proofs.«01_k».proof.Proof.GateOut
public import proofs.«01_k».proof.Proof.Gen.GatingIdeal.Value

@[expose] public section

set_option maxRecDepth 65536

noncomputable section

namespace Cert.GatingIdeal.Sgu

open Idealize.ShloMosaic Idealize.ShloMosaic.TcCoe Idealize.ShloMosaic.Tactic Idealize.SL.Sem
open Cert.GatingIdeal Cert.GatingIdeal.Gen
open Cert.Gate

variable (m : (ℓ : Loc nD τ sig) → Buf (Elt Ideal) ℓ) (c : Dev nD)
  (h : Vec Ideal S8x4096x1024 .f32) (w : Vec Ideal S2x1024x2694 .f32) (g d : Vec Ideal S2x384 .f32) (ws : Vec Ideal S2x6x128x128 .f32) (bs : Vec Ideal S2x6x128 .f32)

/-- Row `t` of batch `b`: the gating of its chunk. -/
def resRow (b : Fin 8) (t : Fin 4096) (n : Fin 384) : EReal :=
  out (fun s k => h (ix3 b ⟨t.val / 128 * 128 + s.val, by omega⟩ k)) (fun k n => w (ix3 0 k ⟨1926 + n.val, by omega⟩)) (fun k n => w (ix3 0 k ⟨2310 + n.val, by omega⟩))
    (fun n => g (ix2 0 n)) (fun n => d (ix2 0 n)) (fun h r s => ws (ix4 0 h r s)) (fun r n => bs (ix3 0 (head n) r)) ⟨t.val % 128, by omega⟩ n

/-- Every row. -/
def res : Vec Ideal S8x4096x384 .bf16 := fun i => resRow h w g d ws bs (i 0) (i 1) (i 2)

variable (h0 : m ((c.tc : Thread nD τ).loc main_arg0) = h) (h1 : m ((c.tc : Thread nD τ).loc main_arg1) = w) (h3 : m ((c.tc : Thread nD τ).loc main_arg3) = g) (h4 : m ((c.tc : Thread nD τ).loc main_arg4) = d)
  (h5 : m ((c.tc : Thread nD τ).loc main_arg5) = ws) (h6 : m ((c.tc : Thread nD τ).loc main_arg6) = bs)

include h0 h1 h3 h4 h5 h6 in
/-- The block a point computes is the block of `res` it writes. -/
theorem block_at (t : Fin cfg0.N) (j : Fin 512) (n : Fin 384) :
    blockOut (iblk m c 0 t) (iblk m c 11 t) (iblk m c 12 t) (iblk m c 13 t) (iblk m c 14 t) (iblk m c 15 t) (iblk m c 16 t) (ix3 0 j n) = res h w g d ws bs (ix3 (bt t) (row t j) n) := by
  subst h0 h1 h3 h4 h5 h6
  show rowOut _ _ _ _ _ _ _ ⟨j.val / 128, by omega⟩ ⟨j.val % 128, by omega⟩ n = resRow _ _ _ _ _ _ (bt t) (row t j) n
  unfold rowOut resRow
  have e : (⟨(row t j).val % 128, by omega⟩ : Fin 128) = ⟨j.val % 128, by omega⟩ := Fin.ext (by show (512 * (sb t).val + j.val) % 128 = j.val % 128; omega)
  rw [e]
  refine out_congr (funext fun s => funext fun k => ?_) (funext fun k => funext fun n => ?_) (funext fun k => funext fun n => ?_) (funext fun n => ?_) (funext fun n => ?_)
    (funext fun a => funext fun r => funext fun s => ?_) (funext fun r => funext fun n => ?_) _ n
  · refine (iblk0_at m c t _ k).trans ((congrFun (V_main_arg0 m c) _).trans (congrArg _ (congrArg (fun x => ix3 (bt t) x k) (Fin.ext ?_))))
    show 512 * (sb t).val + (128 * (j.val / 128) + s.val) = (512 * (sb t).val + j.val) / 128 * 128 + s.val
    omega
  · exact (iblk11_at m c t k n).trans ((congrFun (V_v114 m c) _).trans (halfU_at _ k n))
  · exact (iblk12_at m c t k n).trans ((congrFun (V_v116 m c) _).trans (halfG_at _ k n))
  · exact (iblk13_at m c t n).trans ((congrFun (V_v120 m c) _).trans (flatV_at _ n))
  · exact (iblk14_at m c t n).trans ((congrFun (V_v121 m c) _).trans (flatV_at _ n))
  · exact (iblk15_at m c t a r s).trans (congrFun (V_main_arg5 m c) _)
  · exact (iblk16_at m c t r n).trans ((congrFun (V_v119 m c) _).trans (wideB_at _ r n))

include h0 h1 h3 h4 h5 h6 in
theorem flushed_eq (t : Fin cfg0.N) : (dats m 0 c).flushed 23 t = ((cfg0.win 23).blk t).view.read (Elt Ideal) (res h w g d ws bs) := by
  funext y
  obtain ⟨z, j, n, rfl⟩ : ∃ (z : Fin 1) (j : Fin 512) (n : Fin 384), y = ix3 z j n := ⟨y 0, y 1, y 2, eq_ix3 y⟩
  obtain rfl : z = 0 := Subsingleton.elim z 0
  refine Eq.trans ?_ ((block_at m c h w g d ws bs h0 h1 h3 h4 h5 h6 t j n).trans (congrArg (res h w g d ws bs) (emb_23 t j n)).symm)
  by_cases ht : t.val % 8 = 0
  · rw [Value.flushed23_A m c t ht]
    exact out_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  · rw [Value.flushed23_B m c t ht]
    exact out_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

include h0 h1 h3 h4 h5 h6 in
/-- The blocks cover the array: it ends holding `res`. -/
theorem final_out : (dats m 0 c).arrAt 23 cfg0.N = res h w g d ws bs :=
  (dats m 0 c).arrAt_eq_of_cover 23 (res h w g d ws bs) (fun t _ => flushed_eq m c h w g d ws bs h0 h1 h3 h4 h5 h6 t) fun i => by
    have h1 : (i 1).val < 4096 := (i 1).isLt
    obtain ⟨t, hb, hj⟩ := point_of (i 0) ⟨(i 1).val / 512, by omega⟩
    refine ⟨t, flush0_23 t, ?_⟩
    have e : i = ((cfg0.win 23).blk t).view.emb (ix3 0 ⟨(i 1).val % 512, Nat.mod_lt _ (by decide)⟩ (i 2)) := by
      refine Eq.trans ?_ (emb_23 t ⟨(i 1).val % 512, Nat.mod_lt _ (by decide)⟩ (i 2)).symm
      refine funext fun a => Fin.ext ?_
      match a with
      | ⟨0, _⟩ => exact (congrArg Fin.val hb).symm
      | ⟨1, _⟩ => exact ((congrArg (fun x : Fin 8 => 512 * x.val + (i 1).val % 512) hj).trans (Nat.div_add_mod _ 512)).symm
      | ⟨2, _⟩ => rfl
    rw [e]
    exact View.emb_mem_set _ _

end Cert.GatingIdeal.Sgu
-- ==== Proof.GateRef.lean ====
module

public import proofs.«01_k».proof.Proof.GateMath
public import proofs.«01_k».proof.Proof.Gen.GatingReferenceIdeal.Run

@[expose] public section

set_option maxRecDepth 65536

noncomputable section

namespace Cert.GatingReferenceIdeal.Sgu

open Idealize.ShloMosaic Idealize.ShloMosaic.TcCoe Idealize.ShloMosaic.Tactic Idealize.ShloMosaic.StableHlo Idealize.SL.Sem
open Cert.GatingReferenceIdeal Cert.GatingReferenceIdeal.Gen Cert.GatingReferenceIdeal.Value
open Cert.Gate

/-! ## The reference's lines, in pieces -/

/-- The projection on the gating's columns of the first layer's weights, and its smooth gate. -/
def prod (h : FVec Ideal S8x4096x1024 .f32) (w : FVec Ideal S2x1024x2694 .f32) : FVec Ideal S8x4096x768 .f32 :=
  Host.dotGeneral dot_S8x4096x1024_S1024x768_S8x4096x768_2_0_01_1_n_n none h (extractStridedSlice S1024x768 ![0, 1926] (shapeCast _ (extractStridedSlice S1x1024x2694 ![0, 0, 0] w slices_S2x1024x2694_S1x1024x2694_0_0_0) shapeCasts_S1x1024x2694_S1024x2694) slices_S1024x2694_S1024x768_0_1926)
def smooth (x : FVec Ideal S8x4096x768 .f32) : FVec Ideal S8x4096x768 .f32 :=
  mulf x (mulf (broadcastInDim S8x4096x768 ![] bcast_S_S8x4096x768 (constant S_ .f32 0x3F000000#32)) (addf (broadcastInDim S8x4096x768 ![] bcast_S_S8x4096x768 (constant S_ .f32 0x3F800000#32))
    (Host.tanh (mulf (broadcastInDim S8x4096x768 ![] bcast_S_S8x4096x768 (constant S_ .f32 0x3F4C422A#32)) (addf x (mulf (broadcastInDim S8x4096x768 ![] bcast_S_S8x4096x768 (constant S_ .f32 0x3D372713#32)) (mulf (mulf x x) x)))))))
/-- Its two halves. -/
def first (z : FVec Ideal S8x4096x768 .f32) : FVec Ideal S8x4096x384 .f32 := extractStridedSlice S8x4096x384 ![0, 0, 0] z slices_S8x4096x768_S8x4096x384_0_0_0
def second (z : FVec Ideal S8x4096x768 .f32) : FVec Ideal S8x4096x384 .f32 := extractStridedSlice S8x4096x384 ![0, 0, 384] z slices_S8x4096x768_S8x4096x384_0_0_384

/-- A vector of the norm at every row. -/
def wide (g : FVec Ideal S2x384 .f32) : FVec Ideal S8x4096x384 .f32 :=
  broadcastInDim S8x4096x384 ![0, 1, 2] bcast_S1x1x384_S8x4096x384_0_1_2 (broadcastInDim S1x1x384 ![2] bcast_S384_S1x1x384_2 (shapeCast _ (extractStridedSlice S1x384 ![0, 0] g slices_S2x384_S1x384_0_0) shapeCasts_S1x384_S384))
/-- Each row's mean, and the rows with their means taken off. -/
def mean (y : FVec Ideal S8x4096x384 .f32) : FVec Ideal S8x4096x1 .f32 :=
  Host.divf (broadcastInDim S8x4096x1 ![0, 1] bcast_S8x4096_S8x4096x1_0_1 (Host.reduceAdd y (constant S_ .f32 0x00000000#32) reducesTo_S8x4096x384_S8x4096_d2 h_S_)) (broadcastInDim S8x4096x1 ![] bcast_S_S8x4096x1 (constant S_ .f32 0x43C00000#32))
def centred (y : FVec Ideal S8x4096x384 .f32) : FVec Ideal S8x4096x384 .f32 :=
  subf y (broadcastInDim S8x4096x384 ![0, 1, 2] bcast_S8x4096x1_S8x4096x384_0_1_2 (mean y))
/-- The layer norm of every row. -/
def norm (y g b : FVec Ideal S8x4096x384 .f32) : FVec Ideal S8x4096x384 .f32 :=
  addf (mulf (mulf (centred y) (broadcastInDim S8x4096x384 ![0, 1, 2] bcast_S8x4096x1_S8x4096x384_0_1_2 (Host.rsqrt (addf (mean (mulf (centred y) (centred y))) (broadcastInDim S8x4096x1 ![] bcast_S_S8x4096x1 (constant S_ .f32 0x3727C5AC#32)))))) g) b

/-- The mixing weights up to the position, zero after it. -/
def lower (w : FVec Ideal S2x6x128x128 .f32) : FVec Ideal S6x128x128 .f32 :=
  select (broadcastInDim S6x128x128 ![1, 2] bcast_S128x128_S6x128x128_1_2 (cmpi .sge (addi (iotaInDim S128x128 32 0) (broadcastInDim S128x128 ![] bcast_S_S128x128 (constantI S_ 32 0#32))) (iotaInDim S128x128 32 1)))
    (shapeCast _ (extractStridedSlice S1x6x128x128 ![0, 0, 0, 0] w slices_S2x6x128x128_S1x6x128x128_0_0_0_0) shapeCasts_S1x6x128x128_S6x128x128) (broadcastInDim S6x128x128 ![] bcast_S_S6x128x128 (constant S_ .f32 0x00000000#32))
/-- Every chunk of every head mixed. -/
def mixed (z : FVec Ideal S8x4096x384 .f32) (w : FVec Ideal S6x128x128 .f32) : FVec Ideal S8x32x128x6x64 .f32 :=
  transpose S8x32x128x6x64 [1, 2, 4, 0, 3] (Host.dotGeneral dot_S8x32x128x6x64_S6x128x128_S6x8x32x64x128_2_2_014_1_3_0 none (shapeCast _ z shapeCasts_S8x4096x384_S8x32x128x6x64) w) transposes_S6x8x32x64x128_S8x32x128x6x64_1_2_4_0_3
def bias (b : FVec Ideal S2x6x128 .f32) : FVec Ideal S8x32x128x6x64 .f32 :=
  broadcastInDim S8x32x128x6x64 ![0, 1, 2, 3, 4] bcast_S1x1x128x6x1_S8x32x128x6x64_0_1_2_3_4 (broadcastInDim S1x1x128x6x1 ![2, 3] bcast_S128x6_S1x1x128x6x1_2_3 (transpose S128x6 [1, 0] (shapeCast _ (extractStridedSlice S1x6x128 ![0, 0, 0] b slices_S2x6x128_S1x6x128_0_0_0) shapeCasts_S1x6x128_S6x128) transposes_S6x128_S128x6_1_0))
/-- The gate times the mixed chunks. -/
def gated (u : FVec Ideal S8x4096x384 .f32) (x y : FVec Ideal S8x32x128x6x64 .f32) : FVec Ideal S8x4096x384 .bf16 :=
  truncf .bf16 (mulf u (shapeCast _ (addf x y) shapeCasts_S8x32x128x6x64_S8x4096x384)) bitsLt_bf16_f32

/-- What the reference leaves. -/
theorem res_eq (m : (ℓ : Loc nD τ sig) → Buf (Elt Ideal) ℓ) (c : Dev nD) :
    res_main_v61 m c = gated (first (smooth (prod (m ((c.tc : Thread nD τ).loc main_arg0)) (m ((c.tc : Thread nD τ).loc main_arg1)))))
      (mixed (norm (second (smooth (prod (m ((c.tc : Thread nD τ).loc main_arg0)) (m ((c.tc : Thread nD τ).loc main_arg1))))) (wide (m ((c.tc : Thread nD τ).loc main_arg3))) (wide (m ((c.tc : Thread nD τ).loc main_arg4))))
        (lower (m ((c.tc : Thread nD τ).loc main_arg5)))) (bias (m ((c.tc : Thread nD τ).loc main_arg6))) := by
  unfold res_main_v61 gated mixed norm centred mean lower bias wide first second smooth prod; rfl

/-! ## The pieces, at an index -/

theorem prod_at (h : FVec Ideal S8x4096x1024 .f32) (w : FVec Ideal S2x1024x2694 .f32) (b : Fin 8) (t : Fin 4096) (n : Fin 768) :
    prod h w (ix3 b t n) = proj (fun k => h (ix3 b t k)) (fun k => w (ix3 0 k ⟨1926 + n.val, by omega⟩)) := by
  pointwise [prod]
  rfl
theorem smooth_at (x : FVec Ideal S8x4096x768 .f32) (b : Fin 8) (t : Fin 4096) (n : Fin 768) : smooth x (ix3 b t n) = gelu (x (ix3 b t n)) := by
  rw [← gelu_eq]
  pointwise [smooth]
theorem first_at (z : FVec Ideal S8x4096x768 .f32) (b : Fin 8) (t : Fin 4096) (n : Fin 384) : first z (ix3 b t n) = z (ix3 b t ⟨n.val, by omega⟩) := by
  pointwise [first]
theorem second_at (z : FVec Ideal S8x4096x768 .f32) (b : Fin 8) (t : Fin 4096) (n : Fin 384) : second z (ix3 b t n) = z (ix3 b t ⟨384 + n.val, by omega⟩) := by
  pointwise [second]
theorem wide_at (g : FVec Ideal S2x384 .f32) (b : Fin 8) (t : Fin 4096) (n : Fin 384) : wide g (ix3 b t n) = g (ix2 0 n) := by
  pointwise [wide]
theorem mean_at (y : FVec Ideal S8x4096x384 .f32) (b : Fin 8) (t : Fin 4096) : mean y (ix3 b t 0) = avg fun n => y (ix3 b t n) := by
  pointwise [mean]
  rfl
theorem centred_at (y : FVec Ideal S8x4096x384 .f32) (b : Fin 8) (t : Fin 4096) (n : Fin 384) : centred y (ix3 b t n) = y (ix3 b t n) - mean y (ix3 b t 0) := by
  pointwise [centred]
theorem norm_at (y g d : FVec Ideal S8x4096x384 .f32) (b : Fin 8) (t : Fin 4096) (n : Fin 384) :
    norm y g d (ix3 b t n) = centred y (ix3 b t n) * Ideal.rsqrt (mean (mulf (centred y) (centred y)) (ix3 b t 0) + Ideal.ofBits .f32 0x3727C5AC#32) * g (ix3 b t n) + d (ix3 b t n) := by
  pointwise [norm]
/-- The rows with their means taken off, row by row. -/
theorem dev_at (y : FVec Ideal S8x4096x384 .f32) (b : Fin 8) (t : Fin 4096) (n : Fin 384) : centred y (ix3 b t n) = dev (fun n => y (ix3 b t n)) n :=
  (centred_at y b t n).trans (congrArg (fun z : EReal => (y (ix3 b t n) : EReal) - z) (mean_at y b t))
/-- The layer norm, row by row. -/
theorem ln_at (y g d : FVec Ideal S8x4096x384 .f32) (b : Fin 8) (t : Fin 4096) (n : Fin 384) :
    norm y g d (ix3 b t n) = ln (fun n => y (ix3 b t n)) (fun n => g (ix3 b t n)) (fun n => d (ix3 b t n)) n :=
  (norm_at y g d b t n).trans (congrArg (fun z : EReal => z * (g (ix3 b t n) : EReal) + (d (ix3 b t n) : EReal)) (congrArg₂ (· * ·) (dev_at y b t n)
    (congrArg (fun v : EReal => Ideal.rsqrt (v + Ideal.ofBits .f32 0x3727C5AC#32))
      ((mean_at _ b t).trans (congrArg avg (funext fun k => congrArg₂ (· * ·) (dev_at y b t k) (dev_at y b t k)))))))

theorem lower_at (w : FVec Ideal S2x6x128x128 .f32) (h : Fin 6) (r s : Fin 128) : lower w (ix3 h r s) = if s.val ≤ r.val then w (ix4 0 h r s) else 0 := by
  pointwise [lower]
  rw [show IntOp.addi (BitVec.ofNat 32 r.val) 0#32 = BitVec.ofNat 32 r.val from BitVec.add_zero _, show IntOp.cmpi .sge (BitVec.ofNat 32 r.val) (BitVec.ofNat 32 s.val) = IntOp.cmpi .sle (BitVec.ofNat 32 s.val) (BitVec.ofNat 32 r.val) from rfl, sle_pos, select_if]
theorem mixed_at (z : FVec Ideal S8x4096x384 .f32) (w : FVec Ideal S6x128x128 .f32) (b : Fin 8) (q : Fin 32) (r : Fin 128) (h : Fin 6) (d : Fin 64) :
    mixed z w (ix5 b q r h d) = ∑ s : Fin 128, z (ix3 b ⟨q.val * 128 + s.val, by omega⟩ ⟨h.val * 64 + d.val, by omega⟩) * w (ix3 h r s) := by
  pointwise [mixed]
theorem bias_at (x : FVec Ideal S2x6x128 .f32) (b : Fin 8) (q : Fin 32) (r : Fin 128) (h : Fin 6) (d : Fin 64) :
    bias x (ix5 b q r h d) = x (ix3 0 h r) := by
  pointwise [bias]
theorem gated_at (u : FVec Ideal S8x4096x384 .f32) (x y : FVec Ideal S8x32x128x6x64 .f32) (b : Fin 8) (t : Fin 4096) (n : Fin 384) :
    gated u x y (ix3 b t n) = u (ix3 b t n) * (x (ix5 b ⟨t.val / 128, by omega⟩ ⟨t.val % 128, by omega⟩ (head n) ⟨n.val % 64, by omega⟩)
      + y (ix5 b ⟨t.val / 128, by omega⟩ ⟨t.val % 128, by omega⟩ (head n) ⟨n.val % 64, by omega⟩)) := by
  pointwise [gated]

/-- One half of the smooth gate of the projection, row by row. -/
theorem first_row (h : FVec Ideal S8x4096x1024 .f32) (w : FVec Ideal S2x1024x2694 .f32) (b : Fin 8) (t : Fin 4096) (n : Fin 384) :
    first (smooth (prod h w)) (ix3 b t n) = gelu (proj (fun k => h (ix3 b t k)) fun k => w (ix3 0 k ⟨1926 + n.val, by omega⟩)) :=
  (first_at _ b t n).trans ((smooth_at _ b t _).trans (congrArg gelu (prod_at h w b t _)))
theorem second_row (h : FVec Ideal S8x4096x1024 .f32) (w : FVec Ideal S2x1024x2694 .f32) (b : Fin 8) (t : Fin 4096) (n : Fin 384) :
    second (smooth (prod h w)) (ix3 b t n) = gelu (proj (fun k => h (ix3 b t k)) fun k => w (ix3 0 k ⟨2310 + n.val, by omega⟩)) :=
  (second_at _ b t n).trans ((smooth_at _ b t _).trans (congrArg gelu ((prod_at h w b t _).trans
    (congrArg (proj _) (funext fun k => congrArg w (congrArg (ix3 0 k) (Fin.ext (by show 1926 + (384 + n.val) = 2310 + n.val; omega))))))))

variable (m : (ℓ : Loc nD τ sig) → Buf (Elt Ideal) ℓ) (c : Dev nD) (h : Vec Ideal S8x4096x1024 .f32) (w : Vec Ideal S2x1024x2694 .f32) (g d : Vec Ideal S2x384 .f32) (ws : Vec Ideal S2x6x128x128 .f32) (bs : Vec Ideal S2x6x128 .f32)
  (h0 : m ((c.tc : Thread nD τ).loc main_arg0) = h) (h1 : m ((c.tc : Thread nD τ).loc main_arg1) = w) (h3 : m ((c.tc : Thread nD τ).loc main_arg3) = g) (h4 : m ((c.tc : Thread nD τ).loc main_arg4) = d)
  (h5 : m ((c.tc : Thread nD τ).loc main_arg5) = ws) (h6 : m ((c.tc : Thread nD τ).loc main_arg6) = bs)

include h0 h1 h3 h4 h5 h6 in
/-- The reference's result, row by row: the gating of the row's chunk. -/
theorem res_at (b : Fin 8) (t : Fin 4096) (n : Fin 384) :
    (res_main_v61 m c : Vec Ideal S8x4096x384 .bf16) (ix3 b t n)
      = out (fun s k => h (ix3 b ⟨t.val / 128 * 128 + s.val, by omega⟩ k)) (fun k n => w (ix3 0 k ⟨1926 + n.val, by omega⟩)) (fun k n => w (ix3 0 k ⟨2310 + n.val, by omega⟩))
        (fun n => g (ix2 0 n)) (fun n => d (ix2 0 n)) (fun h r s => ws (ix4 0 h r s)) (fun r n => bs (ix3 0 (head n) r)) ⟨t.val % 128, by omega⟩ n := by
  subst h0 h1 h3 h4 h5 h6
  refine (congrFun (res_eq m c) _).trans ((gated_at _ _ _ b t n).trans (congrArg₂ (fun x y : EReal => x * y) ((first_row _ _ b t n).trans (congrArg gelu (congrArg (fun x => proj x _) (funext fun k => ?_))))
    (congrArg₂ (fun x y : EReal => x + y) ((mixed_at _ _ _ _ _ _ _).trans ?_) (bias_at _ _ _ _ _ _))))
  · exact congrArg _ (congrArg (fun t => ix3 b t k) (Fin.ext (by show t.val = t.val / 128 * 128 + t.val % 128; omega)))
  · refine Finset.sum_congr rfl fun s _ => (mul_comm _ _).trans (congrArg₂ (fun x y : EReal => x * y) (lower_at _ _ _ _) ((congrArg _ (congrArg (ix3 b _) ?_)).trans ((ln_at _ _ _ b _ n).trans
      (ln_congr (funext fun k => second_row _ _ b _ k) (funext fun k => wide_at _ b _ k) (funext fun k => wide_at _ b _ k) n))))
    exact Fin.ext (by show n.val / 64 * 64 + n.val % 64 = n.val; omega)

end Cert.GatingReferenceIdeal.Sgu
-- ==== Proof.GateClaims.lean ====
module

public import proofs.«01_k».proof.Defs
public import proofs.«01_k».proof.Proof.GateFinal
public import proofs.«01_k».proof.Proof.GateRef
public import proofs.«01_k».proof.Proof.Gen.Gating.Frame
public import proofs.«01_k».proof.Proof.Gen.GatingIdeal

@[expose] public section

set_option maxRecDepth 65536

noncomputable section

namespace Cert.GateClaims

open Idealize.ShloMosaic Idealize.SL.Sem

/-- The first call of a layer as printed runs and keeps its arguments. -/
theorem frame_kernel : Cert.quiescent_Gating := fun m ρ _ => Cert.Gating.Gen.frame (F := Bits) m ρ

/-- The idealized call runs and keeps its arguments. -/
theorem frame_ideal : Cert.quiescent_GatingIdeal := fun m ρ _ => Cert.GatingIdeal.Gen.frame (F := Ideal) m ρ

/-- The reference of its gating runs and keeps its arguments; it has no semaphore at all. -/
theorem frame_reference : Cert.quiescent_GatingReferenceIdeal := fun m ρ _ =>
  (θ_run Cert.GatingReferenceIdeal.defs _ _).mono (fun r h => ⟨fun c => (h c).2, sem_eq_zero_of_no_sems (by decide) r.2⟩)
    (Cert.GatingReferenceIdeal.Value.run (F := Ideal) m ρ)

/-- Both programs compute the same gating of every chunk. -/
theorem algebraic : Cert.algebraic_GatingIdeal_GatingReferenceIdeal := by
  intro m g m' g' _ hagree
  refine ⟨fun c => Cert.GatingIdeal.Sgu.res (m ((c.tc : Thread Cert.GatingIdeal.nD Cert.GatingIdeal.τ).loc Cert.GatingIdeal.main_arg0)) (m ((c.tc : Thread Cert.GatingIdeal.nD Cert.GatingIdeal.τ).loc Cert.GatingIdeal.main_arg1)) (m ((c.tc : Thread Cert.GatingIdeal.nD Cert.GatingIdeal.τ).loc Cert.GatingIdeal.main_arg3))
    (m ((c.tc : Thread Cert.GatingIdeal.nD Cert.GatingIdeal.τ).loc Cert.GatingIdeal.main_arg4)) (m ((c.tc : Thread Cert.GatingIdeal.nD Cert.GatingIdeal.τ).loc Cert.GatingIdeal.main_arg5)) (m ((c.tc : Thread Cert.GatingIdeal.nD Cert.GatingIdeal.τ).loc Cert.GatingIdeal.main_arg6)), ?_, ?_⟩
  · exact (θ_run Cert.GatingIdeal.defs _ _).mono (fun _ h c => ⟨(h c).2.2.2.2.2.2.1.trans (Cert.GatingIdeal.Sgu.final_out m c _ _ _ _ _ _ rfl rfl rfl rfl rfl rfl), (h c).2.2.2.2.2.2.2⟩)
      (Cert.GatingIdeal.Value.run_blocks (F := Ideal) m g)
  · refine (θ_run Cert.GatingReferenceIdeal.defs _ _).mono (fun _ h c => ⟨(h c).1.trans ?_, (h c).2⟩) (Cert.GatingReferenceIdeal.Value.run (F := Ideal) m' g')
    obtain ⟨e0, e1, e2, e3, e4, e5, e6⟩ := hagree c
    funext i
    obtain ⟨b, t, n, rfl⟩ : ∃ (b : Fin 8) (t : Fin 4096) (n : Fin 384), i = ix3 b t n := ⟨i 0, i 1, i 2, eq_ix3 i⟩
    exact Cert.GatingReferenceIdeal.Sgu.res_at m' c _ _ _ _ _ _ e0 e1 e3 e4 e5 e6 b t n

end Cert.GateClaims
-- ==== Proof.lean ====
/- The certificate of four calls.

   The forgetting attention: Proof/Mem.lean reads and writes parts of a buffer, Proof/Step.lean states the kernel body as
   a chain of a few kinds of step, Proof/State.lean gives each step its effect on one head's part of scratch,
   Proof/Body.lean runs the body, Proof/Run.lean launches it. Proof/Att.lean states the attention over the reals.
   Proof/Math.lean and Proof/Head.lean show that the running maximum and the running sums of a head end at it,
   Proof/Host.lean reads the host's preparation, Proof/Value.lean, Proof/Final.lean and Proof/Out.lean the result array.
   Proof/Ref.lean to Proof/RefRes.lean read the reference's softmax, Proof/Finite.lean the precondition.

   The feed-forward of a layer, and the projection and feed-forward of the next: Proof/Rows.lean states what both compute
   of one row. Of each call, Pay reads the body's vector expressions at an index, Out the block of a point, Final the
   result array, Ref the reference, and Claims states the claims; the first call's files begin with Ff, the second's
   with Mix.

   The gating of the first call of a layer: Proof/GateMath.lean states what it computes of one chunk, Proof/GatePay.lean
   and Proof/GateOut.lean read the tiles the body stores, Proof/GateHost.lean the host's preparation, and
   Proof/GateFinal.lean the result array; Proof/GateRef.lean is the reference, Proof/GateClaims.lean the claims. -/
module

public import proofs.«01_k».proof.Defs
public import proofs.«01_k».proof.Proof.Out
public import proofs.«01_k».proof.Proof.RefRes
public import proofs.«01_k».proof.Proof.Finite
public import proofs.«01_k».proof.Proof.PrintedRun
public import proofs.«01_k».proof.Proof.Gen.Kernel
public import proofs.«01_k».proof.Proof.Gen.KernelIdeal
public import proofs.«01_k».proof.Proof.Gen.ReferenceIdeal.Run
public import proofs.«01_k».proof.Proof.Gen.Pre_finite
public import proofs.«01_k».proof.Proof.FfClaims
public import proofs.«01_k».proof.Proof.MixClaims
public import proofs.«01_k».proof.Proof.GateClaims
public import Idealize.ShloMosaic.PureOps.IdealRules

@[expose] public section

set_option maxRecDepth 65536

noncomputable section

namespace Cert.Proof

open Idealize.ShloMosaic Idealize.SL.Sem

/-- The kernel as printed runs and keeps its arguments. -/
theorem frame_kernel : Cert.quiescent_Kernel := fun m ρ _ => Cert.Kernel.Fox.frame_main (F := Bits) m ρ

/-- The idealized kernel runs and keeps its arguments. -/
theorem frame_ideal : Cert.quiescent_KernelIdeal := fun m ρ _ => Cert.KernelIdeal.Fox.frame_main (F := Ideal) m ρ

/-- The reference runs and keeps its arguments; it has no semaphore at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The only rewrite names the mask constant. -/
theorem preserves : Cert.preserves_Kernel_KernelIdeal :=
  IdealRules.named_const.statement Cert.KernelIdeal.κ "mask" .f32 0xF149F2CA#32 ⊥ rfl

/-- On finite queries, keys and decay both programs compute the same attention. -/
theorem algebraic : Cert.algebraic_KernelIdeal_ReferenceIdeal_pre_finite := by
  intro m g m' g' hpre hagree
  choose qr hq using fun c => (Cert.Fox.reals _ _ _ _ (hpre c)).1
  choose kr hk using fun c => (Cert.Fox.reals _ _ _ _ (hpre c)).2.1
  choose gr hg using fun c => (Cert.Fox.reals _ _ _ _ (hpre c)).2.2
  refine ⟨fun c => Cert.KernelIdeal.Fox.res (qr c) (kr c) (gr c) (m ((c.tc : Thread Cert.KernelIdeal.nD Cert.KernelIdeal.τ).loc Cert.KernelIdeal.main_arg2)), ?_, ?_⟩
  · exact (θ_run Cert.KernelIdeal.defs _ _).mono (fun _ h c =>
      ⟨((h.1 c).2 Cert.KernelIdeal.main_v38 (Pipeline.mem_restRefs_of Cert.KernelIdeal.main_v38 (by decide) (by decide))).trans
          (Cert.KernelIdeal.Fox.result_eq m c (qr c) (kr c) (gr c) _ (hq c) (hk c) (hg c) rfl),
        ((h.1 c).2 Cert.KernelIdeal.main_arg0 (Pipeline.mem_restRefs_of Cert.KernelIdeal.main_arg0 (by decide) (by decide))).trans (Cert.KernelIdeal.Gen.W_main_arg0 m (Cert.KernelIdeal.Fox.dats m) c),
        ((h.1 c).2 Cert.KernelIdeal.main_arg1 (Pipeline.mem_restRefs_of Cert.KernelIdeal.main_arg1 (by decide) (by decide))).trans (Cert.KernelIdeal.Gen.W_main_arg1 m (Cert.KernelIdeal.Fox.dats m) c),
        ((h.1 c).2 Cert.KernelIdeal.main_arg2 (Pipeline.mem_restRefs_of Cert.KernelIdeal.main_arg2 (by decide) (by decide))).trans (Cert.KernelIdeal.Gen.W_main_arg2 m (Cert.KernelIdeal.Fox.dats m) c),
        ((h.1 c).2 Cert.KernelIdeal.main_arg3 (Pipeline.mem_restRefs_of Cert.KernelIdeal.main_arg3 (by decide) (by decide))).trans (Cert.KernelIdeal.Gen.W_main_arg3 m (Cert.KernelIdeal.Fox.dats m) c)⟩)
      (Cert.KernelIdeal.Fox.run_main (F := Ideal) m g)
  · refine (θ_run Cert.ReferenceIdeal.defs _ _).mono (fun _ h c => ⟨(h c).1.trans ?_, (h c).2⟩) (Cert.ReferenceIdeal.Value.run (F := Ideal) m' g')
    obtain ⟨e0, e1, e2, e3⟩ := hagree c
    rw [Cert.ReferenceIdeal.Fox.res_eq, e0, e1, e2, e3, hq c, hk c, hg c]
    funext i
    obtain ⟨b, t, h, d, rfl⟩ : ∃ b t h d, i = ix4 b t h d := ⟨i 0, i 1, i 2, i 3, eq_ix4 i⟩
    exact Cert.ReferenceIdeal.Fox.ref_at (qr c) (kr c) (gr c) _ b t h d

/-- Everything this certificate claims. -/
theorem claim : Cert.Claim :=
  ⟨Cert.Kernel.Gen.facts, Cert.KernelIdeal.Gen.facts, Cert.ReferenceIdeal.Gen.facts,
    Cert.FeedForward.Gen.facts, Cert.FeedForwardIdeal.Gen.facts, Cert.FeedForwardReferenceIdeal.Gen.facts,
    Cert.MixFeedForward.Gen.facts, Cert.MixFeedForwardIdeal.Gen.facts, Cert.MixFeedForwardReferenceIdeal.Gen.facts,
    Cert.Gating.Gen.facts, Cert.GatingIdeal.Gen.facts, Cert.GatingReferenceIdeal.Gen.facts, Cert.Pre_finite.Gen.facts,
    frame_kernel, frame_ideal, fun m ρ _ => frame_ideal m ρ trivial, frame_reference, fun m ρ _ => frame_reference m ρ trivial,
    Cert.FfClaims.frame_kernel, Cert.FfClaims.frame_ideal, Cert.FfClaims.frame_reference,
    Cert.MixClaims.frame_kernel, Cert.MixClaims.frame_ideal, Cert.MixClaims.frame_reference,
    Cert.GateClaims.frame_kernel, Cert.GateClaims.frame_ideal, Cert.GateClaims.frame_reference,
    preserves, algebraic, trivial, Cert.FfClaims.algebraic, trivial, Cert.MixClaims.algebraic, trivial, Cert.GateClaims.algebraic⟩

end Cert.Proof

end
